-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_CdIn (m : (ℓ : Loc Cert.CdIn.nD Cert.CdIn.τ Cert.CdIn.sig) → Buf (Elt Bits) ℓ) : Prop :=
  True

def Pre_CdInIdeal (m : (ℓ : Loc Cert.CdInIdeal.nD Cert.CdInIdeal.τ Cert.CdInIdeal.sig) → Buf (Elt Ideal) ℓ) : Prop :=
  True

def Pre_CdInReferenceIdeal (m : (ℓ : Loc Cert.CdInReferenceIdeal.nD Cert.CdInReferenceIdeal.τ Cert.CdInReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInReferenceIdeal (m : (ℓ : Loc Cert.AbInReferenceIdeal.nD Cert.AbInReferenceIdeal.τ Cert.AbInReferenceIdeal.sig) → Buf (Elt Ideal) ℓ) : Prop :=
  True

def Pre_OutProjEven (m : (ℓ : Loc Cert.OutProjEven.nD Cert.OutProjEven.τ Cert.OutProjEven.sig) → Buf (Elt Bits) ℓ) : Prop :=
  True

def Pre_OutProjEvenIdeal (m : (ℓ : Loc Cert.OutProjEvenIdeal.nD Cert.OutProjEvenIdeal.τ Cert.OutProjEvenIdeal.sig) → Buf (Elt Ideal) ℓ) : Prop :=
  True

def Pre_OutProjEvenReferenceIdeal (m : (ℓ : Loc Cert.OutProjEvenReferenceIdeal.nD Cert.OutProjEvenReferenceIdeal.τ Cert.OutProjEvenReferenceIdeal.sig) → Buf (Elt Ideal) ℓ) : Prop :=
  True

def Pre_AbCtx (m : (ℓ : Loc Cert.AbCtx.nD Cert.AbCtx.τ Cert.AbCtx.sig) → Buf (Elt Bits) ℓ) : Prop :=
  True

def Pre_AbCtxIdeal (m : (ℓ : Loc Cert.AbCtxIdeal.nD Cert.AbCtxIdeal.τ Cert.AbCtxIdeal.sig) → Buf (Elt Ideal) ℓ) : Prop :=
  True

def Pre_AbCtxReferenceIdeal (m : (ℓ : Loc Cert.AbCtxReferenceIdeal.nD Cert.AbCtxReferenceIdeal.τ Cert.AbCtxReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_GateUpFirst (m : (ℓ : Loc Cert.GateUpFirst.nD Cert.GateUpFirst.τ Cert.GateUpFirst.sig) → Buf (Elt Bits) ℓ) : Prop :=
  True

def Pre_GateUpFirstIdeal (m : (ℓ : Loc Cert.GateUpFirstIdeal.nD Cert.GateUpFirstIdeal.τ Cert.GateUpFirstIdeal.sig) → Buf (Elt Ideal) ℓ) : Prop :=
  True

def Pre_GateUpFirstReferenceIdeal (m : (ℓ : Loc Cert.GateUpFirstReferenceIdeal.nD Cert.GateUpFirstReferenceIdeal.τ Cert.GateUpFirstReferenceIdeal.sig) → Buf (Elt Ideal) ℓ) : Prop :=
  True

def Pre_DownSide (m : (ℓ : Loc Cert.DownSide.nD Cert.DownSide.τ Cert.DownSide.sig) → Buf (Elt Bits) ℓ) : Prop :=
  True

def Pre_DownSideIdeal (m : (ℓ : Loc Cert.DownSideIdeal.nD Cert.DownSideIdeal.τ Cert.DownSideIdeal.sig) → Buf (Elt Ideal) ℓ) : Prop :=
  True

def Pre_DownSideReferenceIdeal (m : (ℓ : Loc Cert.DownSideReferenceIdeal.nD Cert.DownSideReferenceIdeal.τ Cert.DownSideReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_CdIn [hCdIn : Cert.CdIn.Facts] : Prop :=
  ∀ (m : (ℓ : Loc Cert.CdIn.nD Cert.CdIn.τ Cert.CdIn.sig) → Buf (Elt Bits) ℓ) (g : Dev Cert.CdIn.nD → PrngReg), Pre_CdIn m →
    θ_run (Cert.CdIn.defs (F := Bits)) (onTc (τ := Cert.CdIn.τ) (Cert.CdIn.main (F := Bits))) ⟨m, fun _ => 0, g⟩ (fun r => (∀ c : Dev Cert.CdIn.nD,
      r.2.mem ((c.tc : Thread Cert.CdIn.nD Cert.CdIn.τ).loc Cert.CdIn.main_arg0) = m ((c.tc : Thread Cert.CdIn.nD Cert.CdIn.τ).loc Cert.CdIn.main_arg0)
      ∧ r.2.mem ((c.tc : Thread Cert.CdIn.nD Cert.CdIn.τ).loc Cert.CdIn.main_arg1) = m ((c.tc : Thread Cert.CdIn.nD Cert.CdIn.τ).loc Cert.CdIn.main_arg1)
      ∧ r.2.mem ((c.tc : Thread Cert.CdIn.nD Cert.CdIn.τ).loc Cert.CdIn.main_arg2) = m ((c.tc : Thread Cert.CdIn.nD Cert.CdIn.τ).loc Cert.CdIn.main_arg2)
      ∧ r.2.mem ((c.tc : Thread Cert.CdIn.nD Cert.CdIn.τ).loc Cert.CdIn.main_arg3) = m ((c.tc : Thread Cert.CdIn.nD Cert.CdIn.τ).loc Cert.CdIn.main_arg3)
      ∧ r.2.mem ((c.tc : Thread Cert.CdIn.nD Cert.CdIn.τ).loc Cert.CdIn.main_arg4) = m ((c.tc : Thread Cert.CdIn.nD Cert.CdIn.τ).loc Cert.CdIn.main_arg4))
      ∧ r.2.sem = fun _ => 0)

def quiescent_CdInIdeal [hCdInIdeal : Cert.CdInIdeal.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1)
      ∧ r.2.mem ((c.tc : Thread Cert.CdInIdeal.nD Cert.CdInIdeal.τ).loc Cert.CdInIdeal.main_arg2) = m ((c.tc : Thread Cert.CdInIdeal.nD Cert.CdInIdeal.τ).loc Cert.CdInIdeal.main_arg2)
      ∧ r.2.mem ((c.tc : Thread Cert.CdInIdeal.nD Cert.CdInIdeal.τ).loc Cert.CdInIdeal.main_arg3) = m ((c.tc : Thread Cert.CdInIdeal.nD Cert.CdInIdeal.τ).loc Cert.CdInIdeal.main_arg3)
      ∧ r.2.mem ((c.tc : Thread Cert.CdInIdeal.nD Cert.CdInIdeal.τ).loc Cert.CdInIdeal.main_arg4) = m ((c.tc : Thread Cert.CdInIdeal.nD Cert.CdInIdeal.τ).loc Cert.CdInIdeal.main_arg4))
      ∧ r.2.sem = fun _ => 0)

def quiescent_CdInReferenceIdeal [hCdInReferenceIdeal : Cert.CdInReferenceIdeal.Facts] : Prop :=
  ∀ (m : (ℓ : Loc Cert.CdInReferenceIdeal.nD Cert.CdInReferenceIdeal.τ Cert.CdInReferenceIdeal.sig) → Buf (Elt Ideal) ℓ) (g : Dev Cert.CdInReferenceIdeal.nD → PrngReg), Pre_CdInReferenceIdeal m →
    θ_run (Cert.CdInReferenceIdeal.defs (F := Ideal)) (onTc (τ := Cert.CdInReferenceIdeal.τ) (Cert.CdInReferenceIdeal.main (F := Ideal))) ⟨m, fun _ => 0, g⟩ (fun r => (∀ c : Dev Cert.CdInReferenceIdeal.nD,
      r.2.mem ((c.tc : Thread Cert.CdInReferenceIdeal.nD Cert.CdInReferenceIdeal.τ).loc Cert.CdInReferenceIdeal.main_arg0) = m ((c.tc : Thread Cert.CdInReferenceIdeal.nD Cert.CdInReferenceIdeal.τ).loc Cert.CdInReferenceIdeal.main_arg0)
      ∧ r.2.mem ((c.tc : Thread Cert.CdInReferenceIdeal.nD Cert.CdInReferenceIdeal.τ).loc Cert.CdInReferenceIdeal.main_arg1) = m ((c.tc : Thread Cert.CdInReferenceIdeal.nD Cert.CdInReferenceIdeal.τ).loc Cert.CdInReferenceIdeal.main_arg1)
      ∧ r.2.mem ((c.tc : Thread Cert.CdInReferenceIdeal.nD Cert.CdInReferenceIdeal.τ).loc Cert.CdInReferenceIdeal.main_arg2) = m ((c.tc : Thread Cert.CdInReferenceIdeal.nD Cert.CdInReferenceIdeal.τ).loc Cert.CdInReferenceIdeal.main_arg2)
      ∧ r.2.mem ((c.tc : Thread Cert.CdInReferenceIdeal.nD Cert.CdInReferenceIdeal.τ).loc Cert.CdInReferenceIdeal.main_arg3) = m ((c.tc : Thread Cert.CdInReferenceIdeal.nD Cert.CdInReferenceIdeal.τ).loc Cert.CdInReferenceIdeal.main_arg3)
      ∧ r.2.mem ((c.tc : Thread Cert.CdInReferenceIdeal.nD Cert.CdInReferenceIdeal.τ).loc Cert.CdInReferenceIdeal.main_arg4) = m ((c.tc : Thread Cert.CdInReferenceIdeal.nD Cert.CdInReferenceIdeal.τ).loc Cert.CdInReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2))
      ∧ r.2.sem = fun _ => 0)

def quiescent_AbInReferenceIdeal [hAbInReferenceIdeal : Cert.AbInReferenceIdeal.Facts] : Prop :=
  ∀ (m : (ℓ : Loc Cert.AbInReferenceIdeal.nD Cert.AbInReferenceIdeal.τ Cert.AbInReferenceIdeal.sig) → Buf (Elt Ideal) ℓ) (g : Dev Cert.AbInReferenceIdeal.nD → PrngReg), Pre_AbInReferenceIdeal m →
    θ_run (Cert.AbInReferenceIdeal.defs (F := Ideal)) (onTc (τ := Cert.AbInReferenceIdeal.τ) (Cert.AbInReferenceIdeal.main (F := Ideal))) ⟨m, fun _ => 0, g⟩ (fun r => (∀ c : Dev Cert.AbInReferenceIdeal.nD,
      r.2.mem ((c.tc : Thread Cert.AbInReferenceIdeal.nD Cert.AbInReferenceIdeal.τ).loc Cert.AbInReferenceIdeal.main_arg0) = m ((c.tc : Thread Cert.AbInReferenceIdeal.nD Cert.AbInReferenceIdeal.τ).loc Cert.AbInReferenceIdeal.main_arg0)
      ∧ r.2.mem ((c.tc : Thread Cert.AbInReferenceIdeal.nD Cert.AbInReferenceIdeal.τ).loc Cert.AbInReferenceIdeal.main_arg1) = m ((c.tc : Thread Cert.AbInReferenceIdeal.nD Cert.AbInReferenceIdeal.τ).loc Cert.AbInReferenceIdeal.main_arg1)
      ∧ r.2.mem ((c.tc : Thread Cert.AbInReferenceIdeal.nD Cert.AbInReferenceIdeal.τ).loc Cert.AbInReferenceIdeal.main_arg2) = m ((c.tc : Thread Cert.AbInReferenceIdeal.nD Cert.AbInReferenceIdeal.τ).loc Cert.AbInReferenceIdeal.main_arg2))
      ∧ r.2.sem = fun _ => 0)

def quiescent_OutProjEven [hOutProjEven : Cert.OutProjEven.Facts] : Prop :=
  ∀ (m : (ℓ : Loc Cert.OutProjEven.nD Cert.OutProjEven.τ Cert.OutProjEven.sig) → Buf (Elt Bits) ℓ) (g : Dev Cert.OutProjEven.nD → PrngReg), Pre_OutProjEven m →
    θ_run (Cert.OutProjEven.defs (F := Bits)) (onTc (τ := Cert.OutProjEven.τ) (Cert.OutProjEven.main (F := Bits))) ⟨m, fun _ => 0, g⟩ (fun r => (∀ c : Dev Cert.OutProjEven.nD,
      r.2.mem ((c.tc : Thread Cert.OutProjEven.nD Cert.OutProjEven.τ).loc Cert.OutProjEven.main_arg0) = m ((c.tc : Thread Cert.OutProjEven.nD Cert.OutProjEven.τ).loc Cert.OutProjEven.main_arg0)
      ∧ r.2.mem ((c.tc : Thread Cert.OutProjEven.nD Cert.OutProjEven.τ).loc Cert.OutProjEven.main_arg1) = m ((c.tc : Thread Cert.OutProjEven.nD Cert.OutProjEven.τ).loc Cert.OutProjEven.main_arg1)
      ∧ r.2.mem ((c.tc : Thread Cert.OutProjEven.nD Cert.OutProjEven.τ).loc Cert.OutProjEven.main_arg2) = m ((c.tc : Thread Cert.OutProjEven.nD Cert.OutProjEven.τ).loc Cert.OutProjEven.main_arg2)
      ∧ r.2.mem ((c.tc : Thread Cert.OutProjEven.nD Cert.OutProjEven.τ).loc Cert.OutProjEven.main_arg3) = m ((c.tc : Thread Cert.OutProjEven.nD Cert.OutProjEven.τ).loc Cert.OutProjEven.main_arg3)
      ∧ r.2.mem ((c.tc : Thread Cert.OutProjEven.nD Cert.OutProjEven.τ).loc Cert.OutProjEven.main_arg4) = m ((c.tc : Thread Cert.OutProjEven.nD Cert.OutProjEven.τ).loc Cert.OutProjEven.main_arg4)
      ∧ r.2.mem ((c.tc : Thread Cert.OutProjEven.nD Cert.OutProjEven.τ).loc Cert.OutProjEven.main_arg5) = m ((c.tc : Thread Cert.OutProjEven.nD Cert.OutProjEven.τ).loc Cert.OutProjEven.main_arg5)
      ∧ r.2.mem ((c.tc : Thread Cert.OutProjEven.nD Cert.OutProjEven.τ).loc Cert.OutProjEven.main_arg6) = m ((c.tc : Thread Cert.OutProjEven.nD Cert.OutProjEven.τ).loc Cert.OutProjEven.main_arg6)
      ∧ r.2.mem ((c.tc : Thread Cert.OutProjEven.nD Cert.OutProjEven.τ).loc Cert.OutProjEven.main_arg7) = m ((c.tc : Thread Cert.OutProjEven.nD Cert.OutProjEven.τ).loc Cert.OutProjEven.main_arg7))
      ∧ r.2.sem = fun _ => 0)

def quiescent_OutProjEvenIdeal [hOutProjEvenIdeal : Cert.OutProjEvenIdeal.Facts] : Prop :=
  ∀ (m : (ℓ : Loc Cert.OutProjEvenIdeal.nD Cert.OutProjEvenIdeal.τ Cert.OutProjEvenIdeal.sig) → Buf (Elt Ideal) ℓ) (g : Dev Cert.OutProjEvenIdeal.nD → PrngReg), Pre_OutProjEvenIdeal m →
    θ_run (Cert.OutProjEvenIdeal.defs (F := Ideal)) (onTc (τ := Cert.OutProjEvenIdeal.τ) (Cert.OutProjEvenIdeal.main (F := Ideal))) ⟨m, fun _ => 0, g⟩ (fun r => (∀ c : Dev Cert.OutProjEvenIdeal.nD,
      r.2.mem ((c.tc : Thread Cert.OutProjEvenIdeal.nD Cert.OutProjEvenIdeal.τ).loc Cert.OutProjEvenIdeal.main_arg0) = m ((c.tc : Thread Cert.OutProjEvenIdeal.nD Cert.OutProjEvenIdeal.τ).loc Cert.OutProjEvenIdeal.main_arg0)
      ∧ r.2.mem ((c.tc : Thread Cert.OutProjEvenIdeal.nD Cert.OutProjEvenIdeal.τ).loc Cert.OutProjEvenIdeal.main_arg1) = m ((c.tc : Thread Cert.OutProjEvenIdeal.nD Cert.OutProjEvenIdeal.τ).loc Cert.OutProjEvenIdeal.main_arg1)
      ∧ r.2.mem ((c.tc : Thread Cert.OutProjEvenIdeal.nD Cert.OutProjEvenIdeal.τ).loc Cert.OutProjEvenIdeal.main_arg2) = m ((c.tc : Thread Cert.OutProjEvenIdeal.nD Cert.OutProjEvenIdeal.τ).loc Cert.OutProjEvenIdeal.main_arg2)
      ∧ r.2.mem ((c.tc : Thread Cert.OutProjEvenIdeal.nD Cert.OutProjEvenIdeal.τ).loc Cert.OutProjEvenIdeal.main_arg3) = m ((c.tc : Thread Cert.OutProjEvenIdeal.nD Cert.OutProjEvenIdeal.τ).loc Cert.OutProjEvenIdeal.main_arg3)
      ∧ r.2.mem ((c.tc : Thread Cert.OutProjEvenIdeal.nD Cert.OutProjEvenIdeal.τ).loc Cert.OutProjEvenIdeal.main_arg4) = m ((c.tc : Thread Cert.OutProjEvenIdeal.nD Cert.OutProjEvenIdeal.τ).loc Cert.OutProjEvenIdeal.main_arg4)
      ∧ r.2.mem ((c.tc : Thread Cert.OutProjEvenIdeal.nD Cert.OutProjEvenIdeal.τ).loc Cert.OutProjEvenIdeal.main_arg5) = m ((c.tc : Thread Cert.OutProjEvenIdeal.nD Cert.OutProjEvenIdeal.τ).loc Cert.OutProjEvenIdeal.main_arg5)
      ∧ r.2.mem ((c.tc : Thread Cert.OutProjEvenIdeal.nD Cert.OutProjEvenIdeal.τ).loc Cert.OutProjEvenIdeal.main_arg6) = m ((c.tc : Thread Cert.OutProjEvenIdeal.nD Cert.OutProjEvenIdeal.τ).loc Cert.OutProjEvenIdeal.main_arg6)
      ∧ r.2.mem ((c.tc : Thread Cert.OutProjEvenIdeal.nD Cert.OutProjEvenIdeal.τ).loc Cert.OutProjEvenIdeal.main_arg7) = m ((c.tc : Thread Cert.OutProjEvenIdeal.nD Cert.OutProjEvenIdeal.τ).loc Cert.OutProjEvenIdeal.main_arg7))
      ∧ r.2.sem = fun _ => 0)

def quiescent_OutProjEvenReferenceIdeal [hOutProjEvenReferenceIdeal : Cert.OutProjEvenReferenceIdeal.Facts] : Prop :=
  ∀ (m : (ℓ : Loc Cert.OutProjEvenReferenceIdeal.nD Cert.OutProjEvenReferenceIdeal.τ Cert.OutProjEvenReferenceIdeal.sig) → Buf (Elt Ideal) ℓ) (g : Dev Cert.OutProjEvenReferenceIdeal.nD → PrngReg), Pre_OutProjEvenReferenceIdeal m →
    θ_run (Cert.OutProjEvenReferenceIdeal.defs (F := Ideal)) (onTc (τ := Cert.OutProjEvenReferenceIdeal.τ) (Cert.OutProjEvenReferenceIdeal.main (F := Ideal))) ⟨m, fun _ => 0, g⟩ (fun r => (∀ c : Dev Cert.OutProjEvenReferenceIdeal.nD,
      r.2.mem ((c.tc : Thread Cert.OutProjEvenReferenceIdeal.nD Cert.OutProjEvenReferenceIdeal.τ).loc Cert.OutProjEvenReferenceIdeal.main_arg0) = m ((c.tc : Thread Cert.OutProjEvenReferenceIdeal.nD Cert.OutProjEvenReferenceIdeal.τ).loc Cert.OutProjEvenReferenceIdeal.main_arg0)
      ∧ r.2.mem ((c.tc : Thread Cert.OutProjEvenReferenceIdeal.nD Cert.OutProjEvenReferenceIdeal.τ).loc Cert.OutProjEvenReferenceIdeal.main_arg1) = m ((c.tc : Thread Cert.OutProjEvenReferenceIdeal.nD Cert.OutProjEvenReferenceIdeal.τ).loc Cert.OutProjEvenReferenceIdeal.main_arg1)
      ∧ r.2.mem ((c.tc : Thread Cert.OutProjEvenReferenceIdeal.nD Cert.OutProjEvenReferenceIdeal.τ).loc Cert.OutProjEvenReferenceIdeal.main_arg2) = m ((c.tc : Thread Cert.OutProjEvenReferenceIdeal.nD Cert.OutProjEvenReferenceIdeal.τ).loc Cert.OutProjEvenReferenceIdeal.main_arg2)
      ∧ r.2.mem ((c.tc : Thread Cert.OutProjEvenReferenceIdeal.nD Cert.OutProjEvenReferenceIdeal.τ).loc Cert.OutProjEvenReferenceIdeal.main_arg3) = m ((c.tc : Thread Cert.OutProjEvenReferenceIdeal.nD Cert.OutProjEvenReferenceIdeal.τ).loc Cert.OutProjEvenReferenceIdeal.main_arg3)
      ∧ r.2.mem ((c.tc : Thread Cert.OutProjEvenReferenceIdeal.nD Cert.OutProjEvenReferenceIdeal.τ).loc Cert.OutProjEvenReferenceIdeal.main_arg4) = m ((c.tc : Thread Cert.OutProjEvenReferenceIdeal.nD Cert.OutProjEvenReferenceIdeal.τ).loc Cert.OutProjEvenReferenceIdeal.main_arg4)
      ∧ r.2.mem ((c.tc : Thread Cert.OutProjEvenReferenceIdeal.nD Cert.OutProjEvenReferenceIdeal.τ).loc Cert.OutProjEvenReferenceIdeal.main_arg5) = m ((c.tc : Thread Cert.OutProjEvenReferenceIdeal.nD Cert.OutProjEvenReferenceIdeal.τ).loc Cert.OutProjEvenReferenceIdeal.main_arg5)
      ∧ r.2.mem ((c.tc : Thread Cert.OutProjEvenReferenceIdeal.nD Cert.OutProjEvenReferenceIdeal.τ).loc Cert.OutProjEvenReferenceIdeal.main_arg6) = m ((c.tc : Thread Cert.OutProjEvenReferenceIdeal.nD Cert.OutProjEvenReferenceIdeal.τ).loc Cert.OutProjEvenReferenceIdeal.main_arg6)
      ∧ r.2.mem ((c.tc : Thread Cert.OutProjEvenReferenceIdeal.nD Cert.OutProjEvenReferenceIdeal.τ).loc Cert.OutProjEvenReferenceIdeal.main_arg7) = m ((c.tc : Thread Cert.OutProjEvenReferenceIdeal.nD Cert.OutProjEvenReferenceIdeal.τ).loc Cert.OutProjEvenReferenceIdeal.main_arg7))
      ∧ r.2.sem = fun _ => 0)

def quiescent_AbCtx [hAbCtx : Cert.AbCtx.Facts] : Prop :=
  ∀ (m : (ℓ : Loc Cert.AbCtx.nD Cert.AbCtx.τ Cert.AbCtx.sig) → Buf (Elt Bits) ℓ) (g : Dev Cert.AbCtx.nD → PrngReg), Pre_AbCtx m →
    θ_run (Cert.AbCtx.defs (F := Bits)) (onTc (τ := Cert.AbCtx.τ) (Cert.AbCtx.main (F := Bits))) ⟨m, fun _ => 0, g⟩ (fun r => (∀ c : Dev Cert.AbCtx.nD,
      r.2.mem ((c.tc : Thread Cert.AbCtx.nD Cert.AbCtx.τ).loc Cert.AbCtx.main_arg0) = m ((c.tc : Thread Cert.AbCtx.nD Cert.AbCtx.τ).loc Cert.AbCtx.main_arg0)
      ∧ r.2.mem ((c.tc : Thread Cert.AbCtx.nD Cert.AbCtx.τ).loc Cert.AbCtx.main_arg1) = m ((c.tc : Thread Cert.AbCtx.nD Cert.AbCtx.τ).loc Cert.AbCtx.main_arg1)
      ∧ r.2.mem ((c.tc : Thread Cert.AbCtx.nD Cert.AbCtx.τ).loc Cert.AbCtx.main_arg2) = m ((c.tc : Thread Cert.AbCtx.nD Cert.AbCtx.τ).loc Cert.AbCtx.main_arg2))
      ∧ r.2.sem = fun _ => 0)

def quiescent_AbCtxIdeal [hAbCtxIdeal : Cert.AbCtxIdeal.Facts] : Prop :=
  ∀ (m : (ℓ : Loc Cert.AbCtxIdeal.nD Cert.AbCtxIdeal.τ Cert.AbCtxIdeal.sig) → Buf (Elt Ideal) ℓ) (g : Dev Cert.AbCtxIdeal.nD → PrngReg), Pre_AbCtxIdeal m →
    θ_run (Cert.AbCtxIdeal.defs (F := Ideal)) (onTc (τ := Cert.AbCtxIdeal.τ) (Cert.AbCtxIdeal.main (F := Ideal))) ⟨m, fun _ => 0, g⟩ (fun r => (∀ c : Dev Cert.AbCtxIdeal.nD,
      r.2.mem ((c.tc : Thread Cert.AbCtxIdeal.nD Cert.AbCtxIdeal.τ).loc Cert.AbCtxIdeal.main_arg0) = m ((c.tc : Thread Cert.AbCtxIdeal.nD Cert.AbCtxIdeal.τ).loc Cert.AbCtxIdeal.main_arg0)
      ∧ r.2.mem ((c.tc : Thread Cert.AbCtxIdeal.nD Cert.AbCtxIdeal.τ).loc Cert.AbCtxIdeal.main_arg1) = m ((c.tc : Thread Cert.AbCtxIdeal.nD Cert.AbCtxIdeal.τ).loc Cert.AbCtxIdeal.main_arg1)
      ∧ r.2.mem ((c.tc : Thread Cert.AbCtxIdeal.nD Cert.AbCtxIdeal.τ).loc Cert.AbCtxIdeal.main_arg2) = m ((c.tc : Thread Cert.AbCtxIdeal.nD Cert.AbCtxIdeal.τ).loc Cert.AbCtxIdeal.main_arg2))
      ∧ r.2.sem = fun _ => 0)

def quiescent_AbCtxReferenceIdeal [hAbCtxReferenceIdeal : Cert.AbCtxReferenceIdeal.Facts] : Prop :=
  ∀ (m : (ℓ : Loc Cert.AbCtxReferenceIdeal.nD Cert.AbCtxReferenceIdeal.τ Cert.AbCtxReferenceIdeal.sig) → Buf (Elt Ideal) ℓ) (g : Dev Cert.AbCtxReferenceIdeal.nD → PrngReg), Pre_AbCtxReferenceIdeal m →
    θ_run (Cert.AbCtxReferenceIdeal.defs (F := Ideal)) (onTc (τ := Cert.AbCtxReferenceIdeal.τ) (Cert.AbCtxReferenceIdeal.main (F := Ideal))) ⟨m, fun _ => 0, g⟩ (fun r => (∀ c : Dev Cert.AbCtxReferenceIdeal.nD,
      r.2.mem ((c.tc : Thread Cert.AbCtxReferenceIdeal.nD Cert.AbCtxReferenceIdeal.τ).loc Cert.AbCtxReferenceIdeal.main_arg0) = m ((c.tc : Thread Cert.AbCtxReferenceIdeal.nD Cert.AbCtxReferenceIdeal.τ).loc Cert.AbCtxReferenceIdeal.main_arg0)
      ∧ r.2.mem ((c.tc : Thread Cert.AbCtxReferenceIdeal.nD Cert.AbCtxReferenceIdeal.τ).loc Cert.AbCtxReferenceIdeal.main_arg1) = m ((c.tc : Thread Cert.AbCtxReferenceIdeal.nD Cert.AbCtxReferenceIdeal.τ).loc Cert.AbCtxReferenceIdeal.main_arg1)
      ∧ r.2.mem ((c.tc : Thread Cert.AbCtxReferenceIdeal.nD Cert.AbCtxReferenceIdeal.τ).loc Cert.AbCtxReferenceIdeal.main_arg2) = m ((c.tc : Thread Cert.AbCtxReferenceIdeal.nD Cert.AbCtxReferenceIdeal.τ).loc Cert.AbCtxReferenceIdeal.main_arg2))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_GateUpFirst [hGateUpFirst : Cert.GateUpFirst.Facts] : Prop :=
  ∀ (m : (ℓ : Loc Cert.GateUpFirst.nD Cert.GateUpFirst.τ Cert.GateUpFirst.sig) → Buf (Elt Bits) ℓ) (g : Dev Cert.GateUpFirst.nD → PrngReg), Pre_GateUpFirst m →
    θ_run (Cert.GateUpFirst.defs (F := Bits)) (onTc (τ := Cert.GateUpFirst.τ) (Cert.GateUpFirst.main (F := Bits))) ⟨m, fun _ => 0, g⟩ (fun r => (∀ c : Dev Cert.GateUpFirst.nD,
      r.2.mem ((c.tc : Thread Cert.GateUpFirst.nD Cert.GateUpFirst.τ).loc Cert.GateUpFirst.main_arg0) = m ((c.tc : Thread Cert.GateUpFirst.nD Cert.GateUpFirst.τ).loc Cert.GateUpFirst.main_arg0)
      ∧ r.2.mem ((c.tc : Thread Cert.GateUpFirst.nD Cert.GateUpFirst.τ).loc Cert.GateUpFirst.main_arg1) = m ((c.tc : Thread Cert.GateUpFirst.nD Cert.GateUpFirst.τ).loc Cert.GateUpFirst.main_arg1)
      ∧ r.2.mem ((c.tc : Thread Cert.GateUpFirst.nD Cert.GateUpFirst.τ).loc Cert.GateUpFirst.main_arg2) = m ((c.tc : Thread Cert.GateUpFirst.nD Cert.GateUpFirst.τ).loc Cert.GateUpFirst.main_arg2))
      ∧ r.2.sem = fun _ => 0)

def quiescent_GateUpFirstIdeal [hGateUpFirstIdeal : Cert.GateUpFirstIdeal.Facts] : Prop :=
  ∀ (m : (ℓ : Loc Cert.GateUpFirstIdeal.nD Cert.GateUpFirstIdeal.τ Cert.GateUpFirstIdeal.sig) → Buf (Elt Ideal) ℓ) (g : Dev Cert.GateUpFirstIdeal.nD → PrngReg), Pre_GateUpFirstIdeal m →
    θ_run (Cert.GateUpFirstIdeal.defs (F := Ideal)) (onTc (τ := Cert.GateUpFirstIdeal.τ) (Cert.GateUpFirstIdeal.main (F := Ideal))) ⟨m, fun _ => 0, g⟩ (fun r => (∀ c : Dev Cert.GateUpFirstIdeal.nD,
      r.2.mem ((c.tc : Thread Cert.GateUpFirstIdeal.nD Cert.GateUpFirstIdeal.τ).loc Cert.GateUpFirstIdeal.main_arg0) = m ((c.tc : Thread Cert.GateUpFirstIdeal.nD Cert.GateUpFirstIdeal.τ).loc Cert.GateUpFirstIdeal.main_arg0)
      ∧ r.2.mem ((c.tc : Thread Cert.GateUpFirstIdeal.nD Cert.GateUpFirstIdeal.τ).loc Cert.GateUpFirstIdeal.main_arg1) = m ((c.tc : Thread Cert.GateUpFirstIdeal.nD Cert.GateUpFirstIdeal.τ).loc Cert.GateUpFirstIdeal.main_arg1)
      ∧ r.2.mem ((c.tc : Thread Cert.GateUpFirstIdeal.nD Cert.GateUpFirstIdeal.τ).loc Cert.GateUpFirstIdeal.main_arg2) = m ((c.tc : Thread Cert.GateUpFirstIdeal.nD Cert.GateUpFirstIdeal.τ).loc Cert.GateUpFirstIdeal.main_arg2))
      ∧ r.2.sem = fun _ => 0)

def quiescent_GateUpFirstReferenceIdeal [hGateUpFirstReferenceIdeal : Cert.GateUpFirstReferenceIdeal.Facts] : Prop :=
  ∀ (m : (ℓ : Loc Cert.GateUpFirstReferenceIdeal.nD Cert.GateUpFirstReferenceIdeal.τ Cert.GateUpFirstReferenceIdeal.sig) → Buf (Elt Ideal) ℓ) (g : Dev Cert.GateUpFirstReferenceIdeal.nD → PrngReg), Pre_GateUpFirstReferenceIdeal m →
    θ_run (Cert.GateUpFirstReferenceIdeal.defs (F := Ideal)) (onTc (τ := Cert.GateUpFirstReferenceIdeal.τ) (Cert.GateUpFirstReferenceIdeal.main (F := Ideal))) ⟨m, fun _ => 0, g⟩ (fun r => (∀ c : Dev Cert.GateUpFirstReferenceIdeal.nD,
      r.2.mem ((c.tc : Thread Cert.GateUpFirstReferenceIdeal.nD Cert.GateUpFirstReferenceIdeal.τ).loc Cert.GateUpFirstReferenceIdeal.main_arg0) = m ((c.tc : Thread Cert.GateUpFirstReferenceIdeal.nD Cert.GateUpFirstReferenceIdeal.τ).loc Cert.GateUpFirstReferenceIdeal.main_arg0)
      ∧ r.2.mem ((c.tc : Thread Cert.GateUpFirstReferenceIdeal.nD Cert.GateUpFirstReferenceIdeal.τ).loc Cert.GateUpFirstReferenceIdeal.main_arg1) = m ((c.tc : Thread Cert.GateUpFirstReferenceIdeal.nD Cert.GateUpFirstReferenceIdeal.τ).loc Cert.GateUpFirstReferenceIdeal.main_arg1)
      ∧ r.2.mem ((c.tc : Thread Cert.GateUpFirstReferenceIdeal.nD Cert.GateUpFirstReferenceIdeal.τ).loc Cert.GateUpFirstReferenceIdeal.main_arg2) = m ((c.tc : Thread Cert.GateUpFirstReferenceIdeal.nD Cert.GateUpFirstReferenceIdeal.τ).loc Cert.GateUpFirstReferenceIdeal.main_arg2))
      ∧ r.2.sem = fun _ => 0)

def quiescent_DownSide [hDownSide : Cert.DownSide.Facts] : Prop :=
  ∀ (m : (ℓ : Loc Cert.DownSide.nD Cert.DownSide.τ Cert.DownSide.sig) → Buf (Elt Bits) ℓ) (g : Dev Cert.DownSide.nD → PrngReg), Pre_DownSide m →
    θ_run (Cert.DownSide.defs (F := Bits)) (onTc (τ := Cert.DownSide.τ) (Cert.DownSide.main (F := Bits))) ⟨m, fun _ => 0, g⟩ (fun r => (∀ c : Dev Cert.DownSide.nD,
      r.2.mem ((c.tc : Thread Cert.DownSide.nD Cert.DownSide.τ).loc Cert.DownSide.main_arg0) = m ((c.tc : Thread Cert.DownSide.nD Cert.DownSide.τ).loc Cert.DownSide.main_arg0)
      ∧ r.2.mem ((c.tc : Thread Cert.DownSide.nD Cert.DownSide.τ).loc Cert.DownSide.main_arg1) = m ((c.tc : Thread Cert.DownSide.nD Cert.DownSide.τ).loc Cert.DownSide.main_arg1)
      ∧ r.2.mem ((c.tc : Thread Cert.DownSide.nD Cert.DownSide.τ).loc Cert.DownSide.main_arg2) = m ((c.tc : Thread Cert.DownSide.nD Cert.DownSide.τ).loc Cert.DownSide.main_arg2)
      ∧ r.2.mem ((c.tc : Thread Cert.DownSide.nD Cert.DownSide.τ).loc Cert.DownSide.main_arg3) = m ((c.tc : Thread Cert.DownSide.nD Cert.DownSide.τ).loc Cert.DownSide.main_arg3)
      ∧ r.2.mem ((c.tc : Thread Cert.DownSide.nD Cert.DownSide.τ).loc Cert.DownSide.main_arg4) = m ((c.tc : Thread Cert.DownSide.nD Cert.DownSide.τ).loc Cert.DownSide.main_arg4)
      ∧ r.2.mem ((c.tc : Thread Cert.DownSide.nD Cert.DownSide.τ).loc Cert.DownSide.main_arg5) = m ((c.tc : Thread Cert.DownSide.nD Cert.DownSide.τ).loc Cert.DownSide.main_arg5))
      ∧ r.2.sem = fun _ => 0)

def quiescent_DownSideIdeal [hDownSideIdeal : Cert.DownSideIdeal.Facts] : Prop :=
  ∀ (m : (ℓ : Loc Cert.DownSideIdeal.nD Cert.DownSideIdeal.τ Cert.DownSideIdeal.sig) → Buf (Elt Ideal) ℓ) (g : Dev Cert.DownSideIdeal.nD → PrngReg), Pre_DownSideIdeal m →
    θ_run (Cert.DownSideIdeal.defs (F := Ideal)) (onTc (τ := Cert.DownSideIdeal.τ) (Cert.DownSideIdeal.main (F := Ideal))) ⟨m, fun _ => 0, g⟩ (fun r => (∀ c : Dev Cert.DownSideIdeal.nD,
      r.2.mem ((c.tc : Thread Cert.DownSideIdeal.nD Cert.DownSideIdeal.τ).loc Cert.DownSideIdeal.main_arg0) = m ((c.tc : Thread Cert.DownSideIdeal.nD Cert.DownSideIdeal.τ).loc Cert.DownSideIdeal.main_arg0)
      ∧ r.2.mem ((c.tc : Thread Cert.DownSideIdeal.nD Cert.DownSideIdeal.τ).loc Cert.DownSideIdeal.main_arg1) = m ((c.tc : Thread Cert.DownSideIdeal.nD Cert.DownSideIdeal.τ).loc Cert.DownSideIdeal.main_arg1)
      ∧ r.2.mem ((c.tc : Thread Cert.DownSideIdeal.nD Cert.DownSideIdeal.τ).loc Cert.DownSideIdeal.main_arg2) = m ((c.tc : Thread Cert.DownSideIdeal.nD Cert.DownSideIdeal.τ).loc Cert.DownSideIdeal.main_arg2)
      ∧ r.2.mem ((c.tc : Thread Cert.DownSideIdeal.nD Cert.DownSideIdeal.τ).loc Cert.DownSideIdeal.main_arg3) = m ((c.tc : Thread Cert.DownSideIdeal.nD Cert.DownSideIdeal.τ).loc Cert.DownSideIdeal.main_arg3)
      ∧ r.2.mem ((c.tc : Thread Cert.DownSideIdeal.nD Cert.DownSideIdeal.τ).loc Cert.DownSideIdeal.main_arg4) = m ((c.tc : Thread Cert.DownSideIdeal.nD Cert.DownSideIdeal.τ).loc Cert.DownSideIdeal.main_arg4)
      ∧ r.2.mem ((c.tc : Thread Cert.DownSideIdeal.nD Cert.DownSideIdeal.τ).loc Cert.DownSideIdeal.main_arg5) = m ((c.tc : Thread Cert.DownSideIdeal.nD Cert.DownSideIdeal.τ).loc Cert.DownSideIdeal.main_arg5))
      ∧ r.2.sem = fun _ => 0)

def quiescent_DownSideReferenceIdeal [hDownSideReferenceIdeal : Cert.DownSideReferenceIdeal.Facts] : Prop :=
  ∀ (m : (ℓ : Loc Cert.DownSideReferenceIdeal.nD Cert.DownSideReferenceIdeal.τ Cert.DownSideReferenceIdeal.sig) → Buf (Elt Ideal) ℓ) (g : Dev Cert.DownSideReferenceIdeal.nD → PrngReg), Pre_DownSideReferenceIdeal m →
    θ_run (Cert.DownSideReferenceIdeal.defs (F := Ideal)) (onTc (τ := Cert.DownSideReferenceIdeal.τ) (Cert.DownSideReferenceIdeal.main (F := Ideal))) ⟨m, fun _ => 0, g⟩ (fun r => (∀ c : Dev Cert.DownSideReferenceIdeal.nD,
      r.2.mem ((c.tc : Thread Cert.DownSideReferenceIdeal.nD Cert.DownSideReferenceIdeal.τ).loc Cert.DownSideReferenceIdeal.main_arg0) = m ((c.tc : Thread Cert.DownSideReferenceIdeal.nD Cert.DownSideReferenceIdeal.τ).loc Cert.DownSideReferenceIdeal.main_arg0)
      ∧ r.2.mem ((c.tc : Thread Cert.DownSideReferenceIdeal.nD Cert.DownSideReferenceIdeal.τ).loc Cert.DownSideReferenceIdeal.main_arg1) = m ((c.tc : Thread Cert.DownSideReferenceIdeal.nD Cert.DownSideReferenceIdeal.τ).loc Cert.DownSideReferenceIdeal.main_arg1)
      ∧ r.2.mem ((c.tc : Thread Cert.DownSideReferenceIdeal.nD Cert.DownSideReferenceIdeal.τ).loc Cert.DownSideReferenceIdeal.main_arg2) = m ((c.tc : Thread Cert.DownSideReferenceIdeal.nD Cert.DownSideReferenceIdeal.τ).loc Cert.DownSideReferenceIdeal.main_arg2)
      ∧ r.2.mem ((c.tc : Thread Cert.DownSideReferenceIdeal.nD Cert.DownSideReferenceIdeal.τ).loc Cert.DownSideReferenceIdeal.main_arg3) = m ((c.tc : Thread Cert.DownSideReferenceIdeal.nD Cert.DownSideReferenceIdeal.τ).loc Cert.DownSideReferenceIdeal.main_arg3)
      ∧ r.2.mem ((c.tc : Thread Cert.DownSideReferenceIdeal.nD Cert.DownSideReferenceIdeal.τ).loc Cert.DownSideReferenceIdeal.main_arg4) = m ((c.tc : Thread Cert.DownSideReferenceIdeal.nD Cert.DownSideReferenceIdeal.τ).loc Cert.DownSideReferenceIdeal.main_arg4)
      ∧ r.2.mem ((c.tc : Thread Cert.DownSideReferenceIdeal.nD Cert.DownSideReferenceIdeal.τ).loc Cert.DownSideReferenceIdeal.main_arg5) = m ((c.tc : Thread Cert.DownSideReferenceIdeal.nD Cert.DownSideReferenceIdeal.τ).loc Cert.DownSideReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v9) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_CdIn_CdInIdeal : Prop :=
  True

def algebraic_CdInIdeal_CdInReferenceIdeal [hCdInIdeal : Cert.CdInIdeal.Facts] [hCdInReferenceIdeal : Cert.CdInReferenceIdeal.Facts] : Prop :=
  ∀ (m : (ℓ : Loc Cert.CdInIdeal.nD Cert.CdInIdeal.τ Cert.CdInIdeal.sig) → Buf (Elt Ideal) ℓ) (g : Dev Cert.CdInIdeal.nD → PrngReg)
    (m' : (ℓ : Loc Cert.CdInReferenceIdeal.nD Cert.CdInReferenceIdeal.τ Cert.CdInReferenceIdeal.sig) → Buf (Elt Ideal) ℓ) (g' : Dev Cert.CdInReferenceIdeal.nD → PrngReg), Pre_CdInIdeal m →
    (∀ c : Dev Cert.CdInIdeal.nD,
      m' ((c.tc : Thread Cert.CdInReferenceIdeal.nD Cert.CdInReferenceIdeal.τ).loc Cert.CdInReferenceIdeal.main_arg0) = m ((c.tc : Thread Cert.CdInIdeal.nD Cert.CdInIdeal.τ).loc Cert.CdInIdeal.main_arg0)
      ∧ m' ((c.tc : Thread Cert.CdInReferenceIdeal.nD Cert.CdInReferenceIdeal.τ).loc Cert.CdInReferenceIdeal.main_arg1) = m ((c.tc : Thread Cert.CdInIdeal.nD Cert.CdInIdeal.τ).loc Cert.CdInIdeal.main_arg1)
      ∧ m' ((c.tc : Thread Cert.CdInReferenceIdeal.nD Cert.CdInReferenceIdeal.τ).loc Cert.CdInReferenceIdeal.main_arg2) = m ((c.tc : Thread Cert.CdInIdeal.nD Cert.CdInIdeal.τ).loc Cert.CdInIdeal.main_arg2)
      ∧ m' ((c.tc : Thread Cert.CdInReferenceIdeal.nD Cert.CdInReferenceIdeal.τ).loc Cert.CdInReferenceIdeal.main_arg3) = m ((c.tc : Thread Cert.CdInIdeal.nD Cert.CdInIdeal.τ).loc Cert.CdInIdeal.main_arg3)
      ∧ m' ((c.tc : Thread Cert.CdInReferenceIdeal.nD Cert.CdInReferenceIdeal.τ).loc Cert.CdInReferenceIdeal.main_arg4) = m ((c.tc : Thread Cert.CdInIdeal.nD Cert.CdInIdeal.τ).loc Cert.CdInIdeal.main_arg4)) →
    ∃ (v0 : (c : Dev Cert.CdInIdeal.nD) → Buf (Elt Ideal) ((c.tc : Thread Cert.CdInIdeal.nD Cert.CdInIdeal.τ).loc Cert.CdInIdeal.main_v2_0)) (v1 : (c : Dev Cert.CdInIdeal.nD) → Buf (Elt Ideal) ((c.tc : Thread Cert.CdInIdeal.nD Cert.CdInIdeal.τ).loc Cert.CdInIdeal.main_v2_1)) (v2 : (c : Dev Cert.CdInIdeal.nD) → Buf (Elt Ideal) ((c.tc : Thread Cert.CdInIdeal.nD Cert.CdInIdeal.τ).loc Cert.CdInIdeal.main_v2_2)),
      θ_run (Cert.CdInIdeal.defs (F := Ideal)) (onTc (τ := Cert.CdInIdeal.τ) (Cert.CdInIdeal.main (F := Ideal))) ⟨m, fun _ => 0, g⟩ (fun r => ∀ c : Dev Cert.CdInIdeal.nD,
          r.2.mem ((c.tc : Thread Cert.CdInIdeal.nD Cert.CdInIdeal.τ).loc Cert.CdInIdeal.main_v2_0) = v0 c
          ∧ r.2.mem ((c.tc : Thread Cert.CdInIdeal.nD Cert.CdInIdeal.τ).loc Cert.CdInIdeal.main_v2_1) = v1 c
          ∧ r.2.mem ((c.tc : Thread Cert.CdInIdeal.nD Cert.CdInIdeal.τ).loc Cert.CdInIdeal.main_v2_2) = v2 c
          ∧ r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
          ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1)
          ∧ r.2.mem ((c.tc : Thread Cert.CdInIdeal.nD Cert.CdInIdeal.τ).loc Cert.CdInIdeal.main_arg2) = m ((c.tc : Thread Cert.CdInIdeal.nD Cert.CdInIdeal.τ).loc Cert.CdInIdeal.main_arg2)
          ∧ r.2.mem ((c.tc : Thread Cert.CdInIdeal.nD Cert.CdInIdeal.τ).loc Cert.CdInIdeal.main_arg3) = m ((c.tc : Thread Cert.CdInIdeal.nD Cert.CdInIdeal.τ).loc Cert.CdInIdeal.main_arg3)
          ∧ r.2.mem ((c.tc : Thread Cert.CdInIdeal.nD Cert.CdInIdeal.τ).loc Cert.CdInIdeal.main_arg4) = m ((c.tc : Thread Cert.CdInIdeal.nD Cert.CdInIdeal.τ).loc Cert.CdInIdeal.main_arg4))
      ∧ θ_run (Cert.CdInReferenceIdeal.defs (F := Ideal)) (onTc (τ := Cert.CdInReferenceIdeal.τ) (Cert.CdInReferenceIdeal.main (F := Ideal))) ⟨m', fun _ => 0, g'⟩ (fun r => ∀ c : Dev Cert.CdInReferenceIdeal.nD,
          r.2.mem ((c.tc : Thread Cert.CdInReferenceIdeal.nD Cert.CdInReferenceIdeal.τ).loc Cert.CdInReferenceIdeal.main_v82) = v0 c
          ∧ r.2.mem ((c.tc : Thread Cert.CdInReferenceIdeal.nD Cert.CdInReferenceIdeal.τ).loc Cert.CdInReferenceIdeal.main_v84) = v1 c
          ∧ r.2.mem ((c.tc : Thread Cert.CdInReferenceIdeal.nD Cert.CdInReferenceIdeal.τ).loc Cert.CdInReferenceIdeal.main_v85) = v2 c
          ∧ r.2.mem ((c.tc : Thread Cert.CdInReferenceIdeal.nD Cert.CdInReferenceIdeal.τ).loc Cert.CdInReferenceIdeal.main_arg0) = m' ((c.tc : Thread Cert.CdInReferenceIdeal.nD Cert.CdInReferenceIdeal.τ).loc Cert.CdInReferenceIdeal.main_arg0)
          ∧ r.2.mem ((c.tc : Thread Cert.CdInReferenceIdeal.nD Cert.CdInReferenceIdeal.τ).loc Cert.CdInReferenceIdeal.main_arg1) = m' ((c.tc : Thread Cert.CdInReferenceIdeal.nD Cert.CdInReferenceIdeal.τ).loc Cert.CdInReferenceIdeal.main_arg1)
          ∧ r.2.mem ((c.tc : Thread Cert.CdInReferenceIdeal.nD Cert.CdInReferenceIdeal.τ).loc Cert.CdInReferenceIdeal.main_arg2) = m' ((c.tc : Thread Cert.CdInReferenceIdeal.nD Cert.CdInReferenceIdeal.τ).loc Cert.CdInReferenceIdeal.main_arg2)
          ∧ r.2.mem ((c.tc : Thread Cert.CdInReferenceIdeal.nD Cert.CdInReferenceIdeal.τ).loc Cert.CdInReferenceIdeal.main_arg3) = m' ((c.tc : Thread Cert.CdInReferenceIdeal.nD Cert.CdInReferenceIdeal.τ).loc Cert.CdInReferenceIdeal.main_arg3)
          ∧ r.2.mem ((c.tc : Thread Cert.CdInReferenceIdeal.nD Cert.CdInReferenceIdeal.τ).loc Cert.CdInReferenceIdeal.main_arg4) = m' ((c.tc : Thread Cert.CdInReferenceIdeal.nD Cert.CdInReferenceIdeal.τ).loc Cert.CdInReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v65) = v0 c
          ∧ r.2.mem ((c.tc : Thread Cert.OutProjReferenceIdeal.nD Cert.OutProjReferenceIdeal.τ).loc Cert.OutProjReferenceIdeal.main_v67) = v1 c
          ∧ r.2.mem ((c.tc : Thread Cert.OutProjReferenceIdeal.nD Cert.OutProjReferenceIdeal.τ).loc Cert.OutProjReferenceIdeal.main_v68) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def preserves_AbIn_AbInIdeal : Prop :=
  True

def algebraic_AbInIdeal_AbInReferenceIdeal [hAbInIdeal : Cert.AbInIdeal.Facts] [hAbInReferenceIdeal : Cert.AbInReferenceIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInReferenceIdeal.nD Cert.AbInReferenceIdeal.τ Cert.AbInReferenceIdeal.sig) → Buf (Elt Ideal) ℓ) (g' : Dev Cert.AbInReferenceIdeal.nD → PrngReg), Pre_AbInIdeal m →
    (∀ c : Dev Cert.AbInIdeal.nD,
      m' ((c.tc : Thread Cert.AbInReferenceIdeal.nD Cert.AbInReferenceIdeal.τ).loc Cert.AbInReferenceIdeal.main_arg0) = m ((c.tc : Thread Cert.AbInIdeal.nD Cert.AbInIdeal.τ).loc Cert.AbInIdeal.main_arg0)
      ∧ m' ((c.tc : Thread Cert.AbInReferenceIdeal.nD Cert.AbInReferenceIdeal.τ).loc Cert.AbInReferenceIdeal.main_arg1) = m ((c.tc : Thread Cert.AbInIdeal.nD Cert.AbInIdeal.τ).loc Cert.AbInIdeal.main_arg1)
      ∧ m' ((c.tc : Thread Cert.AbInReferenceIdeal.nD Cert.AbInReferenceIdeal.τ).loc Cert.AbInReferenceIdeal.main_arg2) = m ((c.tc : Thread Cert.AbInIdeal.nD Cert.AbInIdeal.τ).loc Cert.AbInIdeal.main_arg2)) →
    ∃ (v0 : (c : Dev Cert.AbInIdeal.nD) → Buf (Elt Ideal) ((c.tc : Thread Cert.AbInIdeal.nD Cert.AbInIdeal.τ).loc Cert.AbInIdeal.main_v33)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v33) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2))
      ∧ θ_run (Cert.AbInReferenceIdeal.defs (F := Ideal)) (onTc (τ := Cert.AbInReferenceIdeal.τ) (Cert.AbInReferenceIdeal.main (F := Ideal))) ⟨m', fun _ => 0, g'⟩ (fun r => ∀ c : Dev Cert.AbInReferenceIdeal.nD,
          r.2.mem ((c.tc : Thread Cert.AbInReferenceIdeal.nD Cert.AbInReferenceIdeal.τ).loc Cert.AbInReferenceIdeal.main_v136) = v0 c
          ∧ r.2.mem ((c.tc : Thread Cert.AbInReferenceIdeal.nD Cert.AbInReferenceIdeal.τ).loc Cert.AbInReferenceIdeal.main_arg0) = m' ((c.tc : Thread Cert.AbInReferenceIdeal.nD Cert.AbInReferenceIdeal.τ).loc Cert.AbInReferenceIdeal.main_arg0)
          ∧ r.2.mem ((c.tc : Thread Cert.AbInReferenceIdeal.nD Cert.AbInReferenceIdeal.τ).loc Cert.AbInReferenceIdeal.main_arg1) = m' ((c.tc : Thread Cert.AbInReferenceIdeal.nD Cert.AbInReferenceIdeal.τ).loc Cert.AbInReferenceIdeal.main_arg1)
          ∧ r.2.mem ((c.tc : Thread Cert.AbInReferenceIdeal.nD Cert.AbInReferenceIdeal.τ).loc Cert.AbInReferenceIdeal.main_arg2) = m' ((c.tc : Thread Cert.AbInReferenceIdeal.nD Cert.AbInReferenceIdeal.τ).loc Cert.AbInReferenceIdeal.main_arg2))

def preserves_OutProjEven_OutProjEvenIdeal : Prop :=
  True

def algebraic_OutProjEvenIdeal_OutProjEvenReferenceIdeal [hOutProjEvenIdeal : Cert.OutProjEvenIdeal.Facts] [hOutProjEvenReferenceIdeal : Cert.OutProjEvenReferenceIdeal.Facts] : Prop :=
  ∀ (m : (ℓ : Loc Cert.OutProjEvenIdeal.nD Cert.OutProjEvenIdeal.τ Cert.OutProjEvenIdeal.sig) → Buf (Elt Ideal) ℓ) (g : Dev Cert.OutProjEvenIdeal.nD → PrngReg)
    (m' : (ℓ : Loc Cert.OutProjEvenReferenceIdeal.nD Cert.OutProjEvenReferenceIdeal.τ Cert.OutProjEvenReferenceIdeal.sig) → Buf (Elt Ideal) ℓ) (g' : Dev Cert.OutProjEvenReferenceIdeal.nD → PrngReg), Pre_OutProjEvenIdeal m →
    (∀ c : Dev Cert.OutProjEvenIdeal.nD,
      m' ((c.tc : Thread Cert.OutProjEvenReferenceIdeal.nD Cert.OutProjEvenReferenceIdeal.τ).loc Cert.OutProjEvenReferenceIdeal.main_arg0) = m ((c.tc : Thread Cert.OutProjEvenIdeal.nD Cert.OutProjEvenIdeal.τ).loc Cert.OutProjEvenIdeal.main_arg0)
      ∧ m' ((c.tc : Thread Cert.OutProjEvenReferenceIdeal.nD Cert.OutProjEvenReferenceIdeal.τ).loc Cert.OutProjEvenReferenceIdeal.main_arg1) = m ((c.tc : Thread Cert.OutProjEvenIdeal.nD Cert.OutProjEvenIdeal.τ).loc Cert.OutProjEvenIdeal.main_arg1)
      ∧ m' ((c.tc : Thread Cert.OutProjEvenReferenceIdeal.nD Cert.OutProjEvenReferenceIdeal.τ).loc Cert.OutProjEvenReferenceIdeal.main_arg2) = m ((c.tc : Thread Cert.OutProjEvenIdeal.nD Cert.OutProjEvenIdeal.τ).loc Cert.OutProjEvenIdeal.main_arg2)
      ∧ m' ((c.tc : Thread Cert.OutProjEvenReferenceIdeal.nD Cert.OutProjEvenReferenceIdeal.τ).loc Cert.OutProjEvenReferenceIdeal.main_arg3) = m ((c.tc : Thread Cert.OutProjEvenIdeal.nD Cert.OutProjEvenIdeal.τ).loc Cert.OutProjEvenIdeal.main_arg3)
      ∧ m' ((c.tc : Thread Cert.OutProjEvenReferenceIdeal.nD Cert.OutProjEvenReferenceIdeal.τ).loc Cert.OutProjEvenReferenceIdeal.main_arg4) = m ((c.tc : Thread Cert.OutProjEvenIdeal.nD Cert.OutProjEvenIdeal.τ).loc Cert.OutProjEvenIdeal.main_arg4)
      ∧ m' ((c.tc : Thread Cert.OutProjEvenReferenceIdeal.nD Cert.OutProjEvenReferenceIdeal.τ).loc Cert.OutProjEvenReferenceIdeal.main_arg5) = m ((c.tc : Thread Cert.OutProjEvenIdeal.nD Cert.OutProjEvenIdeal.τ).loc Cert.OutProjEvenIdeal.main_arg5)
      ∧ m' ((c.tc : Thread Cert.OutProjEvenReferenceIdeal.nD Cert.OutProjEvenReferenceIdeal.τ).loc Cert.OutProjEvenReferenceIdeal.main_arg6) = m ((c.tc : Thread Cert.OutProjEvenIdeal.nD Cert.OutProjEvenIdeal.τ).loc Cert.OutProjEvenIdeal.main_arg6)
      ∧ m' ((c.tc : Thread Cert.OutProjEvenReferenceIdeal.nD Cert.OutProjEvenReferenceIdeal.τ).loc Cert.OutProjEvenReferenceIdeal.main_arg7) = m ((c.tc : Thread Cert.OutProjEvenIdeal.nD Cert.OutProjEvenIdeal.τ).loc Cert.OutProjEvenIdeal.main_arg7)) →
    ∃ (v0 : (c : Dev Cert.OutProjEvenIdeal.nD) → Buf (Elt Ideal) ((c.tc : Thread Cert.OutProjEvenIdeal.nD Cert.OutProjEvenIdeal.τ).loc Cert.OutProjEvenIdeal.main_v12_0)) (v1 : (c : Dev Cert.OutProjEvenIdeal.nD) → Buf (Elt Ideal) ((c.tc : Thread Cert.OutProjEvenIdeal.nD Cert.OutProjEvenIdeal.τ).loc Cert.OutProjEvenIdeal.main_v12_1)) (v2 : (c : Dev Cert.OutProjEvenIdeal.nD) → Buf (Elt Ideal) ((c.tc : Thread Cert.OutProjEvenIdeal.nD Cert.OutProjEvenIdeal.τ).loc Cert.OutProjEvenIdeal.main_v12_2)),
      θ_run (Cert.OutProjEvenIdeal.defs (F := Ideal)) (onTc (τ := Cert.OutProjEvenIdeal.τ) (Cert.OutProjEvenIdeal.main (F := Ideal))) ⟨m, fun _ => 0, g⟩ (fun r => ∀ c : Dev Cert.OutProjEvenIdeal.nD,
          r.2.mem ((c.tc : Thread Cert.OutProjEvenIdeal.nD Cert.OutProjEvenIdeal.τ).loc Cert.OutProjEvenIdeal.main_v12_0) = v0 c
          ∧ r.2.mem ((c.tc : Thread Cert.OutProjEvenIdeal.nD Cert.OutProjEvenIdeal.τ).loc Cert.OutProjEvenIdeal.main_v12_1) = v1 c
          ∧ r.2.mem ((c.tc : Thread Cert.OutProjEvenIdeal.nD Cert.OutProjEvenIdeal.τ).loc Cert.OutProjEvenIdeal.main_v12_2) = v2 c
          ∧ r.2.mem ((c.tc : Thread Cert.OutProjEvenIdeal.nD Cert.OutProjEvenIdeal.τ).loc Cert.OutProjEvenIdeal.main_arg0) = m ((c.tc : Thread Cert.OutProjEvenIdeal.nD Cert.OutProjEvenIdeal.τ).loc Cert.OutProjEvenIdeal.main_arg0)
          ∧ r.2.mem ((c.tc : Thread Cert.OutProjEvenIdeal.nD Cert.OutProjEvenIdeal.τ).loc Cert.OutProjEvenIdeal.main_arg1) = m ((c.tc : Thread Cert.OutProjEvenIdeal.nD Cert.OutProjEvenIdeal.τ).loc Cert.OutProjEvenIdeal.main_arg1)
          ∧ r.2.mem ((c.tc : Thread Cert.OutProjEvenIdeal.nD Cert.OutProjEvenIdeal.τ).loc Cert.OutProjEvenIdeal.main_arg2) = m ((c.tc : Thread Cert.OutProjEvenIdeal.nD Cert.OutProjEvenIdeal.τ).loc Cert.OutProjEvenIdeal.main_arg2)
          ∧ r.2.mem ((c.tc : Thread Cert.OutProjEvenIdeal.nD Cert.OutProjEvenIdeal.τ).loc Cert.OutProjEvenIdeal.main_arg3) = m ((c.tc : Thread Cert.OutProjEvenIdeal.nD Cert.OutProjEvenIdeal.τ).loc Cert.OutProjEvenIdeal.main_arg3)
          ∧ r.2.mem ((c.tc : Thread Cert.OutProjEvenIdeal.nD Cert.OutProjEvenIdeal.τ).loc Cert.OutProjEvenIdeal.main_arg4) = m ((c.tc : Thread Cert.OutProjEvenIdeal.nD Cert.OutProjEvenIdeal.τ).loc Cert.OutProjEvenIdeal.main_arg4)
          ∧ r.2.mem ((c.tc : Thread Cert.OutProjEvenIdeal.nD Cert.OutProjEvenIdeal.τ).loc Cert.OutProjEvenIdeal.main_arg5) = m ((c.tc : Thread Cert.OutProjEvenIdeal.nD Cert.OutProjEvenIdeal.τ).loc Cert.OutProjEvenIdeal.main_arg5)
          ∧ r.2.mem ((c.tc : Thread Cert.OutProjEvenIdeal.nD Cert.OutProjEvenIdeal.τ).loc Cert.OutProjEvenIdeal.main_arg6) = m ((c.tc : Thread Cert.OutProjEvenIdeal.nD Cert.OutProjEvenIdeal.τ).loc Cert.OutProjEvenIdeal.main_arg6)
          ∧ r.2.mem ((c.tc : Thread Cert.OutProjEvenIdeal.nD Cert.OutProjEvenIdeal.τ).loc Cert.OutProjEvenIdeal.main_arg7) = m ((c.tc : Thread Cert.OutProjEvenIdeal.nD Cert.OutProjEvenIdeal.τ).loc Cert.OutProjEvenIdeal.main_arg7))
      ∧ θ_run (Cert.OutProjEvenReferenceIdeal.defs (F := Ideal)) (onTc (τ := Cert.OutProjEvenReferenceIdeal.τ) (Cert.OutProjEvenReferenceIdeal.main (F := Ideal))) ⟨m', fun _ => 0, g'⟩ (fun r => ∀ c : Dev Cert.OutProjEvenReferenceIdeal.nD,
          r.2.mem ((c.tc : Thread Cert.OutProjEvenReferenceIdeal.nD Cert.OutProjEvenReferenceIdeal.τ).loc Cert.OutProjEvenReferenceIdeal.main_v73) = v0 c
          ∧ r.2.mem ((c.tc : Thread Cert.OutProjEvenReferenceIdeal.nD Cert.OutProjEvenReferenceIdeal.τ).loc Cert.OutProjEvenReferenceIdeal.main_v75) = v1 c
          ∧ r.2.mem ((c.tc : Thread Cert.OutProjEvenReferenceIdeal.nD Cert.OutProjEvenReferenceIdeal.τ).loc Cert.OutProjEvenReferenceIdeal.main_v76) = v2 c
          ∧ r.2.mem ((c.tc : Thread Cert.OutProjEvenReferenceIdeal.nD Cert.OutProjEvenReferenceIdeal.τ).loc Cert.OutProjEvenReferenceIdeal.main_arg0) = m' ((c.tc : Thread Cert.OutProjEvenReferenceIdeal.nD Cert.OutProjEvenReferenceIdeal.τ).loc Cert.OutProjEvenReferenceIdeal.main_arg0)
          ∧ r.2.mem ((c.tc : Thread Cert.OutProjEvenReferenceIdeal.nD Cert.OutProjEvenReferenceIdeal.τ).loc Cert.OutProjEvenReferenceIdeal.main_arg1) = m' ((c.tc : Thread Cert.OutProjEvenReferenceIdeal.nD Cert.OutProjEvenReferenceIdeal.τ).loc Cert.OutProjEvenReferenceIdeal.main_arg1)
          ∧ r.2.mem ((c.tc : Thread Cert.OutProjEvenReferenceIdeal.nD Cert.OutProjEvenReferenceIdeal.τ).loc Cert.OutProjEvenReferenceIdeal.main_arg2) = m' ((c.tc : Thread Cert.OutProjEvenReferenceIdeal.nD Cert.OutProjEvenReferenceIdeal.τ).loc Cert.OutProjEvenReferenceIdeal.main_arg2)
          ∧ r.2.mem ((c.tc : Thread Cert.OutProjEvenReferenceIdeal.nD Cert.OutProjEvenReferenceIdeal.τ).loc Cert.OutProjEvenReferenceIdeal.main_arg3) = m' ((c.tc : Thread Cert.OutProjEvenReferenceIdeal.nD Cert.OutProjEvenReferenceIdeal.τ).loc Cert.OutProjEvenReferenceIdeal.main_arg3)
          ∧ r.2.mem ((c.tc : Thread Cert.OutProjEvenReferenceIdeal.nD Cert.OutProjEvenReferenceIdeal.τ).loc Cert.OutProjEvenReferenceIdeal.main_arg4) = m' ((c.tc : Thread Cert.OutProjEvenReferenceIdeal.nD Cert.OutProjEvenReferenceIdeal.τ).loc Cert.OutProjEvenReferenceIdeal.main_arg4)
          ∧ r.2.mem ((c.tc : Thread Cert.OutProjEvenReferenceIdeal.nD Cert.OutProjEvenReferenceIdeal.τ).loc Cert.OutProjEvenReferenceIdeal.main_arg5) = m' ((c.tc : Thread Cert.OutProjEvenReferenceIdeal.nD Cert.OutProjEvenReferenceIdeal.τ).loc Cert.OutProjEvenReferenceIdeal.main_arg5)
          ∧ r.2.mem ((c.tc : Thread Cert.OutProjEvenReferenceIdeal.nD Cert.OutProjEvenReferenceIdeal.τ).loc Cert.OutProjEvenReferenceIdeal.main_arg6) = m' ((c.tc : Thread Cert.OutProjEvenReferenceIdeal.nD Cert.OutProjEvenReferenceIdeal.τ).loc Cert.OutProjEvenReferenceIdeal.main_arg6)
          ∧ r.2.mem ((c.tc : Thread Cert.OutProjEvenReferenceIdeal.nD Cert.OutProjEvenReferenceIdeal.τ).loc Cert.OutProjEvenReferenceIdeal.main_arg7) = m' ((c.tc : Thread Cert.OutProjEvenReferenceIdeal.nD Cert.OutProjEvenReferenceIdeal.τ).loc Cert.OutProjEvenReferenceIdeal.main_arg7))

def preserves_AbCtx_AbCtxIdeal : Prop :=
  True

def algebraic_AbCtxIdeal_AbCtxReferenceIdeal [hAbCtxIdeal : Cert.AbCtxIdeal.Facts] [hAbCtxReferenceIdeal : Cert.AbCtxReferenceIdeal.Facts] : Prop :=
  ∀ (m : (ℓ : Loc Cert.AbCtxIdeal.nD Cert.AbCtxIdeal.τ Cert.AbCtxIdeal.sig) → Buf (Elt Ideal) ℓ) (g : Dev Cert.AbCtxIdeal.nD → PrngReg)
    (m' : (ℓ : Loc Cert.AbCtxReferenceIdeal.nD Cert.AbCtxReferenceIdeal.τ Cert.AbCtxReferenceIdeal.sig) → Buf (Elt Ideal) ℓ) (g' : Dev Cert.AbCtxReferenceIdeal.nD → PrngReg), Pre_AbCtxIdeal m →
    (∀ c : Dev Cert.AbCtxIdeal.nD,
      m' ((c.tc : Thread Cert.AbCtxReferenceIdeal.nD Cert.AbCtxReferenceIdeal.τ).loc Cert.AbCtxReferenceIdeal.main_arg0) = m ((c.tc : Thread Cert.AbCtxIdeal.nD Cert.AbCtxIdeal.τ).loc Cert.AbCtxIdeal.main_arg0)
      ∧ m' ((c.tc : Thread Cert.AbCtxReferenceIdeal.nD Cert.AbCtxReferenceIdeal.τ).loc Cert.AbCtxReferenceIdeal.main_arg1) = m ((c.tc : Thread Cert.AbCtxIdeal.nD Cert.AbCtxIdeal.τ).loc Cert.AbCtxIdeal.main_arg1)
      ∧ m' ((c.tc : Thread Cert.AbCtxReferenceIdeal.nD Cert.AbCtxReferenceIdeal.τ).loc Cert.AbCtxReferenceIdeal.main_arg2) = m ((c.tc : Thread Cert.AbCtxIdeal.nD Cert.AbCtxIdeal.τ).loc Cert.AbCtxIdeal.main_arg2)) →
    ∃ (v0 : (c : Dev Cert.AbCtxIdeal.nD) → Buf (Elt Ideal) ((c.tc : Thread Cert.AbCtxIdeal.nD Cert.AbCtxIdeal.τ).loc Cert.AbCtxIdeal.main_v34)),
      θ_run (Cert.AbCtxIdeal.defs (F := Ideal)) (onTc (τ := Cert.AbCtxIdeal.τ) (Cert.AbCtxIdeal.main (F := Ideal))) ⟨m, fun _ => 0, g⟩ (fun r => ∀ c : Dev Cert.AbCtxIdeal.nD,
          r.2.mem ((c.tc : Thread Cert.AbCtxIdeal.nD Cert.AbCtxIdeal.τ).loc Cert.AbCtxIdeal.main_v34) = v0 c
          ∧ r.2.mem ((c.tc : Thread Cert.AbCtxIdeal.nD Cert.AbCtxIdeal.τ).loc Cert.AbCtxIdeal.main_arg0) = m ((c.tc : Thread Cert.AbCtxIdeal.nD Cert.AbCtxIdeal.τ).loc Cert.AbCtxIdeal.main_arg0)
          ∧ r.2.mem ((c.tc : Thread Cert.AbCtxIdeal.nD Cert.AbCtxIdeal.τ).loc Cert.AbCtxIdeal.main_arg1) = m ((c.tc : Thread Cert.AbCtxIdeal.nD Cert.AbCtxIdeal.τ).loc Cert.AbCtxIdeal.main_arg1)
          ∧ r.2.mem ((c.tc : Thread Cert.AbCtxIdeal.nD Cert.AbCtxIdeal.τ).loc Cert.AbCtxIdeal.main_arg2) = m ((c.tc : Thread Cert.AbCtxIdeal.nD Cert.AbCtxIdeal.τ).loc Cert.AbCtxIdeal.main_arg2))
      ∧ θ_run (Cert.AbCtxReferenceIdeal.defs (F := Ideal)) (onTc (τ := Cert.AbCtxReferenceIdeal.τ) (Cert.AbCtxReferenceIdeal.main (F := Ideal))) ⟨m', fun _ => 0, g'⟩ (fun r => ∀ c : Dev Cert.AbCtxReferenceIdeal.nD,
          r.2.mem ((c.tc : Thread Cert.AbCtxReferenceIdeal.nD Cert.AbCtxReferenceIdeal.τ).loc Cert.AbCtxReferenceIdeal.main_v34) = v0 c
          ∧ r.2.mem ((c.tc : Thread Cert.AbCtxReferenceIdeal.nD Cert.AbCtxReferenceIdeal.τ).loc Cert.AbCtxReferenceIdeal.main_arg0) = m' ((c.tc : Thread Cert.AbCtxReferenceIdeal.nD Cert.AbCtxReferenceIdeal.τ).loc Cert.AbCtxReferenceIdeal.main_arg0)
          ∧ r.2.mem ((c.tc : Thread Cert.AbCtxReferenceIdeal.nD Cert.AbCtxReferenceIdeal.τ).loc Cert.AbCtxReferenceIdeal.main_arg1) = m' ((c.tc : Thread Cert.AbCtxReferenceIdeal.nD Cert.AbCtxReferenceIdeal.τ).loc Cert.AbCtxReferenceIdeal.main_arg1)
          ∧ r.2.mem ((c.tc : Thread Cert.AbCtxReferenceIdeal.nD Cert.AbCtxReferenceIdeal.τ).loc Cert.AbCtxReferenceIdeal.main_arg2) = m' ((c.tc : Thread Cert.AbCtxReferenceIdeal.nD Cert.AbCtxReferenceIdeal.τ).loc Cert.AbCtxReferenceIdeal.main_arg2))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v8) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_GateUpFirst_GateUpFirstIdeal : Prop :=
  True

def algebraic_GateUpFirstIdeal_GateUpFirstReferenceIdeal [hGateUpFirstIdeal : Cert.GateUpFirstIdeal.Facts] [hGateUpFirstReferenceIdeal : Cert.GateUpFirstReferenceIdeal.Facts] : Prop :=
  ∀ (m : (ℓ : Loc Cert.GateUpFirstIdeal.nD Cert.GateUpFirstIdeal.τ Cert.GateUpFirstIdeal.sig) → Buf (Elt Ideal) ℓ) (g : Dev Cert.GateUpFirstIdeal.nD → PrngReg)
    (m' : (ℓ : Loc Cert.GateUpFirstReferenceIdeal.nD Cert.GateUpFirstReferenceIdeal.τ Cert.GateUpFirstReferenceIdeal.sig) → Buf (Elt Ideal) ℓ) (g' : Dev Cert.GateUpFirstReferenceIdeal.nD → PrngReg), Pre_GateUpFirstIdeal m →
    (∀ c : Dev Cert.GateUpFirstIdeal.nD,
      m' ((c.tc : Thread Cert.GateUpFirstReferenceIdeal.nD Cert.GateUpFirstReferenceIdeal.τ).loc Cert.GateUpFirstReferenceIdeal.main_arg0) = m ((c.tc : Thread Cert.GateUpFirstIdeal.nD Cert.GateUpFirstIdeal.τ).loc Cert.GateUpFirstIdeal.main_arg0)
      ∧ m' ((c.tc : Thread Cert.GateUpFirstReferenceIdeal.nD Cert.GateUpFirstReferenceIdeal.τ).loc Cert.GateUpFirstReferenceIdeal.main_arg1) = m ((c.tc : Thread Cert.GateUpFirstIdeal.nD Cert.GateUpFirstIdeal.τ).loc Cert.GateUpFirstIdeal.main_arg1)
      ∧ m' ((c.tc : Thread Cert.GateUpFirstReferenceIdeal.nD Cert.GateUpFirstReferenceIdeal.τ).loc Cert.GateUpFirstReferenceIdeal.main_arg2) = m ((c.tc : Thread Cert.GateUpFirstIdeal.nD Cert.GateUpFirstIdeal.τ).loc Cert.GateUpFirstIdeal.main_arg2)) →
    ∃ (v0 : (c : Dev Cert.GateUpFirstIdeal.nD) → Buf (Elt Ideal) ((c.tc : Thread Cert.GateUpFirstIdeal.nD Cert.GateUpFirstIdeal.τ).loc Cert.GateUpFirstIdeal.main_v0)),
      θ_run (Cert.GateUpFirstIdeal.defs (F := Ideal)) (onTc (τ := Cert.GateUpFirstIdeal.τ) (Cert.GateUpFirstIdeal.main (F := Ideal))) ⟨m, fun _ => 0, g⟩ (fun r => ∀ c : Dev Cert.GateUpFirstIdeal.nD,
          r.2.mem ((c.tc : Thread Cert.GateUpFirstIdeal.nD Cert.GateUpFirstIdeal.τ).loc Cert.GateUpFirstIdeal.main_v0) = v0 c
          ∧ r.2.mem ((c.tc : Thread Cert.GateUpFirstIdeal.nD Cert.GateUpFirstIdeal.τ).loc Cert.GateUpFirstIdeal.main_arg0) = m ((c.tc : Thread Cert.GateUpFirstIdeal.nD Cert.GateUpFirstIdeal.τ).loc Cert.GateUpFirstIdeal.main_arg0)
          ∧ r.2.mem ((c.tc : Thread Cert.GateUpFirstIdeal.nD Cert.GateUpFirstIdeal.τ).loc Cert.GateUpFirstIdeal.main_arg1) = m ((c.tc : Thread Cert.GateUpFirstIdeal.nD Cert.GateUpFirstIdeal.τ).loc Cert.GateUpFirstIdeal.main_arg1)
          ∧ r.2.mem ((c.tc : Thread Cert.GateUpFirstIdeal.nD Cert.GateUpFirstIdeal.τ).loc Cert.GateUpFirstIdeal.main_arg2) = m ((c.tc : Thread Cert.GateUpFirstIdeal.nD Cert.GateUpFirstIdeal.τ).loc Cert.GateUpFirstIdeal.main_arg2))
      ∧ θ_run (Cert.GateUpFirstReferenceIdeal.defs (F := Ideal)) (onTc (τ := Cert.GateUpFirstReferenceIdeal.τ) (Cert.GateUpFirstReferenceIdeal.main (F := Ideal))) ⟨m', fun _ => 0, g'⟩ (fun r => ∀ c : Dev Cert.GateUpFirstReferenceIdeal.nD,
          r.2.mem ((c.tc : Thread Cert.GateUpFirstReferenceIdeal.nD Cert.GateUpFirstReferenceIdeal.τ).loc Cert.GateUpFirstReferenceIdeal.main_v9) = v0 c
          ∧ r.2.mem ((c.tc : Thread Cert.GateUpFirstReferenceIdeal.nD Cert.GateUpFirstReferenceIdeal.τ).loc Cert.GateUpFirstReferenceIdeal.main_arg0) = m' ((c.tc : Thread Cert.GateUpFirstReferenceIdeal.nD Cert.GateUpFirstReferenceIdeal.τ).loc Cert.GateUpFirstReferenceIdeal.main_arg0)
          ∧ r.2.mem ((c.tc : Thread Cert.GateUpFirstReferenceIdeal.nD Cert.GateUpFirstReferenceIdeal.τ).loc Cert.GateUpFirstReferenceIdeal.main_arg1) = m' ((c.tc : Thread Cert.GateUpFirstReferenceIdeal.nD Cert.GateUpFirstReferenceIdeal.τ).loc Cert.GateUpFirstReferenceIdeal.main_arg1)
          ∧ r.2.mem ((c.tc : Thread Cert.GateUpFirstReferenceIdeal.nD Cert.GateUpFirstReferenceIdeal.τ).loc Cert.GateUpFirstReferenceIdeal.main_arg2) = m' ((c.tc : Thread Cert.GateUpFirstReferenceIdeal.nD Cert.GateUpFirstReferenceIdeal.τ).loc Cert.GateUpFirstReferenceIdeal.main_arg2))

def preserves_DownSide_DownSideIdeal : Prop :=
  True

def algebraic_DownSideIdeal_DownSideReferenceIdeal [hDownSideIdeal : Cert.DownSideIdeal.Facts] [hDownSideReferenceIdeal : Cert.DownSideReferenceIdeal.Facts] : Prop :=
  ∀ (m : (ℓ : Loc Cert.DownSideIdeal.nD Cert.DownSideIdeal.τ Cert.DownSideIdeal.sig) → Buf (Elt Ideal) ℓ) (g : Dev Cert.DownSideIdeal.nD → PrngReg)
    (m' : (ℓ : Loc Cert.DownSideReferenceIdeal.nD Cert.DownSideReferenceIdeal.τ Cert.DownSideReferenceIdeal.sig) → Buf (Elt Ideal) ℓ) (g' : Dev Cert.DownSideReferenceIdeal.nD → PrngReg), Pre_DownSideIdeal m →
    (∀ c : Dev Cert.DownSideIdeal.nD,
      m' ((c.tc : Thread Cert.DownSideReferenceIdeal.nD Cert.DownSideReferenceIdeal.τ).loc Cert.DownSideReferenceIdeal.main_arg0) = m ((c.tc : Thread Cert.DownSideIdeal.nD Cert.DownSideIdeal.τ).loc Cert.DownSideIdeal.main_arg0)
      ∧ m' ((c.tc : Thread Cert.DownSideReferenceIdeal.nD Cert.DownSideReferenceIdeal.τ).loc Cert.DownSideReferenceIdeal.main_arg1) = m ((c.tc : Thread Cert.DownSideIdeal.nD Cert.DownSideIdeal.τ).loc Cert.DownSideIdeal.main_arg1)
      ∧ m' ((c.tc : Thread Cert.DownSideReferenceIdeal.nD Cert.DownSideReferenceIdeal.τ).loc Cert.DownSideReferenceIdeal.main_arg2) = m ((c.tc : Thread Cert.DownSideIdeal.nD Cert.DownSideIdeal.τ).loc Cert.DownSideIdeal.main_arg2)
      ∧ m' ((c.tc : Thread Cert.DownSideReferenceIdeal.nD Cert.DownSideReferenceIdeal.τ).loc Cert.DownSideReferenceIdeal.main_arg3) = m ((c.tc : Thread Cert.DownSideIdeal.nD Cert.DownSideIdeal.τ).loc Cert.DownSideIdeal.main_arg3)
      ∧ m' ((c.tc : Thread Cert.DownSideReferenceIdeal.nD Cert.DownSideReferenceIdeal.τ).loc Cert.DownSideReferenceIdeal.main_arg4) = m ((c.tc : Thread Cert.DownSideIdeal.nD Cert.DownSideIdeal.τ).loc Cert.DownSideIdeal.main_arg4)
      ∧ m' ((c.tc : Thread Cert.DownSideReferenceIdeal.nD Cert.DownSideReferenceIdeal.τ).loc Cert.DownSideReferenceIdeal.main_arg5) = m ((c.tc : Thread Cert.DownSideIdeal.nD Cert.DownSideIdeal.τ).loc Cert.DownSideIdeal.main_arg5)) →
    ∃ (v0 : (c : Dev Cert.DownSideIdeal.nD) → Buf (Elt Ideal) ((c.tc : Thread Cert.DownSideIdeal.nD Cert.DownSideIdeal.τ).loc Cert.DownSideIdeal.main_v1_0)) (v1 : (c : Dev Cert.DownSideIdeal.nD) → Buf (Elt Ideal) ((c.tc : Thread Cert.DownSideIdeal.nD Cert.DownSideIdeal.τ).loc Cert.DownSideIdeal.main_v1_1)) (v2 : (c : Dev Cert.DownSideIdeal.nD) → Buf (Elt Ideal) ((c.tc : Thread Cert.DownSideIdeal.nD Cert.DownSideIdeal.τ).loc Cert.DownSideIdeal.main_v1_2)),
      θ_run (Cert.DownSideIdeal.defs (F := Ideal)) (onTc (τ := Cert.DownSideIdeal.τ) (Cert.DownSideIdeal.main (F := Ideal))) ⟨m, fun _ => 0, g⟩ (fun r => ∀ c : Dev Cert.DownSideIdeal.nD,
          r.2.mem ((c.tc : Thread Cert.DownSideIdeal.nD Cert.DownSideIdeal.τ).loc Cert.DownSideIdeal.main_v1_0) = v0 c
          ∧ r.2.mem ((c.tc : Thread Cert.DownSideIdeal.nD Cert.DownSideIdeal.τ).loc Cert.DownSideIdeal.main_v1_1) = v1 c
          ∧ r.2.mem ((c.tc : Thread Cert.DownSideIdeal.nD Cert.DownSideIdeal.τ).loc Cert.DownSideIdeal.main_v1_2) = v2 c
          ∧ r.2.mem ((c.tc : Thread Cert.DownSideIdeal.nD Cert.DownSideIdeal.τ).loc Cert.DownSideIdeal.main_arg0) = m ((c.tc : Thread Cert.DownSideIdeal.nD Cert.DownSideIdeal.τ).loc Cert.DownSideIdeal.main_arg0)
          ∧ r.2.mem ((c.tc : Thread Cert.DownSideIdeal.nD Cert.DownSideIdeal.τ).loc Cert.DownSideIdeal.main_arg1) = m ((c.tc : Thread Cert.DownSideIdeal.nD Cert.DownSideIdeal.τ).loc Cert.DownSideIdeal.main_arg1)
          ∧ r.2.mem ((c.tc : Thread Cert.DownSideIdeal.nD Cert.DownSideIdeal.τ).loc Cert.DownSideIdeal.main_arg2) = m ((c.tc : Thread Cert.DownSideIdeal.nD Cert.DownSideIdeal.τ).loc Cert.DownSideIdeal.main_arg2)
          ∧ r.2.mem ((c.tc : Thread Cert.DownSideIdeal.nD Cert.DownSideIdeal.τ).loc Cert.DownSideIdeal.main_arg3) = m ((c.tc : Thread Cert.DownSideIdeal.nD Cert.DownSideIdeal.τ).loc Cert.DownSideIdeal.main_arg3)
          ∧ r.2.mem ((c.tc : Thread Cert.DownSideIdeal.nD Cert.DownSideIdeal.τ).loc Cert.DownSideIdeal.main_arg4) = m ((c.tc : Thread Cert.DownSideIdeal.nD Cert.DownSideIdeal.τ).loc Cert.DownSideIdeal.main_arg4)
          ∧ r.2.mem ((c.tc : Thread Cert.DownSideIdeal.nD Cert.DownSideIdeal.τ).loc Cert.DownSideIdeal.main_arg5) = m ((c.tc : Thread Cert.DownSideIdeal.nD Cert.DownSideIdeal.τ).loc Cert.DownSideIdeal.main_arg5))
      ∧ θ_run (Cert.DownSideReferenceIdeal.defs (F := Ideal)) (onTc (τ := Cert.DownSideReferenceIdeal.τ) (Cert.DownSideReferenceIdeal.main (F := Ideal))) ⟨m', fun _ => 0, g'⟩ (fun r => ∀ c : Dev Cert.DownSideReferenceIdeal.nD,
          r.2.mem ((c.tc : Thread Cert.DownSideReferenceIdeal.nD Cert.DownSideReferenceIdeal.τ).loc Cert.DownSideReferenceIdeal.main_v7) = v0 c
          ∧ r.2.mem ((c.tc : Thread Cert.DownSideReferenceIdeal.nD Cert.DownSideReferenceIdeal.τ).loc Cert.DownSideReferenceIdeal.main_v16) = v1 c
          ∧ r.2.mem ((c.tc : Thread Cert.DownSideReferenceIdeal.nD Cert.DownSideReferenceIdeal.τ).loc Cert.DownSideReferenceIdeal.main_v17) = v2 c
          ∧ r.2.mem ((c.tc : Thread Cert.DownSideReferenceIdeal.nD Cert.DownSideReferenceIdeal.τ).loc Cert.DownSideReferenceIdeal.main_arg0) = m' ((c.tc : Thread Cert.DownSideReferenceIdeal.nD Cert.DownSideReferenceIdeal.τ).loc Cert.DownSideReferenceIdeal.main_arg0)
          ∧ r.2.mem ((c.tc : Thread Cert.DownSideReferenceIdeal.nD Cert.DownSideReferenceIdeal.τ).loc Cert.DownSideReferenceIdeal.main_arg1) = m' ((c.tc : Thread Cert.DownSideReferenceIdeal.nD Cert.DownSideReferenceIdeal.τ).loc Cert.DownSideReferenceIdeal.main_arg1)
          ∧ r.2.mem ((c.tc : Thread Cert.DownSideReferenceIdeal.nD Cert.DownSideReferenceIdeal.τ).loc Cert.DownSideReferenceIdeal.main_arg2) = m' ((c.tc : Thread Cert.DownSideReferenceIdeal.nD Cert.DownSideReferenceIdeal.τ).loc Cert.DownSideReferenceIdeal.main_arg2)
          ∧ r.2.mem ((c.tc : Thread Cert.DownSideReferenceIdeal.nD Cert.DownSideReferenceIdeal.τ).loc Cert.DownSideReferenceIdeal.main_arg3) = m' ((c.tc : Thread Cert.DownSideReferenceIdeal.nD Cert.DownSideReferenceIdeal.τ).loc Cert.DownSideReferenceIdeal.main_arg3)
          ∧ r.2.mem ((c.tc : Thread Cert.DownSideReferenceIdeal.nD Cert.DownSideReferenceIdeal.τ).loc Cert.DownSideReferenceIdeal.main_arg4) = m' ((c.tc : Thread Cert.DownSideReferenceIdeal.nD Cert.DownSideReferenceIdeal.τ).loc Cert.DownSideReferenceIdeal.main_arg4)
          ∧ r.2.mem ((c.tc : Thread Cert.DownSideReferenceIdeal.nD Cert.DownSideReferenceIdeal.τ).loc Cert.DownSideReferenceIdeal.main_arg5) = m' ((c.tc : Thread Cert.DownSideReferenceIdeal.nD Cert.DownSideReferenceIdeal.τ).loc Cert.DownSideReferenceIdeal.main_arg5))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hCdIn : Cert.CdIn.Facts) (hCdInIdeal : Cert.CdInIdeal.Facts) (hCdInReferenceIdeal : Cert.CdInReferenceIdeal.Facts) (hOutProj : Cert.OutProj.Facts) (hOutProjIdeal : Cert.OutProjIdeal.Facts) (hOutProjReferenceIdeal : Cert.OutProjReferenceIdeal.Facts) (hAbIn : Cert.AbIn.Facts) (hAbInIdeal : Cert.AbInIdeal.Facts) (hAbInReferenceIdeal : Cert.AbInReferenceIdeal.Facts) (hOutProjEven : Cert.OutProjEven.Facts) (hOutProjEvenIdeal : Cert.OutProjEvenIdeal.Facts) (hOutProjEvenReferenceIdeal : Cert.OutProjEvenReferenceIdeal.Facts) (hAbCtx : Cert.AbCtx.Facts) (hAbCtxIdeal : Cert.AbCtxIdeal.Facts) (hAbCtxReferenceIdeal : Cert.AbCtxReferenceIdeal.Facts) (hModulation : Cert.Modulation.Facts) (hModulationIdeal : Cert.ModulationIdeal.Facts) (hModulationReferenceIdeal : Cert.ModulationReferenceIdeal.Facts) (hGateUpFirst : Cert.GateUpFirst.Facts) (hGateUpFirstIdeal : Cert.GateUpFirstIdeal.Facts) (hGateUpFirstReferenceIdeal : Cert.GateUpFirstReferenceIdeal.Facts) (hDownSide : Cert.DownSide.Facts) (hDownSideIdeal : Cert.DownSideIdeal.Facts) (hDownSideReferenceIdeal : Cert.DownSideReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ quiescent_CdIn (hCdIn := hCdIn)
    ∧ quiescent_CdInIdeal (hCdInIdeal := hCdInIdeal)
    ∧ quiescent_CdInReferenceIdeal (hCdInReferenceIdeal := hCdInReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_AbIn (hAbIn := hAbIn)
    ∧ quiescent_AbInIdeal (hAbInIdeal := hAbInIdeal)
    ∧ quiescent_AbInReferenceIdeal (hAbInReferenceIdeal := hAbInReferenceIdeal)
    ∧ quiescent_OutProjEven (hOutProjEven := hOutProjEven)
    ∧ quiescent_OutProjEvenIdeal (hOutProjEvenIdeal := hOutProjEvenIdeal)
    ∧ quiescent_OutProjEvenReferenceIdeal (hOutProjEvenReferenceIdeal := hOutProjEvenReferenceIdeal)
    ∧ quiescent_AbCtx (hAbCtx := hAbCtx)
    ∧ quiescent_AbCtxIdeal (hAbCtxIdeal := hAbCtxIdeal)
    ∧ quiescent_AbCtxReferenceIdeal (hAbCtxReferenceIdeal := hAbCtxReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_GateUpFirst (hGateUpFirst := hGateUpFirst)
    ∧ quiescent_GateUpFirstIdeal (hGateUpFirstIdeal := hGateUpFirstIdeal)
    ∧ quiescent_GateUpFirstReferenceIdeal (hGateUpFirstReferenceIdeal := hGateUpFirstReferenceIdeal)
    ∧ quiescent_DownSide (hDownSide := hDownSide)
    ∧ quiescent_DownSideIdeal (hDownSideIdeal := hDownSideIdeal)
    ∧ quiescent_DownSideReferenceIdeal (hDownSideReferenceIdeal := hDownSideReferenceIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_CdIn_CdInIdeal
    ∧ algebraic_CdInIdeal_CdInReferenceIdeal (hCdInIdeal := hCdInIdeal) (hCdInReferenceIdeal := hCdInReferenceIdeal)
    ∧ preserves_OutProj_OutProjIdeal
    ∧ algebraic_OutProjIdeal_OutProjReferenceIdeal (hOutProjIdeal := hOutProjIdeal) (hOutProjReferenceIdeal := hOutProjReferenceIdeal)
    ∧ preserves_AbIn_AbInIdeal
    ∧ algebraic_AbInIdeal_AbInReferenceIdeal (hAbInIdeal := hAbInIdeal) (hAbInReferenceIdeal := hAbInReferenceIdeal)
    ∧ preserves_OutProjEven_OutProjEvenIdeal
    ∧ algebraic_OutProjEvenIdeal_OutProjEvenReferenceIdeal (hOutProjEvenIdeal := hOutProjEvenIdeal) (hOutProjEvenReferenceIdeal := hOutProjEvenReferenceIdeal)
    ∧ preserves_AbCtx_AbCtxIdeal
    ∧ algebraic_AbCtxIdeal_AbCtxReferenceIdeal (hAbCtxIdeal := hAbCtxIdeal) (hAbCtxReferenceIdeal := hAbCtxReferenceIdeal)
    ∧ preserves_Modulation_ModulationIdeal
    ∧ algebraic_ModulationIdeal_ModulationReferenceIdeal (hModulationIdeal := hModulationIdeal) (hModulationReferenceIdeal := hModulationReferenceIdeal)
    ∧ preserves_GateUpFirst_GateUpFirstIdeal
    ∧ algebraic_GateUpFirstIdeal_GateUpFirstReferenceIdeal (hGateUpFirstIdeal := hGateUpFirstIdeal) (hGateUpFirstReferenceIdeal := hGateUpFirstReferenceIdeal)
    ∧ preserves_DownSide_DownSideIdeal
    ∧ algebraic_DownSideIdeal_DownSideReferenceIdeal (hDownSideIdeal := hDownSideIdeal) (hDownSideReferenceIdeal := hDownSideReferenceIdeal)
-- ==== Kernel.lean ====
abbrev S16384x3072 : Shape := ⟨2, ![16384, 3072]⟩
abbrev S2048x1024 : Shape := ⟨2, ![2048, 1024]⟩
abbrev S12 : Shape := ⟨1, ![12]⟩
abbrev S16384x1536 : Shape := ⟨2, ![16384, 1536]⟩
abbrev S2048x384 : Shape := ⟨2, ![2048, 384]⟩
abbrev S2048x128 : Shape := ⟨2, ![2048, 128]⟩
abbrev S256x128 : Shape := ⟨2, ![256, 128]⟩
abbrev S3x384x384 : Shape := ⟨3, ![3, 384, 384]⟩
abbrev S384x1 : Shape := ⟨2, ![384, 1]⟩
abbrev S1 : Shape := ⟨1, ![1]⟩
abbrev S1x384 : Shape := ⟨2, ![1, 384]⟩
abbrev S384x384 : Shape := ⟨2, ![384, 384]⟩
abbrev S1x384x384 : Shape := ⟨3, ![1, 384, 384]⟩
abbrev S128x384 : Shape := ⟨2, ![128, 384]⟩
abbrev S128x128 : Shape := ⟨2, ![128, 128]⟩
abbrev S384x128 : Shape := ⟨2, ![384, 128]⟩
abbrev S384x256 : Shape := ⟨2, ![384, 256]⟩
abbrev S384 : Shape := ⟨1, ![384]⟩

abbrev nBuf : Space → Nat
  | .hbm => 4
  | .vmem => 13
  | .smem => 1
  | _ => 0

abbrev bufTy : (tb : Table) → Fin (tcTables nBuf tb) → BufTy
  | .hbm, ⟨0, _⟩ => ⟨S16384x3072, .bf16⟩
  | .hbm, ⟨1, _⟩ => ⟨S2048x1024, .bf16⟩
  | .hbm, ⟨2, _⟩ => ⟨S12, .f32⟩
  | .hbm, ⟨3, _⟩ => ⟨S16384x1536, .bf16⟩
  | .local _ .vmem, ⟨0, _⟩ => ⟨S2048x384, .bf16⟩
  | .local _ .vmem, ⟨1, _⟩ => ⟨S2048x384, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S2048x384, .bf16⟩
  | .local _ .vmem, ⟨11, _⟩ => ⟨S2048x384, .bf16⟩
  | .local _ .vmem, ⟨12, _⟩ => ⟨S3x384x384, .f32⟩
  | .local _ .smem, ⟨0, _⟩ => ⟨S12, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_off1 (i : grid0.Coords) : Fin 1 → Nat :=
  let arg1 : BitVec 32 := BitVec.ofNat 32 (i 1).val
  let c3_i32 : BitVec 32 := 3#32
  let v5 : BitVec 32 := Scalar.muli arg1 c3_i32
  let v6 : Index := Scalar.indexCast v5
  ![v6.toNat]
def k0_off2 (i : grid0.Coords) (c1_i32 : BitVec 32) : Fin 1 → Nat :=
  let arg1 : BitVec 32 := BitVec.ofNat 32 (i 1).val
  let c3_i32_3 : BitVec 32 := 3#32
  let v10 : BitVec 32 := Scalar.muli arg1 c3_i32_3
  let v11 : BitVec 32 := Scalar.addi v10 c1_i32
  let v12 : Index := Scalar.indexCast v11
  ![v12.toNat]
@[reducible] def k0_t1_loop : Scf.Loop 32 :=
  let c0_i32_58 : BitVec 32 := 0#32
  let c2_i32_59 : BitVec 32 := 2#32
  let v152 : BitVec 32 := Scalar.addi c0_i32_58 c2_i32_59
  let c1_i32_60 : BitVec 32 := 1#32
  ⟨c0_i32_58, v152, c1_i32_60⟩
def k0_mult1 (k0_t1 : Fin k0_t1_loop.trips) : BitVec 32 :=
  let c1_i32_62 : BitVec 32 := 1#32
  let c7_i32 : BitVec 32 := 7#32
  let c0_i32_58 : BitVec 32 := 0#32
  let c1_i32_60 : BitVec 32 := 1#32
  let arg10 : BitVec 32 := Scf.iv c0_i32_58 c1_i32_60 k0_t1
  let v153 : BitVec 32 := Scalar.muli c7_i32 arg10
  let v154 : BitVec 32 := Scalar.addi c1_i32_62 v153
  let c0_i32_63 : BitVec 32 := 0#32
  let v155 : BitVec 32 := Scalar.addi v154 c0_i32_63
  let c128_i32_64 : BitVec 32 := 128#32
  let v156 : BitVec 32 := Scalar.muli v155 c128_i32_64
  v156
def k0_mult2 (k0_t1 : Fin k0_t1_loop.trips) : BitVec 32 :=
  let c1_i32_62 : BitVec 32 := 1#32
  let c7_i32 : BitVec 32 := 7#32
  let c0_i32_58 : BitVec 32 := 0#32
  let c1_i32_60 : BitVec 32 := 1#32
  let arg10 : BitVec 32 := Scf.iv c0_i32_58 c1_i32_60 k0_t1
  let v153 : BitVec 32 := Scalar.muli c7_i32 arg10
  let v154 : BitVec 32 := Scalar.addi c1_i32_62 v153
  let c0_i32_63 : BitVec 32 := 0#32
  let v155 : BitVec 32 := Scalar.addi v154 c0_i32_63
  let c128_i32_64 : BitVec 32 := 128#32
  let v156 : BitVec 32 := Scalar.muli v155 c128_i32_64
  let v157 : BitVec 32 := v156
  let c128_i32_65 : BitVec 32 := 128#32
  let v158 : BitVec 32 := Scalar.subi v157 c128_i32_65
  v158
def k0_off3 (k0_t1 : Fin k0_t1_loop.trips) (c0_i32_63 : BitVec 32) : Fin 2 → Nat :=
  let c1_i32_62 : BitVec 32 := 1#32
  let c7_i32 : BitVec 32 := 7#32
  let c0_i32_58 : BitVec 32 := 0#32
  let c1_i32_60 : BitVec 32 := 1#32
  let arg10 : BitVec 32 := Scf.iv c0_i32_58 c1_i32_60 k0_t1
  let v153 : BitVec 32 := Scalar.muli c7_i32 arg10
  let v154 : BitVec 32 := Scalar.addi c1_i32_62 v153
  let v155 : BitVec 32 := Scalar.addi v154 c0_i32_63
  let c128_i32_64 : BitVec 32 := 128#32
  let v156 : BitVec 32 := Scalar.muli v155 c128_i32_64
  let v157 : BitVec 32 := v156
  let v160 : Index := Scalar.indexCast v157
  let c0_66 : Index := 0#32
  ![v160.toNat, 0]
def k0_off4 (k0_t1 : Fin k0_t1_loop.trips) (c0_i32_63 : BitVec 32) : Fin 2 → Nat :=
  let c1_i32_62 : BitVec 32 := 1#32
  let c7_i32 : BitVec 32 := 7#32
  let c0_i32_58 : BitVec 32 := 0#32
  let c1_i32_60 : BitVec 32 := 1#32
  let arg10 : BitVec 32 := Scf.iv c0_i32_58 c1_i32_60 k0_t1
  let v153 : BitVec 32 := Scalar.muli c7_i32 arg10
  let v154 : BitVec 32 := Scalar.addi c1_i32_62 v153
  let v155 : BitVec 32 := Scalar.addi v154 c0_i32_63
  let c128_i32_64 : BitVec 32 := 128#32
  let v156 : BitVec 32 := Scalar.muli v155 c128_i32_64
  let v157 : BitVec 32 := v156
  let c128_i32_65 : BitVec 32 := 128#32
  let v158 : BitVec 32 := Scalar.subi v157 c128_i32_65
  let v159 : BitVec 32 := v158
  let v166 : Index := Scalar.indexCast v159
  let c0_67 : Index := 0#32
  ![v166.toNat, 0]
def k0_mult3 (k0_t1 : Fin k0_t1_loop.trips) : BitVec 32 :=
  let c1_i32_82 : BitVec 32 := 1#32
  let c7_i32_81 : BitVec 32 := 7#32
  let c0_i32_58 : BitVec 32 := 0#32
  let c1_i32_60 : BitVec 32 := 1#32
  let arg10 : BitVec 32 := Scf.iv c0_i32_58 c1_i32_60 k0_t1
  let v209 : BitVec 32 := Scalar.muli c7_i32_81 arg10
  let v210 : BitVec 32 := Scalar.addi c1_i32_82 v209
  let c1_i32_83 : BitVec 32 := 1#32
  let v211 : BitVec 32 := Scalar.addi v210 c1_i32_83
  let c128_i32_84 : BitVec 32 := 128#32
  let v212 : BitVec 32 := Scalar.muli v211 c128_i32_84
  v212
def k0_mult4 (k0_t1 : Fin k0_t1_loop.trips) : BitVec 32 :=
  let c1_i32_82 : BitVec 32 := 1#32
  let c7_i32_81 : BitVec 32 := 7#32
  let c0_i32_58 : BitVec 32 := 0#32
  let c1_i32_60 : BitVec 32 := 1#32
  let arg10 : BitVec 32 := Scf.iv c0_i32_58 c1_i32_60 k0_t1
  let v209 : BitVec 32 := Scalar.muli c7_i32_81 arg10
  let v210 : BitVec 32 := Scalar.addi c1_i32_82 v209
  let c1_i32_83 : BitVec 32 := 1#32
  let v211 : BitVec 32 := Scalar.addi v210 c1_i32_83
  let c128_i32_84 : BitVec 32 := 128#32
  let v212 : BitVec 32 := Scalar.muli v211 c128_i32_84
  let v213 : BitVec 32 := v212
  let c128_i32_85 : BitVec 32 := 128#32
  let v214 : BitVec 32 := Scalar.subi v213 c128_i32_85
  v214
def k0_mult5 (k0_t1 : Fin k0_t1_loop.trips) : BitVec 32 :=
  let c1_i32_102 : BitVec 32 := 1#32
  let c7_i32_101 : BitVec 32 := 7#32
  let c0_i32_58 : BitVec 32 := 0#32
  let c1_i32_60 : BitVec 32 := 1#32
  let arg10 : BitVec 32 := Scf.iv c0_i32_58 c1_i32_60 k0_t1
  let v265 : BitVec 32 := Scalar.muli c7_i32_101 arg10
  let v266 : BitVec 32 := Scalar.addi c1_i32_102 v265
  let c2_i32_103 : BitVec 32 := 2#32
  let v267 : BitVec 32 := Scalar.addi v266 c2_i32_103
  let c128_i32_104 : BitVec 32 := 128#32
  let v268 : BitVec 32 := Scalar.muli v267 c128_i32_104
  v268
def k0_mult6 (k0_t1 : Fin k0_t1_loop.trips) : BitVec 32 :=
  let c1_i32_102 : BitVec 32 := 1#32
  let c7_i32_101 : BitVec 32 := 7#32
  let c0_i32_58 : BitVec 32 := 0#32
  let c1_i32_60 : BitVec 32 := 1#32
  let arg10 : BitVec 32 := Scf.iv c0_i32_58 c1_i32_60 k0_t1
  let v265 : BitVec 32 := Scalar.muli c7_i32_101 arg10
  let v266 : BitVec 32 := Scalar.addi c1_i32_102 v265
  let c2_i32_103 : BitVec 32 := 2#32
  let v267 : BitVec 32 := Scalar.addi v266 c2_i32_103
  let c128_i32_104 : BitVec 32 := 128#32
  let v268 : BitVec 32 := Scalar.muli v267 c128_i32_104
  let v269 : BitVec 32 := v268
  let c128_i32_105 : BitVec 32 := 128#32
  let v270 : BitVec 32 := Scalar.subi v269 c128_i32_105
  v270
def k0_mult7 (k0_t1 : Fin k0_t1_loop.trips) : BitVec 32 :=
  let c1_i32_122 : BitVec 32 := 1#32
  let c7_i32_121 : BitVec 32 := 7#32
  let c0_i32_58 : BitVec 32 := 0#32
  let c1_i32_60 : BitVec 32 := 1#32
  let arg10 : BitVec 32 := Scf.iv c0_i32_58 c1_i32_60 k0_t1
  let v321 : BitVec 32 := Scalar.muli c7_i32_121 arg10
  let v322 : BitVec 32 := Scalar.addi c1_i32_122 v321
  let c3_i32_123 : BitVec 32 := 3#32
  let v323 : BitVec 32 := Scalar.addi v322 c3_i32_123
  let c128_i32_124 : BitVec 32 := 128#32
  let v324 : BitVec 32 := Scalar.muli v323 c128_i32_124
  v324
def k0_mult8 (k0_t1 : Fin k0_t1_loop.trips) : BitVec 32 :=
  let c1_i32_122 : BitVec 32 := 1#32
  let c7_i32_121 : BitVec 32 := 7#32
  let c0_i32_58 : BitVec 32 := 0#32
  let c1_i32_60 : BitVec 32 := 1#32
  let arg10 : BitVec 32 := Scf.iv c0_i32_58 c1_i32_60 k0_t1
  let v321 : BitVec 32 := Scalar.muli c7_i32_121 arg10
  let v322 : BitVec 32 := Scalar.addi c1_i32_122 v321
  let c3_i32_123 : BitVec 32 := 3#32
  let v323 : BitVec 32 := Scalar.addi v322 c3_i32_123
  let c128_i32_124 : BitVec 32 := 128#32
  let v324 : BitVec 32 := Scalar.muli v323 c128_i32_124
  let v325 : BitVec 32 := v324
  let c128_i32_125 : BitVec 32 := 128#32
  let v326 : BitVec 32 := Scalar.subi v325 c128_i32_125
  v326
def k0_mult9 (k0_t1 : Fin k0_t1_loop.trips) : BitVec 32 :=
  let c1_i32_142 : BitVec 32 := 1#32
  let c7_i32_141 : BitVec 32 := 7#32
  let c0_i32_58 : BitVec 32 := 0#32
  let c1_i32_60 : BitVec 32 := 1#32
  let arg10 : BitVec 32 := Scf.iv c0_i32_58 c1_i32_60 k0_t1
  let v377 : BitVec 32 := Scalar.muli c7_i32_141 arg10
  let v378 : BitVec 32 := Scalar.addi c1_i32_142 v377
  let c4_i32 : BitVec 32 := 4#32
  let v379 : BitVec 32 := Scalar.addi v378 c4_i32
  let c128_i32_143 : BitVec 32 := 128#32
  let v380 : BitVec 32 := Scalar.muli v379 c128_i32_143
  v380
def k0_mult10 (k0_t1 : Fin k0_t1_loop.trips) : BitVec 32 :=
  let c1_i32_142 : BitVec 32 := 1#32
  let c7_i32_141 : BitVec 32 := 7#32
  let c0_i32_58 : BitVec 32 := 0#32
  let c1_i32_60 : BitVec 32 := 1#32
  let arg10 : BitVec 32 := Scf.iv c0_i32_58 c1_i32_60 k0_t1
  let v377 : BitVec 32 := Scalar.muli c7_i32_141 arg10
  let v378 : BitVec 32 := Scalar.addi c1_i32_142 v377
  let c4_i32 : BitVec 32 := 4#32
  let v379 : BitVec 32 := Scalar.addi v378 c4_i32
  let c128_i32_143 : BitVec 32 := 128#32
  let v380 : BitVec 32 := Scalar.muli v379 c128_i32_143
  let v381 : BitVec 32 := v380
  let c128_i32_144 : BitVec 32 := 128#32
  let v382 : BitVec 32 := Scalar.subi v381 c128_i32_144
  v382
def k0_mult11 (k0_t1 : Fin k0_t1_loop.trips) : BitVec 32 :=
  let c1_i32_161 : BitVec 32 := 1#32
  let c7_i32_160 : BitVec 32 := 7#32
  let c0_i32_58 : BitVec 32 := 0#32
  let c1_i32_60 : BitVec 32 := 1#32
  let arg10 : BitVec 32 := Scf.iv c0_i32_58 c1_i32_60 k0_t1
  let v433 : BitVec 32 := Scalar.muli c7_i32_160 arg10
  let v434 : BitVec 32 := Scalar.addi c1_i32_161 v433
  let c5_i32 : BitVec 32 := 5#32
  let v435 : BitVec 32 := Scalar.addi v434 c5_i32
  let c128_i32_162 : BitVec 32 := 128#32
  let v436 : BitVec 32 := Scalar.muli v435 c128_i32_162
  v436
def k0_mult12 (k0_t1 : Fin k0_t1_loop.trips) : BitVec 32 :=
  let c1_i32_161 : BitVec 32 := 1#32
  let c7_i32_160 : BitVec 32 := 7#32
  let c0_i32_58 : BitVec 32 := 0#32
  let c1_i32_60 : BitVec 32 := 1#32
  let arg10 : BitVec 32 := Scf.iv c0_i32_58 c1_i32_60 k0_t1
  let v433 : BitVec 32 := Scalar.muli c7_i32_160 arg10
  let v434 : BitVec 32 := Scalar.addi c1_i32_161 v433
  let c5_i32 : BitVec 32 := 5#32
  let v435 : BitVec 32 := Scalar.addi v434 c5_i32
  let c128_i32_162 : BitVec 32 := 128#32
  let v436 : BitVec 32 := Scalar.muli v435 c128_i32_162
  let v437 : BitVec 32 := v436
  let c128_i32_163 : BitVec 32 := 128#32
  let v438 : BitVec 32 := Scalar.subi v437 c128_i32_163
  v438
def k0_mult13 (k0_t1 : Fin k0_t1_loop.trips) : BitVec 32 :=
  let c1_i32_180 : BitVec 32 := 1#32
  let c7_i32_179 : BitVec 32 := 7#32
  let c0_i32_58 : BitVec 32 := 0#32
  let c1_i32_60 : BitVec 32 := 1#32
  let arg10 : BitVec 32 := Scf.iv c0_i32_58 c1_i32_60 k0_t1
  let v489 : BitVec 32 := Scalar.muli c7_i32_179 arg10
  let v490 : BitVec 32 := Scalar.addi c1_i32_180 v489
  let c6_i32 : BitVec 32 := 6#32
  let v491 : BitVec 32 := Scalar.addi v490 c6_i32
  let c128_i32_181 : BitVec 32 := 128#32
  let v492 : BitVec 32 := Scalar.muli v491 c128_i32_181
  v492
def k0_mult14 (k0_t1 : Fin k0_t1_loop.trips) : BitVec 32 :=
  let c1_i32_180 : BitVec 32 := 1#32
  let c7_i32_179 : BitVec 32 := 7#32
  let c0_i32_58 : BitVec 32 := 0#32
  let c1_i32_60 : BitVec 32 := 1#32
  let arg10 : BitVec 32 := Scf.iv c0_i32_58 c1_i32_60 k0_t1
  let v489 : BitVec 32 := Scalar.muli c7_i32_179 arg10
  let v490 : BitVec 32 := Scalar.addi c1_i32_180 v489
  let c6_i32 : BitVec 32 := 6#32
  let v491 : BitVec 32 := Scalar.addi v490 c6_i32
  let c128_i32_181 : BitVec 32 := 128#32
  let v492 : BitVec 32 := Scalar.muli v491 c128_i32_181
  let v493 : BitVec 32 := v492
  let c128_i32_182 : BitVec 32 := 128#32
  let v494 : BitVec 32 := Scalar.subi v493 c128_i32_182
  v494
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S2048x1024 : Shape := ⟨2, ![2048, 1024]⟩
abbrev S12 : Shape := ⟨1, ![12]⟩
abbrev S8x2048x3072 : Shape := ⟨3, ![8, 2048, 3072]⟩
abbrev S8x256x1024 : Shape := ⟨3, ![8, 256, 1024]⟩
abbrev S8x2048x1536 : Shape := ⟨3, ![8, 2048, 1536]⟩
abbrev S8x2048x4x3x128 : Shape := ⟨5, ![8, 2048, 4, 3, 128]⟩
abbrev S8x2048x512 : Shape := ⟨3, ![8, 2048, 512]⟩
abbrev S8x2048x4x128 : Shape := ⟨4, ![8, 2048, 4, 128]⟩
abbrev S8x256x512 : Shape := ⟨3, ![8, 256, 512]⟩
abbrev S8x256x4x128 : Shape := ⟨4, ![8, 256, 4, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x4x2048x2048x3 : Shape := ⟨5, ![8, 4, 2048, 2048, 3]⟩
abbrev S8x4x3x2048x2048 : Shape := ⟨5, ![8, 4, 3, 2048, 2048]⟩
abbrev S8x4x256x2048x3 : Shape := ⟨5, ![8, 4, 256, 2048, 3]⟩
abbrev S8x4x3x2048x256 : Shape := ⟨5, ![8, 4, 3, 2048, 256]⟩
abbrev S1x4x3x1x1 : Shape := ⟨5, ![1, 4, 3, 1, 1]⟩
abbrev S8x4x3x2048x1 : Shape := ⟨5, ![8, 4, 3, 2048, 1]⟩
abbrev S8x4x3x2048x2305 : Shape := ⟨5, ![8, 4, 3, 2048, 2305]⟩
abbrev S8x4x3x2048 : Shape := ⟨4, ![8, 4, 3, 2048]⟩
abbrev S8x4x128x3x2048 : Shape := ⟨5, ![8, 4, 128, 3, 2048]⟩
abbrev S8x2048x4x3 : Shape := ⟨4, ![8, 2048, 4, 3]⟩
abbrev S8x2048x4x3x1 : Shape := ⟨5, ![8, 2048, 4, 3, 1]⟩
abbrev S16384x1536 : Shape := ⟨2, ![16384, 1536]⟩

abbrev nBuf : Space → Nat
  | .hbm => 61
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S2048x1024, .bf16⟩
  | .hbm, ⟨2, _⟩ => ⟨S12, .f32⟩
  | .hbm, ⟨3, _⟩ => ⟨S16384x3072, .f32⟩
  | .hbm, ⟨4, _⟩ => ⟨S8x2048x3072, .f32⟩
  | .hbm, ⟨5, _⟩ => ⟨S2048x1024, .f32⟩
  | .hbm, ⟨6, _⟩ => ⟨S8x256x1024, .f32⟩
  | .hbm, ⟨7, _⟩ => ⟨S8x2048x1536, .f32⟩
  | .hbm, ⟨8, _⟩ => ⟨S8x2048x4x3x128, .f32⟩
  | .hbm, ⟨9, _⟩ => ⟨S8x2048x512, .f32⟩
  | .hbm, ⟨10, _⟩ => ⟨S8x2048x4x128, .f32⟩
  | .hbm, ⟨11, _⟩ => ⟨S8x2048x512, .f32⟩
  | .hbm, ⟨12, _⟩ => ⟨S8x2048x4x128, .f32⟩
  | .hbm, ⟨13, _⟩ => ⟨S8x256x512, .f32⟩
  | .hbm, ⟨14, _⟩ => ⟨S8x256x4x128, .f32⟩
  | .hbm, ⟨15, _⟩ => ⟨S8x256x512, .f32⟩
  | .hbm, ⟨16, _⟩ => ⟨S8x256x4x128, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S8x4x2048x2048x3, .f32⟩
  | .hbm, ⟨29, _⟩ => ⟨S8x4x3x2048x2048, .f32⟩
  | .hbm, ⟨30, _⟩ => ⟨S_, .f32⟩
  | .hbm, ⟨31, _⟩ => ⟨S_, .f32⟩
  | .hbm, ⟨32, _⟩ => ⟨S8x4x3x2048x2048, .i1⟩
  | .hbm, ⟨33, _⟩ => ⟨S8x4x3x2048x2048, .f32⟩
  | .hbm, ⟨34, _⟩ => ⟨S8x4x3x2048x2048, .f32⟩
  | .hbm, ⟨35, _⟩ => ⟨S8x4x256x2048x3, .f32⟩
  | .hbm, ⟨36, _⟩ => ⟨S8x4x3x2048x256, .f32⟩
  | .hbm, ⟨37, _⟩ => ⟨S1x4x3x1x1, .f32⟩
  | .hbm, ⟨38, _⟩ => ⟨S8x4x3x2048x1, .f32⟩
  | .hbm, ⟨39, _⟩ => ⟨S8x4x3x2048x2305, .f32⟩
  | .hbm, ⟨40, _⟩ => ⟨S_, .f32⟩
  | .hbm, ⟨41, _⟩ => ⟨S8x4x3x2048, .f32⟩
  | .hbm, ⟨42, _⟩ => ⟨S8x4x3x2048x1, .f32⟩
  | .hbm, ⟨43, _⟩ => ⟨S8x4x3x2048x2305, .f32⟩
  | .hbm, ⟨44, _⟩ => ⟨S8x4x3x2048x2305, .f32⟩
  | .hbm, ⟨45, _⟩ => ⟨S8x4x3x2048x2305, .f32⟩
  | .hbm, ⟨46, _⟩ => ⟨S8x4x3x2048x2048, .f32⟩
  | .hbm, ⟨47, _⟩ => ⟨S8x4x128x3x2048, .f32⟩
  | .hbm, ⟨48, _⟩ => ⟨S8x2048x4x3x128, .f32⟩
  | .hbm, ⟨49, _⟩ => ⟨S8x4x3x2048x256, .f32⟩
  | .hbm, ⟨50, _⟩ => ⟨S8x4x128x3x2048, .f32⟩
  | .hbm, ⟨51, _⟩ => ⟨S8x2048x4x3x128, .f32⟩
  | .hbm, ⟨52, _⟩ => ⟨S8x2048x4x3x128, .f32⟩
  | .hbm, ⟨53, _⟩ => ⟨S_, .f32⟩
  | .hbm, ⟨54, _⟩ => ⟨S8x4x3x2048, .f32⟩
  | .hbm, ⟨55, _⟩ => ⟨S8x2048x4x3, .f32⟩
  | .hbm, ⟨56, _⟩ => ⟨S8x2048x4x3x1, .f32⟩
  | .hbm, ⟨57, _⟩ => ⟨S8x2048x4x3x128, .f32⟩
  | .hbm, ⟨58, _⟩ => ⟨S8x2048x4x3x128, .f32⟩
  | .hbm, ⟨59, _⟩ => ⟨S16384x1536, .f32⟩
  | .hbm, ⟨60, _⟩ => ⟨S16384x1536, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== GateUp.lean ====
abbrev S16x2048x2048 : Shape := ⟨3, ![16, 2048, 2048]⟩
abbrev S2x16x2048x2048 : Shape := ⟨4, ![2, 16, 2048, 2048]⟩
abbrev S1x2048x2048 : Shape := ⟨3, ![1, 2048, 2048]⟩
abbrev S1x1x2048x512 : Shape := ⟨4, ![1, 1, 2048, 512]⟩
abbrev S1x2048x512 : Shape := ⟨3, ![1, 2048, 512]⟩
abbrev S2048x2048 : Shape := ⟨2, ![2048, 2048]⟩
abbrev S1x1x2048x256 : Shape := ⟨4, ![1, 1, 2048, 256]⟩
abbrev S2048x256 : Shape := ⟨2, ![2048, 256]⟩
abbrev S1x2048x256 : Shape := ⟨3, ![1, 2048, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S2x16x2048x2048, .f32⟩
  | .hbm, ⟨3, _⟩ => ⟨S16x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x2048x512, .bf16⟩
  | .local _ .vmem, ⟨7, _⟩ => ⟨S1x2048x512, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpReferenceIdeal.lean ====
abbrev S16x2048x2048 : Shape := ⟨3, ![16, 2048, 2048]⟩
abbrev S2x16x2048x2048 : Shape := ⟨4, ![2, 16, 2048, 2048]⟩
abbrev S1x16x2048x2048 : Shape := ⟨4, ![1, 16, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S2x16x2048x2048, .f32⟩
  | .hbm, ⟨3, _⟩ => ⟨S16x2048x2048, .f32⟩
  | .hbm, ⟨4, _⟩ => ⟨S1x16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S1x16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S16x2048x2048 : Shape := ⟨3, ![16, 2048, 2048]⟩
abbrev S2x16x2048x2048 : Shape := ⟨4, ![2, 16, 2048, 2048]⟩
abbrev S8x4096x2048 : Shape := ⟨3, ![8, 4096, 2048]⟩
abbrev S1x2048x2048 : Shape := ⟨3, ![1, 2048, 2048]⟩
abbrev S1x1x2048x512 : Shape := ⟨4, ![1, 1, 2048, 512]⟩
abbrev S8x256x512 : Shape := ⟨3, ![8, 256, 512]⟩
abbrev S2048x2048 : Shape := ⟨2, ![2048, 2048]⟩
abbrev S2048x512 : Shape := ⟨2, ![2048, 512]⟩
abbrev S256x512 : Shape := ⟨2, ![256, 512]⟩
abbrev S1x256x512 : Shape := ⟨3, ![1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S8x4096x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S8x256x512, .bf16⟩
  | .local _ .vmem, ⟨5, _⟩ => ⟨S8x256x512, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S16x2048x2048 : Shape := ⟨3, ![16, 2048, 2048]⟩
abbrev S2x16x2048x2048 : Shape := ⟨4, ![2, 16, 2048, 2048]⟩
abbrev S16x8x256x2048 : Shape := ⟨4, ![16, 8, 256, 2048]⟩
abbrev S1x16x2048x2048 : Shape := ⟨4, ![1, 16, 2048, 2048]⟩
abbrev S16x2048x8x256 : Shape := ⟨4, ![16, 2048, 8, 256]⟩
abbrev S8x16x256x2048 : Shape := ⟨4, ![8, 16, 256, 2048]⟩
abbrev S8x4096x2048 : Shape := ⟨3, ![8, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S16x2048x2048, .f32⟩
  | .hbm, ⟨3, _⟩ => ⟨S16x8x256x2048, .f32⟩
  | .hbm, ⟨4, _⟩ => ⟨S1x16x2048x2048, .f32⟩
  | .hbm, ⟨5, _⟩ => ⟨S16x2048x2048, .f32⟩
  | .hbm, ⟨6, _⟩ => ⟨S16x2048x8x256, .f32⟩
  | .hbm, ⟨7, _⟩ => ⟨S8x16x256x2048, .f32⟩
  | .hbm, ⟨8, _⟩ => ⟨S8x4096x2048, .f32⟩
  | .hbm, ⟨9, _⟩ => ⟨S8x4096x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== CdIn.lean ====
abbrev S16384x2048 : Shape := ⟨2, ![16384, 2048]⟩
abbrev S1x16x6x1x2048 : Shape := ⟨5, ![1, 16, 6, 1, 2048]⟩
abbrev S2048x4096 : Shape := ⟨2, ![2048, 4096]⟩
abbrev S8x128 : Shape := ⟨2, ![8, 128]⟩
abbrev S1x1024 : Shape := ⟨2, ![1, 1024]⟩
abbrev S16384x1024 : Shape := ⟨2, ![16384, 1024]⟩
abbrev S256x2048 : Shape := ⟨2, ![256, 2048]⟩
abbrev S1x1x1x1x2048 : Shape := ⟨5, ![1, 1, 1, 1, 2048]⟩
abbrev S256x1024 : Shape := ⟨2, ![256, 1024]⟩
abbrev S256 : Shape := ⟨1, ![256]⟩
abbrev S256x1 : Shape := ⟨2, ![256, 1]⟩
abbrev S1x2048 : Shape := ⟨2, ![1, 2048]⟩
abbrev S2048x512 : Shape := ⟨2, ![2048, 512]⟩
abbrev S256x512 : Shape := ⟨2, ![256, 512]⟩
abbrev S256x128 : Shape := ⟨2, ![256, 128]⟩
abbrev S1x512 : Shape := ⟨2, ![1, 512]⟩

abbrev nBuf : Space → Nat
  | .hbm => 10
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x16x6x1x2048, .f32⟩
  | .hbm, ⟨2, _⟩ => ⟨S2048x4096, .bf16⟩
  | .hbm, ⟨3, _⟩ => ⟨S8x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S16384x1024, .bf16⟩
  | .hbm, ⟨8, _⟩ => ⟨S16384x1024, .bf16⟩
  | .hbm, ⟨9, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S2048x4096, .bf16⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CdInReferenceIdeal.lean ====
abbrev S16384x2048 : Shape := ⟨2, ![16384, 2048]⟩
abbrev S1x16x6x1x2048 : Shape := ⟨5, ![1, 16, 6, 1, 2048]⟩
abbrev S2048x4096 : Shape := ⟨2, ![2048, 4096]⟩
abbrev S8x128 : Shape := ⟨2, ![8, 128]⟩
abbrev S1x8x1x1x2048 : Shape := ⟨5, ![1, 8, 1, 1, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x4096 : Shape := ⟨3, ![8, 2048, 4096]⟩
abbrev S8x2048x1024 : Shape := ⟨3, ![8, 2048, 1024]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x8x128 : Shape := ⟨4, ![1, 1, 8, 128]⟩
abbrev S16384x1024 : Shape := ⟨2, ![16384, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x16x6x1x2048, .f32⟩
  | .hbm, ⟨2, _⟩ => ⟨S2048x4096, .bf16⟩
  | .hbm, ⟨3, _⟩ => ⟨S8x128, .f32⟩
  | .hbm, ⟨4, _⟩ => ⟨S8x128, .f32⟩
  | .hbm, ⟨5, _⟩ => ⟨S1x8x1x1x2048, .f32⟩
  | .hbm, ⟨6, _⟩ => ⟨S8x1x2048, .f32⟩
  | .hbm, ⟨7, _⟩ => ⟨S1x8x1x1x2048, .f32⟩
  | .hbm, ⟨8, _⟩ => ⟨S8x1x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x1x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S2048x4096, .f32⟩
  | .hbm, ⟨41, _⟩ => ⟨S8x2048x4096, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x1024, .f32⟩
  | .hbm, ⟨61, _⟩ => ⟨S8x2048x1024, .f32⟩
  | .hbm, ⟨62, _⟩ => ⟨S8x2048x8x128, .f32⟩
  | .hbm, ⟨63, _⟩ => ⟨S_, .f32⟩
  | .hbm, ⟨64, _⟩ => ⟨S8x2048x8, .f32⟩
  | .hbm, ⟨65, _⟩ => ⟨S8x2048x8x1, .f32⟩
  | .hbm, ⟨66, _⟩ => ⟨S_, .f32⟩
  | .hbm, ⟨67, _⟩ => ⟨S8x2048x8x1, .f32⟩
  | .hbm, ⟨68, _⟩ => ⟨S8x2048x8x1, .f32⟩
  | .hbm, ⟨69, _⟩ => ⟨S8x2048x8x128, .f32⟩
  | .hbm, ⟨70, _⟩ => ⟨S8x2048x8x128, .f32⟩
  | .hbm, ⟨71, _⟩ => ⟨S8x2048x8x128, .f32⟩
  | .hbm, ⟨72, _⟩ => ⟨S_, .f32⟩
  | .hbm, ⟨73, _⟩ => ⟨S8x2048x8, .f32⟩
  | .hbm, ⟨74, _⟩ => ⟨S8x2048x8x1, .f32⟩
  | .hbm, ⟨75, _⟩ => ⟨S_, .f32⟩
  | .hbm, ⟨76, _⟩ => ⟨S8x2048x8x1, .f32⟩
  | .hbm, ⟨77, _⟩ => ⟨S8x2048x8x1, .f32⟩
  | .hbm, ⟨78, _⟩ => ⟨S8x2048x8x128, .f32⟩
  | .hbm, ⟨79, _⟩ => ⟨S8x2048x8x128, .f32⟩
  | .hbm, ⟨80, _⟩ => ⟨S_, .f32⟩
  | .hbm, ⟨81, _⟩ => ⟨S8x2048x8x1, .f32⟩
  | .hbm, ⟨82, _⟩ => ⟨S8x2048x8x1, .f32⟩
  | .hbm, ⟨83, _⟩ => ⟨S8x2048x8x1, .f32⟩
  | .hbm, ⟨84, _⟩ => ⟨S8x2048x8x128, .f32⟩
  | .hbm, ⟨85, _⟩ => ⟨S8x2048x8x128, .f32⟩
  | .hbm, ⟨86, _⟩ => ⟨S1x1x8x128, .f32⟩
  | .hbm, ⟨87, _⟩ => ⟨S8x2048x8x128, .f32⟩
  | .hbm, ⟨88, _⟩ => ⟨S8x2048x8x128, .f32⟩
  | .hbm, ⟨89, _⟩ => ⟨S1x1x8x128, .f32⟩
  | .hbm, ⟨90, _⟩ => ⟨S8x2048x8x128, .f32⟩
  | .hbm, ⟨91, _⟩ => ⟨S8x2048x8x128, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S8x2048x1024, .f32⟩
  | .hbm, ⟨96, _⟩ => ⟨S_, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S16384x1024, .f32⟩
  | .hbm, ⟨104, _⟩ => ⟨S16384x1024, .bf16⟩
  | .hbm, ⟨105, _⟩ => ⟨S16384x1024, .f32⟩
  | .hbm, ⟨106, _⟩ => ⟨S16384x1024, .bf16⟩
  | .hbm, ⟨107, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S1x16x6x1x2048 : Shape := ⟨5, ![1, 16, 6, 1, 2048]⟩
abbrev S2048 : Shape := ⟨1, ![2048]⟩
abbrev S2048x128 : Shape := ⟨2, ![2048, 128]⟩
abbrev S1x2048 : Shape := ⟨2, ![1, 2048]⟩
abbrev S16384x128 : Shape := ⟨2, ![16384, 128]⟩
abbrev S256x2048 : Shape := ⟨2, ![256, 2048]⟩
abbrev S1x1x1x1x2048 : Shape := ⟨5, ![1, 1, 1, 1, 2048]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S1x16x6x1x2048, .f32⟩
  | .hbm, ⟨4, _⟩ => ⟨S2048, .f32⟩
  | .hbm, ⟨5, _⟩ => ⟨S2048, .f32⟩
  | .hbm, ⟨6, _⟩ => ⟨S2048x128, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .hbm, ⟨11, _⟩ => ⟨S16384x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x1x1x1x2048, .f32⟩
  | .local _ .vmem, ⟨13, _⟩ => ⟨S2048x128, .bf16⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S256x128, .f32⟩
  | .local _ .vmem, ⟨19, _⟩ => ⟨S256x128, .f32⟩
  | .local _ .vmem, ⟨20, _⟩ => ⟨S2048x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v16.toNat, c3_i32.toNat, c0_i32_5.toNat, c0_i32_6.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  let c0_i32_6 : BitVec 32 := 0#32
  let c0_i32_7 : BitVec 32 := 0#32
  ![c0_i32_4.toNat, v16.toNat, c4_i32.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjReferenceIdeal.lean ====
abbrev S16384x2048 : Shape := ⟨2, ![16384, 2048]⟩
abbrev S2048x2048 : Shape := ⟨2, ![2048, 2048]⟩
abbrev S1x16x6x1x2048 : Shape := ⟨5, ![1, 16, 6, 1, 2048]⟩
abbrev S2048 : Shape := ⟨1, ![2048]⟩
abbrev S2048x128 : Shape := ⟨2, ![2048, 128]⟩
abbrev S1x8x1x1x2048 : Shape := ⟨5, ![1, 8, 1, 1, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x128 : Shape := ⟨3, ![8, 2048, 128]⟩
abbrev S16384x128 : Shape := ⟨2, ![16384, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S1x16x6x1x2048, .f32⟩
  | .hbm, ⟨4, _⟩ => ⟨S2048, .f32⟩
  | .hbm, ⟨5, _⟩ => ⟨S2048, .f32⟩
  | .hbm, ⟨6, _⟩ => ⟨S2048x128, .bf16⟩
  | .hbm, ⟨7, _⟩ => ⟨S1x8x1x1x2048, .f32⟩
  | .hbm, ⟨8, _⟩ => ⟨S8x1x2048, .f32⟩
  | .hbm, ⟨9, _⟩ => ⟨S1x8x1x1x2048, .f32⟩
  | .hbm, ⟨10, _⟩ => ⟨S8x1x2048, .f32⟩
  | .hbm, ⟨11, _⟩ => ⟨S1x8x1x1x2048, .f32⟩
  | .hbm, ⟨12, _⟩ => ⟨S8x1x2048, .f32⟩
  | .hbm, ⟨13, _⟩ => ⟨S16384x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x1x2048, .f32⟩
  | .hbm, ⟨77, _⟩ => ⟨S8x1x2048, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S2048x128, .f32⟩
  | .hbm, ⟨83, _⟩ => ⟨S8x2048x128, .f32⟩
  | .hbm, ⟨84, _⟩ => ⟨S16384x2048, .f32⟩
  | .hbm, ⟨85, _⟩ => ⟨S16384x2048, .f32⟩
  | .hbm, ⟨86, _⟩ => ⟨S16384x2048, .bf16⟩
  | .hbm, ⟨87, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== AbIn.lean ====
abbrev S16384x2048 : Shape := ⟨2, ![16384, 2048]⟩
abbrev S1x16x6x1x2048 : Shape := ⟨5, ![1, 16, 6, 1, 2048]⟩
abbrev S2048x3072 : Shape := ⟨2, ![2048, 3072]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x3072 : Shape := ⟨2, ![16384, 3072]⟩
abbrev S256x2048 : Shape := ⟨2, ![256, 2048]⟩
abbrev S1x1x1x1x2048 : Shape := ⟨5, ![1, 1, 1, 1, 2048]⟩
abbrev S256x128 : Shape := ⟨2, ![256, 128]⟩
abbrev S256x3072 : Shape := ⟨2, ![256, 3072]⟩
abbrev S256 : Shape := ⟨1, ![256]⟩
abbrev S256x1 : Shape := ⟨2, ![256, 1]⟩
abbrev S1x2048 : Shape := ⟨2, ![1, 2048]⟩
abbrev S2048x512 : Shape := ⟨2, ![2048, 512]⟩
abbrev S256x512 : Shape := ⟨2, ![256, 512]⟩

abbrev nBuf : Space → Nat
  | .hbm => 78
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S1x16x6x1x2048, .f32⟩
  | .hbm, ⟨2, _⟩ => ⟨S2048x3072, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S2048x1, .f32⟩
  | .hbm, ⟨55, _⟩ => ⟨S1x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x1, .f32⟩
  | .hbm, ⟨60, _⟩ => ⟨S1x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S_, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x128, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x128, .f32⟩
  | .hbm, ⟨74, _⟩ => ⟨S2048x32, .f32⟩
  | .hbm, ⟨75, _⟩ => ⟨S2048x32, .f32⟩
  | .hbm, ⟨76, _⟩ => ⟨S2048x128, .f32⟩
  | .hbm, ⟨77, _⟩ => ⟨S16384x3072, .bf16⟩
  | .local _ .vmem, ⟨0, _⟩ => ⟨S256x2048, .f32⟩
  | .local _ .vmem, ⟨1, _⟩ => ⟨S256x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S2048x3072, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x3072, .bf16⟩
  | .local _ .vmem, ⟨14, _⟩ => ⟨S256x3072, .bf16⟩
  | .local _ .vmem, ⟨15, _⟩ => ⟨S2048x3072, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AbInReferenceIdeal.lean ====
abbrev S16384x2048 : Shape := ⟨2, ![16384, 2048]⟩
abbrev S1x16x6x1x2048 : Shape := ⟨5, ![1, 16, 6, 1, 2048]⟩
abbrev S2048x3072 : Shape := ⟨2, ![2048, 3072]⟩
abbrev S1x8x1x1x2048 : Shape := ⟨5, ![1, 8, 1, 1, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x3072 : Shape := ⟨3, ![8, 2048, 3072]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S8x2048x1536 : Shape := ⟨3, ![8, 2048, 1536]⟩
abbrev S8x2048x12x128 : Shape := ⟨4, ![8, 2048, 12, 128]⟩
abbrev S8x2048x12x64 : Shape := ⟨4, ![8, 2048, 12, 64]⟩
abbrev S1x2048x1x32 : Shape := ⟨4, ![1, 2048, 1, 32]⟩
abbrev S8x2048x12x32 : Shape := ⟨4, ![8, 2048, 12, 32]⟩
abbrev S8x2048x512 : Shape := ⟨3, ![8, 2048, 512]⟩
abbrev S8x2048x4x128 : Shape := ⟨4, ![8, 2048, 4, 128]⟩
abbrev S8x2048x4x64 : Shape := ⟨4, ![8, 2048, 4, 64]⟩
abbrev S8x2048x4x32 : Shape := ⟨4, ![8, 2048, 4, 32]⟩
abbrev S8x2048x1024 : Shape := ⟨3, ![8, 2048, 1024]⟩
abbrev S16384x3072 : Shape := ⟨2, ![16384, 3072]⟩

abbrev nBuf : Space → Nat
  | .hbm => 187
  | .vmem => 0
  | .smem => 0
  | _ => 0

abbrev hbmTy0_0 (i : Nat) : BufTy := match i % 128 with
  | 0 => ⟨S16384x2048, .f32⟩
  | 1 => ⟨S1x16x6x1x2048, .f32⟩
  | 2 => ⟨S2048x3072, .f32⟩
  | 3 => ⟨S1x8x1x1x2048, .f32⟩
  | 4 => ⟨S8x1x2048, .f32⟩
  | 5 => ⟨S1x8x1x1x2048, .f32⟩
  | 6 => ⟨S8x1x2048, .f32⟩
  | 7 => ⟨S8x2048x2048, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S8x2048x2048, .f32⟩
  | 15 => ⟨S8x2048x2048, .f32⟩
  | 16 => ⟨S8x2048x2048, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S8x2048x2048, .f32⟩
  | 24 => ⟨S8x2048x2048, .f32⟩
  | 25 => ⟨S_, .f32⟩
  | 26 => ⟨S8x2048x1, .f32⟩
  | 27 => ⟨S8x2048x1, .f32⟩
  | 28 => ⟨S8x2048x1, .f32⟩
  | 29 => ⟨S8x2048x2048, .f32⟩
  | 30 => ⟨S8x2048x2048, .f32⟩
  | 31 => ⟨S_, .f32⟩
  | 32 => ⟨S8x1x2048, .f32⟩
  | 33 => ⟨S8x1x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x3072, .f32⟩
  | 39 => ⟨S2048, .i32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .i32⟩
  | 49 => ⟨S_, .i32⟩
  | 50 => ⟨S2048, .i32⟩
  | 51 => ⟨S2048, .i32⟩
  | 52 => ⟨S2048, .i32⟩
  | 53 => ⟨S_, .i32⟩
  | 54 => ⟨S2048, .i32⟩
  | 55 => ⟨S2048, .i1⟩
  | 56 => ⟨S2048, .i32⟩
  | 57 => ⟨S2048, .i32⟩
  | 58 => ⟨S_, .i32⟩
  | 59 => ⟨S2048, .i32⟩
  | 60 => ⟨S2048, .i1⟩
  | 61 => ⟨S2048, .i1⟩
  | 62 => ⟨S_, .i32⟩
  | 63 => ⟨S2048, .i32⟩
  | 64 => ⟨S2048, .i32⟩
  | 65 => ⟨S2048, .i32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048, .i32⟩
  | 79 => ⟨S2048, .i32⟩
  | 80 => ⟨S_, .i32⟩
  | 81 => ⟨S2048, .i32⟩
  | 82 => ⟨S2048, .i1⟩
  | 83 => ⟨S_, .i32⟩
  | 84 => ⟨S2048, .i32⟩
  | 85 => ⟨S2048, .i1⟩
  | 86 => ⟨S_, .i32⟩
  | 87 => ⟨S_, .i1⟩
  | 88 => ⟨S2048, .i1⟩
  | 89 => ⟨S2048, .i1⟩
  | 90 => ⟨S2048, .i1⟩
  | 91 => ⟨S2048, .i32⟩
  | 92 => ⟨S2048, .i32⟩
  | 93 => ⟨S2048, .i32⟩
  | 94 => ⟨S2048, .f32⟩
  | 95 => ⟨S2048x1, .f32⟩
  | 96 => ⟨S1x32, .f32⟩
  | 97 => ⟨S2048x32, .f32⟩
  | 98 => ⟨S2048x32, .f32⟩
  | 99 => ⟨S2048x32, .f32⟩
  | 100 => ⟨S8x2048x1536, .f32⟩
  | 101 => ⟨S8x2048x12x128, .f32⟩
  | 102 => ⟨S8x2048x12x64, .f32⟩
  | 103 => ⟨S2048x32, .f32⟩
  | 104 => ⟨S1x2048x1x32, .f32⟩
  | 105 => ⟨S2048x32, .f32⟩
  | 106 => ⟨S1x2048x1x32, .f32⟩
  | 107 => ⟨S8x2048x12x32, .f32⟩
  | 108 => ⟨S8x2048x12x32, .f32⟩
  | 109 => ⟨S8x2048x12x32, .f32⟩
  | 110 => ⟨S8x2048x12x32, .f32⟩
  | 111 => ⟨S8x2048x12x32, .f32⟩
  | 112 => ⟨S8x2048x12x32, .f32⟩
  | 113 => ⟨S8x2048x12x32, .f32⟩
  | 114 => ⟨S8x2048x12x32, .f32⟩
  | 115 => ⟨S8x2048x12x32, .f32⟩
  | 116 => ⟨S8x2048x12x32, .f32⟩
  | 117 => ⟨S8x2048x12x32, .f32⟩
  | 118 => ⟨S8x2048x12x32, .f32⟩
  | 119 => ⟨S8x2048x12x64, .f32⟩
  | 120 => ⟨S8x2048x12x64, .f32⟩
  | 121 => ⟨S2048x32, .f32⟩
  | 122 => ⟨S1x2048x1x32, .f32⟩
  | 123 => ⟨S2048x32, .f32⟩
  | 124 => ⟨S1x2048x1x32, .f32⟩
  | 125 => ⟨S8x2048x12x32, .f32⟩
  | 126 => ⟨S8x2048x12x32, .f32⟩
  | 127 => ⟨S8x2048x12x32, .f32⟩
  | _ => ⟨S16384x2048, .f32⟩

abbrev hbmTy0_1 (i : Nat) : BufTy := match i % 128 with
  | 0 => ⟨S8x2048x12x32, .f32⟩
  | 1 => ⟨S8x2048x12x32, .f32⟩
  | 2 => ⟨S8x2048x12x32, .f32⟩
  | 3 => ⟨S8x2048x12x32, .f32⟩
  | 4 => ⟨S8x2048x12x32, .f32⟩
  | 5 => ⟨S8x2048x12x32, .f32⟩
  | 6 => ⟨S8x2048x12x32, .f32⟩
  | 7 => ⟨S8x2048x12x32, .f32⟩
  | 8 => ⟨S8x2048x12x32, .f32⟩
  | 9 => ⟨S8x2048x12x64, .f32⟩
  | 10 => ⟨S8x2048x12x128, .f32⟩
  | 11 => ⟨S_, .f32⟩
  | 12 => ⟨S8x2048x12x128, .f32⟩
  | 13 => ⟨S8x2048x12x128, .f32⟩
  | 14 => ⟨S8x2048x512, .f32⟩
  | 15 => ⟨S8x2048x4x128, .f32⟩
  | 16 => ⟨S8x2048x4x64, .f32⟩
  | 17 => ⟨S2048x32, .f32⟩
  | 18 => ⟨S1x2048x1x32, .f32⟩
  | 19 => ⟨S2048x32, .f32⟩
  | 20 => ⟨S1x2048x1x32, .f32⟩
  | 21 => ⟨S8x2048x4x32, .f32⟩
  | 22 => ⟨S8x2048x4x32, .f32⟩
  | 23 => ⟨S8x2048x4x32, .f32⟩
  | 24 => ⟨S8x2048x4x32, .f32⟩
  | 25 => ⟨S8x2048x4x32, .f32⟩
  | 26 => ⟨S8x2048x4x32, .f32⟩
  | 27 => ⟨S8x2048x4x32, .f32⟩
  | 28 => ⟨S8x2048x4x32, .f32⟩
  | 29 => ⟨S8x2048x4x32, .f32⟩
  | 30 => ⟨S8x2048x4x32, .f32⟩
  | 31 => ⟨S8x2048x4x32, .f32⟩
  | 32 => ⟨S8x2048x4x32, .f32⟩
  | 33 => ⟨S8x2048x4x64, .f32⟩
  | 34 => ⟨S8x2048x4x64, .f32⟩
  | 35 => ⟨S2048x32, .f32⟩
  | 36 => ⟨S1x2048x1x32, .f32⟩
  | 37 => ⟨S2048x32, .f32⟩
  | 38 => ⟨S1x2048x1x32, .f32⟩
  | 39 => ⟨S8x2048x4x32, .f32⟩
  | 40 => ⟨S8x2048x4x32, .f32⟩
  | 41 => ⟨S8x2048x4x32, .f32⟩
  | 42 => ⟨S8x2048x4x32, .f32⟩
  | 43 => ⟨S8x2048x4x32, .f32⟩
  | 44 => ⟨S8x2048x4x32, .f32⟩
  | 45 => ⟨S8x2048x4x32, .f32⟩
  | 46 => ⟨S8x2048x4x32, .f32⟩
  | 47 => ⟨S8x2048x4x32, .f32⟩
  | 48 => ⟨S8x2048x4x32, .f32⟩
  | 49 => ⟨S8x2048x4x32, .f32⟩
  | 50 => ⟨S8x2048x4x32, .f32⟩
  | 51 => ⟨S8x2048x4x64, .f32⟩
  | 52 => ⟨S8x2048x4x128, .f32⟩
  | 53 => ⟨S8x2048x1536, .f32⟩
  | 54 => ⟨S8x2048x512, .f32⟩
  | 55 => ⟨S8x2048x1024, .f32⟩
  | 56 => ⟨S8x2048x3072, .f32⟩
  | 57 => ⟨S16384x3072, .f32⟩
  | 58 => ⟨S16384x3072, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_7 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_v5 : Ref sig .tc := ⟨.hbm, 81, rfl⟩
abbrev main_call1_v6 : Ref sig .tc := ⟨.hbm, 82, rfl⟩
abbrev main_call1_c_2 : Ref sig .tc := ⟨.hbm, 83, rfl⟩
abbrev main_call1_v7 : Ref sig .tc := ⟨.hbm, 84, rfl⟩
abbrev main_call1_v8 : Ref sig .tc := ⟨.hbm, 85, rfl⟩
abbrev main_call1_c_3 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_8 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩

abbrev nD : Nat := 1
abbrev τ : Topo := Topo.v7x

variable {F : FTy → Type} [FloatOps F]
-- ==== OutProjEven.lean ====
abbrev S16384x1536 : Shape := ⟨2, ![16384, 1536]⟩
abbrev S16384x512 : Shape := ⟨2, ![16384, 512]⟩
abbrev S2048x2048 : Shape := ⟨2, ![2048, 2048]⟩
abbrev S16384x2048 : Shape := ⟨2, ![16384, 2048]⟩
abbrev S1x16x6x1x2048 : Shape := ⟨5, ![1, 16, 6, 1, 2048]⟩
abbrev S2048 : Shape := ⟨1, ![2048]⟩
abbrev S2048x128 : Shape := ⟨2, ![2048, 128]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S1x2048 : Shape := ⟨2, ![1, 2048]⟩
abbrev S16384x128 : Shape := ⟨2, ![16384, 128]⟩
abbrev S256x1536 : Shape := ⟨2, ![256, 1536]⟩
abbrev S256x512 : Shape := ⟨2, ![256, 512]⟩
abbrev S256x2048 : Shape := ⟨2, ![256, 2048]⟩
abbrev S1x1x1x1x2048 : Shape := ⟨5, ![1, 1, 1, 1, 2048]⟩
abbrev S256x128 : Shape := ⟨2, ![256, 128]⟩
abbrev S1536x2048 : Shape := ⟨2, ![1536, 2048]⟩
abbrev S512x2048 : Shape := ⟨2, ![512, 2048]⟩
abbrev S256 : Shape := ⟨1, ![256]⟩
abbrev S256x1 : Shape := ⟨2, ![256, 1]⟩

abbrev nBuf : Space → Nat
  | .hbm => 24
  | .vmem => 25
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S2048x2048, .f32⟩
  | .hbm, ⟨3, _⟩ => ⟨S16384x2048, .f32⟩
  | .hbm, ⟨4, _⟩ => ⟨S1x16x6x1x2048, .f32⟩
  | .hbm, ⟨5, _⟩ => ⟨S2048, .f32⟩
  | .hbm, ⟨6, _⟩ => ⟨S2048, .f32⟩
  | .hbm, ⟨7, _⟩ => ⟨S2048x128, .bf16⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S256x256, .bf16⟩
  | .hbm, ⟨16, _⟩ => ⟨S1x256x256, .bf16⟩
  | .hbm, ⟨17, _⟩ => ⟨S1x256x256, .bf16⟩
  | .hbm, ⟨18, _⟩ => ⟨S2x256x256, .bf16⟩
  | .hbm, ⟨19, _⟩ => ⟨S1x2048, .f32⟩
  | .hbm, ⟨20, _⟩ => ⟨S1x2048, .f32⟩
  | .hbm, ⟨21, _⟩ => ⟨S16384x2048, .f32⟩
  | .hbm, ⟨22, _⟩ => ⟨S16384x2048, .bf16⟩
  | .hbm, ⟨23, _⟩ => ⟨S16384x128, .f32⟩
  | .local _ .vmem, ⟨0, _⟩ => ⟨S256x1536, .bf16⟩
  | .local _ .vmem, ⟨1, _⟩ => ⟨S256x1536, .bf16⟩
  | .local _ .vmem, ⟨2, _⟩ => ⟨S256x512, .bf16⟩
  | .local _ .vmem, ⟨3, _⟩ => ⟨S256x512, .bf16⟩
  | .local _ .vmem, ⟨4, _⟩ => ⟨S1x256x256, .bf16⟩
  | .local _ .vmem, ⟨5, _⟩ => ⟨S1x256x256, .bf16⟩
  | .local _ .vmem, ⟨6, _⟩ => ⟨S2048x2048, .f32⟩
  | .local _ .vmem, ⟨7, _⟩ => ⟨S256x2048, .f32⟩
  | .local _ .vmem, ⟨8, _⟩ => ⟨S256x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x2048, .f32⟩
  | .local _ .vmem, ⟨12, _⟩ => ⟨S1x2048, .f32⟩
  | .local _ .vmem, ⟨13, _⟩ => ⟨S1x1x1x1x2048, .f32⟩
  | .local _ .vmem, ⟨14, _⟩ => ⟨S1x1x1x1x2048, .f32⟩
  | .local _ .vmem, ⟨15, _⟩ => ⟨S1x1x1x1x2048, .f32⟩
  | .local _ .vmem, ⟨16, _⟩ => ⟨S1x1x1x1x2048, .f32⟩
  | .local _ .vmem, ⟨17, _⟩ => ⟨S2048x128, .bf16⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | .local _ .vmem, ⟨22, _⟩ => ⟨S256x128, .f32⟩
  | .local _ .vmem, ⟨23, _⟩ => ⟨S256x128, .f32⟩
  | .local _ .vmem, ⟨24, _⟩ => ⟨S2048x2048, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg0 v9
  let c4_i32 : BitVec 32 := 4#32
  let v11 : BitVec 1 := Scalar.cmpi .slt v9 c4_i32
  let c11_i32 : BitVec 32 := 11#32
  let v12 : BitVec 32 := Scalar.subi c11_i32 v9
  let v13 : BitVec 32 := Scalar.select v11 v9 v12
  let v14 : BitVec 32 := Scalar.addi v10 v13
  let c0_i32_3 : BitVec 32 := 0#32
  let c0_i32_4 : BitVec 32 := 0#32
  ![v14.toNat, c0_i32_3.toNat]

def cc0_transform_2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.divsi v9 c4_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c0_i32_5 : BitVec 32 := 0#32
  let v16 : BitVec 1 := Scalar.cmpi .sgt c4_i32 c0_i32_5
  let v17 : BitVec 32 := Scalar.extui v16
  let c0_i32_6 : BitVec 32 := 0#32
  let v18 : BitVec 1 := Scalar.cmpi .slt c4_i32 c0_i32_6
  let v19 : BitVec 32 := Scalar.extui v18
  let v20 : BitVec 32 := Scalar.subi v17 v19
  let v21 : BitVec 1 := Scalar.cmpi .ne v15 v20
  let v22 : BitVec 32 := Scalar.remsi v9 c4_i32
  let c0_i32_7 : BitVec 32 := 0#32
  let v23 : BitVec 1 := Scalar.cmpi .ne v22 c0_i32_7
  let v24 : BitVec 1 := Scalar.andi v21 v23
  let c1_i32_8 : BitVec 32 := 1#32
  let v25 : BitVec 32 := Scalar.subi v10 c1_i32_8
  let v26 : BitVec 32 := Scalar.select v24 v25 v10
  let c0_i32_9 : BitVec 32 := 0#32
  let c0_i32_10 : BitVec 32 := 0#32
  let c0_i32_11 : BitVec 32 := 0#32
  ![v26.toNat, c0_i32_9.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v16.toNat, c3_i32.toNat, c0_i32_5.toNat, c0_i32_6.toNat]

def cc0_transform_9 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  let c0_i32_6 : BitVec 32 := 0#32
  let c0_i32_7 : BitVec 32 := 0#32
  ![c0_i32_4.toNat, v16.toNat, c4_i32.toNat, c0_i32_5.toNat, c0_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutProjEvenReferenceIdeal.lean ====
abbrev S16384x1536 : Shape := ⟨2, ![16384, 1536]⟩
abbrev S16384x512 : Shape := ⟨2, ![16384, 512]⟩
abbrev S2048x2048 : Shape := ⟨2, ![2048, 2048]⟩
abbrev S16384x2048 : Shape := ⟨2, ![16384, 2048]⟩
abbrev S1x16x6x1x2048 : Shape := ⟨5, ![1, 16, 6, 1, 2048]⟩
abbrev S2048 : Shape := ⟨1, ![2048]⟩
abbrev S2048x128 : Shape := ⟨2, ![2048, 128]⟩
abbrev S8x2048x512 : Shape := ⟨3, ![8, 2048, 512]⟩
abbrev S8x1024x512 : Shape := ⟨3, ![8, 1024, 512]⟩
abbrev S8x2048x1536 : Shape := ⟨3, ![8, 2048, 1536]⟩
abbrev S8x2048x2048 : Shape := ⟨3, ![8, 2048, 2048]⟩
abbrev S1x8x1x1x2048 : Shape := ⟨5, ![1, 8, 1, 1, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x128 : Shape := ⟨3, ![8, 2048, 128]⟩
abbrev S16384x128 : Shape := ⟨2, ![16384, 128]⟩

abbrev nBuf : Space → Nat
  | .hbm => 97
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S2048x2048, .f32⟩
  | .hbm, ⟨3, _⟩ => ⟨S16384x2048, .f32⟩
  | .hbm, ⟨4, _⟩ => ⟨S1x16x6x1x2048, .f32⟩
  | .hbm, ⟨5, _⟩ => ⟨S2048, .f32⟩
  | .hbm, ⟨6, _⟩ => ⟨S2048, .f32⟩
  | .hbm, ⟨7, _⟩ => ⟨S2048x128, .bf16⟩
  | .hbm, ⟨8, _⟩ => ⟨S8x2048x512, .bf16⟩
  | .hbm, ⟨9, _⟩ => ⟨S8x1024x512, .bf16⟩
  | .hbm, ⟨10, _⟩ => ⟨S8x1024x512, .bf16⟩
  | .hbm, ⟨11, _⟩ => ⟨S8x1024x512, .bf16⟩
  | .hbm, ⟨12, _⟩ => ⟨S8x2048x512, .bf16⟩
  | .hbm, ⟨13, _⟩ => ⟨S8x2048x1536, .bf16⟩
  | .hbm, ⟨14, _⟩ => ⟨S8x2048x2048, .bf16⟩
  | .hbm, ⟨15, _⟩ => ⟨S16384x2048, .bf16⟩
  | .hbm, ⟨16, _⟩ => ⟨S1x8x1x1x2048, .f32⟩
  | .hbm, ⟨17, _⟩ => ⟨S8x1x2048, .f32⟩
  | .hbm, ⟨18, _⟩ => ⟨S1x8x1x1x2048, .f32⟩
  | .hbm, ⟨19, _⟩ => ⟨S8x1x2048, .f32⟩
  | .hbm, ⟨20, _⟩ => ⟨S1x8x1x1x2048, .f32⟩
  | .hbm, ⟨21, _⟩ => ⟨S8x1x2048, .f32⟩
  | .hbm, ⟨22, _⟩ => ⟨S16384x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x2048, .f32⟩
  | .hbm, ⟨54, _⟩ => ⟨S8x2048x2048, .f32⟩
  | .hbm, ⟨55, _⟩ => ⟨S1x1x2048, .f32⟩
  | .hbm, ⟨56, _⟩ => ⟨S8x2048x2048, .f32⟩
  | .hbm, ⟨57, _⟩ => ⟨S8x2048x2048, .f32⟩
  | .hbm, ⟨58, _⟩ => ⟨S1x1x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S8x2048x1, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x1x2048, .f32⟩
  | .hbm, ⟨86, _⟩ => ⟨S8x1x2048, .f32⟩
  | .hbm, ⟨87, _⟩ => ⟨S8x2048x2048, .f32⟩
  | .hbm, ⟨88, _⟩ => ⟨S8x2048x2048, .f32⟩
  | .hbm, ⟨89, _⟩ => ⟨S8x2048x2048, .f32⟩
  | .hbm, ⟨90, _⟩ => ⟨S8x2048x2048, .f32⟩
  | .hbm, ⟨91, _⟩ => ⟨S2048x128, .f32⟩
  | .hbm, ⟨92, _⟩ => ⟨S8x2048x128, .f32⟩
  | .hbm, ⟨93, _⟩ => ⟨S16384x2048, .f32⟩
  | .hbm, ⟨94, _⟩ => ⟨S16384x2048, .f32⟩
  | .hbm, ⟨95, _⟩ => ⟨S16384x2048, .bf16⟩
  | .hbm, ⟨96, _⟩ => ⟨S16384x128, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== AbCtx.lean ====
abbrev S2048x2048 : Shape := ⟨2, ![2048, 2048]⟩
abbrev S1x16x6x1x2048 : Shape := ⟨5, ![1, 16, 6, 1, 2048]⟩
abbrev S2048x3072 : Shape := ⟨2, ![2048, 3072]⟩
abbrev S2048x1024 : Shape := ⟨2, ![2048, 1024]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x2048 : Shape := ⟨2, ![256, 2048]⟩
abbrev S1x1x1x1x2048 : Shape := ⟨5, ![1, 1, 1, 1, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x2048 : Shape := ⟨2, ![1, 2048]⟩
abbrev S2048x512 : Shape := ⟨2, ![2048, 512]⟩
abbrev S256x512 : Shape := ⟨2, ![256, 512]⟩

abbrev nBuf : Space → Nat
  | .hbm => 79
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x16x6x1x2048, .f32⟩
  | .hbm, ⟨2, _⟩ => ⟨S2048x3072, .f32⟩
  | .hbm, ⟨3, _⟩ => ⟨S2048x1024, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S_, .i1⟩
  | .hbm, ⟨40, _⟩ => ⟨S2048, .i1⟩
  | .hbm, ⟨41, _⟩ => ⟨S2048, .i1⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x1, .f32⟩
  | .hbm, ⟨61, _⟩ => ⟨S1x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S_, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x128, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x128, .f32⟩
  | .hbm, ⟨75, _⟩ => ⟨S2048x32, .f32⟩
  | .hbm, ⟨76, _⟩ => ⟨S2048x32, .f32⟩
  | .hbm, ⟨77, _⟩ => ⟨S2048x128, .f32⟩
  | .hbm, ⟨78, _⟩ => ⟨S2048x1024, .bf16⟩
  | .local _ .vmem, ⟨0, _⟩ => ⟨S256x2048, .f32⟩
  | .local _ .vmem, ⟨1, _⟩ => ⟨S256x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S2048x1024, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S2048x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c8_i32 : BitVec 32 := 8#32
  let c0_i32_6 : BitVec 32 := 0#32
  let c0_i32_7 : BitVec 32 := 0#32
  let c0_i32_8 : BitVec 32 := 0#32
  let c0_i32_9 : BitVec 32 := 0#32
  ![c0_i32_5.toNat, c8_i32.toNat, c0_i32_6.toNat, c0_i32_7.toNat, c0_i32_8.toNat]

def cc0_transform_2 (i : grid0.Coords) : Fin 5 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c8_i32 : BitVec 32 := 8#32
  let c1_i32_6 : BitVec 32 := 1#32
  let c0_i32_7 : BitVec 32 := 0#32
  let c0_i32_8 : BitVec 32 := 0#32
  let c0_i32_9 : BitVec 32 := 0#32
  ![c0_i32_5.toNat, c8_i32.toNat, c1_i32_6.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AbCtxReferenceIdeal.lean ====
abbrev S2048x2048 : Shape := ⟨2, ![2048, 2048]⟩
abbrev S1x16x6x1x2048 : Shape := ⟨5, ![1, 16, 6, 1, 2048]⟩
abbrev S2048x3072 : Shape := ⟨2, ![2048, 3072]⟩
abbrev S1x1x1x1x2048 : Shape := ⟨5, ![1, 1, 1, 1, 2048]⟩
abbrev S1x2048 : Shape := ⟨2, ![1, 2048]⟩
abbrev S8x256x2048 : Shape := ⟨3, ![8, 256, 2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S2048x1024 : Shape := ⟨2, ![2048, 1024]⟩
abbrev S8x256x1024 : Shape := ⟨3, ![8, 256, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x16x6x1x2048, .f32⟩
  | .hbm, ⟨2, _⟩ => ⟨S2048x3072, .f32⟩
  | .hbm, ⟨3, _⟩ => ⟨S1x1x1x1x2048, .f32⟩
  | .hbm, ⟨4, _⟩ => ⟨S1x2048, .f32⟩
  | .hbm, ⟨5, _⟩ => ⟨S1x1x1x1x2048, .f32⟩
  | .hbm, ⟨6, _⟩ => ⟨S1x2048, .f32⟩
  | .hbm, ⟨7, _⟩ => ⟨S8x256x2048, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x2048, .f32⟩
  | .hbm, ⟨15, _⟩ => ⟨S8x256x2048, .f32⟩
  | .hbm, ⟨16, _⟩ => ⟨S8x256x2048, .f32⟩
  | .hbm, ⟨17, _⟩ => ⟨S_, .f32⟩
  | .hbm, ⟨18, _⟩ => ⟨S8x256, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S8x256x2048, .f32⟩
  | .hbm, ⟨24, _⟩ => ⟨S8x256x2048, .f32⟩
  | .hbm, ⟨25, _⟩ => ⟨S_, .f32⟩
  | .hbm, ⟨26, _⟩ => ⟨S8x256x1, .f32⟩
  | .hbm, ⟨27, _⟩ => ⟨S8x256x1, .f32⟩
  | .hbm, ⟨28, _⟩ => ⟨S8x256x1, .f32⟩
  | .hbm, ⟨29, _⟩ => ⟨S8x256x2048, .f32⟩
  | .hbm, ⟨30, _⟩ => ⟨S8x256x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x1x2048, .f32⟩
  | .hbm, ⟨35, _⟩ => ⟨S8x256x2048, .f32⟩
  | .hbm, ⟨36, _⟩ => ⟨S8x256x2048, .f32⟩
  | .hbm, ⟨37, _⟩ => ⟨S1x1x2048, .f32⟩
  | .hbm, ⟨38, _⟩ => ⟨S8x256x2048, .f32⟩
  | .hbm, ⟨39, _⟩ => ⟨S8x256x2048, .f32⟩
  | .hbm, ⟨40, _⟩ => ⟨S2048x1024, .f32⟩
  | .hbm, ⟨41, _⟩ => ⟨S8x256x1024, .f32⟩
  | .hbm, ⟨42, _⟩ => ⟨S2048x1024, .f32⟩
  | .hbm, ⟨43, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Modulation.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S16x12288 : Shape := ⟨2, ![16, 12288]⟩
abbrev S1x2048x1024 : Shape := ⟨3, ![1, 2048, 1024]⟩
abbrev S1x1x1024 : Shape := ⟨3, ![1, 1, 1024]⟩
abbrev S16x1024 : Shape := ⟨2, ![16, 1024]⟩
abbrev S2048x1024 : Shape := ⟨2, ![2048, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩

abbrev nBuf : Space → Nat
  | .hbm => 20
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x12288, .f32⟩
  | .hbm, ⟨13, _⟩ => ⟨S2048x12288, .f32⟩
  | .hbm, ⟨14, _⟩ => ⟨S16x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S16x12288, .f32⟩
  | .hbm, ⟨19, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== GateUpFirst.lean ====
abbrev S16x2048x2048 : Shape := ⟨3, ![16, 2048, 2048]⟩
abbrev S2x16x2048x2048 : Shape := ⟨4, ![2, 16, 2048, 2048]⟩
abbrev S1x2048x2048 : Shape := ⟨3, ![1, 2048, 2048]⟩
abbrev S1x1x2048x512 : Shape := ⟨4, ![1, 1, 2048, 512]⟩
abbrev S1x2048x512 : Shape := ⟨3, ![1, 2048, 512]⟩
abbrev S2048x2048 : Shape := ⟨2, ![2048, 2048]⟩
abbrev S1x1x2048x256 : Shape := ⟨4, ![1, 1, 2048, 256]⟩
abbrev S2048x256 : Shape := ⟨2, ![2048, 256]⟩
abbrev S1x2048x256 : Shape := ⟨3, ![1, 2048, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S2x16x2048x2048, .f32⟩
  | .hbm, ⟨3, _⟩ => ⟨S16x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x2048x512, .bf16⟩
  | .local _ .vmem, ⟨7, _⟩ => ⟨S1x2048x512, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpFirstReferenceIdeal.lean ====
abbrev S16x2048x2048 : Shape := ⟨3, ![16, 2048, 2048]⟩
abbrev S2x16x2048x2048 : Shape := ⟨4, ![2, 16, 2048, 2048]⟩
abbrev S1x16x2048x2048 : Shape := ⟨4, ![1, 16, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S2x16x2048x2048, .f32⟩
  | .hbm, ⟨3, _⟩ => ⟨S16x2048x2048, .f32⟩
  | .hbm, ⟨4, _⟩ => ⟨S1x16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S1x16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DownSide.lean ====
abbrev S16x2048x2048 : Shape := ⟨3, ![16, 2048, 2048]⟩
abbrev S2x16x2048x2048 : Shape := ⟨4, ![2, 16, 2048, 2048]⟩
abbrev S16x2048 : Shape := ⟨2, ![16, 2048]⟩
abbrev S2x2048x12288 : Shape := ⟨3, ![2, 2048, 12288]⟩
abbrev S2x12288 : Shape := ⟨2, ![2, 12288]⟩
abbrev S2048x4096 : Shape := ⟨2, ![2048, 4096]⟩
abbrev S2x1x12288 : Shape := ⟨3, ![2, 1, 12288]⟩
abbrev S8x4096x2048 : Shape := ⟨3, ![8, 4096, 2048]⟩
abbrev S16x12288 : Shape := ⟨2, ![16, 12288]⟩
abbrev S1x2048x2048 : Shape := ⟨3, ![1, 2048, 2048]⟩
abbrev S1x1x2048x512 : Shape := ⟨4, ![1, 1, 2048, 512]⟩
abbrev S1x2048x256 : Shape := ⟨3, ![1, 2048, 256]⟩
abbrev S1x1x256 : Shape := ⟨3, ![1, 1, 256]⟩
abbrev S2048x256 : Shape := ⟨2, ![2048, 256]⟩
abbrev S8x256x512 : Shape := ⟨3, ![8, 256, 512]⟩
abbrev S16x256 : Shape := ⟨2, ![16, 256]⟩
abbrev S1x256 : Shape := ⟨2, ![1, 256]⟩
abbrev S2048x2048 : Shape := ⟨2, ![2048, 2048]⟩
abbrev S2048x512 : Shape := ⟨2, ![2048, 512]⟩
abbrev S256x512 : Shape := ⟨2, ![256, 512]⟩
abbrev S1x256x512 : Shape := ⟨3, ![1, 256, 512]⟩

abbrev nBuf : Space → Nat
  | .hbm => 10
  | .vmem => 17
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S16x2048, .f32⟩
  | .hbm, ⟨3, _⟩ => ⟨S2x2048x12288, .f32⟩
  | .hbm, ⟨4, _⟩ => ⟨S2x12288, .f32⟩
  | .hbm, ⟨5, _⟩ => ⟨S2048x4096, .f32⟩
  | .hbm, ⟨6, _⟩ => ⟨S2x1x12288, .f32⟩
  | .hbm, ⟨7, _⟩ => ⟨S8x4096x2048, .bf16⟩
  | .hbm, ⟨8, _⟩ => ⟨S16x12288, .f32⟩
  | .hbm, ⟨9, _⟩ => ⟨S2048x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S16x2048, .f32⟩
  | .local _ .vmem, ⟨5, _⟩ => ⟨S1x2048x256, .f32⟩
  | .local _ .vmem, ⟨6, _⟩ => ⟨S1x2048x256, .f32⟩
  | .local _ .vmem, ⟨7, _⟩ => ⟨S1x1x256, .f32⟩
  | .local _ .vmem, ⟨8, _⟩ => ⟨S1x1x256, .f32⟩
  | .local _ .vmem, ⟨9, _⟩ => ⟨S2048x256, .f32⟩
  | .local _ .vmem, ⟨10, _⟩ => ⟨S2048x256, .f32⟩
  | .local _ .vmem, ⟨11, _⟩ => ⟨S8x256x512, .bf16⟩
  | .local _ .vmem, ⟨12, _⟩ => ⟨S8x256x512, .bf16⟩
  | .local _ .vmem, ⟨13, _⟩ => ⟨S16x256, .f32⟩
  | .local _ .vmem, ⟨14, _⟩ => ⟨S16x256, .f32⟩
  | .local _ .vmem, ⟨15, _⟩ => ⟨S2048x256, .bf16⟩
  | .local _ .vmem, ⟨16, _⟩ => ⟨S2048x256, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c48_i32 : BitVec 32 := 48#32
  let v2 : BitVec 1 := Scalar.cmpi .slt v1 c48_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c48_i32_0 : BitVec 32 := 48#32
  let v5 : BitVec 1 := Scalar.cmpi .sge v1 c48_i32_0
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c47_i32 : BitVec 32 := 47#32
  let v2 : BitVec 32 := Scalar.minsi v1 c47_i32
  let c1_i32 : BitVec 32 := 1#32
  let c0_i32 : BitVec 32 := 0#32
  let c0_i32_0 : BitVec 32 := 0#32
  ![c1_i32.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c47_i32 : BitVec 32 := 47#32
  let v2 : BitVec 32 := Scalar.minsi v1 c47_i32
  let c1_i32 : BitVec 32 := 1#32
  let c0_i32 : BitVec 32 := 0#32
  let c0_i32_0 : BitVec 32 := 0#32
  ![c1_i32.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c48_i32 : BitVec 32 := 48#32
  let v2 : BitVec 32 := Scalar.subi v1 c48_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![c0_i32_0.toNat, v4.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c47_i32 : BitVec 32 := 47#32
  let v2 : BitVec 32 := Scalar.minsi v1 c47_i32
  let c0_i32 : BitVec 32 := 0#32
  let c0_i32_0 : BitVec 32 := 0#32
  ![c0_i32.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c48_i32 : BitVec 32 := 48#32
  let v2 : BitVec 32 := Scalar.subi v1 c48_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![c0_i32_0.toNat, v4.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownSideReferenceIdeal.lean ====
abbrev S16x2048x2048 : Shape := ⟨3, ![16, 2048, 2048]⟩
abbrev S2x16x2048x2048 : Shape := ⟨4, ![2, 16, 2048, 2048]⟩
abbrev S16x2048 : Shape := ⟨2, ![16, 2048]⟩
abbrev S2x2048x12288 : Shape := ⟨3, ![2, 2048, 12288]⟩
abbrev S2x12288 : Shape := ⟨2, ![2, 12288]⟩
abbrev S2048x4096 : Shape := ⟨2, ![2048, 4096]⟩
abbrev S16x8x256x2048 : Shape := ⟨4, ![16, 8, 256, 2048]⟩
abbrev S1x16x2048x2048 : Shape := ⟨4, ![1, 16, 2048, 2048]⟩
abbrev S16x2048x8x256 : Shape := ⟨4, ![16, 2048, 8, 256]⟩
abbrev S8x16x256x2048 : Shape := ⟨4, ![8, 16, 256, 2048]⟩
abbrev S8x4096x2048 : Shape := ⟨3, ![8, 4096, 2048]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S16x2048, .f32⟩
  | .hbm, ⟨3, _⟩ => ⟨S2x2048x12288, .f32⟩
  | .hbm, ⟨4, _⟩ => ⟨S2x12288, .f32⟩
  | .hbm, ⟨5, _⟩ => ⟨S2048x4096, .f32⟩
  | .hbm, ⟨6, _⟩ => ⟨S16x2048x2048, .f32⟩
  | .hbm, ⟨7, _⟩ => ⟨S16x8x256x2048, .f32⟩
  | .hbm, ⟨8, _⟩ => ⟨S1x16x2048x2048, .f32⟩
  | .hbm, ⟨9, _⟩ => ⟨S16x2048x2048, .f32⟩
  | .hbm, ⟨10, _⟩ => ⟨S16x2048x8x256, .f32⟩
  | .hbm, ⟨11, _⟩ => ⟨S8x16x256x2048, .f32⟩
  | .hbm, ⟨12, _⟩ => ⟨S8x4096x2048, .f32⟩
  | .hbm, ⟨13, _⟩ => ⟨S8x4096x2048, .bf16⟩
  | .hbm, ⟨14, _⟩ => ⟨S16x2048, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048, .f32⟩
  | .hbm, ⟨23, _⟩ => ⟨S1x2048x12288, .f32⟩
  | .hbm, ⟨24, _⟩ => ⟨S2048x12288, .f32⟩
  | .hbm, ⟨25, _⟩ => ⟨S16x12288, .f32⟩
  | .hbm, ⟨26, _⟩ => ⟨S1x12288, .f32⟩
  | .hbm, ⟨27, _⟩ => ⟨S12288, .f32⟩
  | .hbm, ⟨28, _⟩ => ⟨S1x12288, .f32⟩
  | .hbm, ⟨29, _⟩ => ⟨S16x12288, .f32⟩
  | .hbm, ⟨30, _⟩ => ⟨S16x12288, .f32⟩
  | .hbm, ⟨31, _⟩ => ⟨S2048x4096, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Proof.Block.lean ====
/- The output block of one grid point of the banded attention, as ONE function of the point's input blocks.

   The body writes the block in sixteen stores of 128 query rows: the first and the last outside the loop, the fourteen
   between them in two trips of seven. Every store is the same computation (`blk`) on its own rows: the queries of the
   128 rows, the 384 key and value rows that begin at `start n`, the context keys and values, the three sinks of the
   group, and the additive band table number `lag n`. `place` puts the sixteen together. -/
module

public import proofs.«01_k».proof.Proof.Gen.KernelIdeal.Value
public import Idealize.ShloMosaic.Lib.Pointwise

@[expose] public section

noncomputable section

namespace Cert.Banded

open Idealize.ShloMosaic Idealize.ShloMosaic.TcCoe Idealize.ShloMosaic.Tactic
open Cert.KernelIdeal Cert.KernelIdeal.Gen
open Idealize.ShloMosaic.View (ld)

variable {F : FTy → Type} [FloatOps F] [Named F]

/-- What the body stores for 128 query rows `q` over 384 keys `k` and values `v`, the context's keys `kc` and values
    `vc`, the column `sk` of sinks and the band table `t` added to the scores. -/
def blk (kc vc : Vec F S256x128 .bf16) (sk : FVec F S384x1 .f32) (q : Vec F S128x384 .bf16)
    (k v : Vec F S384x128 .bf16) (t : Vec F S1x384x384 .f32) : FVec F S128x384 .bf16 :=
  k0_pay18 (k0_pay17 kc vc sk q k v t)

/-- 128 rows of the query block from row `o` on. -/
def rowsQ (x : Vec F S2048x384 .bf16) (o : ℕ) : Vec F S128x384 .bf16 :=
  fun i => x (ix2 (Fin.ofNat 2048 (o + (i 0).val)) (i 1))

/-- 384 rows of a key or value block from row `o` on. -/
def rowsK (x : Vec F S2048x128 .bf16) (o : ℕ) : Vec F S384x128 .bf16 :=
  fun i => x (ix2 (Fin.ofNat 2048 (o + (i 0).val)) (i 1))

/-- The first key row that query block `n` looks at: one block back, held inside the 2048 rows. -/
def start (n : ℕ) : ℕ := min (128 * (n - 1)) 1664

/-- By how many blocks the keys of query block `n` begin before the queries: the number of its band table. -/
def lag (n : ℕ) : Fin 3 := if n = 0 then 0 else if n = 15 then 2 else 1

/-- The three band tables as the body fills them. -/
def band : Fin 3 → Vec F S1x384x384 .f32 :=
  ![k0_pay36 k0_pay35, k0_pay37 k0_pay34, k0_pay38 k0_pay34]

/-- The output block from the input blocks: row `r` belongs to query block `r / 128`. -/
def place (kc vc : Vec F S256x128 .bf16) (sk : FVec F S384x1 .f32) (xq : Vec F S2048x384 .bf16)
    (xk xv : Vec F S2048x128 .bf16) (y : S2048x384.Idx) : Elt F .bf16 :=
  blk kc vc sk (rowsQ xq (128 * ((y 0).val / 128))) (rowsK xk (start ((y 0).val / 128)))
    (rowsK xv (start ((y 0).val / 128))) (band (lag ((y 0).val / 128))) (ix2 (Fin.ofNat 128 (y 0).val) (y 1))

/-- A load of 128 query rows reads `rowsQ`. -/
theorem ld_rowsQ (x : Vec F S2048x384 .bf16) {off : Fin 2 → ℕ} (o : ℕ) (ho : off = ![o, 0])
    (h : ∀ a, off a + S128x384.size a ≤ S2048x384.size a) :
    ld (Val := Elt F) x (Rect.unit (s := S2048x384) off S128x384.size h) = rowsQ x o := by
  subst ho
  funext i
  refine congrArg x (funext fun a => Fin.ext ?_)
  have h0 : o + 128 ≤ 2048 := h 0
  have hi : (i 0).val < 128 := (i 0).isLt
  match a with
  | ⟨0, _⟩ =>
    show o + 1 * (i 0).val = (o + (i 0).val) % 2048
    omega
  | ⟨1, _⟩ => show 0 + 1 * (i 1).val = (i 1).val; omega

/-- A load of 384 key or value rows reads `rowsK`. -/
theorem ld_rowsK (x : Vec F S2048x128 .bf16) {off : Fin 2 → ℕ} (o : ℕ) (ho : off = ![o, 0])
    (h : ∀ a, off a + S384x128.size a ≤ S2048x128.size a) :
    ld (Val := Elt F) x (Rect.unit (s := S2048x128) off S384x128.size h) = rowsK x o := by
  subst ho
  funext i
  refine congrArg x (funext fun a => Fin.ext ?_)
  have h0 : o + 384 ≤ 2048 := h 0
  have hi : (i 0).val < 384 := (i 0).isLt
  match a with
  | ⟨0, _⟩ =>
    show o + 1 * (i 0).val = (o + (i 0).val) % 2048
    omega
  | ⟨1, _⟩ => show 0 + 1 * (i 1).val = (i 1).val; omega

/-- A store at the rows of query block `n` whose payload is `blk` of that block's loads agrees with `place`. -/
theorem fits (n : ℕ) (hn : n < 16) (kc vc : Vec F S256x128 .bf16) (sk : FVec F S384x1 .f32)
    (xq : Vec F S2048x384 .bf16) (xk xv : Vec F S2048x128 .bf16) {off : Fin 2 → ℕ} (ho : off = ![128 * n, 0])
    (h : ∀ a, off a + S128x384.size a ≤ S2048x384.size a) (p : FVec F S128x384 .bf16)
    (hp : p = blk kc vc sk (rowsQ xq (128 * n)) (rowsK xk (start n)) (rowsK xv (start n)) (band (lag n)))
    (x : S128x384.Idx) :
    p x = place kc vc sk xq xk xv ((Rect.unit (s := S2048x384) off S128x384.size h).emb x) := by
  subst ho hp
  have hx : (x 0).val < 128 := (x 0).isLt
  have h0 : (((Rect.unit (s := S2048x384) ![128 * n, 0] S128x384.size h).emb x) 0).val = 128 * n + (x 0).val := by
    show 128 * n + 1 * (x 0).val = _
    omega
  have hd : (128 * n + (x 0).val) / 128 = n := by omega
  unfold place
  rw [h0, hd]
  refine congrArg _ (funext fun a => Fin.ext ?_)
  match a with
  | ⟨0, _⟩ => show (x 0).val = (128 * n + (x 0).val) % 128; omega
  | ⟨1, _⟩ => show (x 1).val = 0 + 1 * (x 1).val; omega

section Pieces

variable (c : Dev nD) (i : grid0.Coords)
  (arg2 : Memref sig .tc .smem S12 .f32) (harg2 : arg2.IsWhole) (arg3 : Memref sig .tc .vmem S2048x384 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S256x128 .bf16) (harg6 : arg6.IsWhole) (arg7 : Memref sig .tc .vmem S256x128 .bf16) (harg7 : arg7.IsWhole)
  (arg8 : Memref sig .tc .vmem S2048x384 .bf16) (harg8 : arg8.IsWhole) (arg9 : Memref sig .tc .vmem S3x384x384 .f32) (harg9 : arg9.IsWhole)

/-- One trip's seven stores agree with `place`, when the middle band table is in its place in the scratch buffer. -/
theorem trip_fits (𝒱 : Variants) (bd : Option 𝒱.V) (kc vc : Vec F S256x128 .bf16) (sk : FVec F S384x1 .f32)
    (X3 : BufTy.Contents (Elt F) arg3.view.ty) (X4 : BufTy.Contents (Elt F) arg4.view.ty)
    (X5 : BufTy.Contents (Elt F) arg5.view.ty) (X9 : BufTy.Contents (Elt F) arg9.view.ty)
    (h9 : arg9.view.readAt (Elt F) (Rect.unit (s := S3x384x384) ![1, 0, 0] S1x384x384.size inb_S3x384x384_S1x384x384_1_0_0) X9 = band 1)
    (k : Fin k0_t1_loop.trips) :
    ∀ pc ∈ tripL_k0_t1 𝒱 c bd i arg2 harg2 arg3 harg3 arg4 harg4 arg5 harg5 arg6 harg6 arg7 harg7 arg8 harg8 arg9 harg9
        kc vc sk X3 X4 X5 X9 k,
      ∀ x, pc.2 x = place kc vc sk (arg3.view.read (Elt F) X3) (arg4.view.read (Elt F) X4) (arg5.view.read (Elt F) X5) (pc.1.emb x) := by
  have hk : k.val < 2 := Nat.lt_of_lt_of_le k.isLt k0_t1_abs.2.1
  unfold tripL_k0_t1 trip_k0_t1
  dsimp only
  have key : ∀ (r : Fin 7) (p : FVec F S128x384 .bf16)
      (hp : p = blk kc vc sk
        (ld (Val := Elt F) (arg3.view.read (Elt F) X3) (Rect.unit (k0_off3 k (BitVec.ofNat 32 r.val)) S128x384.size (k0_off3_inb k r)))
        (ld (Val := Elt F) (arg4.view.read (Elt F) X4) (Rect.unit (k0_off4 k (BitVec.ofNat 32 r.val)) S384x128.size (k0_off4_inb k r)))
        (ld (Val := Elt F) (arg5.view.read (Elt F) X5) (Rect.unit (k0_off4 k (BitVec.ofNat 32 r.val)) S384x128.size (k0_off4_inb k r)))
        (arg9.view.readAt (Elt F) (Rect.unit (s := S3x384x384) ![1, 0, 0] S1x384x384.size inb_S3x384x384_S1x384x384_1_0_0) X9))
      (x : S128x384.Idx), p x = place kc vc sk (arg3.view.read (Elt F) X3) (arg4.view.read (Elt F) X4) (arg5.view.read (Elt F) X5)
        ((Rect.unit (s := S2048x384) (k0_off3 k (BitVec.ofNat 32 r.val)) S128x384.size (k0_off3_inb k r)).emb x) := by
    intro r p hp x
    have hr := r.isLt
    refine fits (7 * k.val + r.val + 1) (by omega) kc vc sk _ _ _ ?_ _ p ?_ x
    · rw [k0_off3_eq]; congr 1; omega
    · rw [hp, h9, ld_rowsQ _ (128 * (7 * k.val + r.val + 1)) (by rw [k0_off3_eq]; congr 1; omega),
        ld_rowsK _ (start (7 * k.val + r.val + 1)) (by rw [k0_off4_eq, start]; congr 1; omega),
        ld_rowsK _ (start (7 * k.val + r.val + 1)) (by rw [k0_off4_eq, start]; congr 1; omega)]
      congr 2
      rw [lag, if_neg (by omega), if_neg (by omega)]
  simp only [List.forall_mem_cons, List.not_mem_nil, false_imp_iff, implies_true, and_true]
  exact ⟨key 6 _ rfl, key 5 _ rfl, key 4 _ rfl, key 3 _ rfl, key 2 _ rfl, key 1 _ rfl, key 0 _ rfl⟩

/-- The scratch buffer after its three stores holds band table `b` in plane `b`. -/
theorem tables (b : Fin 3) (h : ∀ a, (![b.val, 0, 0] : Fin 3 → ℕ) a + S1x384x384.size a ≤ S3x384x384.size a) :
    (fun j => View.canon (Val := Elt F) kernelRun0_A.sl.HS0_3 ((Rect.unit (s := S3x384x384) ![b.val, 0, 0] S1x384x384.size h).idx j))
      = band b := by
  funext j
  have hj : (j 0).val < 1 := (j 0).isLt
  have hb : ((Rect.unit (s := S3x384x384) ![b.val, 0, 0] S1x384x384.size h).idx j) 0 = b :=
    Fin.ext (show b.val + 1 * (j 0).val = b.val by omega)
  refine (View.canon_apply_of_pieces (fun y => band (F := F) (y 0) (ix3 0 (y 1) (y 2))) _ ?_ _ ?_).trans ?_
  · have e : ∀ (n : Fin 3) (hn : ∀ a, (![n.val, 0, 0] : Fin 3 → ℕ) a + S1x384x384.size a ≤ S3x384x384.size a)
        (x : S1x384x384.Idx),
        band (F := F) n x = band (F := F) (((Rect.unit (s := S3x384x384) ![n.val, 0, 0] S1x384x384.size hn).emb x) 0)
          (ix3 0 (((Rect.unit (s := S3x384x384) ![n.val, 0, 0] S1x384x384.size hn).emb x) 1)
            (((Rect.unit (s := S3x384x384) ![n.val, 0, 0] S1x384x384.size hn).emb x) 2)) := by
      intro n hn x
      have hx : (x 0).val < 1 := (x 0).isLt
      have h0 : ((Rect.unit (s := S3x384x384) ![n.val, 0, 0] S1x384x384.size hn).emb x) 0 = n :=
        Fin.ext (show n.val + 1 * (x 0).val = n.val by omega)
      rw [h0]
      refine congrArg (band n) (funext fun a => Fin.ext ?_)
      match a with
      | ⟨0, _⟩ => show (x 0).val = 0; omega
      | ⟨1, _⟩ => show (x 1).val = 0 + 1 * (x 1).val; omega
      | ⟨2, _⟩ => show (x 2).val = 0 + 1 * (x 2).val; omega
    unfold kernelRun0_A.sl.HS0_3
    simp only [List.forall_mem_cons, List.not_mem_nil, false_imp_iff, implies_true, and_true]
    exact ⟨e 2 _, e 1 _, e 0 _⟩
  · unfold kernelRun0_A.sl.HS0_3
    have mem : ∀ (n : Fin 3) (hn : ∀ a, (![n.val, 0, 0] : Fin 3 → ℕ) a + S1x384x384.size a ≤ S3x384x384.size a), b = n →
        (Rect.unit (s := S3x384x384) ![b.val, 0, 0] S1x384x384.size h).idx j
          ∈ (Rect.unit (s := S3x384x384) ![n.val, 0, 0] S1x384x384.size hn).set := by
      rintro n hn rfl
      exact LoadRect.idx_mem _ j
    have hb3 : b = 0 ∨ b = 1 ∨ b = 2 := by omega
    rcases hb3 with h0 | h0 | h0
    · exact ⟨_, List.mem_cons_of_mem _ (List.mem_cons_of_mem _ List.mem_cons_self), mem 0 inb_S3x384x384_S1x384x384_0_0_0 h0⟩
    · exact ⟨_, List.mem_cons_of_mem _ List.mem_cons_self, mem 1 inb_S3x384x384_S1x384x384_1_0_0 h0⟩
    · exact ⟨_, List.mem_cons_self, mem 2 inb_S3x384x384_S1x384x384_2_0_0 h0⟩
  · show band (F := F) (((Rect.unit (s := S3x384x384) ![b.val, 0, 0] S1x384x384.size h).idx j) 0) _ = _
    rw [hb]
    refine congrArg (band b) (funext fun a => Fin.ext ?_)
    match a with
    | ⟨0, _⟩ => show 0 = (j 0).val; omega
    | ⟨1, _⟩ => show 0 + 1 * (j 1).val = (j 1).val; omega
    | ⟨2, _⟩ => show 0 + 1 * (j 2).val = (j 2).val; omega

/-- The column of sinks of a key head's three query heads: rows 0–127, 128–255 and 256–383 hold one sink each. -/
def sinkCol (x0 : Vec F S12 .f32) (h : ℕ) : FVec F S384x1 .f32 :=
  k0_pay33 (x0 (ix1 (Fin.ofNat 12 (3 * h)))) (x0 (ix1 (Fin.ofNat 12 (3 * h + 1)))) (x0 (ix1 (Fin.ofNat 12 (3 * h + 2))))

/-- The word a scalar load reads at offset `o`. -/
theorem ld_sink (x0 : Vec F S12 .f32) {off : Fin 1 → ℕ} (o : ℕ) (ho : off = ![o])
    (h : ∀ a, off a + S1.size a ≤ S12.size a) (j : S1.Idx) :
    ld (Val := Elt F) x0 (Rect.unit (s := S12) off S1.size h) j = x0 (ix1 (Fin.ofNat 12 o)) := by
  subst ho
  refine congrArg x0 (funext fun a => Fin.ext ?_)
  have h0 : o + 1 ≤ 12 := h 0
  have hj : (j 0).val < 1 := (j 0).isLt
  match a with
  | ⟨0, _⟩ => show o + 1 * (j 0).val = o % 12; omega

/-- The stores before trip `n` agree with `place`. -/
theorem trips_fit (𝒱 : Variants) (bd : Option 𝒱.V) (kc vc : Vec F S256x128 .bf16) (sk : FVec F S384x1 .f32)
    (X3 : BufTy.Contents (Elt F) arg3.view.ty) (X4 : BufTy.Contents (Elt F) arg4.view.ty)
    (X5 : BufTy.Contents (Elt F) arg5.view.ty) (X9 : BufTy.Contents (Elt F) arg9.view.ty)
    (h9 : arg9.view.readAt (Elt F) (Rect.unit (s := S3x384x384) ![1, 0, 0] S1x384x384.size inb_S3x384x384_S1x384x384_1_0_0) X9 = band 1) :
    ∀ n, n ≤ k0_t1_loop.trips →
    ∀ pc ∈ pb_k0_t1 𝒱 c bd i arg2 harg2 arg3 harg3 arg4 harg4 arg5 harg5 arg6 harg6 arg7 harg7 arg8 harg8 arg9 harg9
        kc vc sk X3 X4 X5 X9 n,
      ∀ x, pc.2 x = place kc vc sk (arg3.view.read (Elt F) X3) (arg4.view.read (Elt F) X4) (arg5.view.read (Elt F) X5) (pc.1.emb x)
  | 0, _ => by intro pc h; exact absurd h List.not_mem_nil
  | n + 1, hn => by
    have e := pb_k0_t1_succ 𝒱 c bd i arg2 harg2 arg3 harg3 arg4 harg4 arg5 harg5 arg6 harg6 arg7 harg7 arg8 harg8 arg9 harg9
      kc vc sk X3 X4 X5 X9 ⟨n, hn⟩
    intro pc h
    rcases List.mem_append.mp (e ▸ h) with h | h
    · exact trip_fits c i arg2 harg2 arg3 harg3 arg4 harg4 arg5 harg5 arg6 harg6 arg7 harg7 arg8 harg8 arg9 harg9 𝒱 bd
        kc vc sk X3 X4 X5 X9 h9 ⟨n, hn⟩ pc h
    · exact trips_fit 𝒱 bd kc vc sk X3 X4 X5 X9 h9 n (by omega) pc h

/-- What the body leaves in the output block is `place` of the input blocks. -/
theorem out_eq (x0 : Vec F S12 .f32) (x1 : Vec F S2048x384 .bf16) (x2 x3 : Vec F S2048x128 .bf16) (x4 x5 : Vec F S256x128 .bf16) :
    out0_A_6 c i arg2 harg2 arg3 harg3 arg4 harg4 arg5 harg5 arg6 harg6 arg7 harg7 arg8 harg8 arg9 harg9 x0 x1 x2 x3 x4 x5
      = place x4 x5 (sinkCol x0 (i 1).val) x1 x2 x3 := by
  have hi : (i 1).val < 4 := (i 1).isLt
  funext y
  have hc := cover0_A_6 c i arg2 harg2 arg3 harg3 arg4 harg4 arg5 harg5 arg6 harg6 arg7 harg7 arg8 harg8 arg9 harg9 x0 x1 x2 x3 x4 x5 y
  unfold out0_A_6
  rw [View.read_writes_junk_apply_eq_canon]
  refine View.canon_apply_of_pieces _ _ ?_ y hc
  have hw : ∀ (v : Vec F S256x128 .bf16) (a : Memref sig .tc .vmem S256x128 .bf16) (ha : a.IsWhole),
      a.view.readAt (Elt F) (Rect.unit (s := S256x128) ![0, 0] S256x128.size inb_S256x128_S256x128_0_0) (ha.unread v) = v := by
    intro v a ha
    rw [View.readAt_eq_ld, ha.read_unread]
    funext j
    refine congrArg v (funext fun a => Fin.ext ?_)
    match a with
    | ⟨0, _⟩ => show 0 + 1 * (j 0).val = (j 0).val; omega
    | ⟨1, _⟩ => show 0 + 1 * (j 1).val = (j 1).val; omega
  have h3 : kernelRun0_A.sl.r_3 c arg6 harg6 x4 = x4 := hw x4 arg6 harg6
  have h4 : kernelRun0_A.sl.r_4 c arg7 harg7 x5 = x5 := hw x5 arg7 harg7
  have h5 : kernelRun0_A.sl.r_5 c i arg2 harg2 x0 = sinkCol x0 (i 1).val := by
    unfold kernelRun0_A.sl.r_5 kernelRun0_A.sl.r kernelRun0_A.sl.r_1 kernelRun0_A.sl.r_2 sinkCol
    rw [View.readAt_eq_ld, View.readAt_eq_ld, View.readAt_eq_ld, harg2.read_unread]
    exact congr (congr (congrArg k0_pay33 (ld_sink x0 (3 * (i 1).val) (k0_off1_eq i) _ _))
      (ld_sink x0 (3 * (i 1).val + 1) (k0_off2_eq i 0) _ _)) (ld_sink x0 (3 * (i 1).val + 2) (k0_off2_eq i 1) _ _)
  unfold kernelRun0_A
  dsimp only
  rw [h3, h4, h5]
  intro pc hpc
  rcases List.mem_append.mp hpc with h | h
  · clear hpc
    have := trips_fit c i arg2 harg2 arg3 harg3 arg4 harg4 arg5 harg5 arg6 harg6 arg7 harg7 arg8 harg8 arg9 harg9
      Variants.none none x4 x5 (sinkCol x0 (i 1).val) (harg3.unread x1) (harg4.unread x2) (harg5.unread x3)
      (arg9.view.writes (Elt F) arg9.view.junk kernelRun0_A.sl.HS0_3)
      (by rw [View.readAt_writes_junk_eq_canon]; exact tables 1 _) _ le_rfl pc h
    simpa only [harg3.read_unread, harg4.read_unread, harg5.read_unread] using this
  · clear hpc
    revert pc
    have q : ∀ (n : ℕ) (hn : n < 16) (h1) (h2) (p : FVec F S128x384 .bf16)
        (h9 : ∀ a, (![(lag n).val, 0, 0] : Fin 3 → ℕ) a + S1x384x384.size a ≤ S3x384x384.size a)
        (_ : p = blk x4 x5 (sinkCol x0 (i 1).val)
          (arg3.view.readAt (Elt F) (Rect.unit (s := S2048x384) ![128 * n, 0] S128x384.size h1) (harg3.unread x1))
          (arg4.view.readAt (Elt F) (Rect.unit (s := S2048x128) ![start n, 0] S384x128.size h2) (harg4.unread x2))
          (arg5.view.readAt (Elt F) (Rect.unit (s := S2048x128) ![start n, 0] S384x128.size h2) (harg5.unread x3))
          (arg9.view.readCov (Val := Elt F) kernelRun0_A.sl.HS0_3 (Rect.unit (s := S3x384x384) ![(lag n).val, 0, 0] S1x384x384.size h9)))
        (x : S128x384.Idx),
        p x = place x4 x5 (sinkCol x0 (i 1).val) x1 x2 x3 ((Rect.unit (s := S2048x384) ![128 * n, 0] S128x384.size h1).emb x) := by
      intro n hn h1 h2 p h9 hp x
      refine fits n hn x4 x5 _ x1 x2 x3 rfl h1 p ?_ x
      rw [hp, View.readCov_eq_canon', tables (lag n) h9]
      rw [View.readAt_eq_ld, View.readAt_eq_ld, View.readAt_eq_ld, harg3.read_unread, harg4.read_unread, harg5.read_unread,
        ld_rowsQ x1 _ rfl, ld_rowsK x2 _ rfl, ld_rowsK x3 _ rfl]
    simp only [List.forall_mem_cons, List.not_mem_nil, false_imp_iff, implies_true, and_true]
    exact ⟨q 15 (by omega) inb_S2048x384_S128x384_1920_0 inb_S2048x128_S384x128_1664_0 _ inb_S3x384x384_S1x384x384_2_0_0 rfl,
      q 0 (by omega) inb_S2048x384_S128x384_0_0 inb_S2048x128_S384x128_0_0 _ inb_S3x384x384_S1x384x384_0_0_0 rfl⟩

end Pieces

end Cert.Banded

end
-- ==== Proof.Read.lean ====
/- One block's computation read at an index, over the extended reals. -/
module

public import proofs.«01_k».proof.Proof.Block
public import Idealize.ShloMosaic.Lib.Pointwise

@[expose] public section

noncomputable section

namespace Cert.Banded

open Idealize.ShloMosaic Idealize.ShloMosaic.TcCoe Idealize.ShloMosaic.Tactic
open Cert.KernelIdeal Cert.KernelIdeal.Gen
open Idealize.ShloMosaic.View (ld)

/-- A softmax over scores `s`, scores `sc` and one sink score `z`, weighting the values `v` and `vc` (the sink has no
    value): each weight is the exponential of a score less the largest score, and the sum is divided by all the weights. -/
def attn {n m : ℕ} (s : Fin n → EReal) (sc : Fin m → EReal) (z : EReal) (v : Fin n → EReal) (vc : Fin m → EReal) : EReal :=
  Ideal.div
    (∑ j, Ideal.exp (s j - max (max (Finset.univ.fold max ⊥ s) (Finset.univ.fold max ⊥ sc)) z) * v j
      + ∑ c, Ideal.exp (sc c - max (max (Finset.univ.fold max ⊥ s) (Finset.univ.fold max ⊥ sc)) z) * vc c)
    (∑ j, Ideal.exp (s j - max (max (Finset.univ.fold max ⊥ s) (Finset.univ.fold max ⊥ sc)) z)
      + ∑ c, Ideal.exp (sc c - max (max (Finset.univ.fold max ⊥ s) (Finset.univ.fold max ⊥ sc)) z)
      + Ideal.exp (z - max (max (Finset.univ.fold max ⊥ s) (Finset.univ.fold max ⊥ sc)) z))

/-- The word of float32 `-inf` is the least extended real. -/
theorem negInf : Ideal.ofBits .f32 0xFF800000#32 = ⊥ := by simp [Ideal.ofBits, Ideal.ieee]

/-- Column `d` of row `R` of the three column slices of a query block, stacked row-wise. -/
def stacked (q : Vec Ideal S128x384 .bf16) (R : Fin 384) (d : Fin 128) : EReal :=
  if h : R.val < 128 then q (ix2 ⟨R.val, h⟩ ⟨d.val, by omega⟩)
  else if h : R.val - 128 < 128 then q (ix2 ⟨R.val - 128, h⟩ ⟨128 + d.val, by omega⟩)
  else q (ix2 ⟨R.val - 128 - 128, by omega⟩ ⟨256 + d.val, by omega⟩)

/-- Row `128·g + r` of the stack is row `r` of slice `g`. -/
theorem stacked_apply (q : Vec Ideal S128x384 .bf16) (R : Fin 384) (d : Fin 128) (r : Fin 128) (e : Fin 384)
    (hr : R.val % 128 = r.val) (he : 128 * (R.val / 128) + d.val = e.val) : stacked q R d = q (ix2 r e) := by
  have E : ∀ (a : ℕ) (ha : a < 128) (b : ℕ) (hb : b < 384), a = r.val → b = e.val → q (ix2 ⟨a, ha⟩ ⟨b, hb⟩) = q (ix2 r e) := by
    rintro a ha b hb rfl rfl
    rfl
  unfold stacked
  split_ifs <;> exact E _ _ _ _ (by omega) (by omega)

/-- The 384 stacked rows before the division into heads: `attn` of the band's scores, the context's scores and the sink. -/
theorem pay17_apply (kc vc : Vec Ideal S256x128 .bf16) (sk : FVec Ideal S384x1 .f32) (q : Vec Ideal S128x384 .bf16)
    (k v : Vec Ideal S384x128 .bf16) (t : Vec Ideal S1x384x384 .f32) (R : Fin 384) (d : Fin 128) :
    k0_pay17 kc vc sk q k v t (ix2 R d)
      = attn (fun j => (∑ e, stacked q R e * k (ix2 j e)) + t (ix3 0 R j)) (fun c => ∑ e, stacked q R e * kc (ix2 c e))
          (sk (ix2 R 0)) (fun j => v (ix2 j d)) (fun c => vc (ix2 c d)) := by
  pointwise [k0_pay17, dot_S384x128_S384x128_S384x384_1_1_0_0_n_n, dot_S384x128_S256x128_S384x256_1_1_0_0_n_n,
    dot_S384x384_S384x128_S384x128_1_0_0_1_n_n, dot_S384x256_S256x128_S384x128_1_0_0_1_n_n]
  simp only [negInf]
  rfl

/-- The stored block: column `e` of row `r` is column `e % 128` of stacked row `128·(e / 128) + r`. -/
theorem pay18_apply (x : FVec Ideal S384x128 .f32) (r : Fin 128) (e : Fin 384) :
    k0_pay18 x (ix2 r e) = x (ix2 (Fin.ofNat 384 (128 * (e.val / 128) + r.val)) (Fin.ofNat 128 e.val)) := by
  pointwise [k0_pay18]
  have E : ∀ (a : ℕ) (ha : a < 384) (b : ℕ) (hb : b < 128), 128 * (e.val / 128) + r.val = a → e.val % 128 = b →
      x (ix2 ⟨a, ha⟩ ⟨b, hb⟩) = x (ix2 (Fin.ofNat 384 (128 * (e.val / 128) + r.val)) (Fin.ofNat 128 e.val)) := by
    intro a ha b hb h1 h2
    congr 2
    · refine Fin.ext ?_
      show a = (128 * (e.val / 128) + r.val) % 384
      omega
    · exact Fin.ext h2.symm
  split_ifs <;> exact E _ _ _ _ (by omega) (by omega)

end Cert.Banded

end
-- ==== Proof.Bands.lean ====
/- The band tables and the sink column read at an index. -/
module

public import proofs.«01_k».proof.Proof.Read
public import Idealize.ShloMosaic.Lib.Tactic.WordOmega

@[expose] public section

noncomputable section

namespace Cert.Banded

open Idealize.ShloMosaic Idealize.ShloMosaic.TcCoe Idealize.ShloMosaic.Tactic
open Cert.KernelIdeal Cert.KernelIdeal.Gen

/-- The low seven bits of a row number are its remainder by 128. -/
theorem low7 (R : Fin 384) : IntOp.andi (BitVec.ofNat 32 R.val) 127#32 = BitVec.ofNat 32 (R.val % 128) := by
  apply BitVec.eq_of_toNat_eq
  have h : R.val < 384 := R.isLt
  have := Nat.and_two_pow_sub_one_eq_mod R.val 7
  simp only [IntOp.andi, BitVec.toNat_and, BitVec.toNat_ofNat, Nat.mod_eq_of_lt (show R.val < 2 ^ 32 by omega),
    Nat.mod_eq_of_lt (show R.val % 128 < 2 ^ 32 by omega)]
  exact this

/-- The magnitude of the word difference of a query and a key, compared with the band. -/
theorem near (r j c : ℕ) (hr : r < 2048) (hj : j < 2048) (hc : c ≤ 256) : IntOp.cmpi .sle (IntOp.absi (IntOp.addi (IntOp.subi (BitVec.ofNat 32 r)
    (BitVec.ofNat 32 j)) (BitVec.ofNat 32 c))) 128#32 = 1#1 ↔ r + c ≤ j + 128 ∧ j ≤ r + c + 128 := by
  have hw : (IntOp.addi (IntOp.subi (BitVec.ofNat 32 r) (BitVec.ofNat 32 j)) (BitVec.ofNat 32 c)).toNat
      = if j ≤ r + c then r + c - j else 2 ^ 32 + r + c - j := by
    simp only [IntOp.addi, IntOp.subi, BitVec.toNat_add, BitVec.toNat_sub, BitVec.toNat_ofNat]
    split_ifs <;> omega
  generalize IntOp.addi (IntOp.subi (BitVec.ofNat 32 r) (BitVec.ofNat 32 j)) (BitVec.ofNat 32 c) = w at hw
  have ha : (IntOp.absi w).toNat = if j ≤ r + c then r + c - j else j - (r + c) := by
    unfold IntOp.absi
    rw [BitVec.msb_eq_decide]
    split_ifs at hw ⊢ with h1 h2 <;> simp only [decide_eq_true_eq, BitVec.toNat_neg] at * <;> omega
  generalize IntOp.absi w = a at ha
  have : a.toNat < 2 ^ 31 := by split_ifs at ha <;> omega
  have hs : IntOp.cmpi .sle a 128#32 = 1#1 ↔ a.toNat ≤ 128 := by word_omega
  rw [hs, ha]
  split_ifs <;> omega

/-- The mask constant is −∞. -/
theorem mask_eq : (Named.named κ "mask" 0xF149F2CA#32 : Ideal .f32) = (⊥ : EReal) :=
  IdealRules.named_const.ideal_named_scalar _ _ _ _ rfl

/-- A band table: 0 for the keys within 128 of the query, −∞ for the others. -/
theorem band_apply (b : Fin 3) (R j : Fin 384) : band (F := Ideal) b (ix3 0 R j)
    = if R.val % 128 + 128 * b.val ≤ j.val + 128 ∧ j.val ≤ R.val % 128 + 128 * b.val + 128 then (0 : EReal) else ⊥ := by
  have hR : R.val % 128 < 2048 := by omega
  have hj : j.val < 2048 := by omega
  have key := fun c hc => near (R.val % 128) j.val c hR hj hc
  match b with
  | 0 =>
    show k0_pay36 k0_pay35 _ = _
    pointwise [k0_pay36, k0_pay35, k0_pay34]
    rw [low7, mask_eq]
    exact if_congr (key 0 (by omega)) rfl rfl
  | 1 =>
    show k0_pay37 k0_pay34 _ = _
    pointwise [k0_pay37, k0_pay34]
    rw [low7, mask_eq]
    refine if_congr ((key 128 (by omega)).trans ?_) rfl rfl
    omega
  | 2 =>
    show k0_pay38 k0_pay34 _ = _
    pointwise [k0_pay38, k0_pay34]
    rw [low7, mask_eq]
    refine if_congr ((key 256 (by omega)).trans ?_) rfl rfl
    omega

/-- The sink column: row R holds the logit of the head that R's 128 rows belong to. -/
theorem sinkCol_apply (x0 : Vec Ideal S12 .f32) (h : ℕ) (R : Fin 384) : sinkCol x0 h (ix2 R 0) = x0 (ix1 (Fin.ofNat 12 (3 * h + R.val / 128))) := by
  have hR : R.val < 384 := R.isLt
  have h1 : IntOp.cmpi .slt (BitVec.ofNat 32 R.val) 128#32 = 1#1 ↔ R.val < 128 := by word_omega
  have h2 : IntOp.cmpi .slt (BitVec.ofNat 32 R.val) 256#32 = 1#1 ↔ R.val < 256 := by word_omega
  pointwise [sinkCol, k0_pay33]
  unfold Scalar.select
  split_ifs with a b
  · rw [show R.val / 128 = 0 from Nat.div_eq_of_lt (h1.1 a), Nat.add_zero]
  · have := mt h1.2 a
    have := h2.1 b
    rw [show R.val / 128 = 1 by omega]
  · have := mt h2.2 b
    rw [show R.val / 128 = 2 by omega]

end Cert.Banded

end
-- ==== Proof.Window.lean ====
/- One query's attention over a window of keys and over all the keys with those outside the window masked. -/
module

public import proofs.«01_k».proof.Proof.Read

@[expose] public section

noncomputable section

namespace Cert.Banded

open Idealize.ShloMosaic

/-- The largest of the window's scores, a masked one being its score plus −∞, is the largest of all the scores with the masked ones −∞: every key that
counts lies in the window. -/
theorem fold_window {n N : ℕ} (f : Fin n ↪ Fin N) (p : Fin N → Prop) [DecidablePred p] (hp : ∀ k, p k → ∃ j, f j = k) (s : Fin N → EReal) :
    Finset.univ.fold max ⊥ (fun j => s (f j) + if p (f j) then 0 else ⊥) = Finset.univ.fold max ⊥ (fun k => if p k then s k else ⊥) := by
  have e : ∀ j, (s (f j) + if p (f j) then (0 : EReal) else ⊥) = if p (f j) then s (f j) else ⊥ := fun j => by split_ifs <;> simp
  simp only [e]
  show Finset.univ.sup (fun j => if p (f j) then s (f j) else ⊥) = Finset.univ.sup (fun k => if p k then s k else ⊥)
  refine le_antisymm (Finset.sup_le fun j _ => Finset.le_sup (f := fun k => if p k then s k else ⊥) (Finset.mem_univ (f j))) (Finset.sup_le fun k _ => ?_)
  by_cases h : p k
  · obtain ⟨j, rfl⟩ := hp k h
    exact Finset.le_sup (f := fun j => if p (f j) then s (f j) else ⊥) (Finset.mem_univ j)
  · rw [if_neg h]; exact bot_le

/-- The sum over the window, and the sum over all the keys, of weights that are 0 at masked keys. -/
theorem sum_window {n N : ℕ} (f : Fin n ↪ Fin N) (p : Fin N → Prop) [DecidablePred p] (hp : ∀ k, p k → ∃ j, f j = k) (s w : Fin N → EReal) (M : EReal) :
    ∑ j, Ideal.exp ((s (f j) + if p (f j) then 0 else ⊥) - M) * w (f j) = ∑ k, Ideal.exp ((if p k then s k else ⊥) - M) * w k := by
  have z : Ideal.exp (⊥ - M) = 0 := by rw [sub_eq_add_neg, EReal.bot_add, Ideal.exp_bot]
  have e : ∀ j, Ideal.exp ((s (f j) + if p (f j) then (0 : EReal) else ⊥) - M) * w (f j) = Ideal.exp ((if p (f j) then s (f j) else ⊥) - M) * w (f j) :=
    fun j => by split_ifs <;> simp
  simp only [e]
  rw [← Finset.sum_map Finset.univ f (fun k => Ideal.exp ((if p k then s k else ⊥) - M) * w k)]
  refine Finset.sum_subset (Finset.subset_univ _) fun k _ hk => ?_
  have h : ¬ p k := fun h => hk (by obtain ⟨j, rfl⟩ := hp k h; simp)
  rw [if_neg h, z, zero_mul]

/-- Attention over the window, the masked keys' scores raised by −∞, is attention over all the keys, the masked keys' scores being −∞. -/
theorem attn_window {n N m : ℕ} (f : Fin n ↪ Fin N) (p : Fin N → Prop) [DecidablePred p] (hp : ∀ k, p k → ∃ j, f j = k) (s v : Fin N → EReal) (sc vc : Fin m → EReal)
    (z : EReal) : attn (fun j => s (f j) + if p (f j) then 0 else ⊥) sc z (fun j => v (f j)) vc = attn (fun k => if p k then s k else ⊥) sc z v vc := by
  unfold attn
  simp only [fold_window f p hp s, sum_window f p hp s v]
  have := fun M => sum_window f p hp s (fun _ => 1) M
  simp only [mul_one] at this
  simp only [this]

end Cert.Banded

end
-- ==== Proof.Place.lean ====
/- A stored block's entry as one query's attention over all the keys. -/
module

public import proofs.«01_k».proof.Proof.Bands
public import proofs.«01_k».proof.Proof.Window

@[expose] public section

noncomputable section

namespace Cert.Banded

open Idealize.ShloMosaic Idealize.ShloMosaic.TcCoe Idealize.ShloMosaic.Tactic
open Cert.KernelIdeal Cert.KernelIdeal.Gen

/-- Key `k` lies within the band of query `r`: at most 128 places away. -/
abbrev Near (r k : ℕ) : Prop := r ≤ k + 128 ∧ k ≤ r + 128

/-- The 384 keys from `start n` on, among the 2048. -/
def keys (n : ℕ) : Fin 384 ↪ Fin 2048 where
  toFun j := ⟨start n + j.val, by have := j.isLt; unfold start; omega⟩
  inj' a b h := Fin.ext (by have := congrArg Fin.val h; simp only at this; omega)

/-- Every key near a query of chunk `n` is among the 384 from `start n` on. -/
theorem keys_onto (r : ℕ) (hr : r < 2048) (k : Fin 2048) (h : Near r k.val) : ∃ j, keys (r / 128) j = k := by
  have hk := k.isLt
  refine ⟨⟨k.val - start (r / 128), ?_⟩, Fin.ext ?_⟩
  · unfold start; omega
  · show start (r / 128) + (k.val - start (r / 128)) = k.val
    unfold start; omega

/-- The band table of chunk `n` marks the near keys. -/
theorem band_near (r : ℕ) (hr : r < 2048) (R j : Fin 384) (hR : R.val % 128 = r % 128) :
    (band (F := Ideal) (lag (r / 128)) (ix3 0 R j) : EReal) = if Near r (keys (r / 128) j).val then 0 else ⊥ := by
  rw [band_apply]
  refine if_congr ?_ rfl rfl
  have hj := j.isLt
  have hl : (lag (r / 128)).val = if r / 128 = 0 then 0 else if r / 128 = 15 then 2 else 1 := by unfold lag; split_ifs <;> rfl
  show _ ↔ r ≤ start (r / 128) + j.val + 128 ∧ start (r / 128) + j.val ≤ r + 128
  rw [hl, hR]
  unfold start
  split_ifs <;> omega

/-- Entry `(r, f)` of a stored block: the attention of query row `r`, head slice `f / 128`, over the 2048 keys of the block with those outside the band
masked, the context and the sink. -/
theorem place_apply (x0 : Vec Ideal S12 .f32) (h : ℕ) (xq : Vec Ideal S2048x384 .bf16) (xk xv : Vec Ideal S2048x128 .bf16) (kc vc : Vec Ideal S256x128 .bf16)
    (r : Fin 2048) (f : Fin 384) : place kc vc (sinkCol x0 h) xq xk xv (ix2 r f)
      = attn (fun k : Fin 2048 => if Near r.val k.val then ∑ e : Fin 128, xq (ix2 r (Fin.ofNat 384 (128 * (f.val / 128) + e.val))) * xk (ix2 k e) else ⊥)
          (fun c : Fin 256 => ∑ e : Fin 128, xq (ix2 r (Fin.ofNat 384 (128 * (f.val / 128) + e.val))) * kc (ix2 c e))
          (x0 (ix1 (Fin.ofNat 12 (3 * h + f.val / 128))))
          (fun k => xv (ix2 k (Fin.ofNat 128 f.val))) (fun c => vc (ix2 c (Fin.ofNat 128 f.val))) := by
  have h0 : r.val < 2048 := r.isLt
  have h1 : f.val < 384 := f.isLt
  show k0_pay18 (k0_pay17 kc vc (sinkCol x0 h) (rowsQ xq (128 * (r.val / 128))) (rowsK xk (start (r.val / 128)))
    (rowsK xv (start (r.val / 128))) (band (lag (r.val / 128)))) (ix2 (Fin.ofNat 128 r.val) f) = _
  rw [pay18_apply, pay17_apply, sinkCol_apply]
  obtain ⟨R, hR, vR⟩ : ∃ R : Fin 384, Fin.ofNat 384 (128 * (f.val / 128) + (Fin.ofNat 128 r.val).val) = R ∧ R.val = 128 * (f.val / 128) + r.val % 128 :=
    ⟨_, rfl, Nat.mod_eq_of_lt (show 128 * (f.val / 128) + r.val % 128 < 384 by omega)⟩
  rw [hR]
  have hs : ∀ e : Fin 128, stacked (rowsQ xq (128 * (r.val / 128))) R e = xq (ix2 r (Fin.ofNat 384 (128 * (f.val / 128) + e.val))) := fun e => by
    have he := e.isLt
    rw [stacked_apply _ R e (Fin.ofNat 128 r.val) (Fin.ofNat 384 (128 * (f.val / 128) + e.val))
      (by show R.val % 128 = r.val % 128; omega) (by show _ = (_ % 384); omega)]
    refine congrArg xq (congrArg (fun a => ix2 a _) (Fin.ext ?_))
    show (128 * (r.val / 128) + r.val % 128) % 2048 = r.val
    omega
  have hk : ∀ (x : Vec Ideal S2048x128 .bf16) (j : Fin 384) (e : Fin 128), rowsK x (start (r.val / 128)) (ix2 j e) = x (ix2 (keys (r.val / 128) j) e) :=
    fun x j e => by
      refine congrArg x (congrArg (fun a => ix2 a _) (Fin.ext ?_))
      exact Nat.mod_eq_of_lt (keys (r.val / 128) j).isLt
  simp only [hs, hk, band_near r.val h0 R _ (by omega)]
  rw [show R.val / 128 = f.val / 128 by omega]
  exact attn_window (keys (r.val / 128)) (fun k => Near r.val k.val) (keys_onto _ h0)
    (fun k => ∑ e : Fin 128, xq (ix2 r (Fin.ofNat 384 (128 * (f.val / 128) + e.val))) * xk (ix2 k e))
    (fun k => xv (ix2 k (Fin.ofNat 128 f.val))) _ _ _

end Cert.Banded

end
-- ==== Proof.Result.lean ====
/- The result of the attention call: its array after the run, entry by entry, from the argument arrays. -/
module

public import proofs.«01_k».proof.Proof.Place

@[expose] public section

noncomputable section

namespace Cert.Banded

open Idealize.ShloMosaic Idealize.ShloMosaic.TcCoe Idealize.SL.Sem
open Cert.KernelIdeal Cert.KernelIdeal.Gen
open Idealize.ShloMosaic.Pipeline (Dat)

/-- Batch `b`, key/value head `h`, query `r`, slice `g` of that head's three, column `d`: the banded attention with context and sink, from the
projections `p` of the sequence (queries, keys and values side by side), those of the context `x` and the sink logits `z`. -/
def answer (p : Vec Ideal S16384x3072 .bf16) (x : Vec Ideal S2048x1024 .bf16) (z : Vec Ideal S12 .f32) (b h r g d : ℕ) : EReal :=
  attn (fun k : Fin 2048 => if Near r k.val then ∑ e : Fin 128, p (ix2 (Fin.ofNat 16384 (2048 * b + r)) (Fin.ofNat 3072 (384 * h + 128 * g + e.val)))
      * p (ix2 (Fin.ofNat 16384 (2048 * b + k.val)) (Fin.ofNat 3072 (1536 + 128 * h + e.val))) else ⊥)
    (fun c : Fin 256 => ∑ e : Fin 128, p (ix2 (Fin.ofNat 16384 (2048 * b + r)) (Fin.ofNat 3072 (384 * h + 128 * g + e.val)))
      * x (ix2 (Fin.ofNat 2048 (256 * b + c.val)) (Fin.ofNat 1024 (128 * h + e.val))))
    (z (ix1 (Fin.ofNat 12 (3 * h + g))))
    (fun k => p (ix2 (Fin.ofNat 16384 (2048 * b + k.val)) (Fin.ofNat 3072 (2048 + 128 * h + d))))
    (fun c => x (ix2 (Fin.ofNat 2048 (256 * b + c.val)) (Fin.ofNat 1024 (512 + 128 * h + d))))

variable (m : (ℓ : Loc nD τ sig) → Buf (Elt Ideal) ℓ)

/-- Where each window's block sits: batch `coords 0`, key/value head `coords 1`. -/
theorem index_eq : ∀ t : Fin grid0.N,
    (grid0.coords t 0).val < 8 ∧ (grid0.coords t 1).val < 4
    ∧ win0_0.index t 0 = 0
    ∧ (win0_1.index t 0 = (grid0.coords t 0).val ∧ win0_1.index t 1 = (grid0.coords t 1).val)
    ∧ (win0_2.index t 0 = (grid0.coords t 0).val ∧ win0_2.index t 1 = 12 + (grid0.coords t 1).val)
    ∧ (win0_3.index t 0 = (grid0.coords t 0).val ∧ win0_3.index t 1 = 16 + (grid0.coords t 1).val)
    ∧ (win0_4.index t 0 = (grid0.coords t 0).val ∧ win0_4.index t 1 = (grid0.coords t 1).val)
    ∧ (win0_5.index t 0 = (grid0.coords t 0).val ∧ win0_5.index t 1 = 4 + (grid0.coords t 1).val)
    ∧ (win0_6.index t 0 = (grid0.coords t 0).val ∧ win0_6.index t 1 = (grid0.coords t 1).val) := by
  decide +kernel

/-- An index of a matrix, from its two coordinates' values. -/
theorem ix2_of {a b : ℕ} [NeZero a] [NeZero b] (i : (⟨2, ![a, b]⟩ : Shape).Idx) (r e : ℕ) (hr : (i 0).val = r) (he : (i 1).val = e) : i = ix2 (Fin.ofNat a r) (Fin.ofNat b e) := by
  rw [eq_ix2 i]
  refine congr (congrArg ix2 (Fin.ext ?_)) (Fin.ext ?_)
  · rw [← hr]; exact (Nat.mod_eq_of_lt (i 0).isLt).symm
  · rw [← he]; exact (Nat.mod_eq_of_lt (i 1).isLt).symm

variable (c : Dev nD) (t : Fin cfg0.N)

/-- The sink logits' block is the whole array. -/
theorem sink_block (j : Fin 12) : iblk m c 0 t (ix1 j) = m ((c : Thread nD τ).loc main_arg2) (ix1 j) := by
  show m ((c : Thread nD τ).loc main_arg2) ((win0_0.rect t).emb (ix1 j)) = _
  refine congrArg _ (funext fun a => Fin.ext ?_)
  match a with
  | ⟨0, _⟩ => exact (win0_0.rect_emb_val t (ix1 j) 0).trans (by rw [(index_eq t).2.2.1]; simp)

/-- The query block: 2048 rows of one batch, 384 columns of one key/value head. -/
theorem q_block (r : Fin 2048) (f : Fin 384) : iblk m c 1 t (ix2 r f)
    = m ((c : Thread nD τ).loc main_arg0) (ix2 (Fin.ofNat 16384 (2048 * (grid0.coords t 0).val + r.val)) (Fin.ofNat 3072 (384 * (grid0.coords t 1).val + f.val))) := by
  show m ((c : Thread nD τ).loc main_arg0) ((win0_1.rect t).emb (ix2 r f)) = _
  refine congrArg _ (ix2_of _ _ _ ?_ ?_)
  · refine (win0_1.rect_emb_val t (ix2 r f) 0).trans ?_
    rw [(index_eq t).2.2.2.1.1]; show _ * 2048 + r.val = _; omega
  · refine (win0_1.rect_emb_val t (ix2 r f) 1).trans ?_
    rw [(index_eq t).2.2.2.1.2]; show _ * 384 + f.val = _; omega

/-- The key block: 2048 rows of one batch, the key columns of one head. -/
theorem k_block (r : Fin 2048) (e : Fin 128) : iblk m c 2 t (ix2 r e)
    = m ((c : Thread nD τ).loc main_arg0) (ix2 (Fin.ofNat 16384 (2048 * (grid0.coords t 0).val + r.val)) (Fin.ofNat 3072 (1536 + 128 * (grid0.coords t 1).val + e.val))) := by
  show m ((c : Thread nD τ).loc main_arg0) ((win0_2.rect t).emb (ix2 r e)) = _
  refine congrArg _ (ix2_of _ _ _ ?_ ?_)
  · refine (win0_2.rect_emb_val t (ix2 r e) 0).trans ?_
    rw [(index_eq t).2.2.2.2.1.1]; show _ * 2048 + r.val = _; omega
  · refine (win0_2.rect_emb_val t (ix2 r e) 1).trans ?_
    rw [(index_eq t).2.2.2.2.1.2]; show _ * 128 + e.val = _; omega

/-- The value block. -/
theorem v_block (r : Fin 2048) (e : Fin 128) : iblk m c 3 t (ix2 r e)
    = m ((c : Thread nD τ).loc main_arg0) (ix2 (Fin.ofNat 16384 (2048 * (grid0.coords t 0).val + r.val)) (Fin.ofNat 3072 (2048 + 128 * (grid0.coords t 1).val + e.val))) := by
  show m ((c : Thread nD τ).loc main_arg0) ((win0_3.rect t).emb (ix2 r e)) = _
  refine congrArg _ (ix2_of _ _ _ ?_ ?_)
  · refine (win0_3.rect_emb_val t (ix2 r e) 0).trans ?_
    rw [(index_eq t).2.2.2.2.2.1.1]; show _ * 2048 + r.val = _; omega
  · refine (win0_3.rect_emb_val t (ix2 r e) 1).trans ?_
    rw [(index_eq t).2.2.2.2.2.1.2]; show _ * 128 + e.val = _; omega

/-- The context's key block: 256 rows of one batch. -/
theorem kc_block (r : Fin 256) (e : Fin 128) : iblk m c 4 t (ix2 r e)
    = m ((c : Thread nD τ).loc main_arg1) (ix2 (Fin.ofNat 2048 (256 * (grid0.coords t 0).val + r.val)) (Fin.ofNat 1024 (128 * (grid0.coords t 1).val + e.val))) := by
  show m ((c : Thread nD τ).loc main_arg1) ((win0_4.rect t).emb (ix2 r e)) = _
  refine congrArg _ (ix2_of _ _ _ ?_ ?_)
  · refine (win0_4.rect_emb_val t (ix2 r e) 0).trans ?_
    rw [(index_eq t).2.2.2.2.2.2.1.1]; show _ * 256 + r.val = _; omega
  · refine (win0_4.rect_emb_val t (ix2 r e) 1).trans ?_
    rw [(index_eq t).2.2.2.2.2.2.1.2]; show _ * 128 + e.val = _; omega

/-- The context's value block. -/
theorem vc_block (r : Fin 256) (e : Fin 128) : iblk m c 5 t (ix2 r e)
    = m ((c : Thread nD τ).loc main_arg1) (ix2 (Fin.ofNat 2048 (256 * (grid0.coords t 0).val + r.val)) (Fin.ofNat 1024 (512 + 128 * (grid0.coords t 1).val + e.val))) := by
  show m ((c : Thread nD τ).loc main_arg1) ((win0_5.rect t).emb (ix2 r e)) = _
  refine congrArg _ (ix2_of _ _ _ ?_ ?_)
  · refine (win0_5.rect_emb_val t (ix2 r e) 0).trans ?_
    rw [(index_eq t).2.2.2.2.2.2.2.1.1]; show _ * 256 + r.val = _; omega
  · refine (win0_5.rect_emb_val t (ix2 r e) 1).trans ?_
    rw [(index_eq t).2.2.2.2.2.2.2.1.2]; show _ * 128 + e.val = _; omega

/-- The whole result: entry `(2048·b + r, 384·h + 128·g + d)`. -/
def result : Buf (Elt Ideal) ((c : Thread nD τ).loc main_v0) := fun i : S16384x1536.Idx =>
  answer (m ((c : Thread nD τ).loc main_arg0)) (m ((c : Thread nD τ).loc main_arg1)) (m ((c : Thread nD τ).loc main_arg2))
    ((i 0).val / 2048) ((i 1).val / 384) ((i 0).val % 2048) ((i 1).val % 384 / 128) ((i 1).val % 384 % 128)

/-- What a grid point stores, entry by entry. -/
theorem stored (r : Fin 2048) (f : Fin 384) : outsAt0 m c t (ix2 r f)
    = answer (m ((c : Thread nD τ).loc main_arg0)) (m ((c : Thread nD τ).loc main_arg1)) (m ((c : Thread nD τ).loc main_arg2))
        (grid0.coords t 0).val (grid0.coords t 1).val r.val (f.val / 128) (f.val % 128) := by
  have hf := f.isLt
  unfold outsAt0
  rw [out_eq, place_apply]
  have hc : ∀ e : Fin 128, (Fin.ofNat 384 (128 * (f.val / 128) + e.val)).val = 128 * (f.val / 128) + e.val := fun e =>
    Nat.mod_eq_of_lt (show 128 * (f.val / 128) + e.val < 384 by have := e.isLt; omega)
  have hd : (Fin.ofNat 128 f.val).val = f.val % 128 := rfl
  simp only [sink_block, q_block, k_block, v_block, kc_block, vc_block, hc, hd, ← Nat.add_assoc]
  rfl

/-- What a grid point writes back is its block of the whole result. -/
theorem flushed_eq : (dats m 0 c).flushed 6 t = ((cfg0.win 6).blk t).view.read (Elt Ideal) (result m c) := by
  rw [Cert.KernelIdeal.Value.flushed6]
  funext y
  obtain ⟨r, f, rfl⟩ : ∃ (r : Fin 2048) (f : Fin 384), y = ix2 r f := ⟨_, _, eq_ix2 y⟩
  have hr := r.isLt
  have hf := f.isLt
  refine (stored m c t r f).trans ?_
  show _ = result m c ((win0_6.rect t).emb (ix2 r f))
  have e0 : ((win0_6.rect t).emb (ix2 r f) 0).val = (grid0.coords t 0).val * 2048 + r.val :=
    (win0_6.rect_emb_val t (ix2 r f) 0).trans (by rw [(index_eq t).2.2.2.2.2.2.2.2.1]; rfl)
  have e1 : ((win0_6.rect t).emb (ix2 r f) 1).val = (grid0.coords t 1).val * 384 + f.val :=
    (win0_6.rect_emb_val t (ix2 r f) 1).trans (by rw [(index_eq t).2.2.2.2.2.2.2.2.2]; rfl)
  generalize (win0_6.rect t).emb (ix2 r f) = i at e0 e1
  show _ = answer _ _ _ ((i 0).val / 2048) ((i 1).val / 384) ((i 0).val % 2048) ((i 1).val % 384 / 128) ((i 1).val % 384 % 128)
  rw [e0, e1]
  congr 1 <;> omega

/-- Every batch and head is some grid point's. -/
theorem point_of : ∀ (b : Fin 8) (h : Fin 4), ∃ t : Fin grid0.N, (grid0.coords t 0).val = b.val ∧ (grid0.coords t 1).val = h.val := by
  decide +kernel

/-- The blocks fill the result array. -/
theorem cover (i : S16384x1536.Idx) : ∃ t : Fin cfg0.N, (cfg0.win 6).flush t = true ∧ i ∈ ((cfg0.win 6).blk t).view.set := by
  have h0 : (i 0).val < 16384 := (i 0).isLt
  have h1 : (i 1).val < 1536 := (i 1).isLt
  obtain ⟨t, tb, th⟩ := point_of ⟨(i 0).val / 2048, by omega⟩ ⟨(i 1).val / 384, by omega⟩
  refine ⟨t, flush0_6 t, ?_⟩
  suffices e : (win0_6.rect t).emb (ix2 (Fin.ofNat 2048 (i 0).val) (Fin.ofNat 384 (i 1).val)) = i from
    e ▸ ((cfg0.win 6).blk t).view.emb_mem_set (ix2 (Fin.ofNat 2048 (i 0).val) (Fin.ofNat 384 (i 1).val))
  refine funext fun a => Fin.ext ?_
  match a with
  | ⟨0, _⟩ =>
    refine (win0_6.rect_emb_val t (ix2 (Fin.ofNat 2048 (i 0).val) (Fin.ofNat 384 (i 1).val)) 0).trans ?_
    rw [(index_eq t).2.2.2.2.2.2.2.2.1, tb]
    show (i 0).val / 2048 * 2048 + (i 0).val % 2048 = (i 0).val
    omega
  | ⟨1, _⟩ =>
    refine (win0_6.rect_emb_val t (ix2 (Fin.ofNat 2048 (i 0).val) (Fin.ofNat 384 (i 1).val)) 1).trans ?_
    rw [(index_eq t).2.2.2.2.2.2.2.2.2, th]
    show (i 1).val / 384 * 384 + (i 1).val % 384 = (i 1).val
    omega

/-- The result array after the run. -/
theorem final : (dats m 0 c).arrAt 6 cfg0.N = result m c :=
  (dats m 0 c).arrAt_eq_of_cover 6 (result m c) (fun t _ => flushed_eq m c t) cover

end Cert.Banded

end
-- ==== Proof.Reference.lean ====
/- The reference's result read at an index. -/
module

public import proofs.«01_k».proof.Proof.Result
public import proofs.«01_k».proof.Proof.Gen.ReferenceIdeal.Read

@[expose] public section

noncomputable section

namespace Cert.Banded.Reference

open Idealize.ShloMosaic Idealize.ShloMosaic.TcCoe Idealize.ShloMosaic.Tactic
open Cert.ReferenceIdeal Cert.ReferenceIdeal.Gen

variable (x0 : (⟨S16384x3072, .bf16⟩ : BufTy).Contents (Elt Ideal)) (x1 : (⟨S2048x1024, .bf16⟩ : BufTy).Contents (Elt Ideal))
  (x2 : (⟨S12, .f32⟩ : BufTy).Contents (Elt Ideal))

/-- A sum over 2305 places: the first 2048, the next 256 and the last. -/
theorem sum_split (f : Fin 2305 → EReal) : ∑ x, f x = ∑ j : Fin 2048, f ⟨j.val, by omega⟩ + ∑ c : Fin 256, f ⟨2048 + c.val, by omega⟩ + f ⟨2304, by omega⟩ := by
  have h1 : ∑ x, f x = ∑ x : Fin 2304, f ⟨x.val, by omega⟩ + f ⟨2304, by omega⟩ := Fin.sum_univ_castSucc f
  have h2 := Fin.sum_univ_add (a := 2048) (b := 256) fun x => f ⟨x.val, by omega⟩
  exact h1.trans (congrArg (· + f ⟨2304, by omega⟩) h2)

/-- The largest over 2305 places: that of the first 2048, the next 256 and the last. -/
theorem fold_split (f : Fin 2305 → EReal) : Finset.univ.fold max ⊥ f
    = max (max (Finset.univ.fold max ⊥ fun j : Fin 2048 => f ⟨j.val, by omega⟩) (Finset.univ.fold max ⊥ fun c : Fin 256 => f ⟨2048 + c.val, by omega⟩)) (f ⟨2304, by omega⟩) := by
  show Finset.univ.sup f = max (max (Finset.univ.sup fun j : Fin 2048 => f ⟨j.val, by omega⟩) (Finset.univ.sup fun c : Fin 256 => f ⟨2048 + c.val, by omega⟩)) _
  refine le_antisymm (Finset.sup_le fun x _ => ?_) (max_le (max_le (Finset.sup_le fun j _ => Finset.le_sup (Finset.mem_univ _))
    (Finset.sup_le fun c _ => Finset.le_sup (Finset.mem_univ _))) (Finset.le_sup (Finset.mem_univ _)))
  have hx := x.isLt
  by_cases h : x.val < 2048
  · exact le_max_of_le_left (le_max_of_le_left (Finset.le_sup (f := fun j : Fin 2048 => f ⟨j.val, by omega⟩) (Finset.mem_univ ⟨x.val, h⟩)))
  by_cases h' : x.val < 2304
  · refine le_max_of_le_left (le_max_of_le_right (le_trans (le_of_eq (congrArg f (Fin.ext ?_)))
      (Finset.le_sup (f := fun c : Fin 256 => f ⟨2048 + c.val, by omega⟩) (Finset.mem_univ ⟨x.val - 2048, by omega⟩))))
    show x.val = 2048 + (x.val - 2048)
    omega
  · exact le_max_of_le_right (le_of_eq (congrArg f (Fin.ext (show x.val = 2304 by omega))))

/-- A matrix entry, its place named twice. -/
theorem at_eq {a b : ℕ} [NeZero a] [NeZero b] (x : (⟨2, ![a, b]⟩ : Shape).Idx → EReal) {i j : ℕ} (hi : i < a) (hj : j < b) (i' j' : ℕ) (ei : i = i') (ej : j = j') :
    x (ix2 ⟨i, hi⟩ ⟨j, hj⟩) = x (ix2 (Fin.ofNat a i') (Fin.ofNat b j')) := by
  subst ei ej
  exact congrArg x (congr (congrArg ix2 (Fin.ext (Nat.mod_eq_of_lt hi).symm)) (Fin.ext (Nat.mod_eq_of_lt hj).symm))

/-- The mask: the keys near a query. -/
theorem mask (r k : Fin 2048) : Read.val_main_v23 (F := Ideal) (ix2 r k) = 1#1 ↔ Near r.val k.val := by
  pointwise [Read.val_main_v23, Read.val_main_v22, Read.val_main_v21, Read.val_main_v20, Read.val_main_v19, Read.val_main_v18, Read.val_main_v17, Read.val_main_v16,
    Read.val_main_v15, Read.val_main_v14, Read.val_main_c]
  have := near r.val k.val 0 r.isLt k.isLt (by omega)
  rw [show IntOp.addi (IntOp.subi (BitVec.ofNat 32 r.val) (BitVec.ofNat 32 k.val)) (BitVec.ofNat 32 0) = IntOp.subi (BitVec.ofNat 32 r.val) (BitVec.ofNat 32 k.val) from
    BitVec.add_zero _] at this
  exact this

/-- A masked score over the sequence. -/
theorem score (b : Fin 8) (h : Fin 4) (g : Fin 3) (r k : Fin 2048) : Read.val_main_v26 (F := Ideal) x0 (ix5 b h g r k)
    = if Near r.val k.val then ∑ e : Fin 128, x0 (ix2 (Fin.ofNat 16384 (2048 * b.val + r.val)) (Fin.ofNat 3072 (384 * h.val + 128 * g.val + e.val)))
        * x0 (ix2 (Fin.ofNat 16384 (2048 * b.val + k.val)) (Fin.ofNat 3072 (1536 + 128 * h.val + e.val))) else ⊥ := by
  pointwise [Read.val_main_v26, Read.val_main_call0_v1, Read.val_main_call0_v2, Read.val_main_call0_v0, Read.val_main_cst, Read.val_main_v25, Read.val_main_v24,
    Read.val_main_v7, Read.val_main_v6, Read.val_main_v5, Read.val_main_v4, Read.val_main_v1, Read.val_main_v0, dot_S8x2048x4x128_S8x2048x4x3x128_S8x4x2048x2048x3_3_4_1_13_02_02]
  refine if_congr (mask r k) (Finset.sum_congr rfl fun e _ => (mul_comm _ _).trans (congr (congrArg HMul.hMul ?_) ?_)) negInf <;>
    exact at_eq x0 _ _ _ _ (by omega) (by omega)

/-- A score over the context. -/
theorem context (b : Fin 8) (h : Fin 4) (g : Fin 3) (r : Fin 2048) (c : Fin 256) : Read.val_main_v28 (F := Ideal) x0 x1 (ix5 b h g r c)
    = ∑ e : Fin 128, x0 (ix2 (Fin.ofNat 16384 (2048 * b.val + r.val)) (Fin.ofNat 3072 (384 * h.val + 128 * g.val + e.val)))
        * x1 (ix2 (Fin.ofNat 2048 (256 * b.val + c.val)) (Fin.ofNat 1024 (128 * h.val + e.val))) := by
  pointwise [Read.val_main_v28, Read.val_main_v27, Read.val_main_v11, Read.val_main_v10, Read.val_main_v3, Read.val_main_v2,
    Read.val_main_v5, Read.val_main_v4, Read.val_main_v1, Read.val_main_v0, dot_S8x256x4x128_S8x2048x4x3x128_S8x4x256x2048x3_3_4_1_13_02_02]
  refine Finset.sum_congr rfl fun e _ => (mul_comm _ _).trans (congr (congrArg HMul.hMul ?_) ?_)
  · exact at_eq x0 _ _ _ _ (by omega) (by omega)
  · exact at_eq x1 _ _ _ _ (by omega) (by omega)

/-- The sink's score. -/
theorem sink (b : Fin 8) (h : Fin 4) (g : Fin 3) (r : Fin 2048) : Read.val_main_v30 (F := Ideal) x2 (ix5 b h g r 0) = x2 (ix1 (Fin.ofNat 12 (3 * h.val + g.val))) := by
  pointwise [Read.val_main_v30, Read.val_main_v29]
  refine congrArg x2 (congrArg ix1 (Fin.ext ?_))
  show h.val * 3 + g.val = (3 * h.val + g.val) % 12
  omega

/-- A value of the sequence. -/
theorem values (b : Fin 8) (k : Fin 2048) (h : Fin 4) (d : Fin 128) : Read.val_main_v9 (F := Ideal) x0 (ix4 b k h d)
    = x0 (ix2 (Fin.ofNat 16384 (2048 * b.val + k.val)) (Fin.ofNat 3072 (2048 + 128 * h.val + d.val))) := by
  pointwise [Read.val_main_v9, Read.val_main_v8, Read.val_main_v1, Read.val_main_v0]
  exact at_eq x0 _ _ _ _ (by omega) (by omega)

/-- A value of the context. -/
theorem context_values (b : Fin 8) (c : Fin 256) (h : Fin 4) (d : Fin 128) : Read.val_main_v13 (F := Ideal) x1 (ix4 b c h d)
    = x1 (ix2 (Fin.ofNat 2048 (256 * b.val + c.val)) (Fin.ofNat 1024 (512 + 128 * h.val + d.val))) := by
  pointwise [Read.val_main_v13, Read.val_main_v12, Read.val_main_v3, Read.val_main_v2]
  exact at_eq x1 _ _ _ _ (by omega) (by omega)

/-- The three kinds of scores side by side. -/
theorem row (b : Fin 8) (h : Fin 4) (g : Fin 3) (r : Fin 2048) :
    (∀ j : Fin 2048, Read.val_main_v31 (F := Ideal) x0 x1 x2 (ix5 b h g r ⟨j.val, by omega⟩) = Read.val_main_v26 (F := Ideal) x0 (ix5 b h g r j))
    ∧ (∀ c : Fin 256, Read.val_main_v31 (F := Ideal) x0 x1 x2 (ix5 b h g r ⟨2048 + c.val, by omega⟩) = Read.val_main_v28 (F := Ideal) x0 x1 (ix5 b h g r c))
    ∧ Read.val_main_v31 (F := Ideal) x0 x1 x2 (ix5 b h g r ⟨2304, by omega⟩) = Read.val_main_v30 (F := Ideal) x2 (ix5 b h g r 0) := by
  refine ⟨fun j => ?_, fun c => ?_, ?_⟩ <;> pointwise [Read.val_main_v31]

/-- The largest score. -/
theorem largest (b : Fin 8) (h : Fin 4) (g : Fin 3) (r : Fin 2048) : Read.val_main_v32 (F := Ideal) x0 x1 x2 (ix4 b h g r)
    = Finset.univ.fold max ⊥ fun x => Read.val_main_v31 x0 x1 x2 (ix5 b h g r x) := by
  pointwise [Read.val_main_v32, Read.val_main_cst_0]
  rw [negInf]

/-- The reference before the last reshape, at a batch, a query, a head and a column. -/
theorem head (b : Fin 8) (h : Fin 4) (g : Fin 3) (r : Fin 2048) (d : Fin 128) : Read.val_main_v48 (F := Ideal) x0 x1 x2 (ix5 b r h g d)
    = attn (fun k => Read.val_main_v26 (F := Ideal) x0 (ix5 b h g r k)) (fun c => Read.val_main_v28 (F := Ideal) x0 x1 (ix5 b h g r c))
        (Read.val_main_v30 (F := Ideal) x2 (ix5 b h g r 0)) (fun k => Read.val_main_v9 (F := Ideal) x0 (ix4 b k h d)) (fun c => Read.val_main_v13 (F := Ideal) x1 (ix4 b c h d)) := by
  pointwise [Read.val_main_v48, Read.val_main_v47, Read.val_main_v46, Read.val_main_v45, Read.val_main_v44, Read.val_main_v43, Read.val_main_v42, Read.val_main_v41,
    Read.val_main_v40, Read.val_main_v39, Read.val_main_v38, Read.val_main_v37, Read.val_main_v36, Read.val_main_v35, Read.val_main_v34, Read.val_main_v33, Read.val_main_cst_1,
    dot_S8x2048x4x128_S8x4x3x2048x2048_S8x4x128x3x2048_1_4_3_23_02_01, dot_S8x256x4x128_S8x4x3x2048x256_S8x4x128x3x2048_1_4_3_23_02_01]
  obtain ⟨r1, r2, r3⟩ := row x0 x1 x2 b h g r
  rw [largest, sum_split, fold_split]
  simp only [r1, r2, r3]
  unfold attn
  simp only [mul_comm]

/-- The reference's result is the attention the kernel computes. -/
theorem whole (R : Fin 16384) (C : Fin 1536) : Read.val_main_v50 (F := Ideal) x0 x1 x2 (ix2 R C)
    = answer x0 x1 x2 (R.val / 2048) (C.val / 384) (R.val % 2048) (C.val % 384 / 128) (C.val % 384 % 128) := by
  pointwise [Read.val_main_v50, Read.val_main_v49]
  rw [head, show C.val % 384 / 128 = C.val / 128 % 3 by omega, show C.val % 384 % 128 = C.val % 128 by omega]
  simp only [score, context, sink, values, context_values]
  rfl

end Cert.Banded.Reference

end
-- ==== Proof.Index.lean ====
/- Indices of arrays from their coordinates' values: where an element of a window's block sits in the array, and a whole array read. -/
module

public import Idealize.ShloMosaic.Lib.Pipeline.ValueKit.Basic
public import Idealize.ShloMosaic.Lib.Pointwise

@[expose] public section

namespace Cert.Layer

open Idealize.ShloMosaic Idealize.ShloMosaic.Pipeline

/-- Two indices with the same coordinates' values are one. -/
theorem idx_eq {s : Shape} {p q : s.Idx} (h : ∀ a, (p a).val = (q a).val) : p = q := funext fun a => Fin.ext (h a)

/-- An array read at two indices with the same coordinates' values. -/
theorem read_eq {s : Shape} {α : Type} (x : s.Idx → α) {p q : s.Idx} (h : ∀ a, (p a).val = (q a).val) : x p = x q := congrArg x (idx_eq h)

/-- Where element `y` of the block at grid point `t` sits in the array. -/
theorem emb_eq {sig : RefSig} {G : Grid} (w : Window sig G) (t : Fin G.N) (y : (w.xblock (G.coords t)).Idx) (i : w.shape.Idx) (hk : w.kind = .blocked)
    (h : ∀ a, w.index t a * w.size a + (y a).val = (i a).val) : (w.rect t).emb y = i :=
  funext fun a => Fin.ext ((w.rect_emb_val t y a hk).trans (h a))

/-- Products of equal factors. -/
theorem mul_eq {a b c d : EReal} (h : a = c) (h' : b = d) : a * b = c * d := by rw [h, h']

/-- Two zero coordinates. -/
theorem z2 : ∀ k : Fin 2, (![0, 0] : Fin 2 → ℕ) k = 0 := by decide

/-- Three. -/
theorem z3 : ∀ k : Fin 3, (![0, 0, 0] : Fin 3 → ℕ) k = 0 := by decide

/-- Five. -/
theorem z5 : ∀ k : Fin 5, (![0, 0, 0, 0, 0] : Fin 5 → ℕ) k = 0 := by decide

/-- All of an array read through a whole view. -/
theorem read_all {sig : RefSig} {s : Shape} {e : EltTy} (a : Memref sig .tc .vmem s e) (ha : a.IsWhole) (v : Vec Ideal s e) (off : Fin s.rank → ℕ)
    (h0 : ∀ k, off k = 0) (h : ∀ k, off k + s.size k ≤ s.size k) :
    a.view.readAt (Elt Ideal) (Rect.unit (s := s) off s.size h).toLoadRect (ha.unread v) = v := by
  rw [View.readAt_eq_ld, ha.read_unread]
  exact funext fun y => read_eq v fun k => by show off k + 1 * (y k).val = (y k).val; rw [h0]; omega

end Cert.Layer

end
-- ==== Proof.GateUp.lean ====
/- The experts' gate and up projections: the array the call leaves, entry by entry, and the reference's. -/
module

public import proofs.«01_k».proof.Proof.Index
public import proofs.«01_k».proof.Proof.Gen.GateUpIdeal.Value
public import proofs.«01_k».proof.Proof.Gen.GateUpReferenceIdeal.Read

@[expose] public section

noncomputable section

namespace Cert.GateUpProof

open Idealize.ShloMosaic Idealize.ShloMosaic.TcCoe Idealize.ShloMosaic.Tactic Idealize.SL.Sem
open Cert.GateUpIdeal Cert.GateUpIdeal.Gen Cert.Layer

/-- `silu(G) · U` of the row products `G` and `U` of a token with one column of an expert's gate and up weights. -/
def act (x g u : Fin 2048 → EReal) : EReal :=
  (∑ d, x d * g d) * Ideal.logistic (∑ d, x d * g d) * ∑ d, x d * u d

/-- The hidden activations: expert `i 0`, token `i 1`, feature `i 2`. -/
def hidden (x : Vec Ideal S16x2048x2048 .bf16) (g u : Vec Ideal S2x16x2048x2048 .f32) (i : S16x2048x2048.Idx) : EReal :=
  act (fun d => x (ix3 (i 0) (i 1) d)) (fun d => g (ix4 1 (i 0) d (i 2))) (fun d => u (ix4 1 (i 0) d (i 2)))

/-- The same of one grid point's blocks: 512 features of one expert. -/
def block (x : Vec Ideal S1x2048x2048 .bf16) (g u : Vec Ideal S1x1x2048x512 .f32) (y : S1x2048x512.Idx) : Elt Ideal .bf16 :=
  act (fun d => x (ix3 0 (y 1) d)) (fun d => g (ix4 0 0 d (y 2))) (fun d => u (ix4 0 0 d (y 2)))

/-- The first store's value: 256 features. -/
theorem left_apply (x : Vec Ideal S1x2048x2048 .bf16) (g u : Vec Ideal S1x1x2048x256 .f32) (r : Fin 2048) (f : Fin 256) :
    k0_pay3 x g u (ix3 0 r f) = act (fun d => x (ix3 0 r d)) (fun d => g (ix4 0 0 d f)) (fun d => u (ix4 0 0 d f)) := by
  pointwise [k0_pay3, k0_pay2, dot_S2048x2048_S2048x256_S2048x256_1_0_0_1_n_n]
  rfl

/-- The second store's value: the next 256 features. -/
theorem right_apply (x : Vec Ideal S1x2048x2048 .bf16) (g u : Vec Ideal S1x1x2048x256 .f32) (r : Fin 2048) (f : Fin 256) :
    k0_pay1 (k0_pay4 x g u) (ix3 0 r f) = act (fun d => x (ix3 0 r d)) (fun d => g (ix4 0 0 d f)) (fun d => u (ix4 0 0 d f)) := by
  pointwise [k0_pay1, k0_pay4, k0_pay2, dot_S2048x2048_S2048x256_S2048x256_1_0_0_1_n_n]
  rfl

/-- What the body leaves in the output block. -/
theorem out_eq (x : Vec Ideal S1x2048x2048 .bf16) (g u : Vec Ideal S1x1x2048x512 .f32) (y : S1x2048x512.Idx) : out0_3 x g u y = block x g u y := by
  unfold out0_3
  refine View.canon_apply_of_pieces (block x g u) _ ?_ y (cover0_3 _ _ y)
  simp only [List.forall_mem_cons, List.not_mem_nil, false_imp_iff, implies_true, and_true]
  constructor <;> intro z <;>
    obtain ⟨a, r, f, rfl⟩ : ∃ (a : Fin 1) (r : Fin 2048) (f : Fin 256), z = ix3 a r f := ⟨_, _, _, eq_ix3 z⟩ <;>
    obtain rfl : a = 0 := Subsingleton.elim _ _
  · refine (right_apply _ _ _ r f).trans (congr (congr (congrArg act ?_) ?_) ?_)
    · exact funext fun d => read_eq x fun a => by match a with | ⟨0, _⟩ => rfl | ⟨1, _⟩ => rfl | ⟨2, _⟩ => show 0 + 1 * d.val = d.val; omega
    · exact funext fun d => read_eq g fun a => by match a with | ⟨0, _⟩ => rfl | ⟨1, _⟩ => rfl | ⟨2, _⟩ => show 0 + 1 * d.val = d.val; omega | ⟨3, _⟩ => rfl
    · exact funext fun d => read_eq u fun a => by match a with | ⟨0, _⟩ => rfl | ⟨1, _⟩ => rfl | ⟨2, _⟩ => show 0 + 1 * d.val = d.val; omega | ⟨3, _⟩ => rfl
  · refine (left_apply _ _ _ r f).trans (congr (congr (congrArg act ?_) ?_) ?_)
    · exact funext fun d => read_eq x fun a => by match a with | ⟨0, _⟩ => rfl | ⟨1, _⟩ => rfl | ⟨2, _⟩ => show 0 + 1 * d.val = d.val; omega
    · exact funext fun d => read_eq g fun a => by match a with | ⟨0, _⟩ => rfl | ⟨1, _⟩ => rfl | ⟨2, _⟩ => show 0 + 1 * d.val = d.val; omega | ⟨3, _⟩ => rfl
    · exact funext fun d => read_eq u fun a => by match a with | ⟨0, _⟩ => rfl | ⟨1, _⟩ => rfl | ⟨2, _⟩ => show 0 + 1 * d.val = d.val; omega | ⟨3, _⟩ => rfl

/-- Where each window's block sits: the tokens of the point's expert, the expert's columns of layer 1, the output over both. -/
theorem index_eq : ∀ t : Fin grid0.N,
    (win0_0.index t 0 = win0_3.index t 0 ∧ win0_0.index t 1 = 0 ∧ win0_0.index t 2 = 0)
    ∧ (win0_1.index t 0 = 1 ∧ win0_1.index t 1 = win0_3.index t 0 ∧ win0_1.index t 2 = 0 ∧ win0_1.index t 3 = win0_3.index t 2)
    ∧ (win0_2.index t 0 = 1 ∧ win0_2.index t 1 = win0_3.index t 0 ∧ win0_2.index t 2 = 0 ∧ win0_2.index t 3 = win0_3.index t 2)
    ∧ win0_3.index t 1 = 0 := by
  decide +kernel

/-- Every expert and every 512 columns are some grid point's. -/
theorem point_of : ∀ (e : Fin 16) (j : Fin 4), ∃ t : Fin grid0.N, win0_3.index t 0 = e.val ∧ win0_3.index t 2 = j.val := by
  decide +kernel

variable (m : (ℓ : Loc nD τ sig) → Buf (Elt Ideal) ℓ) (c : Dev nD)

/-- The whole result. -/
def result : Buf (Elt Ideal) ((c : Thread nD τ).loc main_v0) := fun i : S16x2048x2048.Idx =>
  hidden (m ((c : Thread nD τ).loc main_arg0)) (m ((c : Thread nD τ).loc main_arg1)) (m ((c : Thread nD τ).loc main_arg2)) i

/-- What a grid point writes back is its block of the whole result. -/
theorem flushed_eq (t : Fin cfg0.N) : (dats m 0 c).flushed 3 t = ((cfg0.win 3).blk t).view.read (Elt Ideal) (result m c) := by
  rw [Cert.GateUpIdeal.Value.flushed3]
  funext y
  refine (out_eq _ _ _ y).trans ?_
  obtain ⟨a, r, f, rfl⟩ : ∃ (a : Fin 1) (r : Fin 2048) (f : Fin 512), y = ix3 a r f := ⟨_, _, _, eq_ix3 y⟩
  obtain rfl : a = 0 := Subsingleton.elim _ _
  show _ = result m c ((win0_3.rect t).emb (ix3 0 r f))
  obtain ⟨⟨x0, x1, x2⟩, ⟨g0, g1, g2, g3⟩, ⟨u0, u1, u2, u3⟩, o1⟩ := index_eq t
  have e0 : ((win0_3.rect t).emb (ix3 0 r f) 0).val = win0_3.index t 0 * 1 + 0 := win0_3.rect_emb_val t (ix3 0 r f) 0
  have e1 : ((win0_3.rect t).emb (ix3 0 r f) 1).val = win0_3.index t 1 * 2048 + r.val := win0_3.rect_emb_val t (ix3 0 r f) 1
  have e2 : ((win0_3.rect t).emb (ix3 0 r f) 2).val = win0_3.index t 2 * 512 + f.val := win0_3.rect_emb_val t (ix3 0 r f) 2
  generalize (win0_3.rect t).emb (ix3 0 r f) = i at e0 e1 e2
  refine congr (congr (congrArg act ?_) ?_) ?_
  · refine funext fun d => congrArg (m ((c : Thread nD τ).loc main_arg0)) (emb_eq win0_0 t (ix3 0 r d) _ rfl fun a => ?_)
    match a with
    | ⟨0, _⟩ => show win0_0.index t 0 * 1 + 0 = (i 0).val; omega
    | ⟨1, _⟩ => show win0_0.index t 1 * 2048 + r.val = (i 1).val; omega
    | ⟨2, _⟩ => show win0_0.index t 2 * 2048 + d.val = d.val; omega
  · refine funext fun d => congrArg (m ((c : Thread nD τ).loc main_arg1)) (emb_eq win0_1 t (ix4 0 0 d f) _ rfl fun a => ?_)
    match a with
    | ⟨0, _⟩ => show win0_1.index t 0 * 1 + 0 = 1; omega
    | ⟨1, _⟩ => show win0_1.index t 1 * 1 + 0 = (i 0).val; omega
    | ⟨2, _⟩ => show win0_1.index t 2 * 2048 + d.val = d.val; omega
    | ⟨3, _⟩ => show win0_1.index t 3 * 512 + f.val = (i 2).val; omega
  · refine funext fun d => congrArg (m ((c : Thread nD τ).loc main_arg2)) (emb_eq win0_2 t (ix4 0 0 d f) _ rfl fun a => ?_)
    match a with
    | ⟨0, _⟩ => show win0_2.index t 0 * 1 + 0 = 1; omega
    | ⟨1, _⟩ => show win0_2.index t 1 * 1 + 0 = (i 0).val; omega
    | ⟨2, _⟩ => show win0_2.index t 2 * 2048 + d.val = d.val; omega
    | ⟨3, _⟩ => show win0_2.index t 3 * 512 + f.val = (i 2).val; omega

/-- The blocks fill the result array. -/
theorem cover (i : S16x2048x2048.Idx) : ∃ t : Fin cfg0.N, (cfg0.win 3).flush t = true ∧ i ∈ ((cfg0.win 3).blk t).view.set := by
  have h2 : (i 2).val < 2048 := (i 2).isLt
  obtain ⟨t, te, tj⟩ := point_of (i 0) ⟨(i 2).val / 512, by omega⟩
  refine ⟨t, flush0_3 t, ?_⟩
  suffices e : (win0_3.rect t).emb (ix3 0 (i 1) (Fin.ofNat 512 (i 2).val)) = i from
    e ▸ ((cfg0.win 3).blk t).view.emb_mem_set (ix3 0 (i 1) (Fin.ofNat 512 (i 2).val))
  refine emb_eq win0_3 t _ i rfl fun a => ?_
  have o1 := (index_eq t).2.2.2
  match a with
  | ⟨0, _⟩ => show win0_3.index t 0 * 1 + 0 = (i 0).val; omega
  | ⟨1, _⟩ => show win0_3.index t 1 * 2048 + (i 1).val = (i 1).val; omega
  | ⟨2, _⟩ => show win0_3.index t 2 * 512 + (i 2).val % 512 = (i 2).val; rw [tj]; show (i 2).val / 512 * 512 + _ = _; omega

/-- The result array after the run. -/
theorem final : (dats m 0 c).arrAt 3 cfg0.N = result m c :=
  (dats m 0 c).arrAt_eq_of_cover 3 (result m c) (fun t _ => flushed_eq m c t) cover

/-- The reference's result. -/
theorem reference_eq (x : Vec Ideal S16x2048x2048 .bf16) (g u : Vec Ideal S2x16x2048x2048 .f32) (i : S16x2048x2048.Idx) :
    Cert.GateUpReferenceIdeal.Read.val_main_v9 (F := Ideal) x g u i = hidden x g u i := by
  open Cert.GateUpReferenceIdeal Cert.GateUpReferenceIdeal.Read in
  obtain ⟨e, r, f, rfl⟩ : ∃ (e : Fin 16) (r f : Fin 2048), i = ix3 e r f := ⟨_, _, _, eq_ix3 i⟩
  pointwise [val_main_v9, val_main_v8, val_main_v7, val_main_v6, val_main_v5, val_main_v4, val_main_v3, val_main_v2, val_main_v1, val_main_v0,
    val_main_call0_v0, val_main_call0_v1, val_main_call0_v2, val_main_call0_v3, val_main_call0_v4, val_main_call0_v5, val_main_call0_cst,
    val_main_call0_cst_0, Cert.GateUpReferenceIdeal.dot_S16x2048x2048_S16x2048x2048_S16x2048x2048_2_1_1_2_0_0]
  rfl

end Cert.GateUpProof

end
-- ==== Proof.Down.lean ====
/- The experts' down projection: the array the call leaves, entry by entry, and the reference's. -/
module

public import proofs.«01_k».proof.Proof.Index
public import proofs.«01_k».proof.Proof.Gen.DownIdeal.Value
public import proofs.«01_k».proof.Proof.Gen.DownReferenceIdeal.Read

@[expose] public section

noncomputable section

namespace Cert.DownProof

open Idealize.ShloMosaic Idealize.ShloMosaic.TcCoe Idealize.ShloMosaic.Tactic Idealize.SL.Sem
open Cert.DownIdeal Cert.DownIdeal.Gen Cert.Layer

/-- The experts' results: batch `i 0`; row `i 1` is slot `i 1 % 256` of expert `i 1 / 256`, whose token of the batch is row
    `256 · i 0 + i 1 % 256` of the expert's tokens; column `i 2`. -/
def down (h : Vec Ideal S16x2048x2048 .bf16) (w : Vec Ideal S2x16x2048x2048 .f32) (i : S8x4096x2048.Idx) : EReal :=
  ∑ k : Fin 2048, h (ix3 (Fin.ofNat 16 ((i 1).val / 256)) (Fin.ofNat 2048 ((i 0).val * 256 + (i 1).val % 256)) k)
    * w (ix4 1 (Fin.ofNat 16 ((i 1).val / 256)) k (i 2))

/-- The product of a grid point's blocks. -/
theorem product_apply (h : Vec Ideal S1x2048x2048 .bf16) (w : Vec Ideal S1x1x2048x512 .f32) (r : Fin 2048) (f : Fin 512) :
    k0_pay4 h w (ix2 r f) = ∑ k, h (ix3 0 r k) * w (ix4 0 0 k f) := by
  pointwise [k0_pay4, dot_S2048x2048_S2048x512_S2048x512_1_0_0_1_n_n]

/-- What the body leaves in the output block: batch `b`, slot `s`, column `f`. -/
theorem out_eq (h : Vec Ideal S1x2048x2048 .bf16) (w : Vec Ideal S1x1x2048x512 .f32) (b : Fin 8) (s : Fin 256) (f : Fin 512) :
    out0_2 h w (ix3 b s f) = ∑ k, h (ix3 0 (Fin.ofNat 2048 (b.val * 256 + s.val)) k) * w (ix4 0 0 k f) := by
  have hb := b.isLt
  have hs := s.isLt
  refine (Value.canon2_eq _ _ _).trans ?_
  show k0_pay4 _ _ (Value.ix2_0 (ix3 b s f)) = _
  rw [show Value.ix2_0 (ix3 b s f) = ix2 (Fin.ofNat 2048 (b.val * 256 + s.val)) f from idx_eq fun a => by
    match a with
    | ⟨0, _⟩ => exact (Nat.mod_eq_of_lt (show b.val * 256 + s.val < 2048 by omega)).symm
    | ⟨1, _⟩ => rfl, product_apply]
  refine Finset.sum_congr rfl fun k _ => mul_eq ?_ ?_
  · exact read_eq h fun a => by
      match a with
      | ⟨0, _⟩ => rfl
      | ⟨1, _⟩ => show 0 + 1 * ((b.val * 256 + s.val) % 2048) = (b.val * 256 + s.val) % 2048; omega
      | ⟨2, _⟩ => show 0 + 1 * k.val = k.val; omega
  · exact read_eq w fun a => by
      match a with
      | ⟨0, _⟩ => rfl
      | ⟨1, _⟩ => rfl
      | ⟨2, _⟩ => show 0 + 1 * k.val = k.val; omega
      | ⟨3, _⟩ => show 0 + 1 * f.val = f.val; omega

/-- Where each window's block sits: the expert's activations, its columns of layer 1, the output's slots of that expert. -/
theorem index_eq : ∀ t : Fin grid0.N,
    (win0_0.index t 0 = win0_2.index t 1 ∧ win0_0.index t 1 = 0 ∧ win0_0.index t 2 = 0)
    ∧ (win0_1.index t 0 = 1 ∧ win0_1.index t 1 = win0_2.index t 1 ∧ win0_1.index t 2 = 0 ∧ win0_1.index t 3 = win0_2.index t 2)
    ∧ win0_2.index t 0 = 0 ∧ win0_2.index t 1 < 16 := by
  decide +kernel

/-- Every expert and every 512 columns are some grid point's. -/
theorem point_of : ∀ (e : Fin 16) (j : Fin 4), ∃ t : Fin grid0.N, win0_2.index t 1 = e.val ∧ win0_2.index t 2 = j.val := by
  decide +kernel

variable (m : (ℓ : Loc nD τ sig) → Buf (Elt Ideal) ℓ) (c : Dev nD)

/-- The whole result. -/
def result : Buf (Elt Ideal) ((c : Thread nD τ).loc main_v0) := fun i : S8x4096x2048.Idx =>
  down (m ((c : Thread nD τ).loc main_arg0)) (m ((c : Thread nD τ).loc main_arg1)) i

/-- What a grid point writes back is its block of the whole result. -/
theorem flushed_eq (t : Fin cfg0.N) : (dats m 0 c).flushed 2 t = ((cfg0.win 2).blk t).view.read (Elt Ideal) (result m c) := by
  rw [Cert.DownIdeal.Value.flushed2]
  funext y
  obtain ⟨b, s, f, rfl⟩ : ∃ (b : Fin 8) (s : Fin 256) (f : Fin 512), y = ix3 b s f := ⟨_, _, _, eq_ix3 y⟩
  have hb := b.isLt
  have hs := s.isLt
  refine (out_eq _ _ b s f).trans ?_
  show _ = result m c ((win0_2.rect t).emb (ix3 b s f))
  obtain ⟨⟨x0, x1, x2⟩, ⟨g0, g1, g2, g3⟩, o0, o1⟩ := index_eq t
  have e0 : ((win0_2.rect t).emb (ix3 b s f) 0).val = win0_2.index t 0 * 8 + b.val := win0_2.rect_emb_val t (ix3 b s f) 0
  have e1 : ((win0_2.rect t).emb (ix3 b s f) 1).val = win0_2.index t 1 * 256 + s.val := win0_2.rect_emb_val t (ix3 b s f) 1
  have e2 : ((win0_2.rect t).emb (ix3 b s f) 2).val = win0_2.index t 2 * 512 + f.val := win0_2.rect_emb_val t (ix3 b s f) 2
  generalize (win0_2.rect t).emb (ix3 b s f) = i at e0 e1 e2
  show _ = down (m ((c : Thread nD τ).loc main_arg0)) (m ((c : Thread nD τ).loc main_arg1)) i
  unfold down
  refine Finset.sum_congr rfl fun k _ => mul_eq ?_ ?_
  · refine congrArg (m ((c : Thread nD τ).loc main_arg0)) (emb_eq win0_0 t (ix3 0 (Fin.ofNat 2048 (b.val * 256 + s.val)) k) _ rfl fun a => ?_)
    match a with
    | ⟨0, _⟩ => show win0_0.index t 0 * 1 + 0 = (i 1).val / 256 % 16; omega
    | ⟨1, _⟩ => show win0_0.index t 1 * 2048 + (b.val * 256 + s.val) % 2048 = ((i 0).val * 256 + (i 1).val % 256) % 2048; omega
    | ⟨2, _⟩ => show win0_0.index t 2 * 2048 + k.val = k.val; omega
  · refine congrArg (m ((c : Thread nD τ).loc main_arg1)) (emb_eq win0_1 t (ix4 0 0 k f) _ rfl fun a => ?_)
    match a with
    | ⟨0, _⟩ => show win0_1.index t 0 * 1 + 0 = 1; omega
    | ⟨1, _⟩ => show win0_1.index t 1 * 1 + 0 = (i 1).val / 256 % 16; omega
    | ⟨2, _⟩ => show win0_1.index t 2 * 2048 + k.val = k.val; omega
    | ⟨3, _⟩ => show win0_1.index t 3 * 512 + f.val = (i 2).val; omega

/-- The blocks fill the result array. -/
theorem cover (i : S8x4096x2048.Idx) : ∃ t : Fin cfg0.N, (cfg0.win 2).flush t = true ∧ i ∈ ((cfg0.win 2).blk t).view.set := by
  have h1 : (i 1).val < 4096 := (i 1).isLt
  have h2 : (i 2).val < 2048 := (i 2).isLt
  obtain ⟨t, te, tj⟩ := point_of ⟨(i 1).val / 256, by omega⟩ ⟨(i 2).val / 512, by omega⟩
  refine ⟨t, flush0_2 t, ?_⟩
  suffices e : (win0_2.rect t).emb (ix3 (i 0) (Fin.ofNat 256 (i 1).val) (Fin.ofNat 512 (i 2).val)) = i from
    e ▸ ((cfg0.win 2).blk t).view.emb_mem_set (ix3 (i 0) (Fin.ofNat 256 (i 1).val) (Fin.ofNat 512 (i 2).val))
  refine emb_eq win0_2 t _ i rfl fun a => ?_
  have o0 := (index_eq t).2.2.1
  match a with
  | ⟨0, _⟩ => show win0_2.index t 0 * 8 + (i 0).val = (i 0).val; omega
  | ⟨1, _⟩ => show win0_2.index t 1 * 256 + (i 1).val % 256 = (i 1).val; rw [te]; show (i 1).val / 256 * 256 + _ = _; omega
  | ⟨2, _⟩ => show win0_2.index t 2 * 512 + (i 2).val % 512 = (i 2).val; rw [tj]; show (i 2).val / 512 * 512 + _ = _; omega

/-- The result array after the run. -/
theorem final : (dats m 0 c).arrAt 2 cfg0.N = result m c :=
  (dats m 0 c).arrAt_eq_of_cover 2 (result m c) (fun t _ => flushed_eq m c t) cover

/-- The reference's result. -/
theorem reference_eq (h : Vec Ideal S16x2048x2048 .bf16) (w : Vec Ideal S2x16x2048x2048 .f32) (i : S8x4096x2048.Idx) :
    Cert.DownReferenceIdeal.Read.val_main_v7 (F := Ideal) h w i = down h w i := by
  open Cert.DownReferenceIdeal.Read in
  obtain ⟨b, r, f, rfl⟩ : ∃ (b : Fin 8) (r : Fin 4096) (f : Fin 2048), i = ix3 b r f := ⟨_, _, _, eq_ix3 i⟩
  have hb := b.isLt
  have hr := r.isLt
  pointwise [val_main_v7, val_main_v6, val_main_v5, val_main_v4, val_main_v3, val_main_v2, val_main_v1, val_main_v0]
  refine Finset.sum_congr rfl fun k _ => (mul_comm _ _).trans (mul_eq ?_ ?_)
  · exact read_eq h fun a => by
      match a with
      | ⟨0, _⟩ => exact (Nat.mod_eq_of_lt (show r.val / 256 < 16 by omega)).symm
      | ⟨1, _⟩ => exact (Nat.mod_eq_of_lt (show b.val * 256 + r.val % 256 < 2048 by omega)).symm
      | ⟨2, _⟩ => rfl
  · exact read_eq w fun a => by
      match a with
      | ⟨0, _⟩ => rfl
      | ⟨1, _⟩ => exact (Nat.mod_eq_of_lt (show r.val / 256 < 16 by omega)).symm
      | ⟨2, _⟩ => rfl
      | ⟨3, _⟩ => rfl

end Cert.DownProof

end
-- ==== Proof.DownSideIdealRun.lean ====
/- The experts' down projection with its side work, run on the grid: what each point leaves in its output blocks, and that the
   whole call terminates, leaves its arguments as they were and its result arrays at what those blocks make. -/
module

public import proofs.«01_k».proof.Proof.Gen.DownSideIdeal.Skeleton
public import proofs.«01_k».proof.Proof.Gen.DownSideIdeal.Launch
public import proofs.«01_k».proof.Proof.Gen.DownSideIdeal.Points
public import proofs.«01_k».proof.Proof.Gen.DownSideIdeal.Frame
public import Idealize.ShloMosaic.Lib.Claim

@[expose] public section

set_option maxRecDepth 16384

noncomputable section

namespace Cert.DownSideIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownSideIdeal Cert.DownSideIdeal.Gen

variable {F : FTy → Type} [FloatOps F]

/-- Assertions about the memory while the call runs. -/
abbrev Assertion (F : FTy → Type) [FloatOps F] := sProp (MT nD τ sig Unit (Elt F) ℕ (UR sig nD τ) ℕ)

variable (m : (ℓ : Loc nD τ sig) → Buf (Elt F) ℓ) (ρ : Dev nD → PrngReg)

/-! ## What the body loads and stores -/

abbrev allH : Rect S1x2048x2048 := Rect.unit (s := S1x2048x2048) ![0, 0, 0] S1x2048x2048.size inb_S1x2048x2048_S1x2048x2048_0_0_0
abbrev allW : Rect S1x1x2048x512 := Rect.unit (s := S1x1x2048x512) ![0, 0, 0, 0] S1x1x2048x512.size inb_S1x1x2048x512_S1x1x2048x512_0_0_0_0
abbrev allC : Rect S16x2048 := Rect.unit (s := S16x2048) ![0, 0] S16x2048.size inb_S16x2048_S16x2048_0_0
abbrev allM : Rect S1x2048x256 := Rect.unit (s := S1x2048x256) ![0, 0, 0] S1x2048x256.size inb_S1x2048x256_S1x2048x256_0_0_0
abbrev allB : Rect S1x1x256 := Rect.unit (s := S1x1x256) ![0, 0, 0] S1x1x256.size inb_S1x1x256_S1x1x256_0_0_0
abbrev allK : Rect S2048x256 := Rect.unit (s := S2048x256) ![0, 0] S2048x256.size inb_S2048x256_S2048x256_0_0
abbrev allO : Rect S16x256 := Rect.unit (s := S16x256) ![0, 0] S16x256.size inb_S16x256_S16x256_0_0
abbrev batch0 : Rect S8x256x512 := Rect.unit (s := S8x256x512) ![0, 0, 0] S1x256x512.size inb_S8x256x512_S1x256x512_0_0_0
abbrev batch1 : Rect S8x256x512 := Rect.unit (s := S8x256x512) ![1, 0, 0] S1x256x512.size inb_S8x256x512_S1x256x512_1_0_0
abbrev batch2 : Rect S8x256x512 := Rect.unit (s := S8x256x512) ![2, 0, 0] S1x256x512.size inb_S8x256x512_S1x256x512_2_0_0
abbrev batch3 : Rect S8x256x512 := Rect.unit (s := S8x256x512) ![3, 0, 0] S1x256x512.size inb_S8x256x512_S1x256x512_3_0_0
abbrev batch4 : Rect S8x256x512 := Rect.unit (s := S8x256x512) ![4, 0, 0] S1x256x512.size inb_S8x256x512_S1x256x512_4_0_0
abbrev batch5 : Rect S8x256x512 := Rect.unit (s := S8x256x512) ![5, 0, 0] S1x256x512.size inb_S8x256x512_S1x256x512_5_0_0
abbrev batch6 : Rect S8x256x512 := Rect.unit (s := S8x256x512) ![6, 0, 0] S1x256x512.size inb_S8x256x512_S1x256x512_6_0_0
abbrev batch7 : Rect S8x256x512 := Rect.unit (s := S8x256x512) ![7, 0, 0] S1x256x512.size inb_S8x256x512_S1x256x512_7_0_0

/-- The experts' block after the body: its eight batches, the last stored first. -/
def outD (x0 : Vec F S1x2048x2048 .bf16) (x1 : Vec F S1x1x2048x512 .f32) : Vec F S8x256x512 .bf16 :=
  View.canon [⟨batch7, k0_pay5 (k0_pay8 (View.ld x0 allH) (View.ld x1 allW))⟩,
    ⟨batch6, k0_pay4 (k0_pay8 (View.ld x0 allH) (View.ld x1 allW))⟩,
    ⟨batch5, k0_pay3 (k0_pay8 (View.ld x0 allH) (View.ld x1 allW))⟩,
    ⟨batch4, k0_pay2 (k0_pay8 (View.ld x0 allH) (View.ld x1 allW))⟩,
    ⟨batch3, k0_pay1 (k0_pay12 (View.ld x0 allH) (View.ld x1 allW))⟩,
    ⟨batch2, k0_pay11 (View.ld x0 allH) (View.ld x1 allW)⟩,
    ⟨batch1, k0_pay10 (View.ld x0 allH) (View.ld x1 allW)⟩,
    ⟨batch0, k0_pay9 (View.ld x0 allH) (View.ld x1 allW)⟩]

/-- The modulation's block after a body that computes it. -/
def outM (x2 : Vec F S16x2048 .f32) (x3 : Vec F S1x2048x256 .f32) (x4 : Vec F S1x1x256 .f32) : Vec F S16x256 .f32 :=
  View.canon [⟨allO, k0_pay6 (View.ld x2 allC) (View.ld x3 allM) (View.ld x4 allB)⟩]

/-- The cast's block after a body that computes it. -/
def outK (x5 : Vec F S2048x256 .f32) : Vec F S2048x256 .bf16 :=
  View.canon [⟨allK, k0_pay7 (View.ld x5 allK)⟩]

/-- The eight batches fill the experts' block. -/
theorem coverD (p0 p1 p2 p3 p4 p5 p6 p7 : Vec F S1x256x512 .bf16) (y : S8x256x512.Idx) :
    ∃ pc ∈ ([⟨batch7, p0⟩, ⟨batch6, p1⟩, ⟨batch5, p2⟩, ⟨batch4, p3⟩, ⟨batch3, p4⟩, ⟨batch2, p5⟩, ⟨batch1, p6⟩, ⟨batch0, p7⟩]
      : List (View.Piece (Elt F) S8x256x512 .bf16)), y ∈ pc.1.set :=
  View.cover_of_tiled [⟨batch7, p0⟩, ⟨batch6, p1⟩, ⟨batch5, p2⟩, ⟨batch4, p3⟩, ⟨batch3, p4⟩, ⟨batch2, p5⟩, ⟨batch1, p6⟩, ⟨batch0, p7⟩]
    S1x256x512.size (by rfl) y

/-- One store fills the modulation's block. -/
theorem coverM (p : Vec F S16x256 .f32) (y : S16x256.Idx) : ∃ pc ∈ ([⟨allO, p⟩] : List (View.Piece (Elt F) S16x256 .f32)), y ∈ pc.1.set :=
  View.cover_of_tiled [⟨allO, p⟩] S16x256.size (by rfl) y

/-- One store fills the cast's block. -/
theorem coverK (p : Vec F S2048x256 .bf16) (y : S2048x256.Idx) : ∃ pc ∈ ([⟨allK, p⟩] : List (View.Piece (Elt F) S2048x256 .bf16)), y ∈ pc.1.set :=
  View.cover_of_tiled [⟨allK, p⟩] S2048x256.size (by rfl) y

/-! ## The body -/

set_option maxHeartbeats 2000000 in
/-- At one of the first 48 points: the experts' block and the modulation's are computed, the cast's buffer is left as found. -/
theorem run_first (c : Dev nD) (E : Set ℕ) (i : grid0.Coords) (h1 : k0_cond1 i = 1#1) (h2 : ¬k0_cond2 i = 1#1)
    (arg2 : Memref sig .tc .vmem S1x2048x2048 .bf16) (harg2 : arg2.IsWhole) (arg3 : Memref sig .tc .vmem S1x1x2048x512 .f32) (harg3 : arg3.IsWhole)
    (arg4 : Memref sig .tc .vmem S16x2048 .f32) (harg4 : arg4.IsWhole) (arg5 : Memref sig .tc .vmem S1x2048x256 .f32) (harg5 : arg5.IsWhole)
    (arg6 : Memref sig .tc .vmem S1x1x256 .f32) (harg6 : arg6.IsWhole) (arg7 : Memref sig .tc .vmem S2048x256 .f32) (harg7 : arg7.IsWhole)
    (arg8 : Memref sig .tc .vmem S8x256x512 .bf16) (harg8 : arg8.IsWhole) (arg9 : Memref sig .tc .vmem S16x256 .f32) (harg9 : arg9.IsWhole)
    (arg10 : Memref sig .tc .vmem S2048x256 .bf16) (harg10 : arg10.IsWhole)
    (x0 : Vec F S1x2048x2048 .bf16) (x1 : Vec F S1x1x2048x512 .f32) (x2 : Vec F S16x2048 .f32) (x3 : Vec F S1x2048x256 .f32)
    (x4 : Vec F S1x1x256 .f32) (x5 : Vec F S2048x256 .f32) (x8 : Vec F S2048x256 .bf16) (K : PUnit → Assertion F) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare x8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outD x0 x1) ∗ owns (c : Thread nD τ) arg9 fullShare (outM x2 x3 x4)
            ∗ owns (c : Thread nD τ) arg10 fullShare x8) -∗ K ⟨⟩))
      ⊢ wp frame (wpE (defs₀ (F := F)) Variants.none c none) E
          (cc0_expert_down i arg2 harg2 arg3 harg3 arg4 harg4 arg5 harg5 arg6 harg6 arg7 harg7 arg8 harg8 arg9 harg9 arg10 harg10) K := by
  simp only [cc0_expert_down_eq_skeleton]; unfold cc0_expert_down_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0 hf1 hf2 hf3 hf4 hf5 hf8
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverD _ _ _ _ _ _ _ _)).trans ?_
    rfl
  isplitl [H7]
  · iexists _; isplitr
    swap; · iexact H7
    ipureintro
    refine (View.read_writes_eq_canon _ _ _ (coverM _)).trans ?_
    rfl
  iexists f8; isplitr; · ipureintro; rfl
  iexact H8

set_option maxHeartbeats 2000000 in
/-- At one of the last 16 points: the experts' block and the cast's are computed, the modulation's buffer is left as found. -/
theorem run_last (c : Dev nD) (E : Set ℕ) (i : grid0.Coords) (h1 : ¬k0_cond1 i = 1#1) (h2 : k0_cond2 i = 1#1)
    (arg2 : Memref sig .tc .vmem S1x2048x2048 .bf16) (harg2 : arg2.IsWhole) (arg3 : Memref sig .tc .vmem S1x1x2048x512 .f32) (harg3 : arg3.IsWhole)
    (arg4 : Memref sig .tc .vmem S16x2048 .f32) (harg4 : arg4.IsWhole) (arg5 : Memref sig .tc .vmem S1x2048x256 .f32) (harg5 : arg5.IsWhole)
    (arg6 : Memref sig .tc .vmem S1x1x256 .f32) (harg6 : arg6.IsWhole) (arg7 : Memref sig .tc .vmem S2048x256 .f32) (harg7 : arg7.IsWhole)
    (arg8 : Memref sig .tc .vmem S8x256x512 .bf16) (harg8 : arg8.IsWhole) (arg9 : Memref sig .tc .vmem S16x256 .f32) (harg9 : arg9.IsWhole)
    (arg10 : Memref sig .tc .vmem S2048x256 .bf16) (harg10 : arg10.IsWhole)
    (x0 : Vec F S1x2048x2048 .bf16) (x1 : Vec F S1x1x2048x512 .f32) (x2 : Vec F S16x2048 .f32) (x3 : Vec F S1x2048x256 .f32)
    (x4 : Vec F S1x1x256 .f32) (x5 : Vec F S2048x256 .f32) (x7 : Vec F S16x256 .f32) (K : PUnit → Assertion F) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outD x0 x1) ∗ owns (c : Thread nD τ) arg9 fullShare x7
            ∗ owns (c : Thread nD τ) arg10 fullShare (outK x5)) -∗ K ⟨⟩))
      ⊢ wp frame (wpE (defs₀ (F := F)) Variants.none c none) E
          (cc0_expert_down i arg2 harg2 arg3 harg3 arg4 harg4 arg5 harg5 arg6 harg6 arg7 harg7 arg8 harg8 arg9 harg9 arg10 harg10) K := by
  simp only [cc0_expert_down_eq_skeleton]; unfold cc0_expert_down_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  subst hf0 hf1 hf2 hf3 hf4 hf5 hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverD _ _ _ _ _ _ _ _)).trans ?_
    rfl
  isplitl [H7]
  · iexists f7; isplitr; · ipureintro; rfl
    iexact H7
  iexists _; isplitr
  swap; · iexact H8
  ipureintro
  refine (View.read_writes_eq_canon _ _ _ (coverK _)).trans ?_
  rfl

/-! ## The schedule -/

/-- The modulation is computed at the first 48 points. -/
theorem first_iff : ∀ t : Fin grid0.N, k0_cond1 (grid0.coords t) = 1#1 ↔ t.val < 48 := by decide +kernel

/-- The cast is computed at the last 16. -/
theorem last_iff : ∀ t : Fin grid0.N, k0_cond2 (grid0.coords t) = 1#1 ↔ 48 ≤ t.val := by decide +kernel

/-- The modulation's block is written back at the first 47 points and at the very last. -/
theorem flushM_iff : ∀ t : Fin grid0.N, win0_7.flush t = true ↔ t.val < 47 ∨ t.val = 63 := by decide +kernel

/-- The cast's block is written back at the last 16 points. -/
theorem flushK_iff : ∀ t : Fin grid0.N, win0_8.flush t = true ↔ 48 ≤ t.val := by decide +kernel

/-- The point whose modulation block is in the buffer after point `t`. -/
def held (t : Fin cfg0.N) : Fin cfg0.N := ⟨min t.val 47, Nat.lt_of_le_of_lt (Nat.min_le_left _ _) t.isLt⟩

theorem held_first {t : Fin cfg0.N} (h : t.val < 48) : held t = t := Fin.ext (show min t.val 47 = t.val by omega)

/-- What the modulation's buffer holds after point `t`. -/
def heldM (c : Dev nD) (t : Fin cfg0.N) : Vec F S16x256 .f32 := outM (iblk m c 2 (held t)) (iblk m c 3 (held t)) (iblk m c 4 (held t))

theorem heldM_first (c : Dev nD) {t : Fin cfg0.N} (h : t.val < 48) : heldM m c t = outM (iblk m c 2 t) (iblk m c 3 t) (iblk m c 4 t) := by
  unfold heldM; rw [held_first h]

/-- What every buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outD (iblk m c 0 t) (iblk m c 1 t)
    | ⟨7, _⟩ => heldM m c t
    | ⟨8, _⟩ => outK (iblk m c 5 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outD (iblk m c 0 t) (iblk m c 1 t) := by dsimp only [dats]
theorem after_7 (c : Dev nD) (t : Fin cfg0.N) : (dats m 0 c).after 7 t = heldM m c t := by dsimp only [dats]
theorem after_8 (c : Dev nD) (t : Fin cfg0.N) : (dats m 0 c).after 8 t = outK (iblk m c 5 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- The modulation's buffer is in use at the first 48 points and idle after. -/
theorem idleM_first {t : Fin cfg0.N} (h : t.val < 48) : cfg0.idle 7 (cfg0.grid.coords t) = false := by
  show (!(k0_cond1 (grid0.coords t) == 1#1)) = false
  rw [(first_iff t).mpr h]; rfl

theorem idleM_last {t : Fin cfg0.N} (h : ¬t.val < 48) : cfg0.idle 7 (cfg0.grid.coords t) = true := by
  show (!(k0_cond1 (grid0.coords t) == 1#1)) = true
  simpa using fun e => h ((first_iff t).mp e)

/-- The cast's buffer is idle at the first 48 points and in use after. -/
theorem idleK_first {t : Fin cfg0.N} (h : t.val < 48) : cfg0.idle 8 (cfg0.grid.coords t) = true := by
  show (!(k0_cond2 (grid0.coords t) == 1#1)) = true
  simpa using fun e => absurd ((last_iff t).mp e) (by omega)

theorem idleK_last {t : Fin cfg0.N} (h : ¬t.val < 48) : cfg0.idle 8 (cfg0.grid.coords t) = false := by
  show (!(k0_cond2 (grid0.coords t) == 1#1)) = false
  rw [(last_iff t).mpr (by omega)]; rfl

/-- The modulation's last block stays in its buffer through the last 16 points. -/
theorem before_7 (c : Dev nD) (d) : ∀ (n : ℕ) (hn : n < cfg0.N), 48 ≤ n → (dats m 0 c).before 7 ⟨n, hn⟩ d = heldM m c ⟨n, hn⟩
  | 0, _, h => absurd h (by omega)
  | n + 1, hn, h => by
    have hN : n + 1 < 64 := Nat.lt_of_lt_of_eq hn N_0
    have hf : (cfg0.win 7).flush ⟨n, Nat.lt_of_succ_lt hn⟩ = false := Bool.eq_false_iff.mpr fun e => by
      have := (flushM_iff ⟨n, Nat.lt_of_succ_lt hn⟩).mp e
      simp only at this; omega
    have hh : heldM m c ⟨n, Nat.lt_of_succ_lt hn⟩ = heldM m c ⟨n + 1, hn⟩ := by
      unfold heldM
      rw [show held ⟨n, Nat.lt_of_succ_lt hn⟩ = held ⟨n + 1, hn⟩ from Fin.ext (show min n 47 = min (n + 1) 47 by omega)]
    rw [(dats m 0 c).before_of_pos 7 ⟨n + 1, hn⟩ (Nat.succ_ne_zero n) ((cfg0.win 7).fetch_out rfl _) d]
    show (if (cfg0.win 7).flush ⟨n, Nat.lt_of_succ_lt hn⟩ = true then d else (dats m 0 c).left 7 ⟨n, Nat.lt_of_succ_lt hn⟩ d) = _
    rw [hf, if_neg Bool.false_ne_true]
    unfold Dat.left
    by_cases h47 : n < 48
    · rw [idleM_first (t := ⟨n, Nat.lt_of_succ_lt hn⟩) h47]
      dsimp only
      unfold Dat.kept
      rw [Pipeline.fill_of_clip_none 7 _ (fun _ => rfl) d ((dats m 0 c).after 7 ⟨n, Nat.lt_of_succ_lt hn⟩), Window.fill_cut, after_7, hh]
    · rw [idleM_last (t := ⟨n, Nat.lt_of_succ_lt hn⟩) h47]
      dsimp only
      rw [before_7 c d n (Nat.lt_of_succ_lt hn) (by omega), hh]

/-! ## The obligation at every point -/

/-- What the body is called with at point `t`, buffer by buffer. -/
def bodyPre (c : Dev nD) (t : Fin cfg0.N) : Assertion F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- And what it returns. -/
def bodyPost (c : Dev nD) (t : Fin cfg0.N) : Assertion F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t)

/-- A buffer in use is left at what the body computes. -/
theorem leaves_used (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- An idle buffer that is written back is left at what its array is to hold. -/
theorem leaves_written (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- At the last 16 points the modulation's buffer, holding what it held, is as it must be left. -/
theorem leavesM_last (c : Dev nD) (t : Fin cfg0.N) (h : ¬t.val < 48) :
    owns (c : Thread nD τ) (st0_7 t) fullShare (heldM m c t) ⊢ (dats m 0 c).leavesExact 7 t := by
  cases hf : (cfg0.win 7).flush t with
  | true => rw [leaves_written m c 7 t (idleM_last h) hf, after_7]
  | false =>
    rw [Dat.leavesExact_idle (dats m 0 c) 7 t (idleM_last h) hf]
    iintro H
    iexists heldM m c t
    rw [before_7 m c (heldM m c t) t.val t.isLt (by omega)]
    iexact H

/-- At the first 48 points the cast's buffer, holding what it held, is as it must be left. -/
theorem leavesK_first (c : Dev nD) (t : Fin cfg0.N) (h : t.val < 48) (d) :
    owns (c : Thread nD τ) (st0_8 t) fullShare ((dats m 0 c).before 8 t d) ⊢ (dats m 0 c).leavesExact 8 t := by
  have hf : (cfg0.win 8).flush t = false := Bool.eq_false_iff.mpr fun e => absurd ((flushK_iff t).mp e) (by omega)
  rw [Dat.leavesExact_idle (dats m 0 c) 8 t (idleK_first h) hf]
  iintro H
  iexists d
  iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : t.val < 48
  · rw [leaves_used m c 7 t (idleM_first h), after_7, heldM_first m c h]
    iapply (run_first c Set.univ (grid0.coords t) ((first_iff t).mpr h) (fun e => absurd ((last_iff t).mp e) (by omega))
      _ _ _ _ _ _ _ _ _ _ _ _ _ _ _ _ _ _
      (iblk m c 0 t) (iblk m c 1 t) (iblk m c 2 t) (iblk m c 3 t) (iblk m c 4 t) (iblk m c 5 t) ((dats m 0 c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leavesK_first m c t h d8)
    iexact H8
  · rw [leaves_used m c 8 t (idleK_last h), after_8, before_7 m c d7 t.val t.isLt (by omega)]
    iapply (run_last c Set.univ (grid0.coords t) (fun e => h ((first_iff t).mp e)) ((last_iff t).mpr (by omega))
      _ _ _ _ _ _ _ _ _ _ _ _ _ _ _ _ _ _
      (iblk m c 0 t) (iblk m c 1 t) (iblk m c 2 t) (iblk m c 3 t) (iblk m c 4 t) (iblk m c 5 t) (heldM m c t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leavesM_last m c t h)
      iexact H7
    iexact H8

/-- The body called at point `t`'s buffers. -/
theorem defs₀_row (t : Fin cfg0.N) : defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The call terminates with every array at what the blocks make and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

/-- The run with its three result arrays named, the arguments unchanged. -/
theorem run_blocks : θ_run defs (onTc (τ := τ) (main (F := F))) ⟨m, fun _ => 0, ρ⟩ (fun r => ∀ c : Dev nD,
      r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_v1_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 6, (h.1 c).1 7, (h.1 c).1 8, h.2 c⟩) (θ_run_and (run_main m ρ) (unchanged m ρ))

end Cert.DownSideIdeal.Run

end
-- ==== Proof.DownSide.lean ====
/- Layer 0's down projection of the experts with its side work: the three arrays the call leaves, entry by entry, and the reference's. -/
module

public import proofs.«01_k».proof.Proof.Index
public import proofs.«01_k».proof.Proof.DownSideIdealRun
public import proofs.«01_k».proof.Proof.Gen.DownSideReferenceIdeal.Read
public import Idealize.ShloMosaic.Lib.Pipeline.Value
public import Idealize.ShloMosaic.Lib.StableHlo.RunRead

@[expose] public section

noncomputable section

namespace Cert.DownSideProof

open Idealize.ShloMosaic Idealize.ShloMosaic.TcCoe Idealize.ShloMosaic.Tactic Idealize.SL.Sem
open Cert.DownSideIdeal Cert.DownSideIdeal.Gen Cert.DownSideIdeal.Run Cert.Layer

/-- The experts' results: batch `i 0`; row `i 1` is slot `i 1 % 256` of expert `i 1 / 256`, whose token of the batch is row
    `256 · i 0 + i 1 % 256` of the expert's tokens; column `i 2`. -/
def down (h : Vec Ideal S16x2048x2048 .bf16) (w : Vec Ideal S2x16x2048x2048 .f32) (i : S8x4096x2048.Idx) : EReal :=
  ∑ k : Fin 2048, h (ix3 (Fin.ofNat 16 ((i 1).val / 256)) (Fin.ofNat 2048 ((i 0).val * 256 + (i 1).val % 256)) k)
    * w (ix4 0 (Fin.ofNat 16 ((i 1).val / 256)) k (i 2))

/-- `silu` of a row, times a column, plus an offset. -/
def affine (x w : Fin 2048 → EReal) (b : EReal) : EReal := (∑ d, x d * Ideal.logistic (x d) * w d) + b

/-- The modulation: row `i 0` of the conditions, column `i 1` of layer 1's weights and its offset. -/
def modulation (x : Vec Ideal S16x2048 .f32) (w : Vec Ideal S2x2048x12288 .f32) (b : Vec Ideal S2x12288 .f32) (i : S16x12288.Idx) : EReal :=
  affine (fun d => x (ix2 (i 0) d)) (fun d => w (ix3 1 d (i 1))) (b (ix2 1 (i 1)))

/-! ## The body -/

/-- The product of a grid point's blocks. -/
theorem product_apply (h : Vec Ideal S1x2048x2048 .bf16) (w : Vec Ideal S1x1x2048x512 .f32) (r : Fin 2048) (f : Fin 512) :
    k0_pay8 h w (ix2 r f) = ∑ k, h (ix3 0 r k) * w (ix4 0 0 k f) := by
  pointwise [k0_pay8, dot_S2048x2048_S2048x512_S2048x512_1_0_0_1_n_n]

/-- 256 rows of the product, as one batch's block. -/
theorem batch_apply (v : FVec Ideal S2048x512 .bf16) (o : ℕ) (ho : o + 256 ≤ 2048) (hs : S2048x512.Slices ![o, 0] S256x512)
    (hc : S256x512.ShapeCasts S1x256x512) (x : S1x256x512.Idx) :
    shapeCast S1x256x512 (extractStridedSlice S256x512 ![o, 0] v hs) hc x = v (ix2 (Fin.ofNat 2048 (o + (x 1).val)) (x 2)) := by
  have h0 : (x 0).val < 1 := (x 0).isLt
  have h1 : (x 1).val < 256 := (x 1).isLt
  refine (shapeCast_apply _ _ x (ix2 (x 1) (x 2) : S256x512.Idx) (by
    rw [Shape.rowMajor_val_two, Shape.rowMajor_val_three]
    show (x 1).val * 512 + (x 2).val = ((x 0).val * 256 + (x 1).val) * 512 + (x 2).val; omega)).trans ?_
  exact extractStridedSlice_apply ![o, 0] _ _ (ix2 (x 1) (x 2) : S256x512.Idx) (ix2 (Fin.ofNat 2048 (o + (x 1).val)) (x 2) : S2048x512.Idx) fun a => by
    match a with
    | ⟨0, _⟩ => show (o + (x 1).val) % 2048 = o + (x 1).val; omega
    | ⟨1, _⟩ => show (x 2).val = 0 + (x 2).val; omega

/-- The product's entry under an entry of the output block. -/
def entry (v : FVec Ideal S2048x512 .bf16) (y : S8x256x512.Idx) : EReal := v (ix2 (Fin.ofNat 2048 ((y 0).val * 256 + (y 1).val)) (y 2))

/-- What the body leaves in the experts' block: batch `b`, slot `s`, column `f`. -/
theorem outD_eq (h : Vec Ideal S1x2048x2048 .bf16) (w : Vec Ideal S1x1x2048x512 .f32) (b : Fin 8) (s : Fin 256) (f : Fin 512) :
    outD h w (ix3 b s f) = ∑ k, h (ix3 0 (Fin.ofNat 2048 (b.val * 256 + s.val)) k) * w (ix4 0 0 k f) := by
  have hh : View.ld h allH = h := funext fun y => read_eq h fun a => by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have hw : View.ld w allW = w := funext fun y => read_eq w fun a => by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega
  unfold outD
  rw [hh, hw]
  refine .trans (View.canon_apply_of_pieces (entry (k0_pay8 h w)) _ ?_ (ix3 b s f) (coverD _ _ _ _ _ _ _ _ (ix3 b s f))) ?_
  · refine List.forall_mem_cons.mpr ⟨fun x => (batch_apply (k0_pay8 h w) 1792 (by omega) slices_S2048x512_o1792_0_S256x512 shapeCasts_S256x512_S1x256x512 x).trans (read_eq (k0_pay8 h w) fun a => ?_), ?_⟩
    · have h0 : (x 0).val < 1 := (x 0).isLt
      match a with
      | ⟨0, _⟩ => show (1792 + (x 1).val) % 2048 = ((7 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 1536 (by omega) slices_S2048x512_o1536_0_S256x512 shapeCasts_S256x512_S1x256x512 x).trans (read_eq (k0_pay8 h w) fun a => ?_), ?_⟩
    · have h0 : (x 0).val < 1 := (x 0).isLt
      match a with
      | ⟨0, _⟩ => show (1536 + (x 1).val) % 2048 = ((6 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 1280 (by omega) slices_S2048x512_o1280_0_S256x512 shapeCasts_S256x512_S1x256x512 x).trans (read_eq (k0_pay8 h w) fun a => ?_), ?_⟩
    · have h0 : (x 0).val < 1 := (x 0).isLt
      match a with
      | ⟨0, _⟩ => show (1280 + (x 1).val) % 2048 = ((5 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 1024 (by omega) slices_S2048x512_o1024_0_S256x512 shapeCasts_S256x512_S1x256x512 x).trans (read_eq (k0_pay8 h w) fun a => ?_), ?_⟩
    · have h0 : (x 0).val < 1 := (x 0).isLt
      match a with
      | ⟨0, _⟩ => show (1024 + (x 1).val) % 2048 = ((4 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 768 (by omega) slices_S2048x512_o768_0_S256x512 shapeCasts_S256x512_S1x256x512 x).trans (read_eq (k0_pay8 h w) fun a => ?_), ?_⟩
    · have h0 : (x 0).val < 1 := (x 0).isLt
      match a with
      | ⟨0, _⟩ => show (768 + (x 1).val) % 2048 = ((3 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 512 (by omega) slices_S2048x512_o512_0_S256x512 shapeCasts_S256x512_S1x256x512 x).trans (read_eq (k0_pay8 h w) fun a => ?_), ?_⟩
    · have h0 : (x 0).val < 1 := (x 0).isLt
      match a with
      | ⟨0, _⟩ => show (512 + (x 1).val) % 2048 = ((2 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 256 (by omega) slices_S2048x512_o256_0_S256x512 shapeCasts_S256x512_S1x256x512 x).trans (read_eq (k0_pay8 h w) fun a => ?_), ?_⟩
    · have h0 : (x 0).val < 1 := (x 0).isLt
      match a with
      | ⟨0, _⟩ => show (256 + (x 1).val) % 2048 = ((1 + 1 * (x 0).val) * 256 + (0 + 1 * (x 1).val)) % 2048; omega
      | ⟨1, _⟩ => show (x 2).val = 0 + 1 * (x 2).val; omega
    refine List.forall_mem_cons.mpr ⟨fun x => (batch_apply (k0_pay8 h w) 0 (by omega) slices_S2048x512_o0_0_S256x512 shapeCasts_S256x512_S1x256x512 x).trans (read_eq (k0_pay8 h w) fun a => ?_), ?_⟩
    · have h0 : (x 0).val < 1 := (x 0).isLt
      match a with
      | ⟨0, _⟩ => show (0 + (x 1).val) % 2048 = ((0 + 1 * (x 0).val) * 256 + (0 + 1 * (x 1).val)) % 2048; omega
      | ⟨1, _⟩ => show (x 2).val = 0 + 1 * (x 2).val; omega
    exact fun _ hn => absurd hn List.not_mem_nil
  · exact product_apply h w _ f

/-- What the body computes of the modulation: 256 columns. -/
theorem modulation_apply (x : Vec Ideal S16x2048 .f32) (w : Vec Ideal S1x2048x256 .f32) (b : Vec Ideal S1x1x256 .f32) (r : Fin 16) (f : Fin 256) :
    k0_pay6 x w b (ix2 r f) = affine (fun d => x (ix2 r d)) (fun d => w (ix3 0 d f)) (b (ix3 0 0 f)) := by
  pointwise [k0_pay6, dot_S16x2048_S2048x256_S16x256_1_0_0_1_n_n]
  rfl

/-- What it leaves in the modulation's block. -/
theorem outM_eq (x : Vec Ideal S16x2048 .f32) (w : Vec Ideal S1x2048x256 .f32) (b : Vec Ideal S1x1x256 .f32) (r : Fin 16) (f : Fin 256) :
    outM x w b (ix2 r f) = affine (fun d => x (ix2 r d)) (fun d => w (ix3 0 d f)) (b (ix3 0 0 f)) := by
  unfold outM
  refine (View.canon_apply_of_pieces (fun y : S16x256.Idx => (k0_pay6 x w b y : EReal)) _ ?_ (ix2 r f) (coverM _ (ix2 r f))).trans (modulation_apply x w b r f)
  refine List.forall_mem_cons.mpr ⟨fun z => ?_, fun _ h => absurd h List.not_mem_nil⟩
  have hx : View.ld x allC = x := funext fun y => read_eq x fun a => by
    match a with
    | ⟨0, _⟩ => show 0 + 1 * (y 0).val = (y 0).val; omega
    | ⟨1, _⟩ => show 0 + 1 * (y 1).val = (y 1).val; omega
  have hw : View.ld w allM = w := funext fun y => read_eq w fun a => by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have hb : View.ld b allB = b := funext fun y => read_eq b fun a => by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  show k0_pay6 (View.ld x allC) (View.ld w allM) (View.ld b allB) z = _
  rw [hx, hw, hb]
  exact read_eq (k0_pay6 x w b) fun a => by
    match a with
    | ⟨0, _⟩ => show (z 0).val = 0 + 1 * (z 0).val; omega
    | ⟨1, _⟩ => show (z 1).val = 0 + 1 * (z 1).val; omega

/-- What it leaves in the cast's block: the numbers it read. -/
theorem outK_eq (x : Vec Ideal S2048x256 .f32) (y : S2048x256.Idx) : outK x y = x y := by
  unfold outK
  refine (View.canon_apply_of_pieces (fun y : S2048x256.Idx => (k0_pay7 x y : EReal)) _ ?_ y (coverK _ y)).trans rfl
  refine List.forall_mem_cons.mpr ⟨fun z => ?_, fun _ h => absurd h List.not_mem_nil⟩
  have hx : View.ld x allK = x := funext fun y => read_eq x fun a => by
    match a with
    | ⟨0, _⟩ => show 0 + 1 * (y 0).val = (y 0).val; omega
    | ⟨1, _⟩ => show 0 + 1 * (y 1).val = (y 1).val; omega
  show k0_pay7 (View.ld x allK) z = _
  rw [hx]
  exact read_eq (k0_pay7 x) fun a => by
    match a with
    | ⟨0, _⟩ => show (z 0).val = 0 + 1 * (z 0).val; omega
    | ⟨1, _⟩ => show (z 1).val = 0 + 1 * (z 1).val; omega

/-! ## Where the blocks sit -/

/-- The expert's activations, its columns of layer 0, the output's slots of that expert. -/
theorem indexD : ∀ t : Fin grid0.N,
    (win0_0.index t 0 = win0_6.index t 1 ∧ win0_0.index t 1 = 0 ∧ win0_0.index t 2 = 0)
    ∧ (win0_1.index t 0 = 0 ∧ win0_1.index t 1 = win0_6.index t 1 ∧ win0_1.index t 2 = 0 ∧ win0_1.index t 3 = win0_6.index t 2)
    ∧ win0_6.index t 0 = 0 ∧ win0_6.index t 1 < 16 := by
  decide +kernel

/-- Every expert and every 512 columns are some grid point's. -/
theorem point_of : ∀ (e : Fin 16) (j : Fin 4), ∃ t : Fin grid0.N, win0_6.index t 1 = e.val ∧ win0_6.index t 2 = j.val := by
  decide +kernel

/-- All conditions, the columns of layer 1, the offsets. -/
theorem indexM : ∀ t : Fin grid0.N,
    (win0_2.index t 0 = 0 ∧ win0_2.index t 1 = 0)
    ∧ (win0_3.index t 0 = 1 ∧ win0_3.index t 1 = 0 ∧ win0_3.index t 2 = min t.val 47)
    ∧ (win0_4.index t 0 = 1 ∧ win0_4.index t 1 = 0 ∧ win0_4.index t 2 = min t.val 47)
    ∧ win0_7.index t 0 = 0 ∧ win0_7.index t 1 = min t.val 47 := by
  decide +kernel

/-- The same columns of the matrix read and of its cast. -/
theorem indexK : ∀ t : Fin grid0.N,
    (win0_5.index t 0 = 0 ∧ win0_5.index t 1 = t.val - 48) ∧ win0_8.index t 0 = 0 ∧ win0_8.index t 1 = t.val - 48 := by
  decide +kernel

variable (m : (ℓ : Loc nD τ sig) → Buf (Elt Ideal) ℓ) (c : Dev nD)

/-- The offsets as the call reads them, an axis of size one between. -/
theorem offsets (f : Fin 12288) : V m c main_v0 (ix3 1 0 f) = m ((c : Thread nD τ).loc main_arg4) (ix2 1 f) := by
  unfold V
  after_reads_simp
  pointwise []

/-! ## The experts' result -/

/-- The whole array. -/
def resultD : Buf (Elt Ideal) ((c : Thread nD τ).loc main_v1_0) := fun i : S8x4096x2048.Idx =>
  down (m ((c : Thread nD τ).loc main_arg0)) (m ((c : Thread nD τ).loc main_arg1)) i

/-- What a grid point writes back is its block of the result. -/
theorem flushedD (t : Fin cfg0.N) : (dats m 0 c).flushed 6 t = ((cfg0.win 6).blk t).view.read (Elt Ideal) (resultD m c) := by
  show (cfg0.win 6).cut (grid0.coords t) ((dats m 0 c).after 6 t) = _
  rw [after_6]
  funext y
  obtain ⟨b, s, f, rfl⟩ : ∃ (b : Fin 8) (s : Fin 256) (f : Fin 512), y = ix3 b s f := ⟨_, _, _, eq_ix3 y⟩
  have hb := b.isLt
  have hs := s.isLt
  refine (outD_eq _ _ b s f).trans ?_
  show _ = resultD m c ((win0_6.rect t).emb (ix3 b s f))
  obtain ⟨⟨x0, x1, x2⟩, ⟨g0, g1, g2, g3⟩, o0, o1⟩ := indexD t
  have e0 : ((win0_6.rect t).emb (ix3 b s f) 0).val = win0_6.index t 0 * 8 + b.val := win0_6.rect_emb_val t (ix3 b s f) 0
  have e1 : ((win0_6.rect t).emb (ix3 b s f) 1).val = win0_6.index t 1 * 256 + s.val := win0_6.rect_emb_val t (ix3 b s f) 1
  have e2 : ((win0_6.rect t).emb (ix3 b s f) 2).val = win0_6.index t 2 * 512 + f.val := win0_6.rect_emb_val t (ix3 b s f) 2
  generalize (win0_6.rect t).emb (ix3 b s f) = i at e0 e1 e2
  show _ = down (m ((c : Thread nD τ).loc main_arg0)) (m ((c : Thread nD τ).loc main_arg1)) i
  unfold down
  refine Finset.sum_congr rfl fun k _ => mul_eq ?_ ?_
  · refine (congrFun (V_main_arg0 m c) _).trans (congrArg (m ((c : Thread nD τ).loc main_arg0)) (emb_eq win0_0 t (ix3 0 (Fin.ofNat 2048 (b.val * 256 + s.val)) k) _ rfl fun a => ?_))
    match a with
    | ⟨0, _⟩ => show win0_0.index t 0 * 1 + 0 = (i 1).val / 256 % 16; omega
    | ⟨1, _⟩ => show win0_0.index t 1 * 2048 + (b.val * 256 + s.val) % 2048 = ((i 0).val * 256 + (i 1).val % 256) % 2048; omega
    | ⟨2, _⟩ => show win0_0.index t 2 * 2048 + k.val = k.val; omega
  · refine (congrFun (V_main_arg1 m c) _).trans (congrArg (m ((c : Thread nD τ).loc main_arg1)) (emb_eq win0_1 t (ix4 0 0 k f) _ rfl fun a => ?_))
    match a with
    | ⟨0, _⟩ => show win0_1.index t 0 * 1 + 0 = 0; omega
    | ⟨1, _⟩ => show win0_1.index t 1 * 1 + 0 = (i 1).val / 256 % 16; omega
    | ⟨2, _⟩ => show win0_1.index t 2 * 2048 + k.val = k.val; omega
    | ⟨3, _⟩ => show win0_1.index t 3 * 512 + f.val = (i 2).val; omega

/-- The blocks fill the array. -/
theorem coveredD (i : S8x4096x2048.Idx) : ∃ t : Fin cfg0.N, (cfg0.win 6).flush t = true ∧ i ∈ ((cfg0.win 6).blk t).view.set := by
  have h1 : (i 1).val < 4096 := (i 1).isLt
  have h2 : (i 2).val < 2048 := (i 2).isLt
  obtain ⟨t, te, tj⟩ := point_of ⟨(i 1).val / 256, by omega⟩ ⟨(i 2).val / 512, by omega⟩
  refine ⟨t, flush0_6 t, ?_⟩
  suffices e : (win0_6.rect t).emb (ix3 (i 0) (Fin.ofNat 256 (i 1).val) (Fin.ofNat 512 (i 2).val)) = i from
    e ▸ ((cfg0.win 6).blk t).view.emb_mem_set (ix3 (i 0) (Fin.ofNat 256 (i 1).val) (Fin.ofNat 512 (i 2).val))
  refine emb_eq win0_6 t _ i rfl fun a => ?_
  have o0 := (indexD t).2.2.1
  match a with
  | ⟨0, _⟩ => show win0_6.index t 0 * 8 + (i 0).val = (i 0).val; omega
  | ⟨1, _⟩ => show win0_6.index t 1 * 256 + (i 1).val % 256 = (i 1).val; rw [te]; show (i 1).val / 256 * 256 + _ = _; omega
  | ⟨2, _⟩ => show win0_6.index t 2 * 512 + (i 2).val % 512 = (i 2).val; rw [tj]; show (i 2).val / 512 * 512 + _ = _; omega

/-- The array after the run. -/
theorem finalD : (dats m 0 c).arrAt 6 cfg0.N = resultD m c :=
  (dats m 0 c).arrAt_eq_of_cover 6 (resultD m c) (fun t _ => flushedD m c t) coveredD

/-! ## The modulation -/

/-- The whole array. -/
def resultM : Buf (Elt Ideal) ((c : Thread nD τ).loc main_v1_1) := fun i : S16x12288.Idx =>
  modulation (m ((c : Thread nD τ).loc main_arg2)) (m ((c : Thread nD τ).loc main_arg3)) (m ((c : Thread nD τ).loc main_arg4)) i

/-- What a grid point writes back is its block of the result; the last point writes back the block the 48th computed. -/
theorem flushedM (t : Fin cfg0.N) : (dats m 0 c).flushed 7 t = ((cfg0.win 7).blk t).view.read (Elt Ideal) (resultM m c) := by
  show (cfg0.win 7).cut (grid0.coords t) ((dats m 0 c).after 7 t) = _
  rw [after_7]
  unfold heldM
  funext y
  obtain ⟨r, f, rfl⟩ : ∃ (r : Fin 16) (f : Fin 256), y = ix2 r f := ⟨_, _, eq_ix2 y⟩
  obtain ⟨_, _, _, o0, o1⟩ := indexM t
  obtain ⟨⟨x0, x1⟩, ⟨w0, w1, w2⟩, ⟨b0, b1, b2⟩, _, _⟩ := indexM (held t)
  have hv : (held t).val = min t.val 47 := rfl
  obtain ⟨k, hk⟩ : ∃ k : Fin 12288, min t.val 47 * 256 + f.val = k.val := ⟨⟨min t.val 47 * 256 + f.val, by omega⟩, rfl⟩
  have e : (win0_7.rect t).emb (ix2 r f) = ix2 r k := emb_eq win0_7 t (ix2 r f) (ix2 r k) rfl fun a => by
    match a with
    | ⟨0, _⟩ => show win0_7.index t 0 * 16 + r.val = r.val; omega
    | ⟨1, _⟩ => show win0_7.index t 1 * 256 + f.val = k.val; omega
  refine (outM_eq _ _ _ r f).trans (.trans ?_ (congrArg (resultM m c) e.symm))
  show _ = affine _ _ _
  refine congr (congr (congrArg affine (funext fun d => ?_)) (funext fun d => ?_)) ?_
  · refine (congrFun (V_main_arg2 m c) _).trans (congrArg (m ((c : Thread nD τ).loc main_arg2)) (emb_eq win0_2 (held t) (ix2 r d) (ix2 r d) rfl fun a => ?_))
    match a with
    | ⟨0, _⟩ => show win0_2.index (held t) 0 * 16 + r.val = r.val; omega
    | ⟨1, _⟩ => show win0_2.index (held t) 1 * 2048 + d.val = d.val; omega
  · refine (congrFun (V_main_arg3 m c) _).trans (congrArg (m ((c : Thread nD τ).loc main_arg3)) (emb_eq win0_3 (held t) (ix3 0 d f) (ix3 1 d k) rfl fun a => ?_))
    match a with
    | ⟨0, _⟩ => show win0_3.index (held t) 0 * 1 + 0 = 1; omega
    | ⟨1, _⟩ => show win0_3.index (held t) 1 * 2048 + d.val = d.val; omega
    | ⟨2, _⟩ => show win0_3.index (held t) 2 * 256 + f.val = k.val; omega
  · refine .trans (congrArg (V m c main_v0) (emb_eq win0_4 (held t) (ix3 0 0 f) (ix3 1 0 k) rfl fun a => ?_)) (offsets m c k)
    match a with
    | ⟨0, _⟩ => show win0_4.index (held t) 0 * 1 + 0 = 1; omega
    | ⟨1, _⟩ => show win0_4.index (held t) 1 * 1 + 0 = 0; omega
    | ⟨2, _⟩ => show win0_4.index (held t) 2 * 256 + f.val = k.val; omega

/-- The point that writes back the modulation's block `j`. -/
theorem pointM : ∀ j : Fin 48, ∃ t : Fin grid0.N, win0_7.flush t = true ∧ min t.val 47 = j.val := by
  decide +kernel

/-- The blocks fill the array. -/
theorem coveredM (i : S16x12288.Idx) : ∃ t : Fin cfg0.N, (cfg0.win 7).flush t = true ∧ i ∈ ((cfg0.win 7).blk t).view.set := by
  have h1 : (i 1).val < 12288 := (i 1).isLt
  obtain ⟨t, tf, tj⟩ := pointM ⟨(i 1).val / 256, by omega⟩
  refine ⟨t, tf, ?_⟩
  obtain ⟨_, _, _, o0, o1⟩ := indexM t
  have hv : min t.val 47 = (i 1).val / 256 := tj
  suffices e : (win0_7.rect t).emb (ix2 (i 0) (Fin.ofNat 256 (i 1).val)) = i from
    e ▸ ((cfg0.win 7).blk t).view.emb_mem_set (ix2 (i 0) (Fin.ofNat 256 (i 1).val))
  refine emb_eq win0_7 t _ i rfl fun a => ?_
  match a with
  | ⟨0, _⟩ => show win0_7.index t 0 * 16 + (i 0).val = (i 0).val; omega
  | ⟨1, _⟩ => show win0_7.index t 1 * 256 + (i 1).val % 256 = (i 1).val; omega

/-- The array after the run. -/
theorem finalM : (dats m 0 c).arrAt 7 cfg0.N = resultM m c :=
  (dats m 0 c).arrAt_eq_of_cover 7 (resultM m c) (fun t _ => flushedM m c t) coveredM

/-! ## The cast -/

/-- The whole array: the matrix read. -/
def resultK : Buf (Elt Ideal) ((c : Thread nD τ).loc main_v1_2) := fun i : S2048x4096.Idx =>
  (m ((c : Thread nD τ).loc main_arg5) i : EReal)

/-- What a grid point writes back is its block of the result. -/
theorem flushedK (t : Fin cfg0.N) : (dats m 0 c).flushed 8 t = ((cfg0.win 8).blk t).view.read (Elt Ideal) (resultK m c) := by
  show (cfg0.win 8).cut (grid0.coords t) ((dats m 0 c).after 8 t) = _
  rw [after_8]
  funext y
  obtain ⟨r, f, rfl⟩ : ∃ (r : Fin 2048) (f : Fin 256), y = ix2 r f := ⟨_, _, eq_ix2 y⟩
  obtain ⟨⟨x0, x1⟩, o0, o1⟩ := indexK t
  have e0 : ((win0_8.rect t).emb (ix2 r f) 0).val = win0_8.index t 0 * 2048 + r.val := win0_8.rect_emb_val t (ix2 r f) 0
  have e1 : ((win0_8.rect t).emb (ix2 r f) 1).val = win0_8.index t 1 * 256 + f.val := win0_8.rect_emb_val t (ix2 r f) 1
  refine (outK_eq _ (ix2 r f)).trans ?_
  show _ = resultK m c ((win0_8.rect t).emb (ix2 r f))
  generalize (win0_8.rect t).emb (ix2 r f) = i at e0 e1
  refine (congrFun (V_main_arg5 m c) _).trans (congrArg (m ((c : Thread nD τ).loc main_arg5)) (emb_eq win0_5 t (ix2 r f) i rfl fun a => ?_))
  match a with
  | ⟨0, _⟩ => show win0_5.index t 0 * 2048 + r.val = (i 0).val; omega
  | ⟨1, _⟩ => show win0_5.index t 1 * 256 + f.val = (i 1).val; omega

/-- The blocks fill the array. -/
theorem coveredK (i : S2048x4096.Idx) : ∃ t : Fin cfg0.N, (cfg0.win 8).flush t = true ∧ i ∈ ((cfg0.win 8).blk t).view.set := by
  have h1 : (i 1).val < 4096 := (i 1).isLt
  have hN : 48 + (i 1).val / 256 < cfg0.N := by show _ < 64; omega
  refine ⟨⟨48 + (i 1).val / 256, hN⟩, (flushK_iff _).mpr (Nat.le_add_right _ _), ?_⟩
  obtain ⟨_, o0, o1⟩ := indexK ⟨48 + (i 1).val / 256, hN⟩
  generalize ht : (⟨48 + (i 1).val / 256, hN⟩ : Fin cfg0.N) = t at o0 o1 ⊢
  have hv : t.val = 48 + (i 1).val / 256 := by rw [← ht]
  suffices e : (win0_8.rect t).emb (ix2 (i 0) (Fin.ofNat 256 (i 1).val)) = i from
    e ▸ ((cfg0.win 8).blk t).view.emb_mem_set (ix2 (i 0) (Fin.ofNat 256 (i 1).val))
  refine emb_eq win0_8 t _ i rfl fun a => ?_
  match a with
  | ⟨0, _⟩ => show win0_8.index t 0 * 2048 + (i 0).val = (i 0).val; omega
  | ⟨1, _⟩ => show win0_8.index t 1 * 256 + (i 1).val % 256 = (i 1).val; omega

/-- The array after the run. -/
theorem finalK : (dats m 0 c).arrAt 8 cfg0.N = resultK m c :=
  (dats m 0 c).arrAt_eq_of_cover 8 (resultK m c) (fun t _ => flushedK m c t) coveredK

/-! ## The reference -/

/-- The reference's experts' result. -/
theorem referenceD (h : Vec Ideal S16x2048x2048 .bf16) (w : Vec Ideal S2x16x2048x2048 .f32) (i : S8x4096x2048.Idx) :
    Cert.DownSideReferenceIdeal.Read.val_main_v7 (F := Ideal) h w i = down h w i := by
  open Cert.DownSideReferenceIdeal.Read in
  obtain ⟨b, r, f, rfl⟩ : ∃ (b : Fin 8) (r : Fin 4096) (f : Fin 2048), i = ix3 b r f := ⟨_, _, _, eq_ix3 i⟩
  have hb := b.isLt
  have hr := r.isLt
  pointwise [val_main_v7, val_main_v6, val_main_v5, val_main_v4, val_main_v3, val_main_v2, val_main_v1, val_main_v0]
  refine Finset.sum_congr rfl fun k _ => (mul_comm _ _).trans (mul_eq ?_ ?_)
  · exact read_eq h fun a => by
      match a with
      | ⟨0, _⟩ => exact (Nat.mod_eq_of_lt (show r.val / 256 < 16 by omega)).symm
      | ⟨1, _⟩ => exact (Nat.mod_eq_of_lt (show b.val * 256 + r.val % 256 < 2048 by omega)).symm
      | ⟨2, _⟩ => rfl
  · exact read_eq w fun a => by
      match a with
      | ⟨0, _⟩ => rfl
      | ⟨1, _⟩ => exact (Nat.mod_eq_of_lt (show r.val / 256 < 16 by omega)).symm
      | ⟨2, _⟩ => rfl
      | ⟨3, _⟩ => rfl

/-- The reference's modulation. -/
theorem referenceM (x : Vec Ideal S16x2048 .f32) (w : Vec Ideal S2x2048x12288 .f32) (b : Vec Ideal S2x12288 .f32) (i : S16x12288.Idx) :
    Cert.DownSideReferenceIdeal.Read.val_main_v16 (F := Ideal) x w b i = modulation x w b i := by
  open Cert.DownSideReferenceIdeal Cert.DownSideReferenceIdeal.Read in
  obtain ⟨r, f, rfl⟩ : ∃ (r : Fin 16) (f : Fin 12288), i = ix2 r f := ⟨_, _, eq_ix2 i⟩
  pointwise [val_main_v16, val_main_v15, val_main_v14, val_main_v13, val_main_v12, val_main_v11, val_main_v10, val_main_v9, val_main_v8,
    val_main_call0_v0, val_main_call0_v1, val_main_call0_v2, val_main_call0_v3, val_main_call0_v4, val_main_call0_v5, val_main_call0_cst,
    val_main_call0_cst_0, Cert.DownSideReferenceIdeal.dot_S16x2048_S2048x12288_S16x12288_1_0_0_1_n_n]
  rfl

/-- The reference's cast. -/
theorem referenceK (x : Vec Ideal S2048x4096 .f32) (i : S2048x4096.Idx) :
    Cert.DownSideReferenceIdeal.Read.val_main_v17 (F := Ideal) x i = x i := rfl

end Cert.DownSideProof

end
-- ==== Proof.Rows.lean ====
/- Rows of numbers: their mean, their normalization, the modulated row of a layer, and the tanh form of gelu. -/
module

public import Idealize.ShloMosaic.Lib.Pointwise

@[expose] public section

noncomputable section

namespace Cert.Layer

open Idealize.ShloMosaic

/-- The mean of a row, the number of its entries given as a float. -/
def mean (n : BitVec 32) {N : ℕ} (x : Fin N → EReal) : EReal := Ideal.div (∑ j, x j) (Ideal.ofBits .f32 n)

/-- A row normalized: its mean taken off, times the reciprocal square root of its variance plus 1e-6. -/
def norm (n : BitVec 32) {N : ℕ} (x : Fin N → EReal) (i : Fin N) : EReal :=
  (x i - mean n x) * Ideal.rsqrt (mean n (fun j => (x j - mean n x) * (x j - mean n x)) + Ideal.ofBits .f32 897988541#32)

/-- A normalized row of 2048 entries, scaled and shifted. -/
def modulated (x scale shift : Fin 2048 → EReal) (i : Fin 2048) : EReal := norm 1157627904#32 x i * (1 + scale i) + shift i

/-- `½ z (1 + tanh (√(2/π) (z + 0.044715 z³)))`, the constants as floats. -/
def gelu (z : EReal) : EReal :=
  z * (Ideal.ofBits .f32 1056964608#32
    * (1 + Ideal.tanh (Ideal.ofBits .f32 1061962282#32 * (z + Ideal.ofBits .f32 1027024659#32 * (z * (z * z))))))

/-- A normalized entry, read at an index that is `i`. -/
theorem norm_eq (n : BitVec 32) {N : ℕ} (x : Fin N → EReal) (i : Fin N) (a : EReal) (h : a = x i) :
    (a - mean n x) * Ideal.rsqrt (mean n (fun j => (x j - mean n x) * (x j - mean n x)) + Ideal.ofBits .f32 897988541#32) = norm n x i := by
  rw [h]; rfl

end Cert.Layer

end
-- ==== Proof.CdIn.lean ====
/- The odd layer's input projection: the three arrays the call leaves, entry by entry, and the reference's. -/
module

public import proofs.«01_k».proof.Proof.Index
public import proofs.«01_k».proof.Proof.Rows
public import proofs.«01_k».proof.Proof.Gen.CdInIdeal.Value
public import proofs.«01_k».proof.Proof.Gen.CdInReferenceIdeal.Read
public import Idealize.ShloMosaic.Lib.StableHlo.RunRead

@[expose] public section

noncomputable section

namespace Cert.CdInProof

open Idealize.ShloMosaic Idealize.ShloMosaic.TcCoe Idealize.ShloMosaic.Tactic Idealize.SL.Sem
open Cert.CdInIdeal Cert.CdInIdeal.Gen Cert.Layer

/-! ## One row -/

/-- A row's product with column `k` of the weights. -/
def dotc (h : Fin 2048 → EReal) (w : Vec Ideal S2048x4096 .bf16) (k : ℕ) : EReal := ∑ d, h d * w (ix2 d (Fin.ofNat 4096 k))

/-- The gate's own half: entry `f`. -/
def uOf (h : Fin 2048 → EReal) (w : Vec Ideal S2048x4096 .bf16) (f : ℕ) : EReal := gelu (dotc h w f)

/-- The mixed half, normalized over the 128 columns of the entry's group, with the group's gain and offset. -/
def vOf (h : Fin 2048 → EReal) (w : Vec Ideal S2048x4096 .bf16) (g b : EReal) (f : ℕ) : EReal :=
  norm 1124073472#32 (fun e : Fin 128 => gelu (dotc h w (1024 + f / 128 * 128 + e.val))) (Fin.ofNat 128 f) * g + b

/-- The convolution's input: entry `f`. -/
def xOf (h : Fin 2048 → EReal) (w : Vec Ideal S2048x4096 .bf16) (f : ℕ) : EReal :=
  dotc h w (2048 + f) * Ideal.logistic (dotc h w (3072 + f))

/-! ## The body's values -/

/-- The modulated row of a block. -/
def blockRow (x : Vec Ideal S256x2048 .f32) (sh sc : Vec Ideal S1x1x1x1x2048 .f32) (r : Fin 256) : Fin 2048 → EReal :=
  modulated (fun d => x (ix2 r d)) (fun d => sc (ix5 0 0 0 0 d)) (fun d => sh (ix5 0 0 0 0 d))

/-- The body's modulated rows. -/
theorem row_apply (x : Vec Ideal S256x2048 .f32) (sh sc : Vec Ideal S1x1x1x1x2048 .f32) (w : Vec Ideal S2048x4096 .bf16)
    (g b : Vec Ideal S1x1024 .f32) (r : Fin 256) (d : Fin 2048) : k0_pay25 x sh sc w g b (ix2 r d) = blockRow x sh sc r d := by
  have h : ∀ (x : Vec Ideal S256x2048 .f32) (sc sh : Vec Ideal S1x1x1x1x2048 .f32), k0_pay3 x sc sh (ix2 r d) = blockRow x sh sc r d := by
    intro x sc sh
    pointwise [k0_pay3]
    rfl
  have e0 : View.ld x r0_0 = x := funext fun y => read_eq x fun a => by match a with | ⟨0, _⟩ => show 0 + 1 * _ = _; omega | ⟨1, _⟩ => show 0 + 1 * _ = _; omega
  have e1 : ∀ s : Vec Ideal S1x1x1x1x2048 .f32, View.ld s r0_1 = s := fun s => funext fun y => read_eq s fun a => by
    match a with
    | ⟨0, _⟩ => show 0 + 1 * _ = _; omega
    | ⟨1, _⟩ => show 0 + 1 * _ = _; omega
    | ⟨2, _⟩ => show 0 + 1 * _ = _; omega
    | ⟨3, _⟩ => show 0 + 1 * _ = _; omega
    | ⟨4, _⟩ => show 0 + 1 * _ = _; omega
  rw [k0_pay25, e0, e1, e1]
  exact h _ _ _

section
variable (h : FVec Ideal S256x2048 .bf16) (w w' : Vec Ideal S2048x512 .bf16) (r : Fin 256) (f : Fin 512)

/-- The gate's own half, its last 512 columns. -/
theorem gelu_right : k0_pay8 h w (ix2 r f) = gelu (∑ d, h (ix2 r d) * w (ix2 d f)) := by
  pointwise [k0_pay8, dot_S256x2048_S2048x512_S256x512_1_0_0_1_n_n]
  rfl

/-- Its first 512. -/
theorem gelu_left (x : Vec Ideal S256x2048 .f32) (sh sc : Vec Ideal S1x1x1x1x2048 .f32) :
    k0_pay7 (k0_pay4 x sc sh w) (k0_pay5 x sc sh w) k0_pay6 (ix2 r f) = gelu (∑ d, k0_pay3 x sc sh (ix2 r d) * w (ix2 d f)) := by
  pointwise [k0_pay7, k0_pay4, k0_pay5, k0_pay6, dot_S256x2048_S2048x512_S256x512_1_0_0_1_n_n]
  rfl

/-- The mixed half before its normalization, its first 512 columns. -/
theorem gelu_first : k0_pay11 (k0_pay9 h w) (k0_pay10 h w) (Scalar.ofBits .f32 0x3F000000#32) (ix2 r f) = gelu (∑ d, h (ix2 r d) * w (ix2 d f)) := by
  pointwise [k0_pay11, k0_pay9, k0_pay10, dot_S256x2048_S2048x512_S256x512_1_0_0_1_n_n]
  rfl

/-- Its last 512. -/
theorem gelu_second : k0_pay19 (k0_pay17 h w) (k0_pay18 h w) (ix2 r f) = gelu (∑ d, h (ix2 r d) * w (ix2 d f)) := by
  pointwise [k0_pay19, k0_pay17, k0_pay18, dot_S256x2048_S2048x512_S256x512_1_0_0_1_n_n]
  rfl

/-- The convolution's input, its first 512 columns. -/
theorem glu_left : k0_pay1 h w w' (ix2 r f) = (∑ d, h (ix2 r d) * w (ix2 d f)) * Ideal.logistic (∑ d, h (ix2 r d) * w' (ix2 d f)) := by
  pointwise [k0_pay1, dot_S256x2048_S2048x512_S256x512_1_0_0_1_n_n]

/-- Its last 512. -/
theorem glu_right : k0_pay2 h w w' (ix2 r f) = (∑ d, h (ix2 r d) * w (ix2 d f)) * Ideal.logistic (∑ d, h (ix2 r d) * w' (ix2 d f)) := by
  pointwise [k0_pay2, dot_S256x2048_S2048x512_S256x512_1_0_0_1_n_n]

end

/-- Column `e` of the `q`-th 128 of 512. -/
def sub (q : Fin 4) (e : Fin 128) : Fin 512 := ⟨q.val * 128 + e.val, by omega⟩

/-- Normalizing a group of 128 columns, the group's columns given twice. -/
theorem at_group (z : FVec Ideal S256x512 .f32) (r : Fin 256) (q : Fin 4) (e : Fin 128) (g : Fin 128 → Fin 512) (h : ∀ x, (g x).val = (sub q x).val) :
    norm 1124073472#32 (fun x => z (ix2 r (g x))) e = norm 1124073472#32 (fun x => z (ix2 r (sub q x))) e :=
  congrArg (fun g : Fin 128 → Fin 512 => norm 1124073472#32 (fun x => z (ix2 r (g x))) e) (funext fun x => Fin.ext (h x))

section
variable (a b : FVec Ideal S256x512 .f32) (lg lb : Vec Ideal S1x512 .f32) (r : Fin 256) (q : Fin 4) (e : Fin 128)

/-- The first 512 normalized columns. -/
theorem norm_first (c : Ideal .f32) :
    k0_pay16 (k0_pay11 a b c) (k0_pay12 a b c) (k0_pay13 a b c) (k0_pay14 a b c) (k0_pay15 a b c) lg lb (ix2 r (sub q e))
      = norm 1124073472#32 (fun e => k0_pay11 a b c (ix2 r (sub q e))) e * lg (ix2 0 (sub q e)) + lb (ix2 0 (sub q e)) := by
  pointwise [k0_pay16, k0_pay12, k0_pay13, k0_pay14, k0_pay15]
  generalize k0_pay11 a b c = z
  refine congrArg (· + lb _) (congrArg (· * lg _) ?_)
  have he := e.isLt
  have hs : (sub q e).val = q.val * 128 + e.val := rfl
  by_cases c0 : (sub q e).val < 128
  · rw [dif_pos c0]
    have hq : q.val = 0 := by omega
    refine (norm_eq _ (fun x : Fin 128 => z (ix2 r ⟨x.val, by omega⟩)) e _ (congrArg (fun f => z (ix2 r f)) (Fin.ext ?_))).trans (at_group z r q e _ fun x => ?_)
    · show (sub q e).val = e.val; omega
    · show x.val = q.val * 128 + x.val; omega
  by_cases c1 : (sub q e).val - 128 < 128
  · rw [dif_neg c0, dif_pos c1]
    have hq : q.val = 1 := by omega
    refine (norm_eq _ (fun x : Fin 128 => z (ix2 r ⟨128 + x.val, by omega⟩)) e _ (congrArg (fun f => z (ix2 r f)) (Fin.ext ?_))).trans (at_group z r q e _ fun x => ?_)
    · show 128 + ((sub q e).val - 128) = 128 + e.val; omega
    · show 128 + x.val = q.val * 128 + x.val; omega
  by_cases c2 : (sub q e).val - 128 - 128 < 128
  · rw [dif_neg c0, dif_neg c1, dif_pos c2]
    have hq : q.val = 2 := by omega
    refine (norm_eq _ (fun x : Fin 128 => z (ix2 r ⟨256 + x.val, by omega⟩)) e _ (congrArg (fun f => z (ix2 r f)) (Fin.ext ?_))).trans (at_group z r q e _ fun x => ?_)
    · show 256 + ((sub q e).val - 128 - 128) = 256 + e.val; omega
    · show 256 + x.val = q.val * 128 + x.val; omega
  rw [dif_neg c0, dif_neg c1, dif_neg c2]
  have hq : q.val = 3 := by omega
  refine (norm_eq _ (fun x : Fin 128 => z (ix2 r ⟨384 + x.val, by omega⟩)) e _ (congrArg (fun f => z (ix2 r f)) (Fin.ext ?_))).trans (at_group z r q e _ fun x => ?_)
  · show 384 + ((sub q e).val - 128 - 128 - 128) = 384 + e.val; omega
  · show 384 + x.val = q.val * 128 + x.val; omega

/-- The next 512. -/
theorem norm_second :
    k0_pay24 (k0_pay19 a b) (k0_pay20 a b) (k0_pay21 a b) (k0_pay22 a b) (k0_pay23 a b) (Scalar.ofBits .f32 0x43000000#32) lg lb (ix2 r (sub q e))
      = norm 1124073472#32 (fun e => k0_pay19 a b (ix2 r (sub q e))) e * lg (ix2 0 (sub q e)) + lb (ix2 0 (sub q e)) := by
  pointwise [k0_pay24, k0_pay20, k0_pay21, k0_pay22, k0_pay23]
  generalize k0_pay19 a b = z
  refine congrArg (· + lb _) (congrArg (· * lg _) ?_)
  have he := e.isLt
  have hs : (sub q e).val = q.val * 128 + e.val := rfl
  by_cases c0 : (sub q e).val < 128
  · rw [dif_pos c0]
    have hq : q.val = 0 := by omega
    refine (norm_eq _ (fun x : Fin 128 => z (ix2 r ⟨x.val, by omega⟩)) e _ (congrArg (fun f => z (ix2 r f)) (Fin.ext ?_))).trans (at_group z r q e _ fun x => ?_)
    · show (sub q e).val = e.val; omega
    · show x.val = q.val * 128 + x.val; omega
  by_cases c1 : (sub q e).val - 128 < 128
  · rw [dif_neg c0, dif_pos c1]
    have hq : q.val = 1 := by omega
    refine (norm_eq _ (fun x : Fin 128 => z (ix2 r ⟨128 + x.val, by omega⟩)) e _ (congrArg (fun f => z (ix2 r f)) (Fin.ext ?_))).trans (at_group z r q e _ fun x => ?_)
    · show 128 + ((sub q e).val - 128) = 128 + e.val; omega
    · show 128 + x.val = q.val * 128 + x.val; omega
  by_cases c2 : (sub q e).val - 128 - 128 < 128
  · rw [dif_neg c0, dif_neg c1, dif_pos c2]
    have hq : q.val = 2 := by omega
    refine (norm_eq _ (fun x : Fin 128 => z (ix2 r ⟨256 + x.val, by omega⟩)) e _ (congrArg (fun f => z (ix2 r f)) (Fin.ext ?_))).trans (at_group z r q e _ fun x => ?_)
    · show 256 + ((sub q e).val - 128 - 128) = 256 + e.val; omega
    · show 256 + x.val = q.val * 128 + x.val; omega
  rw [dif_neg c0, dif_neg c1, dif_neg c2]
  have hq : q.val = 3 := by omega
  refine (norm_eq _ (fun x : Fin 128 => z (ix2 r ⟨384 + x.val, by omega⟩)) e _ (congrArg (fun f => z (ix2 r f)) (Fin.ext ?_))).trans (at_group z r q e _ fun x => ?_)
  · show 384 + ((sub q e).val - 128 - 128 - 128) = 384 + e.val; omega
  · show 384 + x.val = q.val * 128 + x.val; omega

end

/-! ## What the body leaves in the output blocks -/

/-- 512 columns of the weights, from column `o` on. -/
theorem cols (w : Vec Ideal S2048x4096 .bf16) (o : ℕ) (hb : ∀ a : Fin 2, (![0, o] : Fin 2 → ℕ) a + S2048x512.size a ≤ S2048x4096.size a)
    (d : Fin 2048) (f : Fin 512) : View.ld w (Rect.unit (s := S2048x4096) ![0, o] S2048x512.size hb) (ix2 d f) = w (ix2 d (Fin.ofNat 4096 (o + f.val))) :=
  read_eq w fun a => by
    have h : o + 512 ≤ 4096 := hb 1
    match a with
    | ⟨0, _⟩ => show 0 + 1 * d.val = d.val; omega
    | ⟨1, _⟩ => show o + 1 * f.val = (o + f.val) % 4096; omega

section
variable (x : Vec Ideal S256x2048 .f32) (sh sc : Vec Ideal S1x1x1x1x2048 .f32) (w : Vec Ideal S2048x4096 .bf16) (g b : Vec Ideal S1x1024 .f32)

/-- The body's row against 512 columns. -/
theorem dot_cols (w' : Vec Ideal S2048x512 .bf16) (o : ℕ) (hw : ∀ (d : Fin 2048) (f : Fin 512), w' (ix2 d f) = w (ix2 d (Fin.ofNat 4096 (o + f.val))))
    (r : Fin 256) (f : Fin 512) : ∑ d, k0_pay25 x sh sc w g b (ix2 r d) * w' (ix2 d f) = dotc (blockRow x sh sc r) w (o + f.val) :=
  Finset.sum_congr rfl fun d _ => mul_eq (row_apply x sh sc w g b r d) (hw d f)

/-- The first output block, `uOf` of the rows. -/
def blockU (y : S256x1024.Idx) : Elt Ideal .bf16 := uOf (blockRow x sh sc (y 0)) w (y 1).val

/-- The second, `vOf`. -/
def blockV (y : S256x1024.Idx) : Elt Ideal .bf16 := vOf (blockRow x sh sc (y 0)) w (g (ix2 0 (y 1))) (b (ix2 0 (y 1))) (y 1).val

/-- The third, `xOf`. -/
def blockX (y : S256x1024.Idx) : Elt Ideal .f32 := xOf (blockRow x sh sc (y 0)) w (y 1).val

/-- What the body leaves in its first output block. -/
theorem out_u (y : S256x1024.Idx) : out0_6 x sh sc w g b y = blockU x sh sc w y := by
  unfold out0_6
  refine View.canon_apply_of_pieces (blockU x sh sc w) _ ?_ y (cover0_6 _ _ y)
  simp only [List.forall_mem_cons, List.not_mem_nil, false_imp_iff, implies_true, and_true]
  constructor <;> intro z <;> obtain ⟨r, f, rfl⟩ : ∃ (r : Fin 256) (f : Fin 512), z = ix2 r f := ⟨_, _, eq_ix2 z⟩
  · have e0 : (r0_5.emb (ix2 r f)) 0 = r := Fin.ext (by show 0 + 1 * r.val = r.val; omega)
    have e1 : ((r0_5.emb (ix2 r f)) 1).val = 512 + f.val := by show 512 + 1 * f.val = 512 + f.val; omega
    refine (gelu_right _ _ r f).trans ?_
    rw [dot_cols x sh sc w g b _ 512 (cols w 512 _)]
    show _ = uOf (blockRow x sh sc ((r0_5.emb (ix2 r f)) 0)) w ((r0_5.emb (ix2 r f)) 1).val
    rw [e0, e1]; rfl
  · have e0 : (r0_3.emb (ix2 r f)) 0 = r := Fin.ext (by show 0 + 1 * r.val = r.val; omega)
    have e1 : ((r0_3.emb (ix2 r f)) 1).val = 0 + f.val := by show 0 + 1 * f.val = 0 + f.val; omega
    refine (gelu_left _ r f _ _ _).trans ?_
    refine (congrArg gelu (dot_cols x sh sc w g b _ 0 (cols w 0 _) r f)).trans ?_
    show _ = uOf (blockRow x sh sc ((r0_3.emb (ix2 r f)) 0)) w ((r0_3.emb (ix2 r f)) 1).val
    rw [e0, e1]; rfl

/-- What it leaves in its third. -/
theorem out_x (y : S256x1024.Idx) : out0_8 x sh sc w g b y = blockX x sh sc w y := by
  unfold out0_8
  refine View.canon_apply_of_pieces (blockX x sh sc w) _ ?_ y (cover0_8 _ _ y)
  simp only [List.forall_mem_cons, List.not_mem_nil, false_imp_iff, implies_true, and_true]
  constructor <;> intro z <;> obtain ⟨r, f, rfl⟩ : ∃ (r : Fin 256) (f : Fin 512), z = ix2 r f := ⟨_, _, eq_ix2 z⟩
  · have e0 : (r0_5.emb (ix2 r f)) 0 = r := Fin.ext (by show 0 + 1 * r.val = r.val; omega)
    have e1 : ((r0_5.emb (ix2 r f)) 1).val = 512 + f.val := by show 512 + 1 * f.val = 512 + f.val; omega
    refine (glu_right _ _ _ r f).trans ?_
    rw [dot_cols x sh sc w g b _ 2560 (cols w 2560 _), dot_cols x sh sc w g b _ 3584 (cols w 3584 _)]
    show _ = xOf (blockRow x sh sc ((r0_5.emb (ix2 r f)) 0)) w ((r0_5.emb (ix2 r f)) 1).val
    rw [e0, e1, xOf, ← Nat.add_assoc, ← Nat.add_assoc]
  · have e0 : (r0_3.emb (ix2 r f)) 0 = r := Fin.ext (by show 0 + 1 * r.val = r.val; omega)
    have e1 : ((r0_3.emb (ix2 r f)) 1).val = f.val := by show 0 + 1 * f.val = f.val; omega
    refine (glu_left _ _ _ r f).trans ?_
    rw [dot_cols x sh sc w g b _ 2048 (cols w 2048 _), dot_cols x sh sc w g b _ 3072 (cols w 3072 _)]
    show _ = xOf (blockRow x sh sc ((r0_3.emb (ix2 r f)) 0)) w ((r0_3.emb (ix2 r f)) 1).val
    rw [e0, e1, xOf]

/-- A normalized group of 512 columns from `o` on is a group of the whole. -/
theorem group_eq (h : Fin 2048 → EReal) (o k : ℕ) (q : Fin 4) (e : Fin 128) (ho : o = 1024 + k) (hk : k % 128 = 0) (G B : EReal) :
    norm 1124073472#32 (fun e => gelu (dotc h w (o + (sub q e).val))) e * G + B = vOf h w G B (k + (sub q e).val) := by
  have he := e.isLt
  have hs : ∀ x : Fin 128, (sub q x).val = q.val * 128 + x.val := fun _ => rfl
  have e1 : (Fin.ofNat 128 (k + (sub q e).val)) = e := Fin.ext (by show (k + (sub q e).val) % 128 = e.val; rw [hs]; omega)
  rw [vOf, e1]
  have e2 : ∀ x : Fin 128, o + (sub q x).val = 1024 + (k + (sub q e).val) / 128 * 128 + x.val := fun x => by rw [hs, hs]; omega
  simp only [e2]

/-- What it leaves in its second. -/
theorem out_v (y : S256x1024.Idx) : out0_7 x sh sc w g b y = blockV x sh sc w g b y := by
  unfold out0_7
  refine View.canon_apply_of_pieces (blockV x sh sc w g b) _ ?_ y (cover0_7 _ _ y)
  simp only [List.forall_mem_cons, List.not_mem_nil, false_imp_iff, implies_true, and_true]
  constructor <;> intro z <;> obtain ⟨r, f, rfl⟩ : ∃ (r : Fin 256) (f : Fin 512), z = ix2 r f := ⟨_, _, eq_ix2 z⟩ <;>
    obtain ⟨q, e, rfl⟩ : ∃ (q : Fin 4) (e : Fin 128), f = sub q e :=
      ⟨⟨f.val / 128, by omega⟩, ⟨f.val % 128, by omega⟩, Fin.ext (by show f.val = f.val / 128 * 128 + f.val % 128; omega)⟩
  · have e0 : (r0_5.emb (ix2 r (sub q e))) 0 = r := Fin.ext (by show 0 + 1 * r.val = r.val; omega)
    have e1 : ((r0_5.emb (ix2 r (sub q e))) 1).val = 512 + (sub q e).val := by show 512 + 1 * (sub q e).val = _; omega
    have er : ∀ v : Vec Ideal S1x1024 .f32, View.ld v r0_9 (ix2 0 (sub q e)) = v (ix2 0 ((r0_5.emb (ix2 r (sub q e))) 1)) := fun v =>
      read_eq v fun a => by match a with | ⟨0, _⟩ => rfl | ⟨1, _⟩ => rfl
    refine (norm_second _ _ _ _ r q e).trans ?_
    rw [er, er]
    show _ = vOf (blockRow x sh sc ((r0_5.emb (ix2 r (sub q e))) 0)) w (g (ix2 0 ((r0_5.emb (ix2 r (sub q e))) 1))) (b (ix2 0 ((r0_5.emb (ix2 r (sub q e))) 1)))
      ((r0_5.emb (ix2 r (sub q e))) 1).val
    rw [e0, e1, ← group_eq w _ 1536 512 q e rfl rfl]
    refine congrArg (· + _) (congrArg (· * _) (congrArg (fun v => norm 1124073472#32 v e) (funext fun e => ?_)))
    exact (gelu_second _ _ r (sub q e)).trans (congrArg gelu (dot_cols x sh sc w g b _ 1536 (cols w 1536 _) r (sub q e)))
  · have e0 : (r0_3.emb (ix2 r (sub q e))) 0 = r := Fin.ext (by show 0 + 1 * r.val = r.val; omega)
    have e1 : ((r0_3.emb (ix2 r (sub q e))) 1).val = 0 + (sub q e).val := by show 0 + 1 * (sub q e).val = _; omega
    have er : ∀ v : Vec Ideal S1x1024 .f32, View.ld v r0_7 (ix2 0 (sub q e)) = v (ix2 0 ((r0_3.emb (ix2 r (sub q e))) 1)) := fun v =>
      read_eq v fun a => by match a with | ⟨0, _⟩ => rfl | ⟨1, _⟩ => rfl
    refine (norm_first _ _ _ _ r q e _).trans ?_
    rw [er, er]
    show _ = vOf (blockRow x sh sc ((r0_3.emb (ix2 r (sub q e))) 0)) w (g (ix2 0 ((r0_3.emb (ix2 r (sub q e))) 1))) (b (ix2 0 ((r0_3.emb (ix2 r (sub q e))) 1)))
      ((r0_3.emb (ix2 r (sub q e))) 1).val
    rw [e0, e1, ← group_eq w _ 1024 0 q e rfl rfl]
    refine congrArg (· + _) (congrArg (· * _) (congrArg (fun v => norm 1124073472#32 v e) (funext fun e => ?_)))
    exact (gelu_first _ _ r (sub q e)).trans (congrArg gelu (dot_cols x sh sc w g b _ 1024 (cols w 1024 _) r (sub q e)))

end

/-! ## The result arrays -/

/-- The modulated row `R` of the whole array: `x`'s row with its batch's scale and shift. -/
def row (x : Vec Ideal S16384x2048 .f32) (md : Vec Ideal S1x16x6x1x2048 .f32) (R : Fin 16384) : Fin 2048 → EReal :=
  modulated (fun d => x (ix2 R d)) (fun d => md (ix5 0 ⟨R.val / 2048, by omega⟩ 1 0 d)) (fun d => md (ix5 0 ⟨R.val / 2048, by omega⟩ 0 0 d))

/-- The group's gain or offset at column `f`. -/
def gain (g : Vec Ideal S8x128 .f32) (f : Fin 1024) : EReal := g (ix2 ⟨f.val / 128, by omega⟩ ⟨f.val % 128, by omega⟩)

/-- Where each window's block sits: 256 rows a point, the rows' batch, all of the weights. -/
theorem index_eq : ∀ t : Fin grid0.N,
    (win0_0.index t 0 = t.val ∧ win0_0.index t 1 = 0)
    ∧ (win0_1.index t 0 = 0 ∧ win0_1.index t 1 = t.val / 8 ∧ win0_1.index t 2 = 0 ∧ win0_1.index t 3 = 0 ∧ win0_1.index t 4 = 0)
    ∧ (win0_2.index t 0 = 0 ∧ win0_2.index t 1 = t.val / 8 ∧ win0_2.index t 2 = 1 ∧ win0_2.index t 3 = 0 ∧ win0_2.index t 4 = 0)
    ∧ (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) := by
  decide +kernel

variable (m : (ℓ : Loc nD τ sig) → Buf (Elt Ideal) ℓ) (c : Dev nD)

/-- The first result. -/
def resultU : Buf (Elt Ideal) ((c : Thread nD τ).loc main_v2_0) := fun i : S16384x1024.Idx =>
  uOf (row (m ((c : Thread nD τ).loc main_arg0)) (m ((c : Thread nD τ).loc main_arg1)) (i 0)) (m ((c : Thread nD τ).loc main_arg2)) (i 1).val

/-- The second. -/
def resultV : Buf (Elt Ideal) ((c : Thread nD τ).loc main_v2_1) := fun i : S16384x1024.Idx =>
  vOf (row (m ((c : Thread nD τ).loc main_arg0)) (m ((c : Thread nD τ).loc main_arg1)) (i 0)) (m ((c : Thread nD τ).loc main_arg2))
    (gain (m ((c : Thread nD τ).loc main_arg3)) (i 1)) (gain (m ((c : Thread nD τ).loc main_arg4)) (i 1)) (i 1).val

/-- The third. -/
def resultX : Buf (Elt Ideal) ((c : Thread nD τ).loc main_v2_2) := fun i : S16384x1024.Idx =>
  xOf (row (m ((c : Thread nD τ).loc main_arg0)) (m ((c : Thread nD τ).loc main_arg1)) (i 0)) (m ((c : Thread nD τ).loc main_arg2)) (i 1).val

/-- The blocks' row `r` is the whole array's row `256 t + r`. -/
theorem row_eq (t : Fin cfg0.N) (r : Fin 256) (R : Fin 16384) (hR : t.val * 256 + r.val = R.val) :
    blockRow (iblk m c 0 t) (iblk m c 1 t) (iblk m c 2 t) r = row (m ((c : Thread nD τ).loc main_arg0)) (m ((c : Thread nD τ).loc main_arg1)) R := by
  obtain ⟨⟨a0, a1⟩, ⟨b0, b1, b2, b3, b4⟩, ⟨c0, c1, c2, c3, c4⟩, -⟩ := index_eq t
  refine congr (congr (congrArg modulated ?_) ?_) ?_ <;> funext d
  · refine (congrFun (V_main_arg0 m c) _).trans (congrArg (m ((c : Thread nD τ).loc main_arg0)) (emb_eq win0_0 t (ix2 r d) (ix2 R d) rfl fun a => ?_))
    match a with
    | ⟨0, _⟩ => show win0_0.index t 0 * 256 + r.val = R.val; omega
    | ⟨1, _⟩ => show win0_0.index t 1 * 2048 + d.val = d.val; omega
  · refine (congrFun (V_main_arg1 m c) _).trans
      (congrArg (m ((c : Thread nD τ).loc main_arg1)) (emb_eq win0_2 t (ix5 0 0 0 0 d) (ix5 0 ⟨R.val / 2048, by omega⟩ 1 0 d) rfl fun a => ?_))
    match a with
    | ⟨0, _⟩ => show win0_2.index t 0 * 1 + 0 = 0; omega
    | ⟨1, _⟩ => show win0_2.index t 1 * 1 + 0 = R.val / 2048; omega
    | ⟨2, _⟩ => show win0_2.index t 2 * 1 + 0 = 1; omega
    | ⟨3, _⟩ => show win0_2.index t 3 * 1 + 0 = 0; omega
    | ⟨4, _⟩ => show win0_2.index t 4 * 2048 + d.val = d.val; omega
  · refine (congrFun (V_main_arg1 m c) _).trans
      (congrArg (m ((c : Thread nD τ).loc main_arg1)) (emb_eq win0_1 t (ix5 0 0 0 0 d) (ix5 0 ⟨R.val / 2048, by omega⟩ 0 0 d) rfl fun a => ?_))
    match a with
    | ⟨0, _⟩ => show win0_1.index t 0 * 1 + 0 = 0; omega
    | ⟨1, _⟩ => show win0_1.index t 1 * 1 + 0 = R.val / 2048; omega
    | ⟨2, _⟩ => show win0_1.index t 2 * 1 + 0 = 0; omega
    | ⟨3, _⟩ => show win0_1.index t 3 * 1 + 0 = 0; omega
    | ⟨4, _⟩ => show win0_1.index t 4 * 2048 + d.val = d.val; omega

/-- Every point's block of the weights is all of them. -/
theorem weights_eq (t : Fin cfg0.N) : iblk m c 3 t = m ((c : Thread nD τ).loc main_arg2) := by
  obtain ⟨-, -, -, ⟨a0, a1⟩, -⟩ := index_eq t
  funext y
  obtain ⟨d, f, rfl⟩ : ∃ (d : Fin 2048) (f : Fin 4096), y = ix2 d f := ⟨_, _, eq_ix2 y⟩
  refine (congrFun (V_main_arg2 m c) _).trans (congrArg (m ((c : Thread nD τ).loc main_arg2)) (emb_eq win0_3 t (ix2 d f) (ix2 d f) rfl fun a => ?_))
  match a with
  | ⟨0, _⟩ => show win0_3.index t 0 * 2048 + d.val = d.val; omega
  | ⟨1, _⟩ => show win0_3.index t 1 * 4096 + f.val = f.val; omega

/-- The gains laid out in one row of 1024. -/
theorem flat_gain : V m c main_v0 = shapeCast S1x1024 (m ((c : Thread nD τ).loc main_arg3)) shapeCasts_S8x128_S1x1024 := by
  after_reads_simp
  rfl

/-- The offsets likewise. -/
theorem flat_offset : V m c main_v1 = shapeCast S1x1024 (m ((c : Thread nD τ).loc main_arg4)) shapeCasts_S8x128_S1x1024 := by
  after_reads_simp
  rfl

/-- An entry of that row. -/
theorem flat_apply (g : Vec Ideal S8x128 .f32) (f : Fin 1024) : shapeCast S1x1024 g shapeCasts_S8x128_S1x1024 (ix2 0 f) = gain g f := by
  pointwise []
  rfl

/-- The block of the gains. -/
theorem gain_eq (t : Fin cfg0.N) (f : Fin 1024) : iblk m c 4 t (ix2 0 f) = gain (m ((c : Thread nD τ).loc main_arg3)) f := by
  obtain ⟨-, -, -, -, ⟨a0, a1⟩, -⟩ := index_eq t
  refine (congrFun (flat_gain m c) _).trans (.trans ?_ (flat_apply _ f))
  refine congrArg (shapeCast S1x1024 (m ((c : Thread nD τ).loc main_arg3)) shapeCasts_S8x128_S1x1024) (emb_eq win0_4 t (ix2 0 f) (ix2 0 f) rfl fun a => ?_)
  match a with
  | ⟨0, _⟩ => show win0_4.index t 0 * 1 + 0 = 0; omega
  | ⟨1, _⟩ => show win0_4.index t 1 * 1024 + f.val = f.val; omega

/-- The block of the offsets. -/
theorem offset_eq (t : Fin cfg0.N) (f : Fin 1024) : iblk m c 5 t (ix2 0 f) = gain (m ((c : Thread nD τ).loc main_arg4)) f := by
  obtain ⟨-, -, -, -, -, ⟨a0, a1⟩, -⟩ := index_eq t
  refine (congrFun (flat_offset m c) _).trans (.trans ?_ (flat_apply _ f))
  refine congrArg (shapeCast S1x1024 (m ((c : Thread nD τ).loc main_arg4)) shapeCasts_S8x128_S1x1024) (emb_eq win0_5 t (ix2 0 f) (ix2 0 f) rfl fun a => ?_)
  match a with
  | ⟨0, _⟩ => show win0_5.index t 0 * 1 + 0 = 0; omega
  | ⟨1, _⟩ => show win0_5.index t 1 * 1024 + f.val = f.val; omega

/-- What a grid point writes back to output 1 is its block of the result. -/
theorem flushed_u (t : Fin cfg0.N) : (dats m 0 c).flushed 6 t = ((cfg0.win 6).blk t).view.read (Elt Ideal) (resultU m c) := by
  rw [Cert.CdInIdeal.Value.flushed6]
  funext y
  refine (out_u _ _ _ _ _ _ y).trans ?_
  obtain ⟨r, f, rfl⟩ : ∃ (r : Fin 256) (f : Fin 1024), y = ix2 r f := ⟨_, _, eq_ix2 y⟩
  rw [weights_eq]
  have hi := index_eq t
  have ht : t.val < 64 := t.isLt
  obtain ⟨R, hR⟩ : ∃ R : Fin 16384, t.val * 256 + r.val = R.val := ⟨⟨t.val * 256 + r.val, by omega⟩, rfl⟩
  have e : (win0_6.rect t).emb (ix2 r f) = ix2 R f := emb_eq win0_6 t (ix2 r f) (ix2 R f) rfl fun a => by
    match a with
    | ⟨0, _⟩ => show win0_6.index t 0 * 256 + r.val = R.val; omega
    | ⟨1, _⟩ => show win0_6.index t 1 * 1024 + f.val = f.val; omega
  show uOf (blockRow (iblk m c 0 t) (iblk m c 1 t) (iblk m c 2 t) r) (m ((c : Thread nD τ).loc main_arg2)) f.val = resultU m c ((win0_6.rect t).emb (ix2 r f))
  rw [e]
  exact congrArg (fun h => uOf h (m ((c : Thread nD τ).loc main_arg2)) f.val) (row_eq m c t r R hR)

/-- The blocks fill output 1. -/
theorem cover_u (i : S16384x1024.Idx) : ∃ t : Fin cfg0.N, (cfg0.win 6).flush t = true ∧ i ∈ ((cfg0.win 6).blk t).view.set := by
  have h0 : (i 0).val < 16384 := (i 0).isLt
  refine ⟨⟨(i 0).val / 256, by show _ < 64; omega⟩, flush0_6 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_6.rect t).emb (ix2 (Fin.ofNat 256 (i 0).val) (i 1)) = i from
    e ▸ ((cfg0.win 6).blk t).view.emb_mem_set (ix2 (Fin.ofNat 256 (i 0).val) (i 1))
  refine emb_eq win0_6 t _ i rfl fun a => ?_
  match a with
  | ⟨0, _⟩ => show win0_6.index t 0 * 256 + (i 0).val % 256 = (i 0).val; omega
  | ⟨1, _⟩ => show win0_6.index t 1 * 1024 + (i 1).val = (i 1).val; omega

/-- Output 1 after the run. -/
theorem final_u : (dats m 0 c).arrAt 6 cfg0.N = resultU m c :=
  (dats m 0 c).arrAt_eq_of_cover 6 (resultU m c) (fun t _ => flushed_u m c t) cover_u

/-- What a grid point writes back to output 2 is its block of the result. -/
theorem flushed_v (t : Fin cfg0.N) : (dats m 0 c).flushed 7 t = ((cfg0.win 7).blk t).view.read (Elt Ideal) (resultV m c) := by
  rw [Cert.CdInIdeal.Value.flushed7]
  funext y
  refine (out_v _ _ _ _ _ _ y).trans ?_
  obtain ⟨r, f, rfl⟩ : ∃ (r : Fin 256) (f : Fin 1024), y = ix2 r f := ⟨_, _, eq_ix2 y⟩
  rw [weights_eq]
  have hi := index_eq t
  have ht : t.val < 64 := t.isLt
  obtain ⟨R, hR⟩ : ∃ R : Fin 16384, t.val * 256 + r.val = R.val := ⟨⟨t.val * 256 + r.val, by omega⟩, rfl⟩
  have e : (win0_7.rect t).emb (ix2 r f) = ix2 R f := emb_eq win0_7 t (ix2 r f) (ix2 R f) rfl fun a => by
    match a with
    | ⟨0, _⟩ => show win0_7.index t 0 * 256 + r.val = R.val; omega
    | ⟨1, _⟩ => show win0_7.index t 1 * 1024 + f.val = f.val; omega
  show vOf (blockRow (iblk m c 0 t) (iblk m c 1 t) (iblk m c 2 t) r) (m ((c : Thread nD τ).loc main_arg2)) (iblk m c 4 t (ix2 0 f)) (iblk m c 5 t (ix2 0 f)) f.val = resultV m c ((win0_7.rect t).emb (ix2 r f))
  rw [e]
  rw [gain_eq, offset_eq]
  exact congrArg (fun h => vOf h (m ((c : Thread nD τ).loc main_arg2)) (gain (m ((c : Thread nD τ).loc main_arg3)) f) (gain (m ((c : Thread nD τ).loc main_arg4)) f) f.val)
    (row_eq m c t r R hR)

/-- The blocks fill output 2. -/
theorem cover_v (i : S16384x1024.Idx) : ∃ t : Fin cfg0.N, (cfg0.win 7).flush t = true ∧ i ∈ ((cfg0.win 7).blk t).view.set := by
  have h0 : (i 0).val < 16384 := (i 0).isLt
  refine ⟨⟨(i 0).val / 256, by show _ < 64; omega⟩, flush0_7 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_7.rect t).emb (ix2 (Fin.ofNat 256 (i 0).val) (i 1)) = i from
    e ▸ ((cfg0.win 7).blk t).view.emb_mem_set (ix2 (Fin.ofNat 256 (i 0).val) (i 1))
  refine emb_eq win0_7 t _ i rfl fun a => ?_
  match a with
  | ⟨0, _⟩ => show win0_7.index t 0 * 256 + (i 0).val % 256 = (i 0).val; omega
  | ⟨1, _⟩ => show win0_7.index t 1 * 1024 + (i 1).val = (i 1).val; omega

/-- Output 2 after the run. -/
theorem final_v : (dats m 0 c).arrAt 7 cfg0.N = resultV m c :=
  (dats m 0 c).arrAt_eq_of_cover 7 (resultV m c) (fun t _ => flushed_v m c t) cover_v

/-- What a grid point writes back to output 3 is its block of the result. -/
theorem flushed_x (t : Fin cfg0.N) : (dats m 0 c).flushed 8 t = ((cfg0.win 8).blk t).view.read (Elt Ideal) (resultX m c) := by
  rw [Cert.CdInIdeal.Value.flushed8]
  funext y
  refine (out_x _ _ _ _ _ _ y).trans ?_
  obtain ⟨r, f, rfl⟩ : ∃ (r : Fin 256) (f : Fin 1024), y = ix2 r f := ⟨_, _, eq_ix2 y⟩
  rw [weights_eq]
  have hi := index_eq t
  have ht : t.val < 64 := t.isLt
  obtain ⟨R, hR⟩ : ∃ R : Fin 16384, t.val * 256 + r.val = R.val := ⟨⟨t.val * 256 + r.val, by omega⟩, rfl⟩
  have e : (win0_8.rect t).emb (ix2 r f) = ix2 R f := emb_eq win0_8 t (ix2 r f) (ix2 R f) rfl fun a => by
    match a with
    | ⟨0, _⟩ => show win0_8.index t 0 * 256 + r.val = R.val; omega
    | ⟨1, _⟩ => show win0_8.index t 1 * 1024 + f.val = f.val; omega
  show xOf (blockRow (iblk m c 0 t) (iblk m c 1 t) (iblk m c 2 t) r) (m ((c : Thread nD τ).loc main_arg2)) f.val = resultX m c ((win0_8.rect t).emb (ix2 r f))
  rw [e]
  exact congrArg (fun h => xOf h (m ((c : Thread nD τ).loc main_arg2)) f.val) (row_eq m c t r R hR)

/-- The blocks fill output 3. -/
theorem cover_x (i : S16384x1024.Idx) : ∃ t : Fin cfg0.N, (cfg0.win 8).flush t = true ∧ i ∈ ((cfg0.win 8).blk t).view.set := by
  have h0 : (i 0).val < 16384 := (i 0).isLt
  refine ⟨⟨(i 0).val / 256, by show _ < 64; omega⟩, flush0_8 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_8.rect t).emb (ix2 (Fin.ofNat 256 (i 0).val) (i 1)) = i from
    e ▸ ((cfg0.win 8).blk t).view.emb_mem_set (ix2 (Fin.ofNat 256 (i 0).val) (i 1))
  refine emb_eq win0_8 t _ i rfl fun a => ?_
  match a with
  | ⟨0, _⟩ => show win0_8.index t 0 * 256 + (i 0).val % 256 = (i 0).val; omega
  | ⟨1, _⟩ => show win0_8.index t 1 * 1024 + (i 1).val = (i 1).val; omega

/-- Output 3 after the run. -/
theorem final_x : (dats m 0 c).arrAt 8 cfg0.N = resultX m c :=
  (dats m 0 c).arrAt_eq_of_cover 8 (resultX m c) (fun t _ => flushed_x m c t) cover_x

/-! ## The reference -/

section
open Cert.CdInReferenceIdeal.Read

variable (x : Vec Ideal S16384x2048 .f32) (md : Vec Ideal S1x16x6x1x2048 .f32) (w : Vec Ideal S2048x4096 .bf16) (g b : Vec Ideal S8x128 .f32)

/-- The reference's modulated rows. -/
theorem ref_row (e : Fin 8) (r d : Fin 2048) (R : Fin 16384) (hR : R.val = e.val * 2048 + r.val) :
    val_main_v28 x md (ix3 e r d) = row x md R d := by
  have hl : e.val * 2048 + r.val < 16384 := by clear hR; omega
  obtain rfl : R = ⟨e.val * 2048 + r.val, hl⟩ := Fin.ext hR
  have hb : (⟨e.val, by omega⟩ : Fin 16) = ⟨(e.val * 2048 + r.val) / 2048, by omega⟩ := Fin.ext (by show e.val = (e.val * 2048 + r.val) / 2048; omega)
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rw [hb]
  rfl

/-- The reference's products. -/
theorem ref_dot (R : Fin 16384) (f : Fin 4096) (k : ℕ) (hk : f.val = k) :
    val_main_v30 x md w (ix3 ⟨R.val / 2048, by omega⟩ ⟨R.val % 2048, by omega⟩ f) = dotc (row x md R) w k := by
  pointwise [val_main_v30, val_main_v29, Cert.CdInReferenceIdeal.dot_S8x2048x2048_S2048x4096_S8x2048x4096_2_0_01_1_n_n]
  refine Finset.sum_congr rfl fun d _ => mul_eq (ref_row x md _ _ d R (by show R.val = R.val / 2048 * 2048 + R.val % 2048; omega)) ?_
  exact read_eq w fun a => by match a with | ⟨0, _⟩ => rfl | ⟨1, _⟩ => show f.val = k % 4096; omega

/-- Their gelu; the reference takes the cube from the left. -/
theorem ref_gelu (R : Fin 16384) (f : Fin 2048) (k : ℕ) (hk : f.val = k) :
    val_main_v44 x md w (ix3 ⟨R.val / 2048, by omega⟩ ⟨R.val % 2048, by omega⟩ f) = gelu (dotc (row x md R) w k) := by
  rw [← ref_dot x md w R ⟨f.val, by omega⟩ k hk]
  pointwise [val_main_v44, val_main_v43, val_main_v42, val_main_v41, val_main_v40, val_main_v39, val_main_v38, val_main_v37, val_main_v36, val_main_v35, val_main_v34, val_main_v33, val_main_v32, val_main_v31, val_main_cst_5, val_main_cst_6, val_main_cst_7, val_main_cst_8]
  unfold gelu
  rw [mul_assoc (val_main_v30 _ _ _ _)]

/-- The reference's first result. -/
theorem reference_u (i : S16384x1024.Idx) : val_main_v82 x md w i = uOf (row x md (i 0)) w (i 1).val := by
  obtain ⟨R, f, rfl⟩ : ∃ (R : Fin 16384) (f : Fin 1024), i = ix2 R f := ⟨_, _, eq_ix2 i⟩
  pointwise [val_main_v82, val_main_v81, val_main_v45]
  exact ref_gelu x md w R _ _ rfl

/-- Its third. -/
theorem reference_x (i : S16384x1024.Idx) : val_main_v85 x md w i = xOf (row x md (i 0)) w (i 1).val := by
  obtain ⟨R, f, rfl⟩ : ∃ (R : Fin 16384) (f : Fin 1024), i = ix2 R f := ⟨_, _, eq_ix2 i⟩
  pointwise [val_main_v85, val_main_v80, val_main_v79, val_main_v78, val_main_v77, val_main_v76, val_main_v75, val_main_v74, val_main_v73, val_main_v72, val_main_cst_14, val_main_cst_15]
  rw [ref_dot x md w R _ (2048 + f.val) rfl, ref_dot x md w R _ (3072 + f.val) rfl]
  rfl

/-- Its second. -/
theorem reference_v (i : S16384x1024.Idx) : val_main_v84 x md w g b i = vOf (row x md (i 0)) w (gain g (i 1)) (gain b (i 1)) (i 1).val := by
  obtain ⟨R, f, rfl⟩ : ∃ (R : Fin 16384) (f : Fin 1024), i = ix2 R f := ⟨_, _, eq_ix2 i⟩
  pointwise [val_main_v84, val_main_v83, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_9, val_main_cst_10, val_main_cst_11, val_main_cst_12, val_main_cst_13]
  refine congrArg (· + gain b f) (congrArg (· * gain g f) ?_)
  have h : ∀ e : Fin 128, val_main_v44 x md w (ix3 ⟨R.val / 2048, by omega⟩ ⟨R.val % 2048, by omega⟩ ⟨1024 + (f.val / 128 * 128 + e.val), by omega⟩)
      = gelu (dotc (row x md R) w (1024 + f.val / 128 * 128 + e.val)) :=
    fun e => ref_gelu x md w R _ _ (by show 1024 + (f.val / 128 * 128 + e.val) = _; omega)
  simp only [h]
  refine norm_eq _ _ _ _ ?_
  refine ref_gelu x md w R _ _ ?_
  show 1024 + f.val = 1024 + f.val / 128 * 128 + f.val % 128
  omega

end

end Cert.CdInProof

end
-- ==== Proof.OutProj.lean ====
/- The odd layer's output projection with the norms around it: the three arrays the call leaves, entry by entry, and the reference's. -/
module

public import proofs.«01_k».proof.Proof.Index
public import proofs.«01_k».proof.Proof.Rows
public import proofs.«01_k».proof.Proof.Gen.OutProjIdeal.Value
public import proofs.«01_k».proof.Proof.Gen.OutProjReferenceIdeal.Read
public import Idealize.ShloMosaic.Lib.StableHlo.RunRead

@[expose] public section

noncomputable section

namespace Cert.OutProjProof

open Idealize.ShloMosaic Idealize.ShloMosaic.TcCoe Idealize.ShloMosaic.Tactic Idealize.SL.Sem
open Cert.OutProjIdeal Cert.OutProjIdeal.Gen Cert.Layer

/-! ## One row -/

/-- The residual row: √2 times `x` plus the gated projection of the mixed row, normalized, with a gain and an offset. -/
def residual (mix : Fin 2048 → EReal) (w : S2048x2048.Idx → EReal) (x gate g b : Fin 2048 → EReal) (d : Fin 2048) : EReal :=
  norm 1157627904#32 (fun d => Ideal.ofBits .f32 1068827891#32 * x d + gate d * ∑ k, mix k * w (ix2 k d)) d * g d + b d

/-- A row's product with column `e` of the router's weights. -/
def logit (h : Fin 2048 → EReal) (w : S2048x128.Idx → EReal) (e : Fin 128) : EReal := ∑ d, h d * w (ix2 d e)

/-! ## The body's values -/

section
variable (mix : Vec Ideal S256x2048 .bf16) (w : Vec Ideal S2048x2048 .bf16) (x : Vec Ideal S256x2048 .f32) (gate : Vec Ideal S1x1x1x1x2048 .f32)
  (g b : Vec Ideal S1x2048 .f32) (sh sc : Vec Ideal S1x1x1x1x2048 .f32) (wr : Vec Ideal S2048x128 .bf16) (r : Fin 256)

/-- The residual row `r` of a block. -/
def blockRow (d : Fin 2048) : EReal :=
  residual (fun k => mix (ix2 r k)) w (fun d => x (ix2 r d)) (fun d => gate (ix5 0 0 0 0 d)) (fun d => g (ix2 0 d)) (fun d => b (ix2 0 d)) d

/-- Its normalization, modulated. -/
def blockMod (d : Fin 2048) : EReal :=
  modulated (blockRow mix w x gate g b r) (fun d => sc (ix5 0 0 0 0 d)) (fun d => sh (ix5 0 0 0 0 d)) d

/-- The body's residual rows. -/
theorem residual_apply (d : Fin 2048) : k0_pay10 (k0_pay9 mix w x gate g) b (ix2 r d) = blockRow mix w x gate g b r d := by
  pointwise [k0_pay10, k0_pay9, dot_S256x2048_S2048x2048_S256x2048_1_0_0_1_n_n]
  rfl

/-- The body's modulated rows. -/
theorem modulated_apply (d : Fin 2048) : k0_pay11 (k0_pay9 mix w x gate g) b sc sh (ix2 r d) = blockMod mix w x gate g b sh sc r d := by
  have h : ∀ d, k0_pay10 (k0_pay9 mix w x gate g) b (ix2 r d) = blockRow mix w x gate g b r d := residual_apply mix w x gate g b r
  rw [blockMod, ← funext h]
  pointwise [k0_pay11]
  rfl

/-- The body's logits. -/
theorem logit_apply (e : Fin 128) :
    k0_pay12 (k0_pay9 mix w x gate g) b sc sh wr (ix2 r e) = logit (blockMod mix w x gate g b sh sc r) wr e := by
  rw [logit, ← funext (modulated_apply mix w x gate g b sh sc r)]
  pointwise [k0_pay12, dot_S256x2048_S2048x128_S256x128_1_0_0_1_n_n]

end

/-- The body's cast of the weights, the same for each of its eight pieces. -/
theorem cast_apply (v : Vec Ideal S256x2048 .f32) (z : S256x2048.Idx) : k0_pay1 v z = v z := by
  obtain ⟨r, f, rfl⟩ : ∃ (r : Fin 256) (f : Fin 2048), z = ix2 r f := ⟨_, _, eq_ix2 z⟩
  pointwise [k0_pay1]

/-! ## What the body leaves in the output blocks -/

section
variable (c : Dev nD) (i : grid0.Coords) (arg1 : Memref sig .tc .vmem S256x2048 .bf16) (harg1 : arg1.IsWhole)
  (arg2 : Memref sig .tc .vmem S2048x2048 .f32) (harg2 : arg2.IsWhole) (arg3 : Memref sig .tc .vmem S256x2048 .f32) (harg3 : arg3.IsWhole)
  (arg4 : Memref sig .tc .vmem S1x1x1x1x2048 .f32) (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S1x1x1x1x2048 .f32) (harg7 : arg7.IsWhole)
  (arg8 : Memref sig .tc .vmem S1x1x1x1x2048 .f32) (harg8 : arg8.IsWhole) (arg9 : Memref sig .tc .vmem S2048x128 .bf16) (harg9 : arg9.IsWhole)
  (arg10 : Memref sig .tc .vmem S256x2048 .f32) (harg10 : arg10.IsWhole) (arg11 : Memref sig .tc .vmem S256x2048 .bf16) (harg11 : arg11.IsWhole)
  (arg12 : Memref sig .tc .vmem S256x128 .f32) (harg12 : arg12.IsWhole) (arg13 : Memref sig .tc .vmem S2048x2048 .bf16) (harg13 : arg13.IsWhole)
  (mix : Vec Ideal S256x2048 .bf16) (w : Vec Ideal S2048x2048 .f32) (ws : Vec Ideal S2048x2048 .bf16) (x : Vec Ideal S256x2048 .f32)
  (gate : Vec Ideal S1x1x1x1x2048 .f32) (g b : Vec Ideal S1x2048 .f32) (sh sc : Vec Ideal S1x1x1x1x2048 .f32) (wr : Vec Ideal S2048x128 .bf16)

/-- An array stored whole, once. -/
theorem one_piece {s : Shape} {e : EltTy} (p : Vec Ideal s e) (off : Fin s.rank → ℕ) (h0 : ∀ k, off k = 0) (h : ∀ k, off k + s.size k ≤ s.size k)
    (y : s.Idx) (hy : ∃ pc ∈ [(⟨Rect.unit (s := s) off s.size h, p⟩ : View.Piece (Elt Ideal) s e)], y ∈ pc.1.set) :
    View.canon (Val := Elt Ideal) [(⟨Rect.unit (s := s) off s.size h, p⟩ : View.Piece (Elt Ideal) s e)] y = p y := by
  refine View.canon_apply_of_pieces p _ (List.forall_mem_cons.mpr ⟨fun z => read_eq p fun k => ?_, fun _ h => absurd h List.not_mem_nil⟩) y hy
  show (z k).val = off k + 1 * (z k).val
  rw [h0]; omega

/-- The weights as cast for the product: over the extended reals the same numbers. -/
def stored (w : Vec Ideal S2048x2048 .f32) (y : S2048x2048.Idx) : Elt Ideal .bf16 := w y

/-- A piece of the weights, read back and cast, sits where it came from. -/
theorem piece_eq (n : ℕ) (h : ∀ k : Fin 2, (![n, 0] : Fin 2 → ℕ) k + S256x2048.size k ≤ S2048x2048.size k) (z : S256x2048.Idx) :
    k0_pay1 (arg2.view.readAt (Elt Ideal) (Rect.unit (s := S2048x2048) ![n, 0] S256x2048.size h).toLoadRect (harg2.unread w)) z
      = stored w ((Rect.unit (s := S2048x2048) ![n, 0] S256x2048.size h).emb z) := by
  rw [cast_apply, View.readAt_eq_ld, harg2.read_unread]
  rfl

/-- The weights as the first point's eight stores leave them in the scratch buffer. -/
theorem scratch_eq (y : S2048x2048.Idx) : View.canon (Val := Elt Ideal) (kernelRun0_A.sl.HS0_8 c arg2 harg2 w) y = stored w y := by
  have hy : ∃ pc ∈ kernelRun0_A.sl.HS0_8 (F := Ideal) c arg2 harg2 w, y ∈ pc.1.set :=
    View.cover_of_tiledL (kernelRun0_A.sl.HS0_8 c arg2 harg2 w) S256x2048.size (by sl_kernel_rfl) y
  refine View.canon_apply_of_pieces (stored w) (kernelRun0_A.sl.HS0_8 c arg2 harg2 w) ?_ y hy
  have e := piece_eq arg2 harg2 w
  unfold kernelRun0_A.sl.HS0_8
  refine List.forall_mem_cons.mpr ⟨e 1792 _, ?_⟩
  refine List.forall_mem_cons.mpr ⟨e 1536 _, ?_⟩
  refine List.forall_mem_cons.mpr ⟨e 1280 _, ?_⟩
  refine List.forall_mem_cons.mpr ⟨e 1024 _, ?_⟩
  refine List.forall_mem_cons.mpr ⟨e 768 _, ?_⟩
  refine List.forall_mem_cons.mpr ⟨e 512 _, ?_⟩
  refine List.forall_mem_cons.mpr ⟨e 256 _, ?_⟩
  exact List.forall_mem_cons.mpr ⟨e 0 _, fun _ h => absurd h List.not_mem_nil⟩

/-- What the first point leaves in the scratch buffer. -/
theorem scratch_A (h : cond0_0 i) : sout0_A_0 c i arg1 harg1 arg2 harg2 arg3 harg3 arg4 harg4 arg5 harg5 arg6 harg6 arg7 harg7 arg8 harg8 arg9 harg9 arg10 harg10 arg11 harg11 arg12 harg12 arg13 harg13 h mix w x gate g b sh sc wr = stored w := by
  funext y
  unfold sout0_A_0
  rw [View.read_writes_junk_apply_eq_canon]
  exact scratch_eq c arg2 harg2 w y

/-- The residual rows before their offset, at the first point. -/
theorem first_A : kernelRun0_A.sl.r c arg1 harg1 arg2 harg2 arg3 harg3 arg4 harg4 arg5 harg5 arg13 mix w x gate g
    = k0_pay9 mix (stored w) x gate g := by
  have hs : arg13.view.readCov (Val := Elt Ideal) (kernelRun0_A.sl.HS0_8 c arg2 harg2 w)
      (Rect.unit (s := S2048x2048) ![0, 0] S2048x2048.size inb_S2048x2048_S2048x2048_0_0).toLoadRect = stored w := by
    rw [View.readCov_eq_canon']
    refine funext fun y => (scratch_eq c arg2 harg2 w _).trans (read_eq (stored w) fun k => ?_)
    match k with
    | ⟨0, _⟩ => show 0 + 1 * (y 0).val = (y 0).val; omega
    | ⟨1, _⟩ => show 0 + 1 * (y 1).val = (y 1).val; omega
  unfold kernelRun0_A.sl.r kernelRun0_A.sl.v4
  refine congr (congr (congr (congr (congrArg k0_pay9 ?_) ?_) ?_) ?_) ?_
  · exact read_all arg1 harg1 mix _ z2 _
  · exact hs
  · exact read_all arg3 harg3 x _ z2 _
  · exact read_all arg4 harg4 gate _ z5 _
  · exact read_all arg5 harg5 g _ z2 _

/-- The residual rows the first point writes. -/
theorem residual_A (h : cond0_0 i) (y : S256x2048.Idx) :
    out0_A_9 c i arg1 harg1 arg2 harg2 arg3 harg3 arg4 harg4 arg5 harg5 arg6 harg6 arg7 harg7 arg8 harg8 arg9 harg9 arg10 harg10 arg11 harg11 arg12 harg12 arg13 harg13 h mix w x gate g b sh sc wr y
      = blockRow mix (stored w) x gate g b (y 0) (y 1) := by
  have hy := cover0_A_9 c i arg1 harg1 arg2 harg2 arg3 harg3 arg4 harg4 arg5 harg5 arg6 harg6 arg7 harg7 arg8 harg8 arg9 harg9 arg10 harg10 arg11 harg11 arg12 harg12 arg13 harg13 h mix w x gate g b sh sc wr y
  unfold out0_A_9
  rw [View.read_writes_junk_apply_eq_canon]
  refine (one_piece _ _ z2 _ y hy).trans ?_
  obtain ⟨r, f, rfl⟩ : ∃ (r : Fin 256) (f : Fin 2048), y = ix2 r f := ⟨_, _, eq_ix2 y⟩
  refine .trans (congrFun ?_ _) (residual_apply mix (stored w) x gate g b r f)
  exact congr (congrArg k0_pay10 (first_A c arg1 harg1 arg2 harg2 arg3 harg3 arg4 harg4 arg5 harg5 arg13 mix w x gate g)) (read_all arg6 harg6 b _ z2 _)

/-- The modulated rows the first point writes. -/
theorem modulated_A (h : cond0_0 i) (y : S256x2048.Idx) :
    out0_A_10 c i arg1 harg1 arg2 harg2 arg3 harg3 arg4 harg4 arg5 harg5 arg6 harg6 arg7 harg7 arg8 harg8 arg9 harg9 arg10 harg10 arg11 harg11 arg12 harg12 arg13 harg13 h mix w x gate g b sh sc wr y
      = blockMod mix (stored w) x gate g b sh sc (y 0) (y 1) := by
  have hy := cover0_A_10 c i arg1 harg1 arg2 harg2 arg3 harg3 arg4 harg4 arg5 harg5 arg6 harg6 arg7 harg7 arg8 harg8 arg9 harg9 arg10 harg10 arg11 harg11 arg12 harg12 arg13 harg13 h mix w x gate g b sh sc wr y
  unfold out0_A_10
  rw [View.read_writes_junk_apply_eq_canon]
  refine (one_piece _ _ z2 _ y hy).trans ?_
  obtain ⟨r, f, rfl⟩ : ∃ (r : Fin 256) (f : Fin 2048), y = ix2 r f := ⟨_, _, eq_ix2 y⟩
  refine .trans (congrFun ?_ _) (modulated_apply mix (stored w) x gate g b sh sc r f)
  exact congr (congr (congr (congrArg k0_pay11 (first_A c arg1 harg1 arg2 harg2 arg3 harg3 arg4 harg4 arg5 harg5 arg13 mix w x gate g)) (read_all arg6 harg6 b _ z2 _)) (read_all arg8 harg8 sc _ z5 _)) (read_all arg7 harg7 sh _ z5 _)

/-- The body's last product, at the first point. -/
theorem last_A : kernelRun0_A.sl.r_1 c arg1 harg1 arg2 harg2 arg3 harg3 arg4 harg4 arg5 harg5 arg6 harg6 arg7 harg7 arg8 harg8 arg9 harg9 arg13 mix w x gate g b sh sc wr
    = k0_pay12 (k0_pay9 mix (stored w) x gate g) b sc sh wr := by
  unfold kernelRun0_A.sl.r_1
  exact congr (congr (congr (congr (congrArg k0_pay12 (first_A c arg1 harg1 arg2 harg2 arg3 harg3 arg4 harg4 arg5 harg5 arg13 mix w x gate g)) (read_all arg6 harg6 b _ z2 _)) (read_all arg8 harg8 sc _ z5 _)) (read_all arg7 harg7 sh _ z5 _))
    (read_all arg9 harg9 wr _ z2 _)

/-- The logits the first point writes. -/
theorem logit_A (h : cond0_0 i) (y : S256x128.Idx) :
    out0_A_11 c i arg1 harg1 arg2 harg2 arg3 harg3 arg4 harg4 arg5 harg5 arg6 harg6 arg7 harg7 arg8 harg8 arg9 harg9 arg10 harg10 arg11 harg11 arg12 harg12 arg13 harg13 h mix w x gate g b sh sc wr y
      = logit (blockMod mix (stored w) x gate g b sh sc (y 0)) wr (y 1) := by
  have hy := cover0_A_11 c i arg1 harg1 arg2 harg2 arg3 harg3 arg4 harg4 arg5 harg5 arg6 harg6 arg7 harg7 arg8 harg8 arg9 harg9 arg10 harg10 arg11 harg11 arg12 harg12 arg13 harg13 h mix w x gate g b sh sc wr y
  unfold out0_A_11
  rw [View.read_writes_junk_apply_eq_canon]
  refine (one_piece _ _ z2 _ y hy).trans ?_
  obtain ⟨r, f, rfl⟩ : ∃ (r : Fin 256) (f : Fin 128), y = ix2 r f := ⟨_, _, eq_ix2 y⟩
  exact (congrFun (last_A c arg1 harg1 arg2 harg2 arg3 harg3 arg4 harg4 arg5 harg5 arg6 harg6 arg7 harg7 arg8 harg8 arg9 harg9 arg13 mix w x gate g b sh sc wr) _).trans (logit_apply mix (stored w) x gate g b sh sc wr r f)

/-- The residual rows before their offset, at the other points: the weights are read from the scratch buffer. -/
theorem first_B : kernelRun0_B.sl.r c arg1 harg1 arg3 harg3 arg4 harg4 arg5 harg5 arg13 harg13 mix x gate g ws = k0_pay9 mix ws x gate g := by
  unfold kernelRun0_B.sl.r
  refine congr (congr (congr (congr (congrArg k0_pay9 ?_) ?_) ?_) ?_) ?_
  · exact read_all arg1 harg1 mix _ z2 _
  · exact read_all arg13 harg13 ws _ z2 _
  · exact read_all arg3 harg3 x _ z2 _
  · exact read_all arg4 harg4 gate _ z5 _
  · exact read_all arg5 harg5 g _ z2 _

/-- The residual rows every other point writes. -/
theorem residual_B (h : ¬cond0_0 i) (y : S256x2048.Idx) :
    out0_B_9 c i arg1 harg1 arg2 harg2 arg3 harg3 arg4 harg4 arg5 harg5 arg6 harg6 arg7 harg7 arg8 harg8 arg9 harg9 arg10 harg10 arg11 harg11 arg12 harg12 arg13 harg13 h mix w x gate g b sh sc wr ws y
      = blockRow mix ws x gate g b (y 0) (y 1) := by
  have hy := cover0_B_9 c i arg1 harg1 arg2 harg2 arg3 harg3 arg4 harg4 arg5 harg5 arg6 harg6 arg7 harg7 arg8 harg8 arg9 harg9 arg10 harg10 arg11 harg11 arg12 harg12 arg13 harg13 h mix w x gate g b sh sc wr ws y
  unfold out0_B_9
  rw [View.read_writes_junk_apply_eq_canon]
  refine (one_piece _ _ z2 _ y hy).trans ?_
  obtain ⟨r, f, rfl⟩ : ∃ (r : Fin 256) (f : Fin 2048), y = ix2 r f := ⟨_, _, eq_ix2 y⟩
  refine .trans (congrFun ?_ _) (residual_apply mix ws x gate g b r f)
  exact congr (congrArg k0_pay10 (first_B c arg1 harg1 arg3 harg3 arg4 harg4 arg5 harg5 arg13 harg13 mix ws x gate g)) (read_all arg6 harg6 b _ z2 _)

/-- The modulated rows every other point writes. -/
theorem modulated_B (h : ¬cond0_0 i) (y : S256x2048.Idx) :
    out0_B_10 c i arg1 harg1 arg2 harg2 arg3 harg3 arg4 harg4 arg5 harg5 arg6 harg6 arg7 harg7 arg8 harg8 arg9 harg9 arg10 harg10 arg11 harg11 arg12 harg12 arg13 harg13 h mix w x gate g b sh sc wr ws y
      = blockMod mix ws x gate g b sh sc (y 0) (y 1) := by
  have hy := cover0_B_10 c i arg1 harg1 arg2 harg2 arg3 harg3 arg4 harg4 arg5 harg5 arg6 harg6 arg7 harg7 arg8 harg8 arg9 harg9 arg10 harg10 arg11 harg11 arg12 harg12 arg13 harg13 h mix w x gate g b sh sc wr ws y
  unfold out0_B_10
  rw [View.read_writes_junk_apply_eq_canon]
  refine (one_piece _ _ z2 _ y hy).trans ?_
  obtain ⟨r, f, rfl⟩ : ∃ (r : Fin 256) (f : Fin 2048), y = ix2 r f := ⟨_, _, eq_ix2 y⟩
  refine .trans (congrFun ?_ _) (modulated_apply mix ws x gate g b sh sc r f)
  exact congr (congr (congr (congrArg k0_pay11 (first_B c arg1 harg1 arg3 harg3 arg4 harg4 arg5 harg5 arg13 harg13 mix ws x gate g)) (read_all arg6 harg6 b _ z2 _)) (read_all arg8 harg8 sc _ z5 _)) (read_all arg7 harg7 sh _ z5 _)

/-- The body's last product, at the other points. -/
theorem last_B : kernelRun0_B.sl.r_1 c arg1 harg1 arg3 harg3 arg4 harg4 arg5 harg5 arg6 harg6 arg7 harg7 arg8 harg8 arg9 harg9 arg13 harg13 mix x gate g b sh sc wr ws
    = k0_pay12 (k0_pay9 mix ws x gate g) b sc sh wr := by
  unfold kernelRun0_B.sl.r_1
  exact congr (congr (congr (congr (congrArg k0_pay12 (first_B c arg1 harg1 arg3 harg3 arg4 harg4 arg5 harg5 arg13 harg13 mix ws x gate g)) (read_all arg6 harg6 b _ z2 _)) (read_all arg8 harg8 sc _ z5 _)) (read_all arg7 harg7 sh _ z5 _))
    (read_all arg9 harg9 wr _ z2 _)

/-- The logits every other point writes. -/
theorem logit_B (h : ¬cond0_0 i) (y : S256x128.Idx) :
    out0_B_11 c i arg1 harg1 arg2 harg2 arg3 harg3 arg4 harg4 arg5 harg5 arg6 harg6 arg7 harg7 arg8 harg8 arg9 harg9 arg10 harg10 arg11 harg11 arg12 harg12 arg13 harg13 h mix w x gate g b sh sc wr ws y
      = logit (blockMod mix ws x gate g b sh sc (y 0)) wr (y 1) := by
  have hy := cover0_B_11 c i arg1 harg1 arg2 harg2 arg3 harg3 arg4 harg4 arg5 harg5 arg6 harg6 arg7 harg7 arg8 harg8 arg9 harg9 arg10 harg10 arg11 harg11 arg12 harg12 arg13 harg13 h mix w x gate g b sh sc wr ws y
  unfold out0_B_11
  rw [View.read_writes_junk_apply_eq_canon]
  refine (one_piece _ _ z2 _ y hy).trans ?_
  obtain ⟨r, f, rfl⟩ : ∃ (r : Fin 256) (f : Fin 128), y = ix2 r f := ⟨_, _, eq_ix2 y⟩
  exact (congrFun (last_B c arg1 harg1 arg3 harg3 arg4 harg4 arg5 harg5 arg6 harg6 arg7 harg7 arg8 harg8 arg9 harg9 arg13 harg13 mix ws x gate g b sh sc wr) _).trans (logit_apply mix ws x gate g b sh sc wr r f)

end

/-! ## The result arrays -/

/-- Row `R` of the residual. -/
def rowR (mix : Vec Ideal S16384x2048 .bf16) (w : Vec Ideal S2048x2048 .f32) (x : Vec Ideal S16384x2048 .f32) (md : Vec Ideal S1x16x6x1x2048 .f32)
    (g b : Vec Ideal S2048 .f32) (R : Fin 16384) : Fin 2048 → EReal :=
  residual (fun k => mix (ix2 R k)) w (fun d => x (ix2 R d)) (fun d => md (ix5 0 ⟨R.val / 2048, by omega⟩ 2 0 d)) (fun d => g (ix1 d)) (fun d => b (ix1 d))

/-- Its normalization, with its batch's scale and shift. -/
def rowM (mix : Vec Ideal S16384x2048 .bf16) (w : Vec Ideal S2048x2048 .f32) (x : Vec Ideal S16384x2048 .f32) (md : Vec Ideal S1x16x6x1x2048 .f32)
    (g b : Vec Ideal S2048 .f32) (R : Fin 16384) : Fin 2048 → EReal :=
  modulated (rowR mix w x md g b R) (fun d => md (ix5 0 ⟨R.val / 2048, by omega⟩ 4 0 d)) (fun d => md (ix5 0 ⟨R.val / 2048, by omega⟩ 3 0 d))

/-- Where each window's block sits: 256 rows a point, the rows' batch, all of the weights, gains and offsets. -/
theorem index_eq : ∀ t : Fin grid0.N,
    (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = t.val / 8 ∧ win0_3.index t 2 = 2 ∧ win0_3.index t 3 = 0 ∧ win0_3.index t 4 = 0)
    ∧ (win0_4.index t 0 = 0 ∧ win0_4.index t 1 = 0) ∧ (win0_5.index t 0 = 0 ∧ win0_5.index t 1 = 0)
    ∧ (win0_6.index t 0 = 0 ∧ win0_6.index t 1 = t.val / 8 ∧ win0_6.index t 2 = 3 ∧ win0_6.index t 3 = 0 ∧ win0_6.index t 4 = 0)
    ∧ (win0_7.index t 0 = 0 ∧ win0_7.index t 1 = t.val / 8 ∧ win0_7.index t 2 = 4 ∧ win0_7.index t 3 = 0 ∧ win0_7.index t 4 = 0)
    ∧ (win0_8.index t 0 = 0 ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) := by
  decide +kernel

variable (m : (ℓ : Loc nD τ sig) → Buf (Elt Ideal) ℓ) (c : Dev nD)

/-- Row `R` of the residual of the call's arguments. -/
abbrev argR (R : Fin 16384) : Fin 2048 → EReal :=
  rowR (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) R

/-- Its modulated normalization. -/
abbrev argM (R : Fin 16384) : Fin 2048 → EReal :=
  rowM (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) R

/-- The first result. -/
def resultR : Buf (Elt Ideal) ((c : Thread nD τ).loc main_v2_0) := fun i : S16384x2048.Idx => argR m c (i 0) (i 1)

/-- The second. -/
def resultM : Buf (Elt Ideal) ((c : Thread nD τ).loc main_v2_1) := fun i : S16384x2048.Idx => argM m c (i 0) (i 1)

/-- The third. -/
def resultL : Buf (Elt Ideal) ((c : Thread nD τ).loc main_v2_2) := fun i : S16384x128.Idx =>
  logit (argM m c (i 0)) (m ((c : Thread nD τ).loc main_arg6)) (i 1)

/-- Every point's block of the weights is all of them. -/
theorem weights_eq (t : Fin cfg0.N) : iblk m c 1 t = m ((c : Thread nD τ).loc main_arg1) := by
  obtain ⟨-, ⟨a0, a1⟩, -⟩ := index_eq t
  funext y
  obtain ⟨d, f, rfl⟩ : ∃ (d : Fin 2048) (f : Fin 2048), y = ix2 d f := ⟨_, _, eq_ix2 y⟩
  refine (congrFun (V_main_arg1 m c) _).trans (congrArg (m ((c : Thread nD τ).loc main_arg1)) (emb_eq win0_1 t (ix2 d f) (ix2 d f) rfl fun a => ?_))
  match a with
  | ⟨0, _⟩ => show win0_1.index t 0 * 2048 + d.val = d.val; omega
  | ⟨1, _⟩ => show win0_1.index t 1 * 2048 + f.val = f.val; omega

/-- Every point's block of the router's weights is all of them. -/
theorem router_eq (t : Fin cfg0.N) : iblk m c 8 t = m ((c : Thread nD τ).loc main_arg6) := by
  obtain ⟨-, -, -, -, -, -, -, -, ⟨a0, a1⟩, -⟩ := index_eq t
  funext y
  obtain ⟨d, f, rfl⟩ : ∃ (d : Fin 2048) (f : Fin 128), y = ix2 d f := ⟨_, _, eq_ix2 y⟩
  refine (congrFun (V_main_arg6 m c) _).trans (congrArg (m ((c : Thread nD τ).loc main_arg6)) (emb_eq win0_8 t (ix2 d f) (ix2 d f) rfl fun a => ?_))
  match a with
  | ⟨0, _⟩ => show win0_8.index t 0 * 2048 + d.val = d.val; omega
  | ⟨1, _⟩ => show win0_8.index t 1 * 128 + f.val = f.val; omega

/-- The gains laid out in one row. -/
theorem flat_gain : V m c main_v0 = shapeCast S1x2048 (m ((c : Thread nD τ).loc main_arg4)) shapeCasts_S2048_S1x2048 := by
  after_reads_simp
  rfl

/-- The offsets likewise. -/
theorem flat_offset : V m c main_v1 = shapeCast S1x2048 (m ((c : Thread nD τ).loc main_arg5)) shapeCasts_S2048_S1x2048 := by
  after_reads_simp
  rfl

/-- An entry of that row. -/
theorem flat_apply (g : Vec Ideal S2048 .f32) (d : Fin 2048) : shapeCast S1x2048 g shapeCasts_S2048_S1x2048 (ix2 0 d) = g (ix1 d) := by
  pointwise []

/-- The block of the gains. -/
theorem gain_eq (t : Fin cfg0.N) (d : Fin 2048) : iblk m c 4 t (ix2 0 d) = m ((c : Thread nD τ).loc main_arg4) (ix1 d) := by
  obtain ⟨-, -, -, -, ⟨a0, a1⟩, -⟩ := index_eq t
  refine (congrFun (flat_gain m c) _).trans (.trans ?_ (flat_apply _ d))
  refine congrArg (shapeCast S1x2048 (m ((c : Thread nD τ).loc main_arg4)) shapeCasts_S2048_S1x2048) (emb_eq win0_4 t (ix2 0 d) (ix2 0 d) rfl fun a => ?_)
  match a with
  | ⟨0, _⟩ => show win0_4.index t 0 * 1 + 0 = 0; omega
  | ⟨1, _⟩ => show win0_4.index t 1 * 2048 + d.val = d.val; omega

/-- The block of the offsets. -/
theorem offset_eq (t : Fin cfg0.N) (d : Fin 2048) : iblk m c 5 t (ix2 0 d) = m ((c : Thread nD τ).loc main_arg5) (ix1 d) := by
  obtain ⟨-, -, -, -, -, ⟨a0, a1⟩, -⟩ := index_eq t
  refine (congrFun (flat_offset m c) _).trans (.trans ?_ (flat_apply _ d))
  refine congrArg (shapeCast S1x2048 (m ((c : Thread nD τ).loc main_arg5)) shapeCasts_S2048_S1x2048) (emb_eq win0_5 t (ix2 0 d) (ix2 0 d) rfl fun a => ?_)
  match a with
  | ⟨0, _⟩ => show win0_5.index t 0 * 1 + 0 = 0; omega
  | ⟨1, _⟩ => show win0_5.index t 1 * 2048 + d.val = d.val; omega

/-- The block of the mixed rows. -/
theorem mix_eq (t : Fin cfg0.N) (r : Fin 256) (R : Fin 16384) (hR : t.val * 256 + r.val = R.val) (d : Fin 2048) :
    iblk m c 0 t (ix2 r d) = m ((c : Thread nD τ).loc main_arg0) (ix2 R d) := by
  have hi := index_eq t
  refine (congrFun (V_main_arg0 m c) _).trans (congrArg (m ((c : Thread nD τ).loc main_arg0)) (emb_eq win0_0 t (ix2 r d) (ix2 R d) rfl fun a => ?_))
  match a with
  | ⟨0, _⟩ => show win0_0.index t 0 * 256 + r.val = R.val; omega
  | ⟨1, _⟩ => show win0_0.index t 1 * 2048 + d.val = d.val; omega

/-- The block of the stream. -/
theorem stream_eq (t : Fin cfg0.N) (r : Fin 256) (R : Fin 16384) (hR : t.val * 256 + r.val = R.val) (d : Fin 2048) :
    iblk m c 2 t (ix2 r d) = m ((c : Thread nD τ).loc main_arg2) (ix2 R d) := by
  have hi := index_eq t
  refine (congrFun (V_main_arg2 m c) _).trans (congrArg (m ((c : Thread nD τ).loc main_arg2)) (emb_eq win0_2 t (ix2 r d) (ix2 R d) rfl fun a => ?_))
  match a with
  | ⟨0, _⟩ => show win0_2.index t 0 * 256 + r.val = R.val; omega
  | ⟨1, _⟩ => show win0_2.index t 1 * 2048 + d.val = d.val; omega

/-- The block of the gates. -/
theorem gate_eq (t : Fin cfg0.N) (R : Fin 16384) (hR : R.val / 256 = t.val) (d : Fin 2048) :
    iblk m c 3 t (ix5 0 0 0 0 d) = m ((c : Thread nD τ).loc main_arg3) (ix5 0 ⟨R.val / 2048, by omega⟩ 2 0 d) := by
  have hi := index_eq t
  refine (congrFun (V_main_arg3 m c) _).trans
    (congrArg (m ((c : Thread nD τ).loc main_arg3)) (emb_eq win0_3 t (ix5 0 0 0 0 d) (ix5 0 ⟨R.val / 2048, by omega⟩ 2 0 d) rfl fun a => ?_))
  match a with
  | ⟨0, _⟩ => show win0_3.index t 0 * 1 + 0 = 0; omega
  | ⟨1, _⟩ => show win0_3.index t 1 * 1 + 0 = R.val / 2048; omega
  | ⟨2, _⟩ => show win0_3.index t 2 * 1 + 0 = 2; omega
  | ⟨3, _⟩ => show win0_3.index t 3 * 1 + 0 = 0; omega
  | ⟨4, _⟩ => show win0_3.index t 4 * 2048 + d.val = d.val; omega

/-- The block of the shifts. -/
theorem shift_eq (t : Fin cfg0.N) (R : Fin 16384) (hR : R.val / 256 = t.val) (d : Fin 2048) :
    iblk m c 6 t (ix5 0 0 0 0 d) = m ((c : Thread nD τ).loc main_arg3) (ix5 0 ⟨R.val / 2048, by omega⟩ 3 0 d) := by
  have hi := index_eq t
  refine (congrFun (V_main_arg3 m c) _).trans
    (congrArg (m ((c : Thread nD τ).loc main_arg3)) (emb_eq win0_6 t (ix5 0 0 0 0 d) (ix5 0 ⟨R.val / 2048, by omega⟩ 3 0 d) rfl fun a => ?_))
  match a with
  | ⟨0, _⟩ => show win0_6.index t 0 * 1 + 0 = 0; omega
  | ⟨1, _⟩ => show win0_6.index t 1 * 1 + 0 = R.val / 2048; omega
  | ⟨2, _⟩ => show win0_6.index t 2 * 1 + 0 = 3; omega
  | ⟨3, _⟩ => show win0_6.index t 3 * 1 + 0 = 0; omega
  | ⟨4, _⟩ => show win0_6.index t 4 * 2048 + d.val = d.val; omega

/-- The block of the scales. -/
theorem scale_eq (t : Fin cfg0.N) (R : Fin 16384) (hR : R.val / 256 = t.val) (d : Fin 2048) :
    iblk m c 7 t (ix5 0 0 0 0 d) = m ((c : Thread nD τ).loc main_arg3) (ix5 0 ⟨R.val / 2048, by omega⟩ 4 0 d) := by
  have hi := index_eq t
  refine (congrFun (V_main_arg3 m c) _).trans
    (congrArg (m ((c : Thread nD τ).loc main_arg3)) (emb_eq win0_7 t (ix5 0 0 0 0 d) (ix5 0 ⟨R.val / 2048, by omega⟩ 4 0 d) rfl fun a => ?_))
  match a with
  | ⟨0, _⟩ => show win0_7.index t 0 * 1 + 0 = 0; omega
  | ⟨1, _⟩ => show win0_7.index t 1 * 1 + 0 = R.val / 2048; omega
  | ⟨2, _⟩ => show win0_7.index t 2 * 1 + 0 = 4; omega
  | ⟨3, _⟩ => show win0_7.index t 3 * 1 + 0 = 0; omega
  | ⟨4, _⟩ => show win0_7.index t 4 * 2048 + d.val = d.val; omega

/-- The blocks' residual row `r` is the whole array's row `256 t + r`. -/
theorem rowR_eq (t : Fin cfg0.N) (r : Fin 256) (R : Fin 16384) (hR : t.val * 256 + r.val = R.val) :
    blockRow (iblk m c 0 t) (stored (iblk m c 1 t)) (iblk m c 2 t) (iblk m c 3 t) (iblk m c 4 t) (iblk m c 5 t) r = argR m c R := by
  have hb : R.val / 256 = t.val := by omega
  rw [weights_eq]
  funext d
  unfold blockRow argR rowR
  rw [funext (mix_eq m c t r R hR), funext (stream_eq m c t r R hR), funext (gate_eq m c t R hb), funext (gain_eq m c t), funext (offset_eq m c t)]
  rfl

/-- So for the modulated rows. -/
theorem rowM_eq (t : Fin cfg0.N) (r : Fin 256) (R : Fin 16384) (hR : t.val * 256 + r.val = R.val) :
    blockMod (iblk m c 0 t) (stored (iblk m c 1 t)) (iblk m c 2 t) (iblk m c 3 t) (iblk m c 4 t) (iblk m c 5 t) (iblk m c 6 t) (iblk m c 7 t) r = argM m c R := by
  have hb : R.val / 256 = t.val := by omega
  funext d
  unfold blockMod argM rowM
  rw [rowR_eq m c t r R hR, funext (scale_eq m c t R hb), funext (shift_eq m c t R hb)]

/-- The scratch buffer holds the weights after every point. -/
theorem scratch (n : ℕ) (hn : n < cfg0.N) : (outsAt0 m c n hn).2.2.2 = stored (m ((c : Thread nD τ).loc main_arg1)) := by
  induction n with
  | zero =>
    rw [outsAt0_A m c ⟨0, hn⟩ (Nat.zero_mod _)]
    dsimp only
    rw [scratch_A, weights_eq]
  | succ n ih =>
    have h : ¬(n + 1) % 64 = 0 := by have : n + 1 < 64 := hn; omega
    rw [outsAt0_B m c ⟨n + 1, hn⟩ h]
    dsimp only
    unfold sout0_B_0
    exact ih (Nat.lt_of_succ_lt hn)

/-- Output 1's block after point `t`. -/
theorem after_R (t : Fin cfg0.N) (y : S256x2048.Idx) : (outsAt0 m c t.val t.isLt).1 y
    = blockRow (iblk m c 0 t) (stored (iblk m c 1 t)) (iblk m c 2 t) (iblk m c 3 t) (iblk m c 4 t) (iblk m c 5 t) (y 0) (y 1) := by
  by_cases h : t.val % 64 = 0
  · rw [outsAt0_A m c t h]
    dsimp only
    rw [residual_A]
  · rw [outsAt0_B m c t h, weights_eq, ← scratch m c (t.val - 1) (by have := t.isLt; omega)]
    dsimp only
    rw [residual_B]

/-- What a grid point writes back to output 1 is its block of the result. -/
theorem flushed_R (t : Fin cfg0.N) : (dats m 0 c).flushed 9 t = ((cfg0.win 9).blk t).view.read (Elt Ideal) (resultR m c) := by
  rw [Cert.OutProjIdeal.Value.flushed9]
  funext y
  refine (after_R m c t y).trans ?_
  obtain ⟨r, f, rfl⟩ : ∃ (r : Fin 256) (f : Fin 2048), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_9.rect t).emb (ix2 r f) = ix2 R f := emb_eq win0_9 t (ix2 r f) (ix2 R f) rfl fun a => by
    match a with
    | ⟨0, _⟩ => show win0_9.index t 0 * 256 + r.val = R.val; omega
    | ⟨1, _⟩ => show win0_9.index t 1 * 2048 + f.val = f.val; omega
  show blockRow (iblk m c 0 t) (stored (iblk m c 1 t)) (iblk m c 2 t) (iblk m c 3 t) (iblk m c 4 t) (iblk m c 5 t) r f = resultR m c ((win0_9.rect t).emb (ix2 r f))
  rw [e]
  exact congrFun (rowR_eq m c t r R hR) f

/-- The blocks fill output 1. -/
theorem cover_R (i : S16384x2048.Idx) : ∃ t : Fin cfg0.N, (cfg0.win 9).flush t = true ∧ i ∈ ((cfg0.win 9).blk t).view.set := by
  have h0 : (i 0).val < 16384 := (i 0).isLt
  refine ⟨⟨(i 0).val / 256, by show _ < 64; omega⟩, flush0_9 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_9.rect t).emb (ix2 (Fin.ofNat 256 (i 0).val) (i 1)) = i from
    e ▸ ((cfg0.win 9).blk t).view.emb_mem_set (ix2 (Fin.ofNat 256 (i 0).val) (i 1))
  refine emb_eq win0_9 t _ i rfl fun a => ?_
  match a with
  | ⟨0, _⟩ => show win0_9.index t 0 * 256 + (i 0).val % 256 = (i 0).val; omega
  | ⟨1, _⟩ => show win0_9.index t 1 * 2048 + (i 1).val = (i 1).val; omega

/-- Output 1 after the run. -/
theorem final_R : (dats m 0 c).arrAt 9 cfg0.N = resultR m c :=
  (dats m 0 c).arrAt_eq_of_cover 9 (resultR m c) (fun t _ => flushed_R m c t) cover_R

/-- Output 2's block after point `t`. -/
theorem after_M (t : Fin cfg0.N) (y : S256x2048.Idx) : (outsAt0 m c t.val t.isLt).2.1 y
    = blockMod (iblk m c 0 t) (stored (iblk m c 1 t)) (iblk m c 2 t) (iblk m c 3 t) (iblk m c 4 t) (iblk m c 5 t) (iblk m c 6 t) (iblk m c 7 t) (y 0) (y 1) := by
  by_cases h : t.val % 64 = 0
  · rw [outsAt0_A m c t h]
    dsimp only
    rw [modulated_A]
  · rw [outsAt0_B m c t h, weights_eq, ← scratch m c (t.val - 1) (by have := t.isLt; omega)]
    dsimp only
    rw [modulated_B]

/-- What a grid point writes back to output 2 is its block of the result. -/
theorem flushed_M (t : Fin cfg0.N) : (dats m 0 c).flushed 10 t = ((cfg0.win 10).blk t).view.read (Elt Ideal) (resultM m c) := by
  rw [Cert.OutProjIdeal.Value.flushed10]
  funext y
  refine (after_M m c t y).trans ?_
  obtain ⟨r, f, rfl⟩ : ∃ (r : Fin 256) (f : Fin 2048), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_10.rect t).emb (ix2 r f) = ix2 R f := emb_eq win0_10 t (ix2 r f) (ix2 R f) rfl fun a => by
    match a with
    | ⟨0, _⟩ => show win0_10.index t 0 * 256 + r.val = R.val; omega
    | ⟨1, _⟩ => show win0_10.index t 1 * 2048 + f.val = f.val; omega
  show blockMod (iblk m c 0 t) (stored (iblk m c 1 t)) (iblk m c 2 t) (iblk m c 3 t) (iblk m c 4 t) (iblk m c 5 t) (iblk m c 6 t) (iblk m c 7 t) r f = resultM m c ((win0_10.rect t).emb (ix2 r f))
  rw [e]
  exact congrFun (rowM_eq m c t r R hR) f

/-- The blocks fill output 2. -/
theorem cover_M (i : S16384x2048.Idx) : ∃ t : Fin cfg0.N, (cfg0.win 10).flush t = true ∧ i ∈ ((cfg0.win 10).blk t).view.set := by
  have h0 : (i 0).val < 16384 := (i 0).isLt
  refine ⟨⟨(i 0).val / 256, by show _ < 64; omega⟩, flush0_10 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_10.rect t).emb (ix2 (Fin.ofNat 256 (i 0).val) (i 1)) = i from
    e ▸ ((cfg0.win 10).blk t).view.emb_mem_set (ix2 (Fin.ofNat 256 (i 0).val) (i 1))
  refine emb_eq win0_10 t _ i rfl fun a => ?_
  match a with
  | ⟨0, _⟩ => show win0_10.index t 0 * 256 + (i 0).val % 256 = (i 0).val; omega
  | ⟨1, _⟩ => show win0_10.index t 1 * 2048 + (i 1).val = (i 1).val; omega

/-- Output 2 after the run. -/
theorem final_M : (dats m 0 c).arrAt 10 cfg0.N = resultM m c :=
  (dats m 0 c).arrAt_eq_of_cover 10 (resultM m c) (fun t _ => flushed_M m c t) cover_M

/-- Output 3's block after point `t`. -/
theorem after_L (t : Fin cfg0.N) (y : S256x128.Idx) : (outsAt0 m c t.val t.isLt).2.2.1 y
    = logit (blockMod (iblk m c 0 t) (stored (iblk m c 1 t)) (iblk m c 2 t) (iblk m c 3 t) (iblk m c 4 t) (iblk m c 5 t) (iblk m c 6 t) (iblk m c 7 t) (y 0)) (iblk m c 8 t) (y 1) := by
  by_cases h : t.val % 64 = 0
  · rw [outsAt0_A m c t h]
    dsimp only
    rw [logit_A]
  · rw [outsAt0_B m c t h, weights_eq, ← scratch m c (t.val - 1) (by have := t.isLt; omega)]
    dsimp only
    rw [logit_B]

/-- What a grid point writes back to output 3 is its block of the result. -/
theorem flushed_L (t : Fin cfg0.N) : (dats m 0 c).flushed 11 t = ((cfg0.win 11).blk t).view.read (Elt Ideal) (resultL m c) := by
  rw [Cert.OutProjIdeal.Value.flushed11]
  funext y
  refine (after_L m c t y).trans ?_
  obtain ⟨r, f, rfl⟩ : ∃ (r : Fin 256) (f : Fin 128), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_11.rect t).emb (ix2 r f) = ix2 R f := emb_eq win0_11 t (ix2 r f) (ix2 R f) rfl fun a => by
    match a with
    | ⟨0, _⟩ => show win0_11.index t 0 * 256 + r.val = R.val; omega
    | ⟨1, _⟩ => show win0_11.index t 1 * 128 + f.val = f.val; omega
  show logit (blockMod (iblk m c 0 t) (stored (iblk m c 1 t)) (iblk m c 2 t) (iblk m c 3 t) (iblk m c 4 t) (iblk m c 5 t) (iblk m c 6 t) (iblk m c 7 t) r) (iblk m c 8 t) f = resultL m c ((win0_11.rect t).emb (ix2 r f))
  rw [e]
  rw [router_eq]
  exact congrArg (fun h => logit h (m ((c : Thread nD τ).loc main_arg6)) f) (rowM_eq m c t r R hR)

/-- The blocks fill output 3. -/
theorem cover_L (i : S16384x128.Idx) : ∃ t : Fin cfg0.N, (cfg0.win 11).flush t = true ∧ i ∈ ((cfg0.win 11).blk t).view.set := by
  have h0 : (i 0).val < 16384 := (i 0).isLt
  refine ⟨⟨(i 0).val / 256, by show _ < 64; omega⟩, flush0_11 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_11.rect t).emb (ix2 (Fin.ofNat 256 (i 0).val) (i 1)) = i from
    e ▸ ((cfg0.win 11).blk t).view.emb_mem_set (ix2 (Fin.ofNat 256 (i 0).val) (i 1))
  refine emb_eq win0_11 t _ i rfl fun a => ?_
  match a with
  | ⟨0, _⟩ => show win0_11.index t 0 * 256 + (i 0).val % 256 = (i 0).val; omega
  | ⟨1, _⟩ => show win0_11.index t 1 * 128 + (i 1).val = (i 1).val; omega

/-- Output 3 after the run. -/
theorem final_L : (dats m 0 c).arrAt 11 cfg0.N = resultL m c :=
  (dats m 0 c).arrAt_eq_of_cover 11 (resultL m c) (fun t _ => flushed_L m c t) cover_L

/-! ## The reference -/

section
open Cert.OutProjReferenceIdeal.Read

variable (mix : Vec Ideal S16384x2048 .bf16) (w : Vec Ideal S2048x2048 .f32) (x : Vec Ideal S16384x2048 .f32) (md : Vec Ideal S1x16x6x1x2048 .f32)
  (g b : Vec Ideal S2048 .f32) (wr : Vec Ideal S2048x128 .bf16)

/-- The reference's sum before its normalization. -/
theorem ref_sum (e : Fin 8) (r d : Fin 2048) (R : Fin 16384) (hR : R.val = e.val * 2048 + r.val) :
    val_main_v14 mix w x md (ix3 e r d) = Ideal.ofBits .f32 1068827891#32 * x (ix2 R d)
      + md (ix5 0 ⟨R.val / 2048, by omega⟩ 2 0 d) * ∑ k, mix (ix2 R k) * w (ix2 k d) := by
  have hl : e.val * 2048 + r.val < 16384 := by clear hR; omega
  obtain rfl : R = ⟨e.val * 2048 + r.val, hl⟩ := Fin.ext hR
  have hb : (⟨e.val, by omega⟩ : Fin 16) = ⟨(e.val * 2048 + r.val) / 2048, by omega⟩ := Fin.ext (by show e.val = (e.val * 2048 + r.val) / 2048; omega)
  pointwise [val_main_v14, val_main_v13, val_main_v12, val_main_v11, val_main_v10, val_main_v9, val_main_v8, val_main_v7, val_main_v6, val_main_v1, val_main_v0, val_main_cst, Cert.OutProjReferenceIdeal.dot_S8x2048x2048_S2048x2048_S8x2048x2048_2_0_01_1_n_n]
  rw [hb]

/-- The reference's residual rows. -/
theorem ref_residual (e : Fin 8) (r d : Fin 2048) (R : Fin 16384) (hR : R.val = e.val * 2048 + r.val) :
    val_main_v38 mix w x md g b (ix3 e r d) = rowR mix w x md g b R d := by
  rw [rowR, residual, ← funext fun d => ref_sum mix w x md e r d R hR]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_0, val_main_cst_1, val_main_cst_2, val_main_cst_3, val_main_cst_4]
  rfl

/-- The reference's modulated rows. -/
theorem ref_modulated (e : Fin 8) (r d : Fin 2048) (R : Fin 16384) (hR : R.val = e.val * 2048 + r.val) :
    val_main_v62 mix w x md g b (ix3 e r d) = rowM mix w x md g b R d := by
  rw [rowM, ← funext fun d => ref_residual mix w x md g b e r d R hR]
  have hl : e.val * 2048 + r.val < 16384 := by clear hR; omega
  obtain rfl : R = ⟨e.val * 2048 + r.val, hl⟩ := Fin.ext hR
  have hb : (⟨e.val, by omega⟩ : Fin 16) = ⟨(e.val * 2048 + r.val) / 2048, by omega⟩ := Fin.ext (by show e.val = (e.val * 2048 + r.val) / 2048; omega)
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v5, val_main_v4, val_main_v3, val_main_v2, val_main_cst_5, val_main_cst_6, val_main_cst_7, val_main_cst_8, val_main_cst_9, val_main_cst_10]
  rw [hb]
  rfl

/-- The reference's first result. -/
theorem reference_R (i : S16384x2048.Idx) : val_main_v65 mix w x md g b i = rowR mix w x md g b (i 0) (i 1) := by
  obtain ⟨R, f, rfl⟩ : ∃ (R : Fin 16384) (f : Fin 2048), i = ix2 R f := ⟨_, _, eq_ix2 i⟩
  pointwise [val_main_v65]
  exact ref_residual mix w x md g b _ _ _ R (by show R.val = R.val / 2048 * 2048 + R.val % 2048; omega)

/-- Its second. -/
theorem reference_M (i : S16384x2048.Idx) : val_main_v67 mix w x md g b i = rowM mix w x md g b (i 0) (i 1) := by
  obtain ⟨R, f, rfl⟩ : ∃ (R : Fin 16384) (f : Fin 2048), i = ix2 R f := ⟨_, _, eq_ix2 i⟩
  pointwise [val_main_v67, val_main_v66]
  exact ref_modulated mix w x md g b _ _ _ R (by show R.val = R.val / 2048 * 2048 + R.val % 2048; omega)

/-- Its third. -/
theorem reference_L (i : S16384x128.Idx) : val_main_v68 mix w x md g b wr i = logit (rowM mix w x md g b (i 0)) wr (i 1) := by
  obtain ⟨R, f, rfl⟩ : ∃ (R : Fin 16384) (f : Fin 128), i = ix2 R f := ⟨_, _, eq_ix2 i⟩
  pointwise [val_main_v68, val_main_v64, val_main_v63, Cert.OutProjReferenceIdeal.dot_S8x2048x2048_S2048x128_S8x2048x128_2_0_01_1_n_n]
  exact Finset.sum_congr rfl fun d _ => mul_eq (ref_modulated mix w x md g b _ _ d R (by show R.val = R.val / 2048 * 2048 + R.val % 2048; omega)) rfl

end

end Cert.OutProjProof

end
-- ==== Proof.AbIn.lean ====
/- The even layer's input projection with its rotary positions: the array the call leaves, entry by entry. -/
module

public import proofs.«01_k».proof.Proof.Index
public import proofs.«01_k».proof.Proof.Rows
public import proofs.«01_k».proof.Proof.Gen.AbInIdeal.Value
public import Idealize.ShloMosaic.Lib.StableHlo.RunRead

@[expose] public section

noncomputable section

namespace Cert.AbInProof

open Idealize.ShloMosaic Idealize.ShloMosaic.TcCoe Idealize.ShloMosaic.Tactic Idealize.SL.Sem
open Cert.AbInIdeal Cert.AbInIdeal.Gen Cert.Layer

/-! ## One row -/

/-- A row's product with column `k` of the weights. -/
def dotc (h : Fin 2048 → EReal) (w : S2048x3072.Idx → EReal) (k : ℕ) : EReal := ∑ d, h d * w (ix2 d (Fin.ofNat 3072 k))

/-- Entry `k` of a row of heads of 128 entries, turned by tables: the entry, and the entries 32 to its right and to its left in the same
head (the head taken as a ring), each times the entry's number in its own table. -/
def turned (p : ℕ → EReal) (a b c : Fin 128 → EReal) (k : ℕ) : EReal :=
  p k * a (Fin.ofNat 128 k) + p (k / 128 * 128 + (k + 32) % 128) * b (Fin.ofNat 128 k) + p (k / 128 * 128 + (k + 96) % 128) * c (Fin.ofNat 128 k)

/-- A projected row: the queries' columns turned and scaled, the keys' turned, the others plain. -/
def entry (h : Fin 2048 → EReal) (w : S2048x3072.Idx → EReal) (a b c : Fin 128 → EReal) (k : ℕ) : EReal :=
  if k < 1536 then turned (dotc h w) a b c k * Ideal.ofBits .f32 1035273459#32
  else if k < 2048 then turned (dotc h w) a b c k
  else dotc h w k

/-! ## The body's values -/

/-- A chunk of 512 columns of the weights, from column `n`. -/
def cols (w : S2048x3072.Idx → EReal) (n : ℕ) : Vec Ideal S2048x512 .bf16 := fun y => w (ix2 (y 0) (Fin.ofNat 3072 (n + (y 1).val)))

/-- The turned entry at column `n + f`, read from a chunk of products that starts at column `n`, a head's first column. -/
theorem turned_eq (p : Fin 512 → EReal) (P : ℕ → EReal) (n : ℕ) (hn : n % 128 = 0) (hp : ∀ k, p k = P (n + k.val)) (a b c : Fin 128 → EReal)
    (f : ℕ) (i j k : Fin 512) (e : Fin 128) (he : e.val = f % 128) (hi : i.val = f) (hj : j.val = f / 128 * 128 + (f + 32) % 128)
    (hk : k.val = f / 128 * 128 + (f + 96) % 128) : p i * a e + p j * b e + p k * c e = turned P a b c (n + f) := by
  have ee : e = Fin.ofNat 128 (n + f) := Fin.ext (by show e.val = (n + f) % 128; omega)
  rw [hp, hp, hp, turned, ← ee, hi, hj, hk]
  have h1 : n + (f / 128 * 128 + (f + 32) % 128) = (n + f) / 128 * 128 + (n + f + 32) % 128 := by omega
  have h2 : n + (f / 128 * 128 + (f + 96) % 128) = (n + f) / 128 * 128 + (n + f + 96) % 128 := by omega
  rw [h1, h2]

/-- A chunk of four heads, every head turned on its own and then changed by `g`. -/
theorem heads_eq (g : EReal → EReal) (p : Fin 512 → EReal) (P : ℕ → EReal) (n : ℕ) (hn : n % 128 = 0) (hp : ∀ k, p k = P (n + k.val))
    (a b c : Fin 128 → EReal) (f : Fin 512) :
    (if h : f.val < 128 then g (p f * a ⟨f.val, h⟩ + p ⟨(f.val + 128 - 96) % 128, by omega⟩ * b ⟨f.val, h⟩
        + p ⟨(f.val + 128 - 32) % 128, by omega⟩ * c ⟨f.val, h⟩)
      else if h : f.val - 128 < 128 then g (p ⟨128 + (f.val - 128), by omega⟩ * a ⟨f.val - 128, h⟩
        + p ⟨128 + (f.val - 128 + 128 - 96) % 128, by omega⟩ * b ⟨f.val - 128, h⟩
        + p ⟨128 + (f.val - 128 + 128 - 32) % 128, by omega⟩ * c ⟨f.val - 128, h⟩)
      else if h : f.val - 128 - 128 < 128 then g (p ⟨256 + (f.val - 128 - 128), by omega⟩ * a ⟨f.val - 128 - 128, h⟩
        + p ⟨256 + (f.val - 128 - 128 + 128 - 96) % 128, by omega⟩ * b ⟨f.val - 128 - 128, h⟩
        + p ⟨256 + (f.val - 128 - 128 + 128 - 32) % 128, by omega⟩ * c ⟨f.val - 128 - 128, h⟩)
      else g (p ⟨384 + (f.val - 128 - 128 - 128), by omega⟩ * a ⟨f.val - 128 - 128 - 128, by omega⟩
        + p ⟨384 + (f.val - 128 - 128 - 128 + 128 - 96) % 128, by omega⟩ * b ⟨f.val - 128 - 128 - 128, by omega⟩
        + p ⟨384 + (f.val - 128 - 128 - 128 + 128 - 32) % 128, by omega⟩ * c ⟨f.val - 128 - 128 - 128, by omega⟩))
      = g (turned P a b c (n + f.val)) := by
  have t := turned_eq p P n hn hp a b c f.val
  by_cases h1 : f.val < 128
  · rw [dif_pos h1]; refine congrArg g (t _ _ _ _ ?_ ?_ ?_ ?_) <;> dsimp only <;> omega
  by_cases h2 : f.val - 128 < 128
  · rw [dif_neg h1, dif_pos h2]; refine congrArg g (t _ _ _ _ ?_ ?_ ?_ ?_) <;> dsimp only <;> omega
  by_cases h3 : f.val - 128 - 128 < 128
  · rw [dif_neg h1, dif_neg h2, dif_pos h3]; refine congrArg g (t _ _ _ _ ?_ ?_ ?_ ?_) <;> dsimp only <;> omega
  rw [dif_neg h1, dif_neg h2, dif_neg h3]; refine congrArg g (t _ _ _ _ ?_ ?_ ?_ ?_) <;> dsimp only <;> omega

section
variable (h : FVec Ideal S256x2048 .bf16) (w : S2048x3072.Idx → EReal) (a b c : Vec Ideal S256x128 .f32) (r : Fin 256) (f : Fin 512)

/-- A chunk of the products. -/
theorem dot_apply (n : ℕ) (k : Fin 512) : k0_pay19 h (cols w n) (ix2 r k) = dotc (fun d => h (ix2 r d)) w (n + k.val) := by
  pointwise [k0_pay19, dot_S256x2048_S2048x512_S256x512_1_0_0_1_n_n]
  rfl

/-- A turned row. -/
def rowTurned (k : ℕ) : EReal :=
  turned (dotc (fun d => h (ix2 r d)) w) (fun e => a (ix2 r e)) (fun e => b (ix2 r e)) (fun e => c (ix2 r e)) k

/-- Columns 0 to 511: queries. -/
theorem chunk0 (z : EReal) (hz : rowTurned h w a b c r (0 + f.val) * Ideal.ofBits .f32 1035273459#32 = z) :
    k0_pay18 (k0_pay14 (k0_pay19 h (cols w 0)) a b c) (k0_pay15 (k0_pay19 h (cols w 0)) a b c)
      (k0_pay16 (k0_pay19 h (cols w 0)) a b c) (k0_pay17 (k0_pay19 h (cols w 0)) a b c) (Scalar.ofBits .f32 0x3DB504F3#32) (ix2 r f) = z := by
  have hp := dot_apply h w r 0
  generalize k0_pay19 h (cols w 0) = p at *
  pointwise [k0_pay18, k0_pay14, k0_pay15, k0_pay16, k0_pay17, k0_pay11, k0_pay12, k0_pay13]
  exact (heads_eq (· * Ideal.ofBits .f32 1035273459#32) (fun k => p (ix2 r k)) _ 0 rfl hp (fun e => a (ix2 r e)) (fun e => b (ix2 r e))
    (fun e => c (ix2 r e)) f).trans hz

/-- Columns 512 to 1023: queries. -/
theorem chunk1 (z : EReal) (hz : rowTurned h w a b c r (512 + f.val) * Ideal.ofBits .f32 1035273459#32 = z) :
    k0_pay28 (k0_pay19 h (cols w 512)) (k0_pay20 a) (k0_pay21 b) (k0_pay22 c) (k0_pay23 h (cols w 512) a b c) (k0_pay24 h (cols w 512) a b c)
      (k0_pay26 h (cols w 512) a b) (k0_pay27 h (cols w 512) c) (ix2 r f) = z := by
  have hp := dot_apply h w r 512
  generalize e : k0_pay19 h (cols w 512) = p at *
  pointwise [k0_pay28, k0_pay23, k0_pay24, k0_pay26, k0_pay27, k0_pay25, k0_pay20, k0_pay21, k0_pay22, e]
  exact (heads_eq (· * Ideal.ofBits .f32 1035273459#32) (fun k => p (ix2 r k)) _ 512 rfl hp (fun e => a (ix2 r e)) (fun e => b (ix2 r e))
    (fun e => c (ix2 r e)) f).trans hz

/-- Columns 1024 to 1535: queries. -/
theorem chunk2 (z : EReal) (hz : rowTurned h w a b c r (1024 + f.val) * Ideal.ofBits .f32 1035273459#32 = z) :
    k0_pay36 (k0_pay29 h (cols w 1024)) (k0_pay30 a) (k0_pay31 b) (k0_pay32 c) (k0_pay33 h (cols w 1024) a b c) (k0_pay34 h (cols w 1024))
      (k0_pay35 h (cols w 1024) a b) 32#32 (ix2 r f) = z := by
  have hp : ∀ k, k0_pay29 h (cols w 1024) (ix2 r k) = _ := dot_apply h w r 1024
  generalize e : k0_pay29 h (cols w 1024) = p at *
  pointwise [k0_pay36, k0_pay30, k0_pay31, k0_pay32, k0_pay33, k0_pay34, k0_pay35, e]
  exact (heads_eq (· * Ideal.ofBits .f32 1035273459#32) (fun k => p (ix2 r k)) _ 1024 rfl hp (fun e => a (ix2 r e)) (fun e => b (ix2 r e))
    (fun e => c (ix2 r e)) f).trans hz

/-- Columns 1536 to 2047: keys, not scaled. -/
theorem chunk3 (z : EReal) (hz : rowTurned h w a b c r (1536 + f.val) = z) :
    k0_pay44 (k0_pay37 h (cols w 1536)) (k0_pay38 a) (k0_pay39 b) (k0_pay40 c) (k0_pay41 h (cols w 1536)) (k0_pay42 h (cols w 1536) a)
      (k0_pay43 h (cols w 1536) b) (ix2 r f) = z := by
  have hp : ∀ k, k0_pay37 h (cols w 1536) (ix2 r k) = _ := dot_apply h w r 1536
  generalize e : k0_pay37 h (cols w 1536) = p at *
  pointwise [k0_pay44, k0_pay38, k0_pay39, k0_pay40, k0_pay41, k0_pay42, k0_pay43, e]
  exact (heads_eq id (fun k => p (ix2 r k)) _ 1536 rfl hp (fun e => a (ix2 r e)) (fun e => b (ix2 r e)) (fun e => c (ix2 r e)) f).trans hz

/-- The row of a block, all its columns. -/
def block (y : S256x3072.Idx) : Elt Ideal .bf16 :=
  entry (fun d => h (ix2 (y 0) d)) w (fun e => a (ix2 (y 0) e)) (fun e => b (ix2 (y 0) e)) (fun e => c (ix2 (y 0) e)) (y 1).val

/-- The body's six stores. -/
def pieces : List (View.Piece (Elt Ideal) S256x3072 .bf16) :=
  [⟨Rect.unit (s := S256x3072) ![0, 2560] S256x512.size inb_S256x3072_S256x512_0_2560, k0_pay46 h (cols w 2560)⟩,
   ⟨Rect.unit (s := S256x3072) ![0, 2048] S256x512.size inb_S256x3072_S256x512_0_2048, k0_pay45 h (cols w 2048)⟩,
   ⟨Rect.unit (s := S256x3072) ![0, 1536] S256x512.size inb_S256x3072_S256x512_0_1536,
    k0_pay44 (k0_pay37 h (cols w 1536)) (k0_pay38 a) (k0_pay39 b) (k0_pay40 c) (k0_pay41 h (cols w 1536)) (k0_pay42 h (cols w 1536) a)
      (k0_pay43 h (cols w 1536) b)⟩,
   ⟨Rect.unit (s := S256x3072) ![0, 1024] S256x512.size inb_S256x3072_S256x512_0_1024,
    k0_pay36 (k0_pay29 h (cols w 1024)) (k0_pay30 a) (k0_pay31 b) (k0_pay32 c) (k0_pay33 h (cols w 1024) a b c) (k0_pay34 h (cols w 1024))
      (k0_pay35 h (cols w 1024) a b) 32#32⟩,
   ⟨Rect.unit (s := S256x3072) ![0, 512] S256x512.size inb_S256x3072_S256x512_0_512,
    k0_pay28 (k0_pay19 h (cols w 512)) (k0_pay20 a) (k0_pay21 b) (k0_pay22 c) (k0_pay23 h (cols w 512) a b c) (k0_pay24 h (cols w 512) a b c)
      (k0_pay26 h (cols w 512) a b) (k0_pay27 h (cols w 512) c)⟩,
   ⟨Rect.unit (s := S256x3072) ![0, 0] S256x512.size inb_S256x3072_S256x512_0_0,
    k0_pay18 (k0_pay14 (k0_pay19 h (cols w 0)) a b c) (k0_pay15 (k0_pay19 h (cols w 0)) a b c)
      (k0_pay16 (k0_pay19 h (cols w 0)) a b c) (k0_pay17 (k0_pay19 h (cols w 0)) a b c) (Scalar.ofBits .f32 0x3DB504F3#32)⟩]

/-- The block at the element a chunk's element is stored to: the row's entry at the chunk's first column plus the element's. -/
theorem block_emb (n : ℕ) (hn : ∀ k : Fin 2, (![0, n] : Fin 2 → ℕ) k + S256x512.size k ≤ S256x3072.size k) :
    block h w a b c ((Rect.unit (s := S256x3072) ![0, n] S256x512.size hn).emb (ix2 r f))
      = entry (fun d => h (ix2 r d)) w (fun e => a (ix2 r e)) (fun e => b (ix2 r e)) (fun e => c (ix2 r e)) (n + f.val) := by
  have e0 : ((Rect.unit (s := S256x3072) ![0, n] S256x512.size hn).emb (ix2 r f)) 0 = r := Fin.ext (by show 0 + 1 * r.val = r.val; omega)
  have e1 : (((Rect.unit (s := S256x3072) ![0, n] S256x512.size hn).emb (ix2 r f)) 1).val = n + f.val := by
    show n + 1 * f.val = n + f.val; omega
  rw [block, e0, e1]

/-- Every store of the body holds its part of the block. -/
theorem pieces_eq : ∀ pc ∈ pieces h w a b c, ∀ z, pc.2 z = block h w a b c (pc.1.emb z) := by
  have ez : ∀ z : S256x512.Idx, z = ix2 (z 0 : Fin 256) (z 1 : Fin 512) := eq_ix2
  unfold pieces
  refine List.forall_mem_cons.mpr ⟨fun z => ?_, List.forall_mem_cons.mpr ⟨fun z => ?_, List.forall_mem_cons.mpr ⟨fun z => ?_,
    List.forall_mem_cons.mpr ⟨fun z => ?_, List.forall_mem_cons.mpr ⟨fun z => ?_, List.forall_mem_cons.mpr ⟨fun z => ?_,
    fun _ h => absurd h List.not_mem_nil⟩⟩⟩⟩⟩⟩
  all_goals
    obtain ⟨r, f, rfl⟩ : ∃ (r : Fin 256) (f : Fin 512), z = ix2 r f := ⟨_, _, ez z⟩
    have hf := f.isLt
    have e := block_emb h w a b c r f
    unfold entry at e
  · refine .trans ?_ (e 2560 inb_S256x3072_S256x512_0_2560).symm; rw [if_neg (by omega), if_neg (by omega)]; exact dot_apply h w r 2560 f
  · refine .trans ?_ (e 2048 inb_S256x3072_S256x512_0_2048).symm; rw [if_neg (by omega), if_neg (by omega)]; exact dot_apply h w r 2048 f
  · refine .trans ?_ (e 1536 inb_S256x3072_S256x512_0_1536).symm; rw [if_neg (by omega), if_pos (by omega)]; exact chunk3 h w a b c r f _ rfl
  · refine .trans ?_ (e 1024 inb_S256x3072_S256x512_0_1024).symm; rw [if_pos (by omega)]; exact chunk2 h w a b c r f _ rfl
  · refine .trans ?_ (e 512 inb_S256x3072_S256x512_0_512).symm; rw [if_pos (by omega)]; exact chunk1 h w a b c r f _ rfl
  · refine .trans ?_ (e 0 inb_S256x3072_S256x512_0_0).symm; rw [if_pos (by omega)]; exact chunk0 h w a b c r f _ rfl

end

/-! ## What the body leaves in the output block -/

/-- The body's cast of the weights, the same for each of its eight pieces. -/
theorem cast_apply (v : Vec Ideal S256x3072 .f32) (z : S256x3072.Idx) : k0_pay1 v z = v z := by
  obtain ⟨r, f, rfl⟩ : ∃ (r : Fin 256) (f : Fin 3072), z = ix2 r f := ⟨_, _, eq_ix2 z⟩
  pointwise [k0_pay1]

/-- The weights as cast for the product: over the extended reals the same numbers. -/
def stored (w : Vec Ideal S2048x3072 .f32) (y : S2048x3072.Idx) : Elt Ideal .bf16 := w y

section
variable (c : Dev nD) (i : grid0.Coords) (arg1 : Memref sig .tc .vmem S256x2048 .f32) (harg1 : arg1.IsWhole)
  (arg2 : Memref sig .tc .vmem S1x1x1x1x2048 .f32) (harg2 : arg2.IsWhole) (arg3 : Memref sig .tc .vmem S1x1x1x1x2048 .f32) (harg3 : arg3.IsWhole)
  (arg4 : Memref sig .tc .vmem S2048x3072 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S256x3072 .bf16) (harg8 : arg8.IsWhole) (arg9 : Memref sig .tc .vmem S2048x3072 .bf16) (harg9 : arg9.IsWhole)
  (x : Vec Ideal S256x2048 .f32) (sh sc : Vec Ideal S1x1x1x1x2048 .f32) (w : Vec Ideal S2048x3072 .f32) (ws : Vec Ideal S2048x3072 .bf16)
  (ta tb tc : Vec Ideal S256x128 .f32)

/-- A piece of the weights, read back and cast, sits where it came from. -/
theorem piece_eq (n : ℕ) (h : ∀ k : Fin 2, (![n, 0] : Fin 2 → ℕ) k + S256x3072.size k ≤ S2048x3072.size k) (z : S256x3072.Idx) :
    k0_pay1 (arg4.view.readAt (Elt Ideal) (Rect.unit (s := S2048x3072) ![n, 0] S256x3072.size h).toLoadRect (harg4.unread w)) z
      = stored w ((Rect.unit (s := S2048x3072) ![n, 0] S256x3072.size h).emb z) := by
  rw [cast_apply, View.readAt_eq_ld, harg4.read_unread]
  rfl

/-- The weights as the first point's eight stores leave them in the scratch buffer. -/
theorem scratch_eq (y : S2048x3072.Idx) : View.canon (Val := Elt Ideal) (kernelRun0_A.sl.HS0_8 c arg4 harg4 w) y = stored w y := by
  have hy : ∃ pc ∈ kernelRun0_A.sl.HS0_8 (F := Ideal) c arg4 harg4 w, y ∈ pc.1.set :=
    View.cover_of_tiledL (kernelRun0_A.sl.HS0_8 c arg4 harg4 w) S256x3072.size (by sl_kernel_rfl) y
  refine View.canon_apply_of_pieces (stored w) (kernelRun0_A.sl.HS0_8 c arg4 harg4 w) ?_ y hy
  have e := piece_eq arg4 harg4 w
  unfold kernelRun0_A.sl.HS0_8
  refine List.forall_mem_cons.mpr ⟨e 1792 _, ?_⟩
  refine List.forall_mem_cons.mpr ⟨e 1536 _, ?_⟩
  refine List.forall_mem_cons.mpr ⟨e 1280 _, ?_⟩
  refine List.forall_mem_cons.mpr ⟨e 1024 _, ?_⟩
  refine List.forall_mem_cons.mpr ⟨e 768 _, ?_⟩
  refine List.forall_mem_cons.mpr ⟨e 512 _, ?_⟩
  refine List.forall_mem_cons.mpr ⟨e 256 _, ?_⟩
  exact List.forall_mem_cons.mpr ⟨e 0 _, fun _ h => absurd h List.not_mem_nil⟩

/-- What the first point leaves in the scratch buffer. -/
theorem scratch_A (h : cond0_0 i) : sout0_A_0 c i arg1 harg1 arg2 harg2 arg3 harg3 arg4 harg4 arg5 harg5 arg6 harg6 arg7 harg7 arg8 harg8 arg9 harg9 h x sh sc w ta tb tc = stored w := by
  funext y
  unfold sout0_A_0
  rw [View.read_writes_junk_apply_eq_canon]
  exact scratch_eq c arg4 harg4 w y

/-- A chunk of columns of an array of weights, at its place. -/
theorem cols_eq (v : S2048x3072.Idx → EReal) (n : ℕ) (hn : ∀ k : Fin 2, (![0, n] : Fin 2 → ℕ) k + S2048x512.size k ≤ S2048x3072.size k)
    (y : S2048x512.Idx) : v ((Rect.unit (s := S2048x3072) ![0, n] S2048x512.size hn).emb y) = cols v n y := by
  have h1 : (y 1).val < 512 := (y 1).isLt
  have h2 : n + 512 ≤ 3072 := hn 1
  refine read_eq v fun k => ?_
  match k with
  | ⟨0, _⟩ => show 0 + 1 * (y 0).val = (y 0).val; omega
  | ⟨1, _⟩ => show n + 1 * (y 1).val = (n + (y 1).val) % 3072; omega

/-- A chunk of columns read from the scratch buffer at the first point. -/
theorem cols_A (n : ℕ) (hn : ∀ k : Fin 2, (![0, n] : Fin 2 → ℕ) k + (![2048, 512] : Fin 2 → ℕ) k ≤ S2048x3072.size k) :
    arg9.view.readCov (Val := Elt Ideal) (kernelRun0_A.sl.HS0_8 c arg4 harg4 w)
      (Rect.unit (s := S2048x3072) ![0, n] ![2048, 512] hn).toLoadRect = cols (stored w) n := by
  rw [View.readCov_eq_canon']
  exact funext fun y => (scratch_eq c arg4 harg4 w _).trans (cols_eq (stored w) n hn y)

/-- And at the other points. -/
theorem cols_B (n : ℕ) (hn : ∀ k : Fin 2, (![0, n] : Fin 2 → ℕ) k + (![2048, 512] : Fin 2 → ℕ) k ≤ S2048x3072.size k) :
    arg9.view.readAt (Elt Ideal) (Rect.unit (s := S2048x3072) ![0, n] ![2048, 512] hn).toLoadRect (harg9.unread ws) = cols ws n := by
  rw [View.readAt_eq_ld, harg9.read_unread]
  exact funext fun y => cols_eq ws n hn y

/-- The stores of the first point. -/
theorem pieces_A (h : cond0_0 i) : (kernelRun0_A c i arg1 harg1 arg2 harg2 arg3 harg3 arg4 harg4 arg5 harg5 arg6 harg6 arg7 harg7 arg8 harg8 arg9 harg9 h x sh sc w ta tb tc).1
    = pieces (k0_pay9 x sc sh) (stored w) ta tb tc := by
  unfold kernelRun0_A
  dsimp only
  unfold kernelRun0_A.sl.r_28 kernelRun0_A.sl.r_27 kernelRun0_A.sl.r_26 kernelRun0_A.sl.r_25 kernelRun0_A.sl.r_24 kernelRun0_A.sl.r_23
    kernelRun0_A.sl.r_22 kernelRun0_A.sl.r_21 kernelRun0_A.sl.r_20 kernelRun0_A.sl.r_19 kernelRun0_A.sl.r_18 kernelRun0_A.sl.r_17
    kernelRun0_A.sl.r_16 kernelRun0_A.sl.r_15 kernelRun0_A.sl.r_14 kernelRun0_A.sl.r_13 kernelRun0_A.sl.r_12 kernelRun0_A.sl.r_11
    kernelRun0_A.sl.r_10 kernelRun0_A.sl.r_9 kernelRun0_A.sl.r_8 kernelRun0_A.sl.r_7 kernelRun0_A.sl.r_6 kernelRun0_A.sl.r_5
    kernelRun0_A.sl.r_4 kernelRun0_A.sl.r_3 kernelRun0_A.sl.r_2 kernelRun0_A.sl.r_1 kernelRun0_A.sl.r kernelRun0_A.sl.cst_35
    kernelRun0_A.sl.v31 kernelRun0_A.sl.v82 kernelRun0_A.sl.v133 kernelRun0_A.sl.v184 kernelRun0_A.sl.v227 kernelRun0_A.sl.v231
  simp only [cols_A, read_all arg1 harg1 x _ z2, read_all arg2 harg2 sh _ z5, read_all arg3 harg3 sc _ z5, read_all arg5 harg5 ta _ z2,
    read_all arg6 harg6 tb _ z2, read_all arg7 harg7 tc _ z2]
  rfl

/-- The stores of every other point. -/
theorem pieces_B (h : ¬cond0_0 i) : (kernelRun0_B c i arg1 harg1 arg2 harg2 arg3 harg3 arg4 harg4 arg5 harg5 arg6 harg6 arg7 harg7 arg8 harg8 arg9 harg9 h x sh sc w ta tb tc ws).1
    = pieces (k0_pay9 x sc sh) ws ta tb tc := by
  unfold kernelRun0_B
  dsimp only
  unfold kernelRun0_B.sl.r_28 kernelRun0_B.sl.r_27 kernelRun0_B.sl.r_26 kernelRun0_B.sl.r_25 kernelRun0_B.sl.r_24 kernelRun0_B.sl.r_23
    kernelRun0_B.sl.r_22 kernelRun0_B.sl.r_21 kernelRun0_B.sl.r_20 kernelRun0_B.sl.r_19 kernelRun0_B.sl.r_18 kernelRun0_B.sl.r_17
    kernelRun0_B.sl.r_16 kernelRun0_B.sl.r_15 kernelRun0_B.sl.r_14 kernelRun0_B.sl.r_13 kernelRun0_B.sl.r_12 kernelRun0_B.sl.r_11
    kernelRun0_B.sl.r_10 kernelRun0_B.sl.r_9 kernelRun0_B.sl.r_8 kernelRun0_B.sl.r_7 kernelRun0_B.sl.r_6 kernelRun0_B.sl.r_5
    kernelRun0_B.sl.r_4 kernelRun0_B.sl.r_3 kernelRun0_B.sl.r_2 kernelRun0_B.sl.r_1 kernelRun0_B.sl.r kernelRun0_B.sl.cst_35
  simp only [cols_B, read_all arg1 harg1 x _ z2, read_all arg2 harg2 sh _ z5, read_all arg3 harg3 sc _ z5, read_all arg5 harg5 ta _ z2,
    read_all arg6 harg6 tb _ z2, read_all arg7 harg7 tc _ z2]
  rfl

/-- The block the first point writes. -/
theorem block_A (h : cond0_0 i) : out0_A_7 c i arg1 harg1 arg2 harg2 arg3 harg3 arg4 harg4 arg5 harg5 arg6 harg6 arg7 harg7 arg8 harg8 arg9 harg9 h x sh sc w ta tb tc
    = block (k0_pay9 x sc sh) (stored w) ta tb tc := by
  funext y
  have hy := cover0_A_7 c i arg1 harg1 arg2 harg2 arg3 harg3 arg4 harg4 arg5 harg5 arg6 harg6 arg7 harg7 arg8 harg8 arg9 harg9 h x sh sc w ta tb tc y
  unfold out0_A_7
  rw [View.read_writes_junk_apply_eq_canon]
  rw [pieces_A] at hy ⊢
  exact View.canon_apply_of_pieces (block (k0_pay9 x sc sh) (stored w) ta tb tc) (pieces (k0_pay9 x sc sh) (stored w) ta tb tc)
    (pieces_eq _ _ _ _ _) y hy

/-- The block every other point writes. -/
theorem block_B (h : ¬cond0_0 i) : out0_B_7 c i arg1 harg1 arg2 harg2 arg3 harg3 arg4 harg4 arg5 harg5 arg6 harg6 arg7 harg7 arg8 harg8 arg9 harg9 h x sh sc w ta tb tc ws
    = block (k0_pay9 x sc sh) ws ta tb tc := by
  funext y
  have hy := cover0_B_7 c i arg1 harg1 arg2 harg2 arg3 harg3 arg4 harg4 arg5 harg5 arg6 harg6 arg7 harg7 arg8 harg8 arg9 harg9 h x sh sc w ta tb tc ws y
  unfold out0_B_7
  rw [View.read_writes_junk_apply_eq_canon]
  rw [pieces_B] at hy ⊢
  exact View.canon_apply_of_pieces (block (k0_pay9 x sc sh) ws ta tb tc) (pieces (k0_pay9 x sc sh) ws ta tb tc)
    (pieces_eq _ _ _ _ _) y hy

end

end Cert.AbInProof

end
-- ==== Proof.Rotary.lean ====
/- The rotary positions: the three tables the call is given, and what turning by them does to a row of heads. -/
module

public import proofs.«01_k».proof.Proof.AbIn
public import proofs.«01_k».proof.Proof.Gen.AbInReferenceIdeal.Read

@[expose] public section

noncomputable section

namespace Cert.AbInProof

open Idealize.ShloMosaic Idealize.ShloMosaic.TcCoe Idealize.ShloMosaic.Tactic Idealize.SL.Sem
open Cert.AbInIdeal Cert.AbInIdeal.Gen Cert.Layer

/-! ## The angles -/

/-- The angles of the positions' rows, a position's row times a frequency: the reference's. -/
def rowAngles : FVec Ideal S2048x32 .f32 := Cert.AbInReferenceIdeal.Read.val_main_v43 (F := Ideal)

/-- The angles of the positions' columns. -/
def colAngles : FVec Ideal S2048x32 .f32 := Cert.AbInReferenceIdeal.Read.val_main_v50 (F := Ideal)

/-- The angle of position `t` in a head's entry `e`: from the position's row in the first half of the head, from its column in the second. -/
def angle (t : Fin 2048) (e : Fin 128) : EReal :=
  if e.val < 64 then rowAngles (ix2 t (Fin.ofNat 32 e.val)) else colAngles (ix2 t (Fin.ofNat 32 e.val))

/-- A row of heads with each half's two quarters rotated as the coordinates of points. -/
def rotated (p : ℕ → EReal) (θ : Fin 128 → EReal) (k : ℕ) : EReal :=
  if k % 64 < 32 then p k * Ideal.cos (θ (Fin.ofNat 128 k)) - p (k + 32) * Ideal.sin (θ (Fin.ofNat 128 k))
  else p (k - 32) * Ideal.sin (θ (Fin.ofNat 128 k)) + p k * Ideal.cos (θ (Fin.ofNat 128 k))

/-- The table the entry to the right is multiplied by. -/
def right (θ : Fin 128 → EReal) (e : Fin 128) : EReal := if e.val % 64 < 32 then -Ideal.sin (θ e) else 0

/-- The table for the entry to the left. -/
def left (θ : Fin 128 → EReal) (e : Fin 128) : EReal := if e.val % 64 < 32 then 0 else Ideal.sin (θ e)

/-- Turning by the three tables rotates: the entry multiplied by zero drops out, whatever it is. -/
theorem turned_rotated (p : ℕ → EReal) (θ : Fin 128 → EReal) (k : ℕ) :
    turned p (fun e => Ideal.cos (θ e)) (right θ) (left θ) k = rotated p θ k := by
  have he : (Fin.ofNat 128 k).val % 64 = k % 64 := by show k % 128 % 64 = k % 64; omega
  unfold turned rotated right left
  rw [he]
  by_cases h : k % 64 < 32
  · rw [if_pos h, if_pos h, if_pos h, mul_zero, add_zero, show k / 128 * 128 + (k + 32) % 128 = k + 32 by omega, mul_neg, sub_eq_add_neg]
  · rw [if_neg h, if_neg h, if_neg h, mul_zero, add_zero, show k / 128 * 128 + (k + 96) % 128 = k - 32 by omega, add_comm]

/-! ## The tables -/

/-- Four blocks of 32 columns side by side. -/
def beside (A B C D : FVec Ideal S2048x32 .f32) : FVec Ideal S2048x128 .f32 :=
  concatenate S2048x128 1 [⟨S2048x32, A⟩, ⟨S2048x32, B⟩, ⟨S2048x32, C⟩, ⟨S2048x32, D⟩] concatenates_S2048x32_S2048x32_S2048x32_S2048x32_S2048x128_d1

/-- An entry of them. -/
theorem beside_apply (A B C D : FVec Ideal S2048x32 .f32) (t : Fin 2048) (e : Fin 128) : beside A B C D (ix2 t e)
    = if e.val < 64 then (if e.val % 64 < 32 then A (ix2 t (Fin.ofNat 32 e.val)) else B (ix2 t (Fin.ofNat 32 e.val)))
      else (if e.val % 64 < 32 then C (ix2 t (Fin.ofNat 32 e.val)) else D (ix2 t (Fin.ofNat 32 e.val))) := by
  have q : ∀ (X : FVec Ideal S2048x32 .f32) (j j' : Fin 32), j.val = j'.val → X (ix2 t j) = X (ix2 t j') := fun X j j' h => by rw [Fin.ext h]
  have he := e.isLt
  unfold beside
  pointwise []
  by_cases h1 : e.val < 32
  · rw [if_pos (show e.val < 64 by omega), if_pos (show e.val % 64 < 32 by omega)]
    exact (dif_pos h1).trans (q A _ _ (by show e.val = e.val % 32; omega))
  refine (dif_neg h1).trans ?_
  by_cases h2 : e.val - 32 < 32
  · rw [if_pos (show e.val < 64 by omega), if_neg (show ¬ e.val % 64 < 32 by omega)]
    exact (dif_pos h2).trans (q B _ _ (by show e.val - 32 = e.val % 32; omega))
  refine (dif_neg h2).trans ?_
  by_cases h3 : e.val - 32 - 32 < 32
  · rw [if_neg (show ¬ e.val < 64 by omega), if_pos (show e.val % 64 < 32 by omega)]
    exact (dif_pos h3).trans (q C _ _ (by show e.val - 32 - 32 = e.val % 32; omega))
  refine (dif_neg h3).trans ?_
  rw [if_neg (show ¬ e.val < 64 by omega), if_neg (show ¬ e.val % 64 < 32 by omega)]
  exact q D _ _ (by show e.val - 32 - 32 - 32 = e.val % 32; omega)

/-- A block of zeros. -/
def zeros : FVec Ideal S2048x32 .f32 := broadcastInDim S2048x32 ![] bcast_S_S2048x32 (constant S_ .f32 0#32)

/-- Its entries. -/
theorem zeros_apply (t : Fin 2048) (j : Fin 32) : zeros (ix2 t j) = 0 := by
  unfold zeros
  pointwise []

section
variable (m : (ℓ : Loc nD τ sig) → Buf (Elt Ideal) ℓ) (c : Dev nD)

/-- The first table: the angles' cosines. -/
theorem cosines (t : Fin 2048) (e : Fin 128) : V m c main_v24 (ix2 t e) = Ideal.cos (angle t e) := by
  have e22 : StableHlo.upto [hostOps0, hostOps0_1, hostOps0_2, hostOps0_3, hostOps0_4].flatten (fun b => m (c, b)) 65
      (Proc.tc.devRef main_v22) = Host.cos rowAngles := by after_reads_simp; rfl
  have e23 : StableHlo.upto [hostOps0, hostOps0_1, hostOps0_2, hostOps0_3, hostOps0_4].flatten (fun b => m (c, b)) 65
      (Proc.tc.devRef main_v23) = Host.cos colAngles := by after_reads_simp; rfl
  have h : V m c main_v24 = beside (Host.cos rowAngles) (Host.cos rowAngles) (Host.cos colAngles) (Host.cos colAngles) := by
    after_reads_simp
    dsimp only [Matrix.cons_val]
    rw [e22, e23]
    rfl
  rw [h, beside_apply, angle]
  split <;> split <;> rfl

/-- The second: the sines' negatives in each half's first quarter, zeros in its second. -/
theorem rights (t : Fin 2048) (e : Fin 128) : V m c main_v29 (ix2 t e) = right (angle t) e := by
  have e26 : StableHlo.upto [hostOps0, hostOps0_1, hostOps0_2, hostOps0_3, hostOps0_4].flatten (fun b => m (c, b)) 70
      (Proc.tc.devRef main_v26) = Host.negf (Host.sin rowAngles) := by after_reads_simp; rfl
  have e28 : StableHlo.upto [hostOps0, hostOps0_1, hostOps0_2, hostOps0_3, hostOps0_4].flatten (fun b => m (c, b)) 70
      (Proc.tc.devRef main_v28) = Host.negf (Host.sin colAngles) := by after_reads_simp; rfl
  have e21 : StableHlo.upto [hostOps0, hostOps0_1, hostOps0_2, hostOps0_3, hostOps0_4].flatten (fun b => m (c, b)) 70
      (Proc.tc.devRef main_v21) = zeros := by after_reads_simp; rfl
  have h : V m c main_v29 = beside (Host.negf (Host.sin rowAngles)) zeros (Host.negf (Host.sin colAngles)) zeros := by
    after_reads_simp
    dsimp only [Matrix.cons_val]
    rw [e26, e28, e21]
    rfl
  rw [h, beside_apply, zeros_apply, right, angle]
  split <;> split <;> rfl

/-- The third: zeros in each half's first quarter, the sines in its second. -/
theorem lefts (t : Fin 2048) (e : Fin 128) : V m c main_v32 (ix2 t e) = left (angle t) e := by
  have e30 : StableHlo.upto [hostOps0, hostOps0_1, hostOps0_2, hostOps0_3, hostOps0_4].flatten (fun b => m (c, b)) 73
      (Proc.tc.devRef main_v30) = Host.sin rowAngles := by after_reads_simp; rfl
  have e31 : StableHlo.upto [hostOps0, hostOps0_1, hostOps0_2, hostOps0_3, hostOps0_4].flatten (fun b => m (c, b)) 73
      (Proc.tc.devRef main_v31) = Host.sin colAngles := by after_reads_simp; rfl
  have e21 : StableHlo.upto [hostOps0, hostOps0_1, hostOps0_2, hostOps0_3, hostOps0_4].flatten (fun b => m (c, b)) 73
      (Proc.tc.devRef main_v21) = zeros := by after_reads_simp; rfl
  have h : V m c main_v32 = beside zeros (Host.sin rowAngles) zeros (Host.sin colAngles) := by
    after_reads_simp
    dsimp only [Matrix.cons_val]
    rw [e30, e31, e21]
    rfl
  rw [h, beside_apply, zeros_apply, left, angle]
  split <;> split <;> rfl

end

end Cert.AbInProof

end
-- ==== Proof.AbInResult.lean ====
/- The even layer's input projection: the result array, and the reference's. -/
module

public import proofs.«01_k».proof.Proof.Rotary

@[expose] public section

noncomputable section

namespace Cert.AbInProof

open Idealize.ShloMosaic Idealize.ShloMosaic.TcCoe Idealize.ShloMosaic.Tactic Idealize.SL.Sem
open Cert.AbInIdeal Cert.AbInIdeal.Gen Cert.Layer

/-! ## The result array -/

/-- A projected row: the queries' columns rotated and scaled, the keys' rotated, the others plain. -/
def projected (h : Fin 2048 → EReal) (w : S2048x3072.Idx → EReal) (θ : Fin 128 → EReal) (k : ℕ) : EReal :=
  if k < 1536 then rotated (dotc h w) θ k * Ideal.ofBits .f32 1035273459#32
  else if k < 2048 then rotated (dotc h w) θ k
  else dotc h w k

/-- With the call's tables a row is the projected one. -/
theorem entry_projected (h : Fin 2048 → EReal) (w : S2048x3072.Idx → EReal) (θ : Fin 128 → EReal) (k : ℕ) :
    entry h w (fun e => Ideal.cos (θ e)) (right θ) (left θ) k = projected h w θ k := by
  unfold entry projected
  rw [turned_rotated]

/-- Row `R` of the stream, normalized, with its batch's scale and shift. -/
def rowH (x : Vec Ideal S16384x2048 .f32) (md : Vec Ideal S1x16x6x1x2048 .f32) (R : Fin 16384) : Fin 2048 → EReal :=
  modulated (fun d => x (ix2 R d)) (fun d => md (ix5 0 ⟨R.val / 2048, by omega⟩ 1 0 d)) (fun d => md (ix5 0 ⟨R.val / 2048, by omega⟩ 0 0 d))

/-- Row `R`'s position in its sequence. -/
def position (R : Fin 16384) : Fin 2048 := Fin.ofNat 2048 R.val

/-- The body's modulated rows. -/
theorem modulated_apply (x : Vec Ideal S256x2048 .f32) (sc sh : Vec Ideal S1x1x1x1x2048 .f32) (r : Fin 256) (d : Fin 2048) :
    k0_pay9 x sc sh (ix2 r d) = modulated (fun d => x (ix2 r d)) (fun d => sc (ix5 0 0 0 0 d)) (fun d => sh (ix5 0 0 0 0 d)) d := by
  pointwise [k0_pay9]
  rfl

/-- Where each window's block sits: 256 rows a point, the rows' batch, all of the weights, the rows' positions. -/
theorem index_eq : ∀ t : Fin grid0.N,
    (win0_0.index t 0 = t.val ∧ win0_0.index t 1 = 0)
    ∧ (win0_1.index t 0 = 0 ∧ win0_1.index t 1 = t.val / 8 ∧ win0_1.index t 2 = 0 ∧ win0_1.index t 3 = 0 ∧ win0_1.index t 4 = 0)
    ∧ (win0_2.index t 0 = 0 ∧ win0_2.index t 1 = t.val / 8 ∧ win0_2.index t 2 = 1 ∧ win0_2.index t 3 = 0 ∧ win0_2.index t 4 = 0)
    ∧ (win0_3.index t 0 = 0 ∧ win0_3.index t 1 = 0)
    ∧ (win0_4.index t 0 = t.val % 8 ∧ win0_4.index t 1 = 0) ∧ (win0_5.index t 0 = t.val % 8 ∧ win0_5.index t 1 = 0)
    ∧ (win0_6.index t 0 = t.val % 8 ∧ win0_6.index t 1 = 0) ∧ (win0_7.index t 0 = t.val ∧ win0_7.index t 1 = 0) := by
  decide +kernel

section
variable (m : (ℓ : Loc nD τ sig) → Buf (Elt Ideal) ℓ) (c : Dev nD)

/-- Row `R` of the call's stream, modulated. -/
abbrev argH (R : Fin 16384) : Fin 2048 → EReal := rowH (m ((c : Thread nD τ).loc main_arg0)) (m ((c : Thread nD τ).loc main_arg1)) R

/-- The result. -/
def result : Buf (Elt Ideal) ((c : Thread nD τ).loc main_v33) := fun i : S16384x3072.Idx =>
  projected (argH m c (i 0)) (m ((c : Thread nD τ).loc main_arg2)) (angle (position (i 0))) (i 1).val

/-- Every point's block of the weights is all of them. -/
theorem weights_eq (t : Fin cfg0.N) : iblk m c 3 t = m ((c : Thread nD τ).loc main_arg2) := by
  have hi := index_eq t
  funext y
  obtain ⟨d, f, rfl⟩ : ∃ (d : Fin 2048) (f : Fin 3072), y = ix2 d f := ⟨_, _, eq_ix2 y⟩
  refine (congrFun (V_main_arg2 m c) _).trans (congrArg (m ((c : Thread nD τ).loc main_arg2)) (emb_eq win0_3 t (ix2 d f) (ix2 d f) rfl fun a => ?_))
  match a with
  | ⟨0, _⟩ => show win0_3.index t 0 * 2048 + d.val = d.val; omega
  | ⟨1, _⟩ => show win0_3.index t 1 * 3072 + f.val = f.val; omega

/-- The block of the stream. -/
theorem stream_eq (t : Fin cfg0.N) (r : Fin 256) (R : Fin 16384) (hR : t.val * 256 + r.val = R.val) (d : Fin 2048) :
    iblk m c 0 t (ix2 r d) = m ((c : Thread nD τ).loc main_arg0) (ix2 R d) := by
  have hi := index_eq t
  refine (congrFun (V_main_arg0 m c) _).trans (congrArg (m ((c : Thread nD τ).loc main_arg0)) (emb_eq win0_0 t (ix2 r d) (ix2 R d) rfl fun a => ?_))
  match a with
  | ⟨0, _⟩ => show win0_0.index t 0 * 256 + r.val = R.val; omega
  | ⟨1, _⟩ => show win0_0.index t 1 * 2048 + d.val = d.val; omega

/-- The block of the shifts. -/
theorem shift_eq (t : Fin cfg0.N) (R : Fin 16384) (hR : R.val / 256 = t.val) (d : Fin 2048) :
    iblk m c 1 t (ix5 0 0 0 0 d) = m ((c : Thread nD τ).loc main_arg1) (ix5 0 ⟨R.val / 2048, by omega⟩ 0 0 d) := by
  have hi := index_eq t
  refine (congrFun (V_main_arg1 m c) _).trans
    (congrArg (m ((c : Thread nD τ).loc main_arg1)) (emb_eq win0_1 t (ix5 0 0 0 0 d) (ix5 0 ⟨R.val / 2048, by omega⟩ 0 0 d) rfl fun a => ?_))
  match a with
  | ⟨0, _⟩ => show win0_1.index t 0 * 1 + 0 = 0; omega
  | ⟨1, _⟩ => show win0_1.index t 1 * 1 + 0 = R.val / 2048; omega
  | ⟨2, _⟩ => show win0_1.index t 2 * 1 + 0 = 0; omega
  | ⟨3, _⟩ => show win0_1.index t 3 * 1 + 0 = 0; omega
  | ⟨4, _⟩ => show win0_1.index t 4 * 2048 + d.val = d.val; omega

/-- The block of the scales. -/
theorem scale_eq (t : Fin cfg0.N) (R : Fin 16384) (hR : R.val / 256 = t.val) (d : Fin 2048) :
    iblk m c 2 t (ix5 0 0 0 0 d) = m ((c : Thread nD τ).loc main_arg1) (ix5 0 ⟨R.val / 2048, by omega⟩ 1 0 d) := by
  have hi := index_eq t
  refine (congrFun (V_main_arg1 m c) _).trans
    (congrArg (m ((c : Thread nD τ).loc main_arg1)) (emb_eq win0_2 t (ix5 0 0 0 0 d) (ix5 0 ⟨R.val / 2048, by omega⟩ 1 0 d) rfl fun a => ?_))
  match a with
  | ⟨0, _⟩ => show win0_2.index t 0 * 1 + 0 = 0; omega
  | ⟨1, _⟩ => show win0_2.index t 1 * 1 + 0 = R.val / 2048; omega
  | ⟨2, _⟩ => show win0_2.index t 2 * 1 + 0 = 1; omega
  | ⟨3, _⟩ => show win0_2.index t 3 * 1 + 0 = 0; omega
  | ⟨4, _⟩ => show win0_2.index t 4 * 2048 + d.val = d.val; omega

/-- The block of the first table. -/
theorem cosines_eq (t : Fin cfg0.N) (r : Fin 256) (R : Fin 16384) (hR : t.val * 256 + r.val = R.val) (e : Fin 128) :
    iblk m c 4 t (ix2 r e) = Ideal.cos (angle (position R) e) := by
  have hi := index_eq t
  have hp : (position R).val = R.val % 2048 := rfl
  refine .trans (congrArg (V m c main_v24) (emb_eq win0_4 t (ix2 r e) (ix2 (position R) e) rfl fun a => ?_)) (cosines m c (position R) e)
  match a with
  | ⟨0, _⟩ => show win0_4.index t 0 * 256 + r.val = (position R).val; omega
  | ⟨1, _⟩ => show win0_4.index t 1 * 128 + e.val = e.val; omega

/-- The block of the second. -/
theorem rights_eq (t : Fin cfg0.N) (r : Fin 256) (R : Fin 16384) (hR : t.val * 256 + r.val = R.val) (e : Fin 128) :
    iblk m c 5 t (ix2 r e) = right (angle (position R)) e := by
  have hi := index_eq t
  have hp : (position R).val = R.val % 2048 := rfl
  refine .trans (congrArg (V m c main_v29) (emb_eq win0_5 t (ix2 r e) (ix2 (position R) e) rfl fun a => ?_)) (rights m c (position R) e)
  match a with
  | ⟨0, _⟩ => show win0_5.index t 0 * 256 + r.val = (position R).val; omega
  | ⟨1, _⟩ => show win0_5.index t 1 * 128 + e.val = e.val; omega

/-- The block of the third. -/
theorem lefts_eq (t : Fin cfg0.N) (r : Fin 256) (R : Fin 16384) (hR : t.val * 256 + r.val = R.val) (e : Fin 128) :
    iblk m c 6 t (ix2 r e) = left (angle (position R)) e := by
  have hi := index_eq t
  have hp : (position R).val = R.val % 2048 := rfl
  refine .trans (congrArg (V m c main_v32) (emb_eq win0_6 t (ix2 r e) (ix2 (position R) e) rfl fun a => ?_)) (lefts m c (position R) e)
  match a with
  | ⟨0, _⟩ => show win0_6.index t 0 * 256 + r.val = (position R).val; omega
  | ⟨1, _⟩ => show win0_6.index t 1 * 128 + e.val = e.val; omega

/-- A block of the result, from the point's blocks. -/
theorem block_eq (t : Fin cfg0.N) (r : Fin 256) (f : Fin 3072) (R : Fin 16384) (hR : t.val * 256 + r.val = R.val) :
    block (k0_pay9 (iblk m c 0 t) (iblk m c 2 t) (iblk m c 1 t)) (stored (m ((c : Thread nD τ).loc main_arg2))) (iblk m c 4 t) (iblk m c 5 t) (iblk m c 6 t) (ix2 r f)
      = result m c (ix2 R f) := by
  have hb : R.val / 256 = t.val := by omega
  unfold result
  rw [← entry_projected]
  show entry (fun d => k0_pay9 (iblk m c 0 t) (iblk m c 2 t) (iblk m c 1 t) (ix2 r d)) _ (fun e => iblk m c 4 t (ix2 r e)) (fun e => iblk m c 5 t (ix2 r e))
    (fun e => iblk m c 6 t (ix2 r e)) f.val = _
  rw [funext (modulated_apply (iblk m c 0 t) (iblk m c 2 t) (iblk m c 1 t) r), funext (stream_eq m c t r R hR), funext (scale_eq m c t R hb),
    funext (shift_eq m c t R hb), funext (cosines_eq m c t r R hR), funext (rights_eq m c t r R hR), funext (lefts_eq m c t r R hR)]
  rfl

/-- The scratch buffer holds the weights after every point. -/
theorem scratch (n : ℕ) (hn : n < cfg0.N) : (outsAt0 m c n hn).2 = stored (m ((c : Thread nD τ).loc main_arg2)) := by
  induction n with
  | zero =>
    rw [outsAt0_A m c ⟨0, hn⟩ (Nat.zero_mod _)]
    dsimp only
    rw [scratch_A, weights_eq]
  | succ n ih =>
    have h : ¬(n + 1) % 64 = 0 := by have : n + 1 < 64 := hn; omega
    rw [outsAt0_B m c ⟨n + 1, hn⟩ h]
    dsimp only
    unfold sout0_B_0
    exact ih (Nat.lt_of_succ_lt hn)

/-- The output's block after point `t`. -/
theorem after (t : Fin cfg0.N) : (outsAt0 m c t.val t.isLt).1
    = block (k0_pay9 (iblk m c 0 t) (iblk m c 2 t) (iblk m c 1 t)) (stored (m ((c : Thread nD τ).loc main_arg2))) (iblk m c 4 t) (iblk m c 5 t) (iblk m c 6 t) := by
  by_cases h : t.val % 64 = 0
  · rw [outsAt0_A m c t h]
    dsimp only
    rw [block_A, weights_eq]
  · rw [outsAt0_B m c t h, ← scratch m c (t.val - 1) (by have := t.isLt; omega)]
    dsimp only
    rw [block_B]

/-- What a grid point writes back is its block of the result. -/
theorem flushed (t : Fin cfg0.N) : (dats m 0 c).flushed 7 t = ((cfg0.win 7).blk t).view.read (Elt Ideal) (result m c) := by
  rw [Cert.AbInIdeal.Value.flushed7]
  funext y
  refine (congrFun (after m c t) y).trans ?_
  obtain ⟨r, f, rfl⟩ : ∃ (r : Fin 256) (f : Fin 3072), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_7.rect t).emb (ix2 r f) = ix2 R f := emb_eq win0_7 t (ix2 r f) (ix2 R f) rfl fun a => by
    match a with
    | ⟨0, _⟩ => show win0_7.index t 0 * 256 + r.val = R.val; omega
    | ⟨1, _⟩ => show win0_7.index t 1 * 3072 + f.val = f.val; omega
  exact (block_eq m c t r f R hR).trans (congrArg (result m c) e.symm)

/-- The blocks fill the output. -/
theorem cover (i : S16384x3072.Idx) : ∃ t : Fin cfg0.N, (cfg0.win 7).flush t = true ∧ i ∈ ((cfg0.win 7).blk t).view.set := by
  have h0 : (i 0).val < 16384 := (i 0).isLt
  refine ⟨⟨(i 0).val / 256, by show _ < 64; omega⟩, flush0_7 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_7.rect t).emb (ix2 (Fin.ofNat 256 (i 0).val) (i 1)) = i from
    e ▸ ((cfg0.win 7).blk t).view.emb_mem_set (ix2 (Fin.ofNat 256 (i 0).val) (i 1))
  refine emb_eq win0_7 t _ i rfl fun a => ?_
  match a with
  | ⟨0, _⟩ => show win0_7.index t 0 * 256 + (i 0).val % 256 = (i 0).val; omega
  | ⟨1, _⟩ => show win0_7.index t 1 * 3072 + (i 1).val = (i 1).val; omega

/-- The output after the run. -/
theorem final : (dats m 0 c).arrAt 7 cfg0.N = result m c :=
  (dats m 0 c).arrAt_eq_of_cover 7 (result m c) (fun t _ => flushed m c t) cover

end

end Cert.AbInProof

end
-- ==== Proof.AbInReference.lean ====
/- The even layer's input projection: the reference's array, entry by entry. -/
module

public import proofs.«01_k».proof.Proof.AbInResult

@[expose] public section

noncomputable section

namespace Cert.AbInProof

open Idealize.ShloMosaic Idealize.ShloMosaic.TcCoe Idealize.ShloMosaic.Tactic Idealize.SL.Sem
open Cert.AbInReferenceIdeal Cert.AbInReferenceIdeal.Read Cert.Layer

/-! ## A head -/

/-- A head written half by half, each half a quarter at a time, is the rotated head. -/
theorem head_eq {N : ℕ} (p : Fin N → EReal) (P : ℕ → EReal) (n : ℕ) (hn : n % 128 = 0) (hp : ∀ k, p k = P (n + k.val)) (t : Fin 2048) (h : ℕ)
    (hN : h * 128 + 128 ≤ N) (j : Fin 128) :
    (if a : j.val < 64 then
        if b : j.val < 32 then
          p ⟨h * 128 + j.val, by omega⟩ * Ideal.cos (rowAngles (ix2 t ⟨j.val, by omega⟩))
            - p ⟨h * 128 + (32 + j.val), by omega⟩ * Ideal.sin (rowAngles (ix2 t ⟨j.val, by omega⟩))
        else
          p ⟨h * 128 + (j.val - 32), by omega⟩ * Ideal.sin (rowAngles (ix2 t ⟨j.val - 32, by omega⟩))
            + p ⟨h * 128 + (32 + (j.val - 32)), by omega⟩ * Ideal.cos (rowAngles (ix2 t ⟨j.val - 32, by omega⟩))
      else
        if b : j.val - 64 < 32 then
          p ⟨h * 128 + (64 + (j.val - 64)), by omega⟩ * Ideal.cos (colAngles (ix2 t ⟨j.val - 64, by omega⟩))
            - p ⟨h * 128 + (64 + (32 + (j.val - 64))), by omega⟩ * Ideal.sin (colAngles (ix2 t ⟨j.val - 64, by omega⟩))
        else
          p ⟨h * 128 + (64 + (j.val - 64 - 32)), by omega⟩ * Ideal.sin (colAngles (ix2 t ⟨j.val - 64 - 32, by omega⟩))
            + p ⟨h * 128 + (64 + (32 + (j.val - 64 - 32))), by omega⟩ * Ideal.cos (colAngles (ix2 t ⟨j.val - 64 - 32, by omega⟩)))
      = rotated P (angle t) (n + (h * 128 + j.val)) := by
  have hj := j.isLt
  have e : Fin.ofNat 128 (n + (h * 128 + j.val)) = j := Fin.ext (by show (n + (h * 128 + j.val)) % 128 = j.val; omega)
  have q : ∀ i (hi : i < N) k, n + i = k → p ⟨i, hi⟩ = P k := fun i hi k h => h ▸ hp ⟨i, hi⟩
  have f : ∀ i (hi : i < 32), i = j.val % 32 → (⟨i, hi⟩ : Fin 32) = Fin.ofNat 32 j.val := fun i hi h => Fin.ext h
  rw [rotated, e, angle]
  split <;> split
  · rw [if_pos (show (n + (h * 128 + j.val)) % 64 < 32 by omega), f _ _ (by omega), q _ _ (n + (h * 128 + j.val)) (by omega),
      q _ _ (n + (h * 128 + j.val) + 32) (by omega)]
  · rw [if_neg (show ¬(n + (h * 128 + j.val)) % 64 < 32 by omega), f _ _ (by omega), q _ _ (n + (h * 128 + j.val) - 32) (by omega),
      q _ _ (n + (h * 128 + j.val)) (by omega)]
  · rw [if_pos (show (n + (h * 128 + j.val)) % 64 < 32 by omega), f _ _ (by omega), q _ _ (n + (h * 128 + j.val)) (by omega),
      q _ _ (n + (h * 128 + j.val) + 32) (by omega)]
  · rw [if_neg (show ¬(n + (h * 128 + j.val)) % 64 < 32 by omega), f _ _ (by omega), q _ _ (n + (h * 128 + j.val) - 32) (by omega),
      q _ _ (n + (h * 128 + j.val)) (by omega)]

/-! ## The reference -/

section
variable (x : Vec Ideal S16384x2048 .f32) (md : Vec Ideal S1x16x6x1x2048 .f32) (w : Vec Ideal S2048x3072 .f32)

/-- The reference's modulated rows. -/
theorem ref_modulated (e : Fin 8) (r d : Fin 2048) (R : Fin 16384) (hR : R.val = e.val * 2048 + r.val) :
    val_main_v28 x md (ix3 e r d) = rowH x md R d := by
  have hl : e.val * 2048 + r.val < 16384 := by clear hR; omega
  obtain rfl : R = ⟨e.val * 2048 + r.val, hl⟩ := Fin.ext hR
  have hb : (⟨e.val, by omega⟩ : Fin 16) = ⟨(e.val * 2048 + r.val) / 2048, by omega⟩ := Fin.ext (by show e.val = (e.val * 2048 + r.val) / 2048; omega)
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rw [hb]
  rfl

/-- Its products with the weights. -/
theorem ref_product (e : Fin 8) (r : Fin 2048) (k : Fin 3072) (R : Fin 16384) (hR : R.val = e.val * 2048 + r.val) :
    val_main_v29 x md w (ix3 e r k) = dotc (rowH x md R) w k.val := by
  have hk : Fin.ofNat 3072 k.val = k := Fin.ext (Nat.mod_eq_of_lt k.isLt)
  rw [dotc, hk]
  pointwise [val_main_v29, Cert.AbInReferenceIdeal.dot_S8x2048x2048_S2048x3072_S8x2048x3072_2_0_01_1_n_n]
  exact Finset.sum_congr rfl fun d _ => mul_eq (ref_modulated x md e r d R hR) rfl

/-- Its queries. -/
theorem ref_query (e : Fin 8) (r : Fin 2048) (h : Fin 12) (j : Fin 128) (R : Fin 16384) (hR : R.val = e.val * 2048 + r.val) :
    val_main_v91 x md w (ix4 e r h j)
      = rotated (dotc (rowH x md R) w) (angle r) (0 + (h.val * 128 + j.val)) * Ideal.ofBits .f32 1035273459#32 := by
  have hp := fun k => ref_product x md w e r k R hR
  have l := head_eq (N := 1536) (fun k => val_main_v29 x md w (ix3 e r ⟨k.val, by omega⟩)) _ 0 rfl
    (fun k => (hp _).trans (congrArg _ (Nat.zero_add _).symm)) r h.val (by omega) j
  rw [← l]
  generalize ep : val_main_v29 x md w = p
  unfold rowAngles colAngles
  generalize hA : val_main_v43 (F := Ideal) = A
  generalize hB : val_main_v50 (F := Ideal) = B
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_8, ep, hA, hB]

/-- Its keys. -/
theorem ref_key (e : Fin 8) (r : Fin 2048) (h : Fin 4) (j : Fin 128) (R : Fin 16384) (hR : R.val = e.val * 2048 + r.val) :
    val_main_v130 x md w (ix4 e r h j) = rotated (dotc (rowH x md R) w) (angle r) (1536 + (h.val * 128 + j.val)) := by
  have hp := fun k => ref_product x md w e r k R hR
  have l := head_eq (N := 512) (fun k => val_main_v29 x md w (ix3 e r ⟨1536 + k.val, by omega⟩)) _ 1536 rfl (fun k => hp _) r h.val (by omega) j
  rw [← l]
  generalize ep : val_main_v29 x md w = p
  unfold rowAngles colAngles
  generalize hA : val_main_v43 (F := Ideal) = A
  generalize hB : val_main_v50 (F := Ideal) = B
  pointwise [val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, ep, hA, hB]

/-- The reference's array. -/
theorem reference_eq (i : S16384x3072.Idx) :
    val_main_v136 x md w i = projected (rowH x md (i 0)) w (angle (position (i 0))) (i 1).val := by
  obtain ⟨R, f, rfl⟩ : ∃ (R : Fin 16384) (f : Fin 3072), i = ix2 R f := ⟨_, _, eq_ix2 i⟩
  have hR : R.val = R.val / 2048 * 2048 + R.val % 2048 := by omega
  have hq := fun h j => ref_query x md w ⟨R.val / 2048, by omega⟩ ⟨R.val % 2048, by omega⟩ h j R hR
  have hk := fun h j => ref_key x md w ⟨R.val / 2048, by omega⟩ ⟨R.val % 2048, by omega⟩ h j R hR
  have hv := fun k => ref_product x md w ⟨R.val / 2048, by omega⟩ ⟨R.val % 2048, by omega⟩ k R hR
  generalize eq : val_main_v91 x md w = q at hq
  generalize ek : val_main_v130 x md w = k at hk
  generalize ev : val_main_v29 x md w = v at hv
  pointwise [val_main_v136, val_main_v135, val_main_v134, val_main_v133, val_main_v132, val_main_v131, eq, ek, ev]
  have ht : (⟨R.val % 2048, by omega⟩ : Fin 2048) = position R := rfl
  rw [projected]
  split
  · rw [hq, ht, show 0 + (f.val / 128 * 128 + f.val % 128) = f.val by omega]
  · split
    · rw [hk, ht, if_pos (show f.val < 2048 by omega), show 1536 + ((f.val - 1536) / 128 * 128 + (f.val - 1536) % 128) = f.val by omega]
    · have hf : ¬f.val < 2048 := by omega
      have e : 2048 + (f.val - 1536 - 512) = f.val := by omega
      rw [if_neg hf]
      exact (hv _).trans (congrArg (dotc (rowH x md R) w) e)

end

end Cert.AbInProof

end
-- ==== Proof.AbCtx.lean ====
/- The even layer's keys and values of the context: the array the call leaves, entry by entry, and the reference's. -/
module

public import proofs.«01_k».proof.Proof.Index
public import proofs.«01_k».proof.Proof.Rows
public import proofs.«01_k».proof.Proof.Gen.AbCtxIdeal.Value
public import proofs.«01_k».proof.Proof.Gen.AbCtxReferenceIdeal.Read
public import Idealize.ShloMosaic.Lib.StableHlo.RunRead

@[expose] public section

noncomputable section

namespace Cert.AbCtxProof

open Idealize.ShloMosaic Idealize.ShloMosaic.TcCoe Idealize.ShloMosaic.Tactic Idealize.SL.Sem
open Cert.AbCtxIdeal Cert.AbCtxIdeal.Gen Cert.Layer

/-! ## The body's values -/

/-- A row's product with column `k` of the weights of keys and values. -/
def product (h : Fin 2048 → EReal) (w : S2048x1024.Idx → EReal) (k : Fin 1024) : EReal := ∑ d, h d * w (ix2 d k)

/-- The 512 columns of those weights from column `n`. -/
def half (w : S2048x1024.Idx → EReal) (n : ℕ) : Vec Ideal S2048x512 .bf16 := fun y => w (ix2 (y 0) (Fin.ofNat 1024 (n + (y 1).val)))

/-- A block of the result: the rows' products with every column. -/
def block (h : FVec Ideal S256x2048 .bf16) (w : S2048x1024.Idx → EReal) (y : S256x1024.Idx) : Elt Ideal .bf16 := product (fun d => h (ix2 (y 0) d)) w (y 1)

section
variable (h : FVec Ideal S256x2048 .bf16) (w : S2048x1024.Idx → EReal)

/-- The products with half of the columns. -/
theorem half_apply (n : ℕ) (r : Fin 256) (f : Fin 512) : k0_pay1 h (half w n) (ix2 r f) = product (fun d => h (ix2 r d)) w (Fin.ofNat 1024 (n + f.val)) := by
  pointwise [k0_pay1, dot_S256x2048_S2048x512_S256x512_1_0_0_1_n_n]
  rfl

/-- The body's two stores. -/
def pieces : List (View.Piece (Elt Ideal) S256x1024 .bf16) :=
  [⟨Rect.unit (s := S256x1024) ![0, 512] S256x512.size inb_S256x1024_S256x512_0_512, k0_pay1 h (half w 512)⟩,
   ⟨Rect.unit (s := S256x1024) ![0, 0] S256x512.size inb_S256x1024_S256x512_0_0, k0_pay1 h (half w 0)⟩]

/-- A store of half of the columns holds its part of the block. -/
theorem piece_at (n : ℕ) (hn : ∀ k : Fin 2, (![0, n] : Fin 2 → ℕ) k + S256x512.size k ≤ S256x1024.size k) (z : S256x512.Idx) :
    k0_pay1 h (half w n) z = block h w ((Rect.unit (s := S256x1024) ![0, n] S256x512.size hn).emb z) := by
  obtain ⟨r, f, rfl⟩ : ∃ (r : Fin 256) (f : Fin 512), z = ix2 r f := ⟨_, _, eq_ix2 z⟩
  have hl : n + 512 ≤ 1024 := hn 1
  have e0 : ((Rect.unit (s := S256x1024) ![0, n] S256x512.size hn).emb (ix2 r f)) 0 = r := Fin.ext (by show 0 + 1 * r.val = r.val; omega)
  have e1 : ((Rect.unit (s := S256x1024) ![0, n] S256x512.size hn).emb (ix2 r f)) 1 = Fin.ofNat 1024 (n + f.val) :=
    Fin.ext (by show n + 1 * f.val = (n + f.val) % 1024; omega)
  rw [block, e0, e1, half_apply]

/-- Both do. -/
theorem pieces_eq : ∀ pc ∈ pieces h w, ∀ z, pc.2 z = block h w (pc.1.emb z) := by
  unfold pieces
  exact List.forall_mem_cons.mpr ⟨piece_at h w 512 inb_S256x1024_S256x512_0_512,
    List.forall_mem_cons.mpr ⟨piece_at h w 0 inb_S256x1024_S256x512_0_0, fun _ h => absurd h List.not_mem_nil⟩⟩

end

/-! ## What the body leaves in the output block -/

/-- The body's cast of the weights, the same for each of its eight pieces. -/
theorem cast_apply (v : Vec Ideal S256x1024 .f32) (z : S256x1024.Idx) : k0_pay2 v z = v z := by
  obtain ⟨r, f, rfl⟩ : ∃ (r : Fin 256) (f : Fin 1024), z = ix2 r f := ⟨_, _, eq_ix2 z⟩
  pointwise [k0_pay2]

/-- The weights as cast for the product: over the extended reals the same numbers. -/
def stored (w : Vec Ideal S2048x1024 .f32) (y : S2048x1024.Idx) : Elt Ideal .bf16 := w y

section
variable (c : Dev nD) (i : grid0.Coords) (arg1 : Memref sig .tc .vmem S256x2048 .f32) (harg1 : arg1.IsWhole)
  (arg2 : Memref sig .tc .vmem S1x1x1x1x2048 .f32) (harg2 : arg2.IsWhole) (arg3 : Memref sig .tc .vmem S1x1x1x1x2048 .f32) (harg3 : arg3.IsWhole)
  (arg4 : Memref sig .tc .vmem S2048x1024 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S256x1024 .bf16) (harg8 : arg8.IsWhole) (arg9 : Memref sig .tc .vmem S2048x1024 .bf16) (harg9 : arg9.IsWhole)
  (x : Vec Ideal S256x2048 .f32) (sh sc : Vec Ideal S1x1x1x1x2048 .f32) (w : Vec Ideal S2048x1024 .f32) (ws : Vec Ideal S2048x1024 .bf16)
  (ta tb tc : Vec Ideal S256x128 .f32)

/-- A piece of the weights, read back and cast, sits where it came from. -/
theorem piece_eq (n : ℕ) (h : ∀ k : Fin 2, (![n, 0] : Fin 2 → ℕ) k + S256x1024.size k ≤ S2048x1024.size k) (z : S256x1024.Idx) :
    k0_pay2 (arg4.view.readAt (Elt Ideal) (Rect.unit (s := S2048x1024) ![n, 0] S256x1024.size h).toLoadRect (harg4.unread w)) z
      = stored w ((Rect.unit (s := S2048x1024) ![n, 0] S256x1024.size h).emb z) := by
  rw [cast_apply, View.readAt_eq_ld, harg4.read_unread]
  rfl

set_option maxHeartbeats 800000 in
/-- The weights as the first point's eight stores leave them in the scratch buffer. -/
theorem scratch_eq (y : S2048x1024.Idx) : View.canon (Val := Elt Ideal) (kernelRun0_A.sl.HS0_8 c arg4 harg4 w) y = stored w y := by
  have hy : ∃ pc ∈ kernelRun0_A.sl.HS0_8 (F := Ideal) c arg4 harg4 w, y ∈ pc.1.set :=
    View.cover_of_tiledL (kernelRun0_A.sl.HS0_8 c arg4 harg4 w) S256x1024.size (by sl_kernel_rfl) y
  refine View.canon_apply_of_pieces (stored w) (kernelRun0_A.sl.HS0_8 c arg4 harg4 w) ?_ y hy
  have e := piece_eq arg4 harg4 w
  unfold kernelRun0_A.sl.HS0_8 kernelRun0_A.sl.r
  refine List.forall_mem_cons.mpr ⟨e 1792 _, ?_⟩
  refine List.forall_mem_cons.mpr ⟨e 1536 _, ?_⟩
  refine List.forall_mem_cons.mpr ⟨e 1280 _, ?_⟩
  refine List.forall_mem_cons.mpr ⟨e 1024 _, ?_⟩
  refine List.forall_mem_cons.mpr ⟨e 768 _, ?_⟩
  refine List.forall_mem_cons.mpr ⟨e 512 _, ?_⟩
  refine List.forall_mem_cons.mpr ⟨e 256 _, ?_⟩
  exact List.forall_mem_cons.mpr ⟨e 0 _, fun _ h => absurd h List.not_mem_nil⟩

/-- What the first point leaves in the scratch buffer. -/
theorem scratch_A (h : cond0_0 i) : sout0_A_0 c i arg1 harg1 arg2 harg2 arg3 harg3 arg4 harg4 arg5 harg5 arg6 harg6 arg7 harg7 arg8 harg8 arg9 harg9 h x sh sc w ta tb tc = stored w := by
  funext y
  unfold sout0_A_0
  rw [View.read_writes_junk_apply_eq_canon]
  exact scratch_eq c arg4 harg4 w y

/-- Half of the columns of an array of weights, at its place. -/
theorem half_eq (v : S2048x1024.Idx → EReal) (n : ℕ) (hn : ∀ k : Fin 2, (![0, n] : Fin 2 → ℕ) k + S2048x512.size k ≤ S2048x1024.size k)
    (y : S2048x512.Idx) : v ((Rect.unit (s := S2048x1024) ![0, n] S2048x512.size hn).emb y) = half v n y := by
  have h1 : (y 1).val < 512 := (y 1).isLt
  have h2 : n + 512 ≤ 1024 := hn 1
  refine read_eq v fun k => ?_
  match k with
  | ⟨0, _⟩ => show 0 + 1 * (y 0).val = (y 0).val; omega
  | ⟨1, _⟩ => show n + 1 * (y 1).val = (n + (y 1).val) % 1024; omega

/-- Half of the columns read from the scratch buffer at the first point. -/
theorem half_A (n : ℕ) (hn : ∀ k : Fin 2, (![0, n] : Fin 2 → ℕ) k + (![2048, 512] : Fin 2 → ℕ) k ≤ S2048x1024.size k) :
    arg9.view.readCov (Val := Elt Ideal) (kernelRun0_A.sl.HS0_8 c arg4 harg4 w)
      (Rect.unit (s := S2048x1024) ![0, n] ![2048, 512] hn).toLoadRect = half (stored w) n := by
  rw [View.readCov_eq_canon']
  exact funext fun y => (scratch_eq c arg4 harg4 w _).trans (half_eq (stored w) n hn y)

/-- And at the other points. -/
theorem half_B (n : ℕ) (hn : ∀ k : Fin 2, (![0, n] : Fin 2 → ℕ) k + (![2048, 512] : Fin 2 → ℕ) k ≤ S2048x1024.size k) :
    arg9.view.readAt (Elt Ideal) (Rect.unit (s := S2048x1024) ![0, n] ![2048, 512] hn).toLoadRect (harg9.unread ws) = half ws n := by
  rw [View.readAt_eq_ld, harg9.read_unread]
  exact funext fun y => half_eq ws n hn y

/-- The stores of the first point. -/
theorem pieces_A (h : cond0_0 i) : (kernelRun0_A c i arg1 harg1 arg2 harg2 arg3 harg3 arg4 harg4 arg5 harg5 arg6 harg6 arg7 harg7 arg8 harg8 arg9 harg9 h x sh sc w ta tb tc).1
    = pieces (k0_pay11 x sc sh) (stored w) := by
  unfold kernelRun0_A
  dsimp only
  unfold kernelRun0_A.sl.r_2 kernelRun0_A.sl.r_1 kernelRun0_A.sl.v35 kernelRun0_A.sl.v31
  simp only [half_A, read_all arg1 harg1 x _ z2, read_all arg2 harg2 sh _ z5, read_all arg3 harg3 sc _ z5]
  rfl

/-- The stores of every other point. -/
theorem pieces_B (h : ¬cond0_0 i) : (kernelRun0_B c i arg1 harg1 arg2 harg2 arg3 harg3 arg4 harg4 arg5 harg5 arg6 harg6 arg7 harg7 arg8 harg8 arg9 harg9 h x sh sc w ta tb tc ws).1
    = pieces (k0_pay11 x sc sh) ws := by
  unfold kernelRun0_B
  dsimp only
  unfold kernelRun0_B.sl.r_1 kernelRun0_B.sl.r
  simp only [half_B, read_all arg1 harg1 x _ z2, read_all arg2 harg2 sh _ z5, read_all arg3 harg3 sc _ z5]
  rfl

/-- The block the first point writes. -/
theorem block_A (h : cond0_0 i) : out0_A_7 c i arg1 harg1 arg2 harg2 arg3 harg3 arg4 harg4 arg5 harg5 arg6 harg6 arg7 harg7 arg8 harg8 arg9 harg9 h x sh sc w ta tb tc
    = block (k0_pay11 x sc sh) (stored w) := by
  funext y
  have hy := cover0_A_7 c i arg1 harg1 arg2 harg2 arg3 harg3 arg4 harg4 arg5 harg5 arg6 harg6 arg7 harg7 arg8 harg8 arg9 harg9 h x sh sc w ta tb tc y
  unfold out0_A_7
  rw [View.read_writes_junk_apply_eq_canon]
  rw [pieces_A] at hy ⊢
  exact View.canon_apply_of_pieces (block (k0_pay11 x sc sh) (stored w)) (pieces (k0_pay11 x sc sh) (stored w)) (pieces_eq _ _) y hy

/-- The block every other point writes. -/
theorem block_B (h : ¬cond0_0 i) : out0_B_7 c i arg1 harg1 arg2 harg2 arg3 harg3 arg4 harg4 arg5 harg5 arg6 harg6 arg7 harg7 arg8 harg8 arg9 harg9 h x sh sc w ta tb tc ws
    = block (k0_pay11 x sc sh) ws := by
  funext y
  have hy := cover0_B_7 c i arg1 harg1 arg2 harg2 arg3 harg3 arg4 harg4 arg5 harg5 arg6 harg6 arg7 harg7 arg8 harg8 arg9 harg9 h x sh sc w ta tb tc ws y
  unfold out0_B_7
  rw [View.read_writes_junk_apply_eq_canon]
  rw [pieces_B] at hy ⊢
  exact View.canon_apply_of_pieces (block (k0_pay11 x sc sh) ws) (pieces (k0_pay11 x sc sh) ws) (pieces_eq _ _) y hy

end

/-! ## The result array -/

/-- Row `R` of the context, normalized, with the context's scale and shift: row 8 of the modulation. -/
def rowH (x : Vec Ideal S2048x2048 .f32) (md : Vec Ideal S1x16x6x1x2048 .f32) (R : Fin 2048) : Fin 2048 → EReal :=
  modulated (fun d => x (ix2 R d)) (fun d => md (ix5 0 8 1 0 d)) (fun d => md (ix5 0 8 0 0 d))

/-- The columns of keys and values in the layer's weights: 1024 of them from column 1536. -/
def keyValue (w : Vec Ideal S2048x3072 .f32) (y : S2048x1024.Idx) : EReal := w (ix2 (y 0) ⟨1536 + (y 1).val, by have : (y 1).val < 1024 := (y 1).isLt; omega⟩)

/-- The body's modulated rows. -/
theorem modulated_apply (x : Vec Ideal S256x2048 .f32) (sc sh : Vec Ideal S1x1x1x1x2048 .f32) (r : Fin 256) (d : Fin 2048) :
    k0_pay11 x sc sh (ix2 r d) = modulated (fun d => x (ix2 r d)) (fun d => sc (ix5 0 0 0 0 d)) (fun d => sh (ix5 0 0 0 0 d)) d := by
  pointwise [k0_pay11]
  rfl

/-- Where each window's block sits: 256 rows a point, the modulation's row of the context, all of the weights. -/
theorem index_eq : ∀ t : Fin grid0.N,
    (win0_0.index t 0 = t.val ∧ win0_0.index t 1 = 0)
    ∧ (win0_1.index t 0 = 0 ∧ win0_1.index t 1 = 8 ∧ win0_1.index t 2 = 0 ∧ win0_1.index t 3 = 0 ∧ win0_1.index t 4 = 0)
    ∧ (win0_2.index t 0 = 0 ∧ win0_2.index t 1 = 8 ∧ win0_2.index t 2 = 1 ∧ win0_2.index t 3 = 0 ∧ win0_2.index t 4 = 0)
    ∧ (win0_3.index t 0 = 0 ∧ win0_3.index t 1 = 0)
    ∧ (win0_7.index t 0 = t.val ∧ win0_7.index t 1 = 0) := by
  decide +kernel

section
variable (m : (ℓ : Loc nD τ sig) → Buf (Elt Ideal) ℓ) (c : Dev nD)

/-- The result. -/
def result : Buf (Elt Ideal) ((c : Thread nD τ).loc main_v34) := fun i : S2048x1024.Idx =>
  product (rowH (m ((c : Thread nD τ).loc main_arg0)) (m ((c : Thread nD τ).loc main_arg1)) (i 0)) (keyValue (m ((c : Thread nD τ).loc main_arg2))) (i 1)

/-- The weights as the call reads them. -/
theorem sliced (d : Fin 2048) (f : Fin 1024) : V m c main_v0 (ix2 d f) = keyValue (m ((c : Thread nD τ).loc main_arg2)) (ix2 d f) := by
  have h : V m c main_v0 = extractStridedSlice S2048x1024 ![0, 1536] (m ((c : Thread nD τ).loc main_arg2)) slices_S2048x3072_S2048x1024_0_1536 := by
    after_reads_simp
  rw [h]
  pointwise []
  rfl

/-- Every point's block of the weights is all of them. -/
theorem weights_eq (t : Fin cfg0.N) : iblk m c 3 t = keyValue (m ((c : Thread nD τ).loc main_arg2)) := by
  have hi := index_eq t
  funext y
  obtain ⟨d, f, rfl⟩ : ∃ (d : Fin 2048) (f : Fin 1024), y = ix2 d f := ⟨_, _, eq_ix2 y⟩
  refine .trans (congrArg (V m c main_v0) (emb_eq win0_3 t (ix2 d f) (ix2 d f) rfl fun a => ?_)) (sliced m c d f)
  match a with
  | ⟨0, _⟩ => show win0_3.index t 0 * 2048 + d.val = d.val; omega
  | ⟨1, _⟩ => show win0_3.index t 1 * 1024 + f.val = f.val; omega

/-- The block of the context. -/
theorem context_eq (t : Fin cfg0.N) (r : Fin 256) (R : Fin 2048) (hR : t.val * 256 + r.val = R.val) (d : Fin 2048) :
    iblk m c 0 t (ix2 r d) = m ((c : Thread nD τ).loc main_arg0) (ix2 R d) := by
  have hi := index_eq t
  refine (congrFun (V_main_arg0 m c) _).trans (congrArg (m ((c : Thread nD τ).loc main_arg0)) (emb_eq win0_0 t (ix2 r d) (ix2 R d) rfl fun a => ?_))
  match a with
  | ⟨0, _⟩ => show win0_0.index t 0 * 256 + r.val = R.val; omega
  | ⟨1, _⟩ => show win0_0.index t 1 * 2048 + d.val = d.val; omega

/-- The block of the shifts. -/
theorem shift_eq (t : Fin cfg0.N) (d : Fin 2048) : iblk m c 1 t (ix5 0 0 0 0 d) = m ((c : Thread nD τ).loc main_arg1) (ix5 0 8 0 0 d) := by
  have hi := index_eq t
  refine (congrFun (V_main_arg1 m c) _).trans
    (congrArg (m ((c : Thread nD τ).loc main_arg1)) (emb_eq win0_1 t (ix5 0 0 0 0 d) (ix5 0 8 0 0 d) rfl fun a => ?_))
  match a with
  | ⟨0, _⟩ => show win0_1.index t 0 * 1 + 0 = 0; omega
  | ⟨1, _⟩ => show win0_1.index t 1 * 1 + 0 = 8; omega
  | ⟨2, _⟩ => show win0_1.index t 2 * 1 + 0 = 0; omega
  | ⟨3, _⟩ => show win0_1.index t 3 * 1 + 0 = 0; omega
  | ⟨4, _⟩ => show win0_1.index t 4 * 2048 + d.val = d.val; omega

/-- The block of the scales. -/
theorem scale_eq (t : Fin cfg0.N) (d : Fin 2048) : iblk m c 2 t (ix5 0 0 0 0 d) = m ((c : Thread nD τ).loc main_arg1) (ix5 0 8 1 0 d) := by
  have hi := index_eq t
  refine (congrFun (V_main_arg1 m c) _).trans
    (congrArg (m ((c : Thread nD τ).loc main_arg1)) (emb_eq win0_2 t (ix5 0 0 0 0 d) (ix5 0 8 1 0 d) rfl fun a => ?_))
  match a with
  | ⟨0, _⟩ => show win0_2.index t 0 * 1 + 0 = 0; omega
  | ⟨1, _⟩ => show win0_2.index t 1 * 1 + 0 = 8; omega
  | ⟨2, _⟩ => show win0_2.index t 2 * 1 + 0 = 1; omega
  | ⟨3, _⟩ => show win0_2.index t 3 * 1 + 0 = 0; omega
  | ⟨4, _⟩ => show win0_2.index t 4 * 2048 + d.val = d.val; omega

/-- A block of the result, from the point's blocks. -/
theorem block_eq (t : Fin cfg0.N) (r : Fin 256) (f : Fin 1024) (R : Fin 2048) (hR : t.val * 256 + r.val = R.val) :
    block (k0_pay11 (iblk m c 0 t) (iblk m c 2 t) (iblk m c 1 t)) (stored (keyValue (m ((c : Thread nD τ).loc main_arg2)))) (ix2 r f) = result m c (ix2 R f) := by
  show product (fun d => k0_pay11 (iblk m c 0 t) (iblk m c 2 t) (iblk m c 1 t) (ix2 r d)) _ f = _
  rw [funext (modulated_apply (iblk m c 0 t) (iblk m c 2 t) (iblk m c 1 t) r), funext (context_eq m c t r R hR), funext (scale_eq m c t),
    funext (shift_eq m c t)]
  rfl

/-- The scratch buffer holds the weights after every point. -/
theorem scratch (n : ℕ) (hn : n < cfg0.N) : (outsAt0 m c n hn).2 = stored (keyValue (m ((c : Thread nD τ).loc main_arg2))) := by
  induction n with
  | zero =>
    rw [outsAt0_A m c ⟨0, hn⟩ (Nat.zero_mod _)]
    dsimp only
    rw [scratch_A, weights_eq]
  | succ n ih =>
    have h : ¬(n + 1) % 8 = 0 := by have : n + 1 < 8 := hn; omega
    rw [outsAt0_B m c ⟨n + 1, hn⟩ h]
    dsimp only
    unfold sout0_B_0
    exact ih (Nat.lt_of_succ_lt hn)

/-- The output's block after point `t`. -/
theorem after (t : Fin cfg0.N) : (outsAt0 m c t.val t.isLt).1
    = block (k0_pay11 (iblk m c 0 t) (iblk m c 2 t) (iblk m c 1 t)) (stored (keyValue (m ((c : Thread nD τ).loc main_arg2)))) := by
  by_cases h : t.val % 8 = 0
  · rw [outsAt0_A m c t h]
    dsimp only
    rw [block_A, weights_eq]
  · rw [outsAt0_B m c t h, ← scratch m c (t.val - 1) (by have := t.isLt; omega)]
    dsimp only
    rw [block_B]

/-- What a grid point writes back is its block of the result. -/
theorem flushed (t : Fin cfg0.N) : (dats m 0 c).flushed 7 t = ((cfg0.win 7).blk t).view.read (Elt Ideal) (result m c) := by
  rw [Cert.AbCtxIdeal.Value.flushed7]
  funext y
  refine (congrFun (after m c t) y).trans ?_
  obtain ⟨r, f, rfl⟩ : ∃ (r : Fin 256) (f : Fin 1024), y = ix2 r f := ⟨_, _, eq_ix2 y⟩
  have hi := index_eq t
  have ht : t.val < 8 := t.isLt
  obtain ⟨R, hR⟩ : ∃ R : Fin 2048, t.val * 256 + r.val = R.val := ⟨⟨t.val * 256 + r.val, by omega⟩, rfl⟩
  have e : (win0_7.rect t).emb (ix2 r f) = ix2 R f := emb_eq win0_7 t (ix2 r f) (ix2 R f) rfl fun a => by
    match a with
    | ⟨0, _⟩ => show win0_7.index t 0 * 256 + r.val = R.val; omega
    | ⟨1, _⟩ => show win0_7.index t 1 * 1024 + f.val = f.val; omega
  exact (block_eq m c t r f R hR).trans (congrArg (result m c) e.symm)

/-- The blocks fill the output. -/
theorem cover (i : S2048x1024.Idx) : ∃ t : Fin cfg0.N, (cfg0.win 7).flush t = true ∧ i ∈ ((cfg0.win 7).blk t).view.set := by
  have h0 : (i 0).val < 2048 := (i 0).isLt
  refine ⟨⟨(i 0).val / 256, by show _ < 8; omega⟩, flush0_7 _, ?_⟩
  have hi := index_eq ⟨(i 0).val / 256, by show _ < 8; omega⟩
  generalize ht : (⟨(i 0).val / 256, _⟩ : Fin cfg0.N) = t at hi ⊢
  have hv : t.val = (i 0).val / 256 := by rw [← ht]
  suffices e : (win0_7.rect t).emb (ix2 (Fin.ofNat 256 (i 0).val) (i 1)) = i from
    e ▸ ((cfg0.win 7).blk t).view.emb_mem_set (ix2 (Fin.ofNat 256 (i 0).val) (i 1))
  refine emb_eq win0_7 t _ i rfl fun a => ?_
  match a with
  | ⟨0, _⟩ => show win0_7.index t 0 * 256 + (i 0).val % 256 = (i 0).val; omega
  | ⟨1, _⟩ => show win0_7.index t 1 * 1024 + (i 1).val = (i 1).val; omega

/-- The result array after the run. -/
theorem final : (dats m 0 c).arrAt 7 cfg0.N = result m c :=
  (dats m 0 c).arrAt_eq_of_cover 7 (result m c) (fun t _ => flushed m c t) cover

end

/-! ## The reference -/

section
open Cert.AbCtxReferenceIdeal.Read
variable (x : Vec Ideal S2048x2048 .f32) (md : Vec Ideal S1x16x6x1x2048 .f32) (w : Vec Ideal S2048x3072 .f32)

/-- The reference's modulated rows. -/
theorem ref_modulated (e : Fin 8) (r : Fin 256) (d R : Fin 2048) (hR : R.val = e.val * 256 + r.val) :
    val_main_v30 x md (ix3 e r d) = rowH x md R d := by
  have hl : e.val * 256 + r.val < 2048 := by clear hR; omega
  obtain rfl : R = ⟨e.val * 256 + r.val, hl⟩ := Fin.ext hR
  pointwise [val_main_v0, val_main_v1, val_main_v2, val_main_v3, val_main_v4, val_main_cst, val_main_v5, val_main_v6, val_main_cst_0, val_main_v7, val_main_v8, val_main_v9, val_main_v10, val_main_v11, val_main_cst_1, val_main_v12, val_main_v13, val_main_cst_2, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_v29, val_main_v30]
  rfl

/-- The reference's array. -/
theorem reference_eq (i : S2048x1024.Idx) : val_main_v34 x md w i = product (rowH x md (i 0)) (keyValue w) (i 1) := by
  obtain ⟨R, f, rfl⟩ : ∃ (R : Fin 2048) (f : Fin 1024), i = ix2 R f := ⟨_, _, eq_ix2 i⟩
  have hR : R.val = R.val / 256 * 256 + R.val % 256 := by omega
  have hm := fun d => ref_modulated x md ⟨R.val / 256, by omega⟩ ⟨R.val % 256, by omega⟩ d R hR
  generalize em : val_main_v30 x md = p at hm
  pointwise [val_main_v34, val_main_v33, val_main_v32, val_main_v31, em, Cert.AbCtxReferenceIdeal.dot_S8x256x2048_S2048x1024_S8x256x1024_2_0_01_1_n_n]
  exact Finset.sum_congr rfl fun d _ => mul_eq (hm d) rfl

end

end Cert.AbCtxProof

end
-- ==== Proof.Modulation.lean ====
/- Layer 0's modulation: the array the call leaves, entry by entry, and the reference's. -/
module

public import proofs.«01_k».proof.Proof.Index
public import proofs.«01_k».proof.Proof.Gen.ModulationIdeal.Value
public import proofs.«01_k».proof.Proof.Gen.ModulationReferenceIdeal.Read
public import Idealize.ShloMosaic.Lib.StableHlo.RunRead

@[expose] public section

noncomputable section

namespace Cert.ModulationProof

open Idealize.ShloMosaic Idealize.ShloMosaic.TcCoe Idealize.ShloMosaic.Tactic Idealize.SL.Sem
open Cert.ModulationIdeal Cert.ModulationIdeal.Gen Cert.Layer

/-- `silu` of a row, times a column, plus an offset. -/
def affine (x w : Fin 2048 → EReal) (b : EReal) : EReal := (∑ d, x d * Ideal.logistic (x d) * w d) + b

/-- The modulation: row `i 0` of the conditions, column `i 1` of layer 0's weights and its offset. -/
def modulation (x : Vec Ideal S16x2048 .f32) (w : Vec Ideal S2x2048x12288 .f32) (b : Vec Ideal S2x12288 .f32) (i : S16x12288.Idx) : EReal :=
  affine (fun d => x (ix2 (i 0) d)) (fun d => w (ix3 0 d (i 1))) (b (ix2 0 (i 1)))

/-- What the body computes of a grid point's blocks: 1024 columns. -/
theorem body_apply (x : Vec Ideal S16x2048 .f32) (w : Vec Ideal S1x2048x1024 .f32) (b : Vec Ideal S1x1x1024 .f32) (r : Fin 16) (f : Fin 1024) :
    k0_pay1 x w b (ix2 r f) = affine (fun d => x (ix2 r d)) (fun d => w (ix3 0 d f)) (b (ix3 0 0 f)) := by
  pointwise [k0_pay1, dot_S16x2048_S2048x1024_S16x1024_1_0_0_1_n_n]
  rfl

/-- What the body leaves in the output block. -/
theorem out_eq (x : Vec Ideal S16x2048 .f32) (w : Vec Ideal S1x2048x1024 .f32) (b : Vec Ideal S1x1x1024 .f32) (r : Fin 16) (f : Fin 1024) :
    out0_3 x w b (ix2 r f) = affine (fun d => x (ix2 r d)) (fun d => w (ix3 0 d f)) (b (ix3 0 0 f)) := by
  unfold out0_3
  refine (View.canon_apply_of_pieces (fun y : S16x1024.Idx => (k0_pay1 x w b y : EReal)) _ ?_ (ix2 r f) (cover0_3 _ (ix2 r f))).trans (body_apply x w b r f)
  refine List.forall_mem_cons.mpr ⟨fun z => ?_, fun _ h => absurd h List.not_mem_nil⟩
  have hx : View.ld x r0_0 = x := funext fun y => read_eq x fun a => by
    match a with
    | ⟨0, _⟩ => show 0 + 1 * (y 0).val = (y 0).val; omega
    | ⟨1, _⟩ => show 0 + 1 * (y 1).val = (y 1).val; omega
  have hw : View.ld w r0_1 = w := funext fun y => read_eq w fun a => by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have hb : View.ld b r0_2 = b := funext fun y => read_eq b fun a => by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  show k0_pay1 (View.ld x r0_0) (View.ld w r0_1) (View.ld b r0_2) z = _
  rw [hx, hw, hb]
  exact read_eq (k0_pay1 x w b) fun a => by
    match a with
    | ⟨0, _⟩ => show (z 0).val = 0 + 1 * (z 0).val; omega
    | ⟨1, _⟩ => show (z 1).val = 0 + 1 * (z 1).val; omega

/-- Where each window's block sits: all conditions, the columns of layer 0, the output's columns. -/
theorem index_eq : ∀ t : Fin grid0.N,
    (win0_0.index t 0 = 0 ∧ win0_0.index t 1 = 0)
    ∧ (win0_1.index t 0 = 0 ∧ win0_1.index t 1 = 0 ∧ win0_1.index t 2 = t.val)
    ∧ (win0_2.index t 0 = 0 ∧ win0_2.index t 1 = 0 ∧ win0_2.index t 2 = t.val)
    ∧ win0_3.index t 0 = 0 ∧ win0_3.index t 1 = t.val := by
  decide +kernel

variable (m : (ℓ : Loc nD τ sig) → Buf (Elt Ideal) ℓ) (c : Dev nD)

/-- The offsets as the call reads them, an axis of size one between. -/
theorem offsets (f : Fin 12288) : V m c main_v0 (ix3 0 0 f) = m ((c : Thread nD τ).loc main_arg2) (ix2 0 f) := by
  unfold V
  after_reads_simp
  pointwise []

/-- The result. -/
def result : Buf (Elt Ideal) ((c : Thread nD τ).loc main_v1) := fun i : S16x12288.Idx =>
  modulation (m ((c : Thread nD τ).loc main_arg0)) (m ((c : Thread nD τ).loc main_arg1)) (m ((c : Thread nD τ).loc main_arg2)) i

/-- What a grid point writes back is its block of the result. -/
theorem flushed_eq (t : Fin cfg0.N) : (dats m 0 c).flushed 3 t = ((cfg0.win 3).blk t).view.read (Elt Ideal) (result m c) := by
  rw [Cert.ModulationIdeal.Value.flushed3]
  funext y
  obtain ⟨r, f, rfl⟩ : ∃ (r : Fin 16) (f : Fin 1024), y = ix2 r f := ⟨_, _, eq_ix2 y⟩
  obtain ⟨⟨x0, x1⟩, ⟨w0, w1, w2⟩, ⟨b0, b1, b2⟩, o0, o1⟩ := index_eq t
  have ht : t.val < 12 := t.isLt
  obtain ⟨k, hk⟩ : ∃ k : Fin 12288, t.val * 1024 + f.val = k.val := ⟨⟨t.val * 1024 + f.val, by omega⟩, rfl⟩
  have e : (win0_3.rect t).emb (ix2 r f) = ix2 r k := emb_eq win0_3 t (ix2 r f) (ix2 r k) rfl fun a => by
    match a with
    | ⟨0, _⟩ => show win0_3.index t 0 * 16 + r.val = r.val; omega
    | ⟨1, _⟩ => show win0_3.index t 1 * 1024 + f.val = k.val; omega
  refine (out_eq _ _ _ r f).trans (.trans ?_ (congrArg (result m c) e.symm))
  show _ = affine _ _ _
  refine congr (congr (congrArg affine (funext fun d => ?_)) (funext fun d => ?_)) ?_
  · refine (congrFun (V_main_arg0 m c) _).trans (congrArg (m ((c : Thread nD τ).loc main_arg0)) (emb_eq win0_0 t (ix2 r d) (ix2 r d) rfl fun a => ?_))
    match a with
    | ⟨0, _⟩ => show win0_0.index t 0 * 16 + r.val = r.val; omega
    | ⟨1, _⟩ => show win0_0.index t 1 * 2048 + d.val = d.val; omega
  · refine (congrFun (V_main_arg1 m c) _).trans (congrArg (m ((c : Thread nD τ).loc main_arg1)) (emb_eq win0_1 t (ix3 0 d f) (ix3 0 d k) rfl fun a => ?_))
    match a with
    | ⟨0, _⟩ => show win0_1.index t 0 * 1 + 0 = 0; omega
    | ⟨1, _⟩ => show win0_1.index t 1 * 2048 + d.val = d.val; omega
    | ⟨2, _⟩ => show win0_1.index t 2 * 1024 + f.val = k.val; omega
  · refine .trans (congrArg (V m c main_v0) (emb_eq win0_2 t (ix3 0 0 f) (ix3 0 0 k) rfl fun a => ?_)) (offsets m c k)
    match a with
    | ⟨0, _⟩ => show win0_2.index t 0 * 1 + 0 = 0; omega
    | ⟨1, _⟩ => show win0_2.index t 1 * 1 + 0 = 0; omega
    | ⟨2, _⟩ => show win0_2.index t 2 * 1024 + f.val = k.val; omega

/-- The blocks fill the result array. -/
theorem cover (i : S16x12288.Idx) : ∃ t : Fin cfg0.N, (cfg0.win 3).flush t = true ∧ i ∈ ((cfg0.win 3).blk t).view.set := by
  have h1 : (i 1).val < 12288 := (i 1).isLt
  refine ⟨⟨(i 1).val / 1024, by show _ < 12; omega⟩, flush0_3 _, ?_⟩
  have hi := index_eq ⟨(i 1).val / 1024, by show _ < 12; omega⟩
  generalize ht : (⟨(i 1).val / 1024, _⟩ : Fin cfg0.N) = t at hi ⊢
  have hv : t.val = (i 1).val / 1024 := by rw [← ht]
  suffices e : (win0_3.rect t).emb (ix2 (i 0) (Fin.ofNat 1024 (i 1).val)) = i from
    e ▸ ((cfg0.win 3).blk t).view.emb_mem_set (ix2 (i 0) (Fin.ofNat 1024 (i 1).val))
  refine emb_eq win0_3 t _ i rfl fun a => ?_
  match a with
  | ⟨0, _⟩ => show win0_3.index t 0 * 16 + (i 0).val = (i 0).val; omega
  | ⟨1, _⟩ => show win0_3.index t 1 * 1024 + (i 1).val % 1024 = (i 1).val; omega

/-- The result array after the run. -/
theorem final : (dats m 0 c).arrAt 3 cfg0.N = result m c :=
  (dats m 0 c).arrAt_eq_of_cover 3 (result m c) (fun t _ => flushed_eq m c t) cover

/-- The reference's result. -/
theorem reference_eq (x : Vec Ideal S16x2048 .f32) (w : Vec Ideal S2x2048x12288 .f32) (b : Vec Ideal S2x12288 .f32) (i : S16x12288.Idx) :
    Cert.ModulationReferenceIdeal.Read.val_main_v8 (F := Ideal) x w b i = modulation x w b i := by
  open Cert.ModulationReferenceIdeal Cert.ModulationReferenceIdeal.Read in
  obtain ⟨r, f, rfl⟩ : ∃ (r : Fin 16) (f : Fin 12288), i = ix2 r f := ⟨_, _, eq_ix2 i⟩
  pointwise [val_main_v8, val_main_v7, val_main_v6, val_main_v5, val_main_v4, val_main_v3, val_main_v2, val_main_v1, val_main_v0,
    val_main_call0_v0, val_main_call0_v1, val_main_call0_v2, val_main_call0_v3, val_main_call0_v4, val_main_call0_v5, val_main_call0_cst,
    val_main_call0_cst_0, Cert.ModulationReferenceIdeal.dot_S16x2048_S2048x12288_S16x12288_1_0_0_1_n_n]
  rfl

end Cert.ModulationProof

end
-- ==== Proof.GateUpFirst.lean ====
/- The experts' gate and up projections as layer 0 calls them: the array the call leaves, entry by entry, and the reference's. -/
module

public import proofs.«01_k».proof.Proof.Index
public import proofs.«01_k».proof.Proof.Gen.GateUpFirstIdeal.Value
public import proofs.«01_k».proof.Proof.Gen.GateUpFirstReferenceIdeal.Read

@[expose] public section

noncomputable section

namespace Cert.GateUpFirstProof

open Idealize.ShloMosaic Idealize.ShloMosaic.TcCoe Idealize.ShloMosaic.Tactic Idealize.SL.Sem
open Cert.GateUpFirstIdeal Cert.GateUpFirstIdeal.Gen Cert.Layer

/-- `silu(G) · U` of the row products `G` and `U` of a token with one column of an expert's gate and up weights. -/
def act (x g u : Fin 2048 → EReal) : EReal :=
  (∑ d, x d * g d) * Ideal.logistic (∑ d, x d * g d) * ∑ d, x d * u d

/-- The hidden activations: expert `i 0`, token `i 1`, feature `i 2`. -/
def hidden (x : Vec Ideal S16x2048x2048 .bf16) (g u : Vec Ideal S2x16x2048x2048 .f32) (i : S16x2048x2048.Idx) : EReal :=
  act (fun d => x (ix3 (i 0) (i 1) d)) (fun d => g (ix4 0 (i 0) d (i 2))) (fun d => u (ix4 0 (i 0) d (i 2)))

/-- The same of one grid point's blocks: 512 features of one expert. -/
def block (x : Vec Ideal S1x2048x2048 .bf16) (g u : Vec Ideal S1x1x2048x512 .f32) (y : S1x2048x512.Idx) : Elt Ideal .bf16 :=
  act (fun d => x (ix3 0 (y 1) d)) (fun d => g (ix4 0 0 d (y 2))) (fun d => u (ix4 0 0 d (y 2)))

/-- The first store's value: 256 features. -/
theorem left_apply (x : Vec Ideal S1x2048x2048 .bf16) (g u : Vec Ideal S1x1x2048x256 .f32) (r : Fin 2048) (f : Fin 256) :
    k0_pay3 x g u (ix3 0 r f) = act (fun d => x (ix3 0 r d)) (fun d => g (ix4 0 0 d f)) (fun d => u (ix4 0 0 d f)) := by
  pointwise [k0_pay3, k0_pay2, dot_S2048x2048_S2048x256_S2048x256_1_0_0_1_n_n]
  rfl

/-- The second store's value: the next 256 features. -/
theorem right_apply (x : Vec Ideal S1x2048x2048 .bf16) (g u : Vec Ideal S1x1x2048x256 .f32) (r : Fin 2048) (f : Fin 256) :
    k0_pay1 (k0_pay4 x g u) (ix3 0 r f) = act (fun d => x (ix3 0 r d)) (fun d => g (ix4 0 0 d f)) (fun d => u (ix4 0 0 d f)) := by
  pointwise [k0_pay1, k0_pay4, k0_pay2, dot_S2048x2048_S2048x256_S2048x256_1_0_0_1_n_n]
  rfl

/-- What the body leaves in the output block. -/
theorem out_eq (x : Vec Ideal S1x2048x2048 .bf16) (g u : Vec Ideal S1x1x2048x512 .f32) (y : S1x2048x512.Idx) : out0_3 x g u y = block x g u y := by
  unfold out0_3
  refine View.canon_apply_of_pieces (block x g u) _ ?_ y (cover0_3 _ _ y)
  simp only [List.forall_mem_cons, List.not_mem_nil, false_imp_iff, implies_true, and_true]
  constructor <;> intro z <;>
    obtain ⟨a, r, f, rfl⟩ : ∃ (a : Fin 1) (r : Fin 2048) (f : Fin 256), z = ix3 a r f := ⟨_, _, _, eq_ix3 z⟩ <;>
    obtain rfl : a = 0 := Subsingleton.elim _ _
  · refine (right_apply _ _ _ r f).trans (congr (congr (congrArg act ?_) ?_) ?_)
    · exact funext fun d => read_eq x fun a => by match a with | ⟨0, _⟩ => rfl | ⟨1, _⟩ => rfl | ⟨2, _⟩ => show 0 + 1 * d.val = d.val; omega
    · exact funext fun d => read_eq g fun a => by match a with | ⟨0, _⟩ => rfl | ⟨1, _⟩ => rfl | ⟨2, _⟩ => show 0 + 1 * d.val = d.val; omega | ⟨3, _⟩ => rfl
    · exact funext fun d => read_eq u fun a => by match a with | ⟨0, _⟩ => rfl | ⟨1, _⟩ => rfl | ⟨2, _⟩ => show 0 + 1 * d.val = d.val; omega | ⟨3, _⟩ => rfl
  · refine (left_apply _ _ _ r f).trans (congr (congr (congrArg act ?_) ?_) ?_)
    · exact funext fun d => read_eq x fun a => by match a with | ⟨0, _⟩ => rfl | ⟨1, _⟩ => rfl | ⟨2, _⟩ => show 0 + 1 * d.val = d.val; omega
    · exact funext fun d => read_eq g fun a => by match a with | ⟨0, _⟩ => rfl | ⟨1, _⟩ => rfl | ⟨2, _⟩ => show 0 + 1 * d.val = d.val; omega | ⟨3, _⟩ => rfl
    · exact funext fun d => read_eq u fun a => by match a with | ⟨0, _⟩ => rfl | ⟨1, _⟩ => rfl | ⟨2, _⟩ => show 0 + 1 * d.val = d.val; omega | ⟨3, _⟩ => rfl

/-- Where each window's block sits: the tokens of the point's expert, the expert's columns of layer 0, the output over both. -/
theorem index_eq : ∀ t : Fin grid0.N,
    (win0_0.index t 0 = win0_3.index t 0 ∧ win0_0.index t 1 = 0 ∧ win0_0.index t 2 = 0)
    ∧ (win0_1.index t 0 = 0 ∧ win0_1.index t 1 = win0_3.index t 0 ∧ win0_1.index t 2 = 0 ∧ win0_1.index t 3 = win0_3.index t 2)
    ∧ (win0_2.index t 0 = 0 ∧ win0_2.index t 1 = win0_3.index t 0 ∧ win0_2.index t 2 = 0 ∧ win0_2.index t 3 = win0_3.index t 2)
    ∧ win0_3.index t 1 = 0 := by
  decide +kernel

/-- Every expert and every 512 columns are some grid point's. -/
theorem point_of : ∀ (e : Fin 16) (j : Fin 4), ∃ t : Fin grid0.N, win0_3.index t 0 = e.val ∧ win0_3.index t 2 = j.val := by
  decide +kernel

variable (m : (ℓ : Loc nD τ sig) → Buf (Elt Ideal) ℓ) (c : Dev nD)

/-- The whole result. -/
def result : Buf (Elt Ideal) ((c : Thread nD τ).loc main_v0) := fun i : S16x2048x2048.Idx =>
  hidden (m ((c : Thread nD τ).loc main_arg0)) (m ((c : Thread nD τ).loc main_arg1)) (m ((c : Thread nD τ).loc main_arg2)) i

/-- What a grid point writes back is its block of the whole result. -/
theorem flushed_eq (t : Fin cfg0.N) : (dats m 0 c).flushed 3 t = ((cfg0.win 3).blk t).view.read (Elt Ideal) (result m c) := by
  rw [Cert.GateUpFirstIdeal.Value.flushed3]
  funext y
  refine (out_eq _ _ _ y).trans ?_
  obtain ⟨a, r, f, rfl⟩ : ∃ (a : Fin 1) (r : Fin 2048) (f : Fin 512), y = ix3 a r f := ⟨_, _, _, eq_ix3 y⟩
  obtain rfl : a = 0 := Subsingleton.elim _ _
  show _ = result m c ((win0_3.rect t).emb (ix3 0 r f))
  obtain ⟨⟨x0, x1, x2⟩, ⟨g0, g1, g2, g3⟩, ⟨u0, u1, u2, u3⟩, o1⟩ := index_eq t
  have e0 : ((win0_3.rect t).emb (ix3 0 r f) 0).val = win0_3.index t 0 * 1 + 0 := win0_3.rect_emb_val t (ix3 0 r f) 0
  have e1 : ((win0_3.rect t).emb (ix3 0 r f) 1).val = win0_3.index t 1 * 2048 + r.val := win0_3.rect_emb_val t (ix3 0 r f) 1
  have e2 : ((win0_3.rect t).emb (ix3 0 r f) 2).val = win0_3.index t 2 * 512 + f.val := win0_3.rect_emb_val t (ix3 0 r f) 2
  generalize (win0_3.rect t).emb (ix3 0 r f) = i at e0 e1 e2
  refine congr (congr (congrArg act ?_) ?_) ?_
  · refine funext fun d => congrArg (m ((c : Thread nD τ).loc main_arg0)) (emb_eq win0_0 t (ix3 0 r d) _ rfl fun a => ?_)
    match a with
    | ⟨0, _⟩ => show win0_0.index t 0 * 1 + 0 = (i 0).val; omega
    | ⟨1, _⟩ => show win0_0.index t 1 * 2048 + r.val = (i 1).val; omega
    | ⟨2, _⟩ => show win0_0.index t 2 * 2048 + d.val = d.val; omega
  · refine funext fun d => congrArg (m ((c : Thread nD τ).loc main_arg1)) (emb_eq win0_1 t (ix4 0 0 d f) _ rfl fun a => ?_)
    match a with
    | ⟨0, _⟩ => show win0_1.index t 0 * 1 + 0 = 0; omega
    | ⟨1, _⟩ => show win0_1.index t 1 * 1 + 0 = (i 0).val; omega
    | ⟨2, _⟩ => show win0_1.index t 2 * 2048 + d.val = d.val; omega
    | ⟨3, _⟩ => show win0_1.index t 3 * 512 + f.val = (i 2).val; omega
  · refine funext fun d => congrArg (m ((c : Thread nD τ).loc main_arg2)) (emb_eq win0_2 t (ix4 0 0 d f) _ rfl fun a => ?_)
    match a with
    | ⟨0, _⟩ => show win0_2.index t 0 * 1 + 0 = 0; omega
    | ⟨1, _⟩ => show win0_2.index t 1 * 1 + 0 = (i 0).val; omega
    | ⟨2, _⟩ => show win0_2.index t 2 * 2048 + d.val = d.val; omega
    | ⟨3, _⟩ => show win0_2.index t 3 * 512 + f.val = (i 2).val; omega

/-- The blocks fill the result array. -/
theorem cover (i : S16x2048x2048.Idx) : ∃ t : Fin cfg0.N, (cfg0.win 3).flush t = true ∧ i ∈ ((cfg0.win 3).blk t).view.set := by
  have h2 : (i 2).val < 2048 := (i 2).isLt
  obtain ⟨t, te, tj⟩ := point_of (i 0) ⟨(i 2).val / 512, by omega⟩
  refine ⟨t, flush0_3 t, ?_⟩
  suffices e : (win0_3.rect t).emb (ix3 0 (i 1) (Fin.ofNat 512 (i 2).val)) = i from
    e ▸ ((cfg0.win 3).blk t).view.emb_mem_set (ix3 0 (i 1) (Fin.ofNat 512 (i 2).val))
  refine emb_eq win0_3 t _ i rfl fun a => ?_
  have o1 := (index_eq t).2.2.2
  match a with
  | ⟨0, _⟩ => show win0_3.index t 0 * 1 + 0 = (i 0).val; omega
  | ⟨1, _⟩ => show win0_3.index t 1 * 2048 + (i 1).val = (i 1).val; omega
  | ⟨2, _⟩ => show win0_3.index t 2 * 512 + (i 2).val % 512 = (i 2).val; rw [tj]; show (i 2).val / 512 * 512 + _ = _; omega

/-- The result array after the run. -/
theorem final : (dats m 0 c).arrAt 3 cfg0.N = result m c :=
  (dats m 0 c).arrAt_eq_of_cover 3 (result m c) (fun t _ => flushed_eq m c t) cover

/-- The reference's result. -/
theorem reference_eq (x : Vec Ideal S16x2048x2048 .bf16) (g u : Vec Ideal S2x16x2048x2048 .f32) (i : S16x2048x2048.Idx) :
    Cert.GateUpFirstReferenceIdeal.Read.val_main_v9 (F := Ideal) x g u i = hidden x g u i := by
  open Cert.GateUpFirstReferenceIdeal Cert.GateUpFirstReferenceIdeal.Read in
  obtain ⟨e, r, f, rfl⟩ : ∃ (e : Fin 16) (r f : Fin 2048), i = ix3 e r f := ⟨_, _, _, eq_ix3 i⟩
  pointwise [val_main_v9, val_main_v8, val_main_v7, val_main_v6, val_main_v5, val_main_v4, val_main_v3, val_main_v2, val_main_v1, val_main_v0,
    val_main_call0_v0, val_main_call0_v1, val_main_call0_v2, val_main_call0_v3, val_main_call0_v4, val_main_call0_v5, val_main_call0_cst,
    val_main_call0_cst_0, Cert.GateUpFirstReferenceIdeal.dot_S16x2048x2048_S16x2048x2048_S16x2048x2048_2_1_1_2_0_0]
  rfl

end Cert.GateUpFirstProof

end
-- ==== Proof.Joined.lean ====
/- The rows the even layer's output projection joins: the attention's beside the folded half's, placed by a table of zeros and ones. -/
module

public import proofs.«01_k».proof.Proof.Index
public import proofs.«01_k».proof.Proof.Gen.OutProjEvenIdeal.Frame
public import proofs.«01_k».proof.Proof.Gen.OutProjEvenReferenceIdeal.Read
public import Idealize.ShloMosaic.Lib.Pointwise
public import Idealize.ShloMosaic.Lib.Tactic.WordOmega
public import Idealize.ShloMosaic.Lib.StableHlo.RunRead

@[expose] public section

noncomputable section

namespace Cert.OutProjEvenProof

open Idealize.ShloMosaic Idealize.ShloMosaic.TcCoe Idealize.ShloMosaic.Tactic Idealize.SL.Sem
open Cert.OutProjEvenIdeal Cert.OutProjEvenIdeal.Gen Cert.Layer

/-! ## The rows -/

/-- The row of the folded half that row `R` takes: its own in the earlier half of its sequence, the mirrored one in the later. -/
def source (R : Fin 16384) : Fin 16384 :=
  if h : R.val % 2048 < 1024 then R else ⟨R.val / 2048 * 2048 + (3071 - R.val % 2048), by omega⟩

/-- The joined rows. -/
def joined (a : Vec Ideal S16384x1536 .bf16) (f : Vec Ideal S16384x512 .bf16) : Vec Ideal S16384x2048 .bf16 := fun i =>
  if h : (i 1).val < 1536 then a (ix2 (i 0) ⟨(i 1).val, h⟩) else f (ix2 (source (i 0)) ⟨(i 1).val - 1536, by have : (i 1).val < 2048 := (i 1).isLt; omega⟩)

/-! ## The reference's -/

section
open Cert.OutProjEvenReferenceIdeal.Read

variable (a : Vec Ideal S16384x1536 .bf16) (f : Vec Ideal S16384x512 .bf16)

/-- The folded half the right way round. -/
theorem ref_folded (R : Fin 16384) (s : Fin 8) (r : Fin 2048) (hR : s.val * 2048 + r.val = R.val) (d : Fin 512) :
    val_main_v4 f (ix3 s r d) = f (ix2 (source R) d) := by
  have hr : R.val / 2048 = s.val := by omega
  have hm : R.val % 2048 = r.val := by omega
  unfold source
  pointwise [val_main_v4, val_main_v3, val_main_v2, val_main_v1, val_main_v0]
  by_cases h : r.val < 1024
  · refine (dif_pos h).trans ?_
    rw [dif_pos (by omega)]
    refine read_eq f fun a => ?_
    match a with
    | ⟨0, _⟩ => show s.val * 2048 + r.val = R.val; omega
    | ⟨1, _⟩ => rfl
  · refine (dif_neg h).trans ?_
    rw [dif_neg (by omega)]
    refine read_eq f fun a => ?_
    match a with
    | ⟨0, _⟩ => show s.val * 2048 + (1024 + (1024 - (r.val - 1024 + 1))) = R.val / 2048 * 2048 + (3071 - R.val % 2048); omega
    | ⟨1, _⟩ => rfl

/-- The reference's joined rows. -/
theorem ref_joined : val_main_v7 a f = joined a f := by
  funext i
  obtain ⟨R, k, rfl⟩ : ∃ (R : Fin 16384) (k : Fin 2048), i = ix2 R k := ⟨_, _, eq_ix2 i⟩
  have hf := ref_folded f R ⟨R.val / 2048, by omega⟩ ⟨R.val % 2048, by omega⟩ (by show R.val / 2048 * 2048 + R.val % 2048 = R.val; omega)
  unfold joined
  pointwise [val_main_v7, val_main_v6, val_main_v5]
  by_cases h : k.val < 1536
  · refine (dif_pos h).trans (.trans ?_ (dif_pos h).symm)
    refine read_eq a fun a => ?_
    match a with
    | ⟨0, _⟩ => rfl
    | ⟨1, _⟩ => rfl
  · refine (dif_neg h).trans (.trans ?_ (dif_neg h).symm)
    exact hf _

end

/-! ## The table -/

/-- Ones on the diagonal. -/
def eye : FVec Ideal S256x256 .bf16 :=
  uitofp .bf16 (cmpi .eq (addi (iotaInDim S256x256 32 0) (broadcastInDim S256x256 ![] bcast_S_S256x256 (constantI S_ 32 0#32))) (iotaInDim S256x256 32 1))

/-- Its entries. -/
theorem eye_apply (r j : Fin 256) : eye (ix2 r j) = if j.val = r.val then (1 : EReal) else 0 := by
  unfold eye
  pointwise []
  by_cases h : j.val = r.val
  · have e : IntOp.cmpi .eq (IntOp.addi (BitVec.ofNat 32 r.val) 0#32) (BitVec.ofNat 32 j.val) = 1#1 := by word_omega
    rw [if_pos h, e]
    show (((1#1 : BitVec 1).toNat : ℝ) : EReal) = 1
    simp
  · have e : IntOp.cmpi .eq (IntOp.addi (BitVec.ofNat 32 r.val) 0#32) (BitVec.ofNat 32 j.val) = 0#1 := by word_omega
    rw [if_neg h, e]
    show (((0#1 : BitVec 1).toNat : ℝ) : EReal) = 0
    simp

/-- The identity, and the reversal. -/
def table : FVec Ideal S2x256x256 .bf16 :=
  concatenate S2x256x256 0 [⟨S1x256x256, broadcastInDim S1x256x256 ![1, 2] bcast_S256x256_S1x256x256_1_2 eye⟩,
    ⟨S1x256x256, broadcastInDim S1x256x256 ![1, 2] bcast_S256x256_S1x256x256_1_2 (Host.reverse [0] eye)⟩] concatenates_S1x256x256_S1x256x256_S2x256x256_d0

/-- Its entries. -/
theorem table_apply (s : Fin 2) (r j : Fin 256) : table (ix3 s r j) = if j.val = (if s.val = 0 then r.val else 255 - r.val) then (1 : EReal) else 0 := by
  unfold table
  generalize he : eye = e
  have h : ∀ r j, e (ix2 r j) = if j.val = r.val then (1 : EReal) else 0 := he ▸ eye_apply
  pointwise []
  by_cases hs : s.val = 0
  · rw [if_pos hs]
    exact (dif_pos (show s.val < 1 by omega)).trans (h r j)
  · rw [if_neg hs]
    refine (dif_neg (show ¬s.val < 1 by omega)).trans ((h r.rev j).trans ?_)
    have e : r.rev.val = 255 - r.val := by show 256 - (r.val + 1) = _; omega
    rw [e]

variable (m : (ℓ : Loc nD τ sig) → Buf (Elt Ideal) ℓ) (c : Dev nD)

/-- The call computes it. -/
theorem table_eq (s : Fin 2) (r j : Fin 256) : V m c main_v9 (ix3 s r j) = if j.val = (if s.val = 0 then r.val else 255 - r.val) then (1 : EReal) else 0 := by
  have h : V m c main_v9 = table := by
    after_reads_simp
    have e7 : StableHlo.upto hostOps0 (fun b => m (c, b)) 10 (Proc.tc.devRef main_v7)
        = broadcastInDim S1x256x256 ![1, 2] bcast_S256x256_S1x256x256_1_2 eye := by after_reads_simp; rfl
    have e8 : StableHlo.upto hostOps0 (fun b => m (c, b)) 10 (Proc.tc.devRef main_v8)
        = broadcastInDim S1x256x256 ![1, 2] bcast_S256x256_S1x256x256_1_2 (Host.reverse [0] eye) := by after_reads_simp; rfl
    rw [e7, e8]
    rfl
  rw [h, table_apply]

end Cert.OutProjEvenProof

end
-- ==== Proof.OutProjEven.lean ====
/- The even layer's output projection: each row joins the attention's with a row of the folded half, placed by a small table. -/
module

public import proofs.«01_k».proof.Proof.OutProj
public import proofs.«01_k».proof.Proof.Joined
public import Idealize.ShloMosaic.Lib.Pipeline.Value

@[expose] public section

noncomputable section

namespace Cert.OutProjEvenProof

open Idealize.ShloMosaic Idealize.ShloMosaic.TcCoe Idealize.ShloMosaic.Tactic Idealize.SL.Sem
open Cert.OutProjEvenIdeal Cert.OutProjEvenIdeal.Gen Cert.Layer
open Cert.OutProjProof (residual logit one_piece rowR rowM stored)

/-! ## The body's values -/

/-- Entry `k` of a block's joined row: the attention's for the first 1536, then the placed row of the folded half. -/
def blockMix (a : Vec Ideal S256x1536 .bf16) (f : Vec Ideal S256x512 .bf16) (p : Vec Ideal S1x256x256 .bf16) (r : Fin 256) (k : Fin 2048) : EReal :=
  if h : k.val < 1536 then a (ix2 r ⟨k.val, h⟩) else ∑ j, p (ix3 0 r j) * f (ix2 j ⟨k.val - 1536, by omega⟩)

section
variable (a : Vec Ideal S256x1536 .bf16) (f : Vec Ideal S256x512 .bf16) (p : Vec Ideal S1x256x256 .bf16) (w : Vec Ideal S2048x2048 .bf16)
  (x : Vec Ideal S256x2048 .f32) (gate : Vec Ideal S1x1x1x1x2048 .f32) (g b : Vec Ideal S1x2048 .f32) (sh sc : Vec Ideal S1x1x1x1x2048 .f32)
  (wr : Vec Ideal S2048x128 .bf16) (r : Fin 256)

/-- The residual row `r` of a block. -/
def blockRow (d : Fin 2048) : EReal :=
  residual (blockMix a f p r) w (fun d => x (ix2 r d)) (fun d => gate (ix5 0 0 0 0 d)) (fun d => g (ix2 0 d)) (fun d => b (ix2 0 d)) d

/-- Its normalization, modulated. -/
def blockMod (d : Fin 2048) : EReal :=
  modulated (blockRow a f p w x gate g b r) (fun d => sc (ix5 0 0 0 0 d)) (fun d => sh (ix5 0 0 0 0 d)) d

variable (wl : Vec Ideal S1536x2048 .bf16) (wh : Vec Ideal S512x2048 .bf16)
  (hl : ∀ (k : Fin 1536) (d : Fin 2048), wl (ix2 k d) = w (ix2 ⟨k.val, by omega⟩ d))
  (hh : ∀ (k : Fin 512) (d : Fin 2048), wh (ix2 k d) = w (ix2 ⟨1536 + k.val, by omega⟩ d))

include hl hh in
/-- The joined row's product is the sum of the two parts' products. -/
theorem product_eq (d : Fin 2048) : ∑ k, a (ix2 r k) * wl (ix2 k d) + ∑ k, (∑ j, p (ix3 0 r j) * f (ix2 j k)) * wh (ix2 k d)
    = ∑ k, blockMix a f p r k * w (ix2 k d) := by
  refine .trans ?_ (Fin.sum_univ_add (a := 1536) (b := 512) fun k : Fin 2048 => blockMix a f p r k * w (ix2 k d)).symm
  refine congr (congrArg _ (Finset.sum_congr rfl fun k _ => mul_eq ?_ (hl k d))) (Finset.sum_congr rfl fun k _ => mul_eq ?_ (hh k d))
  · exact (show blockMix a f p r (Fin.castAdd 512 k) = a (ix2 r k) from dif_pos k.isLt).symm
  · have e : (⟨1536 + k.val - 1536, by omega⟩ : Fin 512) = k := Fin.ext (by show 1536 + k.val - 1536 = k.val; omega)
    refine .trans ?_ (dif_neg (Nat.not_lt.mpr (Nat.le_add_right 1536 k.val))).symm
    exact congrArg (fun k => ∑ j, p (ix3 0 r j) * f (ix2 j k)) e.symm

include hl hh in
/-- The body's residual rows. -/
theorem residual_apply (d : Fin 2048) :
    k0_pay13 (k0_pay11 a wl f p wh x gate) (k0_pay12 a wl f p wh x gate) g b (ix2 r d) = blockRow a f p w x gate g b r d := by
  have e := funext fun d => congrArg (fun s => Ideal.ofBits .f32 1068827891#32 * x (ix2 r d) + gate (ix5 0 0 0 0 d) * s) (product_eq a f p w r wl wh hl hh d)
  unfold blockRow Cert.OutProjProof.residual
  rw [← e]
  pointwise [k0_pay13, k0_pay12, k0_pay11, dot_S256x1536_S1536x2048_S256x2048_1_0_0_1_n_n, dot_S256x256_S256x512_S256x512_1_0_0_1_n_n,
    dot_S256x512_S512x2048_S256x2048_1_0_0_1_n_n]
  rfl

include hl hh in
/-- The body's modulated rows. -/
theorem modulated_apply (d : Fin 2048) :
    k0_pay1 (k0_pay14 (k0_pay11 a wl f p wh x gate) (k0_pay12 a wl f p wh x gate) g b sc) sh (ix2 r d) = blockMod a f p w x gate g b sh sc r d := by
  have h := funext fun d => residual_apply a f p w x gate g b r wl wh hl hh d
  unfold blockMod
  rw [show blockRow a f p w x gate g b r = _ from h.symm]
  pointwise [k0_pay1, k0_pay14]
  rfl

include hl hh in
/-- The body's logits. -/
theorem logit_apply (e : Fin 128) :
    k0_pay2 (k0_pay14 (k0_pay11 a wl f p wh x gate) (k0_pay12 a wl f p wh x gate) g b sc) sh wr (ix2 r e)
      = logit (blockMod a f p w x gate g b sh sc r) wr e := by
  have h := funext fun d => modulated_apply a f p w x gate g b sh sc r wl wh hl hh d
  unfold logit
  rw [show blockMod a f p w x gate g b sh sc r = _ from h.symm]
  pointwise [k0_pay2, dot_S256x2048_S2048x128_S256x128_1_0_0_1_n_n]

end

/-- The body's cast of the weights, the same for each of its eight pieces. -/
theorem cast_apply (v : Vec Ideal S256x2048 .f32) (z : S256x2048.Idx) : k0_pay3 v z = v z := by
  obtain ⟨r, f, rfl⟩ : ∃ (r : Fin 256) (f : Fin 2048), z = ix2 r f := ⟨_, _, eq_ix2 z⟩
  pointwise [k0_pay3]

/-! ## What the body leaves in the output blocks -/

section
variable (c : Dev nD) (i : grid0.Coords)
  (arg1 : Memref sig .tc .vmem S256x1536 .bf16) (harg1 : arg1.IsWhole)
  (arg2 : Memref sig .tc .vmem S256x512 .bf16) (harg2 : arg2.IsWhole)
  (arg3 : Memref sig .tc .vmem S1x256x256 .bf16) (harg3 : arg3.IsWhole)
  (arg4 : Memref sig .tc .vmem S2048x2048 .f32) (harg4 : arg4.IsWhole)
  (arg5 : Memref sig .tc .vmem S256x2048 .f32) (harg5 : arg5.IsWhole)
  (arg6 : Memref sig .tc .vmem S1x1x1x1x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x1x1x1x2048 .f32) (harg9 : arg9.IsWhole)
  (arg10 : Memref sig .tc .vmem S1x1x1x1x2048 .f32) (harg10 : arg10.IsWhole)
  (arg11 : Memref sig .tc .vmem S2048x128 .bf16) (harg11 : arg11.IsWhole)
  (arg12 : Memref sig .tc .vmem S256x2048 .f32) (harg12 : arg12.IsWhole)
  (arg13 : Memref sig .tc .vmem S256x2048 .bf16) (harg13 : arg13.IsWhole)
  (arg14 : Memref sig .tc .vmem S256x128 .f32) (harg14 : arg14.IsWhole)
  (arg15 : Memref sig .tc .vmem S2048x2048 .bf16) (harg15 : arg15.IsWhole)
  (a : Vec Ideal S256x1536 .bf16) (f : Vec Ideal S256x512 .bf16) (p : Vec Ideal S1x256x256 .bf16) (w : Vec Ideal S2048x2048 .f32) (ws : Vec Ideal S2048x2048 .bf16)
  (x : Vec Ideal S256x2048 .f32) (gate : Vec Ideal S1x1x1x1x2048 .f32) (g b : Vec Ideal S1x2048 .f32) (sh sc : Vec Ideal S1x1x1x1x2048 .f32)
  (wr : Vec Ideal S2048x128 .bf16)

/-- A piece of the weights, read back and cast, sits where it came from. -/
theorem piece_eq (n : ℕ) (h : ∀ k : Fin 2, (![n, 0] : Fin 2 → ℕ) k + S256x2048.size k ≤ S2048x2048.size k) (z : S256x2048.Idx) :
    k0_pay3 (arg4.view.readAt (Elt Ideal) (Rect.unit (s := S2048x2048) ![n, 0] S256x2048.size h).toLoadRect (harg4.unread w)) z
      = stored w ((Rect.unit (s := S2048x2048) ![n, 0] S256x2048.size h).emb z) := by
  rw [cast_apply, View.readAt_eq_ld, harg4.read_unread]
  rfl

/-- The weights as the first point's eight stores leave them in the scratch buffer. -/
theorem scratch_eq (y : S2048x2048.Idx) : View.canon (Val := Elt Ideal) (kernelRun0_A.sl.HS0_8 c arg4 harg4 w) y = stored w y := by
  have hy : ∃ pc ∈ kernelRun0_A.sl.HS0_8 (F := Ideal) c arg4 harg4 w, y ∈ pc.1.set :=
    View.cover_of_tiledL (kernelRun0_A.sl.HS0_8 c arg4 harg4 w) S256x2048.size (by sl_kernel_rfl) y
  refine View.canon_apply_of_pieces (stored w) (kernelRun0_A.sl.HS0_8 c arg4 harg4 w) ?_ y hy
  have e := piece_eq arg4 harg4 w
  unfold kernelRun0_A.sl.HS0_8
  refine List.forall_mem_cons.mpr ⟨e 1792 _, ?_⟩
  refine List.forall_mem_cons.mpr ⟨e 1536 _, ?_⟩
  refine List.forall_mem_cons.mpr ⟨e 1280 _, ?_⟩
  refine List.forall_mem_cons.mpr ⟨e 1024 _, ?_⟩
  refine List.forall_mem_cons.mpr ⟨e 768 _, ?_⟩
  refine List.forall_mem_cons.mpr ⟨e 512 _, ?_⟩
  refine List.forall_mem_cons.mpr ⟨e 256 _, ?_⟩
  exact List.forall_mem_cons.mpr ⟨e 0 _, fun _ h => absurd h List.not_mem_nil⟩

/-- What the first point leaves in the scratch buffer. -/
theorem scratch_A (h : cond0_0 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr = stored w := by
  funext y
  unfold sout0_A_0
  rw [View.read_writes_junk_apply_eq_canon]
  exact scratch_eq c arg4 harg4 w y

/-- The weights' first 1536 rows, as the first point reads them back. -/
theorem low_A (k : Fin 1536) (d : Fin 2048) : kernelRun0_A.sl.v4 c arg4 harg4 arg15 w (ix2 k d) = stored w (ix2 ⟨k.val, by omega⟩ d) := by
  unfold kernelRun0_A.sl.v4
  rw [View.readCov_eq_canon']
  refine (scratch_eq c arg4 harg4 w _).trans (read_eq (stored w) fun a => ?_)
  match a with
  | ⟨0, _⟩ => show 0 + 1 * k.val = k.val; omega
  | ⟨1, _⟩ => show 0 + 1 * d.val = d.val; omega

/-- The other 512. -/
theorem high_A (k : Fin 512) (d : Fin 2048) : kernelRun0_A.sl.v11 c arg4 harg4 arg15 w (ix2 k d) = stored w (ix2 ⟨1536 + k.val, by omega⟩ d) := by
  unfold kernelRun0_A.sl.v11
  rw [View.readCov_eq_canon']
  refine (scratch_eq c arg4 harg4 w _).trans (read_eq (stored w) fun a => ?_)
  match a with
  | ⟨0, _⟩ => show 1536 + 1 * k.val = 1536 + k.val; omega
  | ⟨1, _⟩ => show 0 + 1 * d.val = d.val; omega

/-- The rows less their mean, at the first point. -/
theorem first_A : kernelRun0_A.sl.r c arg1 harg1 arg2 harg2 arg3 harg3 arg4 harg4 arg5 harg5 arg6 harg6 arg15 a f p w x gate = k0_pay11 a (kernelRun0_A.sl.v4 c arg4 harg4 arg15 w) f p (kernelRun0_A.sl.v11 c arg4 harg4 arg15 w) x gate := by
  unfold kernelRun0_A.sl.r
  exact congr (congr (congr (congr (congr (congr (congrArg k0_pay11 (read_all arg1 harg1 a _ z2 _)) rfl) (read_all arg2 harg2 f _ z2 _)) (read_all arg3 harg3 p _ z3 _)) rfl) (read_all arg5 harg5 x _ z2 _)) (read_all arg6 harg6 gate _ z5 _)

/-- Their sums of squares. -/
theorem second_A : kernelRun0_A.sl.r_1 c arg1 harg1 arg2 harg2 arg3 harg3 arg4 harg4 arg5 harg5 arg6 harg6 arg15 a f p w x gate = k0_pay12 a (kernelRun0_A.sl.v4 c arg4 harg4 arg15 w) f p (kernelRun0_A.sl.v11 c arg4 harg4 arg15 w) x gate := by
  unfold kernelRun0_A.sl.r_1
  exact congr (congr (congr (congr (congr (congr (congrArg k0_pay12 (read_all arg1 harg1 a _ z2 _)) rfl) (read_all arg2 harg2 f _ z2 _)) (read_all arg3 harg3 p _ z3 _)) rfl) (read_all arg5 harg5 x _ z2 _)) (read_all arg6 harg6 gate _ z5 _)

/-- The modulated rows before their shift. -/
theorem third_A : kernelRun0_A.sl.r_2 c arg1 harg1 arg2 harg2 arg3 harg3 arg4 harg4 arg5 harg5 arg6 harg6 arg7 harg7 arg8 harg8 arg10 harg10 arg15 a f p w x gate g b sc
    = k0_pay14 (k0_pay11 a (kernelRun0_A.sl.v4 c arg4 harg4 arg15 w) f p (kernelRun0_A.sl.v11 c arg4 harg4 arg15 w) x gate)
        (k0_pay12 a (kernelRun0_A.sl.v4 c arg4 harg4 arg15 w) f p (kernelRun0_A.sl.v11 c arg4 harg4 arg15 w) x gate) g b sc := by
  unfold kernelRun0_A.sl.r_2
  exact congr (congr (congr (congr (congrArg k0_pay14 (first_A ..)) (second_A ..)) (read_all arg7 harg7 g _ z2 _)) (read_all arg8 harg8 b _ z2 _)) (read_all arg10 harg10 sc _ z5 _)

/-- The weights' first 1536 rows, as every other point reads them. -/
theorem low_B (k : Fin 1536) (d : Fin 2048) :
    arg15.view.readAt (Elt Ideal) (Rect.unit (s := S2048x2048) ![0, 0] S1536x2048.size inb_S2048x2048_S1536x2048_0_0).toLoadRect (harg15.unread ws) (ix2 k d)
      = ws (ix2 ⟨k.val, by omega⟩ d) := by
  rw [View.readAt_eq_ld, harg15.read_unread]
  refine read_eq ws fun a => ?_
  match a with
  | ⟨0, _⟩ => show 0 + 1 * k.val = k.val; omega
  | ⟨1, _⟩ => show 0 + 1 * d.val = d.val; omega

/-- The other 512. -/
theorem high_B (k : Fin 512) (d : Fin 2048) :
    arg15.view.readAt (Elt Ideal) (Rect.unit (s := S2048x2048) ![1536, 0] S512x2048.size inb_S2048x2048_S512x2048_1536_0).toLoadRect (harg15.unread ws) (ix2 k d)
      = ws (ix2 ⟨1536 + k.val, by omega⟩ d) := by
  rw [View.readAt_eq_ld, harg15.read_unread]
  refine read_eq ws fun a => ?_
  match a with
  | ⟨0, _⟩ => show 1536 + 1 * k.val = 1536 + k.val; omega
  | ⟨1, _⟩ => show 0 + 1 * d.val = d.val; omega

/-- The rows less their mean, at the other points. -/
theorem first_B : kernelRun0_B.sl.r c arg1 harg1 arg2 harg2 arg3 harg3 arg5 harg5 arg6 harg6 arg15 harg15 a f p x gate ws
    = k0_pay11 a (arg15.view.readAt (Elt Ideal) (Rect.unit (s := S2048x2048) ![0, 0] S1536x2048.size inb_S2048x2048_S1536x2048_0_0).toLoadRect (harg15.unread ws))
        f p (arg15.view.readAt (Elt Ideal) (Rect.unit (s := S2048x2048) ![1536, 0] S512x2048.size inb_S2048x2048_S512x2048_1536_0).toLoadRect (harg15.unread ws)) x gate := by
  unfold kernelRun0_B.sl.r
  exact congr (congr (congr (congr (congr (congr (congrArg k0_pay11 (read_all arg1 harg1 a _ z2 _)) rfl) (read_all arg2 harg2 f _ z2 _)) (read_all arg3 harg3 p _ z3 _)) rfl) (read_all arg5 harg5 x _ z2 _)) (read_all arg6 harg6 gate _ z5 _)

/-- Their sums of squares. -/
theorem second_B : kernelRun0_B.sl.r_1 c arg1 harg1 arg2 harg2 arg3 harg3 arg5 harg5 arg6 harg6 arg15 harg15 a f p x gate ws
    = k0_pay12 a (arg15.view.readAt (Elt Ideal) (Rect.unit (s := S2048x2048) ![0, 0] S1536x2048.size inb_S2048x2048_S1536x2048_0_0).toLoadRect (harg15.unread ws))
        f p (arg15.view.readAt (Elt Ideal) (Rect.unit (s := S2048x2048) ![1536, 0] S512x2048.size inb_S2048x2048_S512x2048_1536_0).toLoadRect (harg15.unread ws)) x gate := by
  unfold kernelRun0_B.sl.r_1
  exact congr (congr (congr (congr (congr (congr (congrArg k0_pay12 (read_all arg1 harg1 a _ z2 _)) rfl) (read_all arg2 harg2 f _ z2 _)) (read_all arg3 harg3 p _ z3 _)) rfl) (read_all arg5 harg5 x _ z2 _)) (read_all arg6 harg6 gate _ z5 _)

/-- The modulated rows before their shift. -/
theorem third_B : kernelRun0_B.sl.r_2 c arg1 harg1 arg2 harg2 arg3 harg3 arg5 harg5 arg6 harg6 arg7 harg7 arg8 harg8 arg10 harg10 arg15 harg15 a f p x gate g b sc ws
    = k0_pay14 (k0_pay11 a (arg15.view.readAt (Elt Ideal) (Rect.unit (s := S2048x2048) ![0, 0] S1536x2048.size inb_S2048x2048_S1536x2048_0_0).toLoadRect (harg15.unread ws))
        f p (arg15.view.readAt (Elt Ideal) (Rect.unit (s := S2048x2048) ![1536, 0] S512x2048.size inb_S2048x2048_S512x2048_1536_0).toLoadRect (harg15.unread ws)) x gate)
      (k0_pay12 a (arg15.view.readAt (Elt Ideal) (Rect.unit (s := S2048x2048) ![0, 0] S1536x2048.size inb_S2048x2048_S1536x2048_0_0).toLoadRect (harg15.unread ws))
        f p (arg15.view.readAt (Elt Ideal) (Rect.unit (s := S2048x2048) ![1536, 0] S512x2048.size inb_S2048x2048_S512x2048_1536_0).toLoadRect (harg15.unread ws)) x gate) g b sc := by
  unfold kernelRun0_B.sl.r_2
  exact congr (congr (congr (congr (congrArg k0_pay14 (first_B ..)) (second_B ..)) (read_all arg7 harg7 g _ z2 _)) (read_all arg8 harg8 b _ z2 _)) (read_all arg10 harg10 sc _ z5 _)

/-- The shift, read by the first point. -/
theorem shift_A : kernelRun0_A.sl.v69 c arg9 harg9 sh = sh := read_all arg9 harg9 sh _ z5 _

/-- The residual rows the first point writes. -/
theorem residual_A (h : cond0_0 i) (y : S256x2048.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr y
      = blockRow a f p (stored w) x gate g b (y 0) (y 1) := by
  have hy := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr y
  unfold out0_A_11
  rw [View.read_writes_junk_apply_eq_canon]
  refine (one_piece _ _ z2 _ y hy).trans ?_
  obtain ⟨r, d, rfl⟩ : ∃ (r : Fin 256) (d : Fin 2048), y = ix2 r d := ⟨_, _, eq_ix2 y⟩
  refine .trans (congrFun ?_ _) (residual_apply a f p (stored w) x gate g b r _ _ (low_A c arg4 harg4 arg15 w) (high_A c arg4 harg4 arg15 w) d)
  exact congr (congr (congr (congrArg k0_pay13 (first_A ..)) (second_A ..)) (read_all arg7 harg7 g _ z2 _)) (read_all arg8 harg8 b _ z2 _)

/-- The modulated rows the first point writes. -/
theorem modulated_A (h : cond0_0 i) (y : S256x2048.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr y
      = blockMod a f p (stored w) x gate g b sh sc (y 0) (y 1) := by
  have hy := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr y
  unfold out0_A_12
  rw [View.read_writes_junk_apply_eq_canon]
  refine (one_piece _ _ z2 _ y hy).trans ?_
  obtain ⟨r, d, rfl⟩ : ∃ (r : Fin 256) (d : Fin 2048), y = ix2 r d := ⟨_, _, eq_ix2 y⟩
  refine .trans (congrFun ?_ _) (modulated_apply a f p (stored w) x gate g b sh sc r _ _ (low_A c arg4 harg4 arg15 w) (high_A c arg4 harg4 arg15 w) d)
  exact congr (congrArg k0_pay1 (third_A ..)) (shift_A c arg9 harg9 sh)

/-- The logits the first point writes. -/
theorem logit_A (h : cond0_0 i) (y : S256x128.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr y
      = logit (blockMod a f p (stored w) x gate g b sh sc (y 0)) wr (y 1) := by
  have hy := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr y
  unfold out0_A_13
  rw [View.read_writes_junk_apply_eq_canon]
  refine (one_piece _ _ z2 _ y hy).trans ?_
  obtain ⟨r, e, rfl⟩ : ∃ (r : Fin 256) (e : Fin 128), y = ix2 r e := ⟨_, _, eq_ix2 y⟩
  refine .trans (congrFun ?_ _) (logit_apply a f p (stored w) x gate g b sh sc wr r _ _ (low_A c arg4 harg4 arg15 w) (high_A c arg4 harg4 arg15 w) e)
  exact congr (congr (congrArg k0_pay2 (third_A ..)) (shift_A c arg9 harg9 sh)) (read_all arg11 harg11 wr _ z2 _)

/-- The shift, read by every other point. -/
theorem shift_B : kernelRun0_B.sl.v69 c arg9 harg9 sh = sh := read_all arg9 harg9 sh _ z5 _

/-- The residual rows every other point writes. -/
theorem residual_B (h : ¬cond0_0 i) (y : S256x2048.Idx) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr ws y
      = blockRow a f p ws x gate g b (y 0) (y 1) := by
  have hy := cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr ws y
  unfold out0_B_11
  rw [View.read_writes_junk_apply_eq_canon]
  refine (one_piece _ _ z2 _ y hy).trans ?_
  obtain ⟨r, d, rfl⟩ : ∃ (r : Fin 256) (d : Fin 2048), y = ix2 r d := ⟨_, _, eq_ix2 y⟩
  refine .trans (congrFun ?_ _) (residual_apply a f p ws x gate g b r _ _ (low_B arg15 harg15 ws) (high_B arg15 harg15 ws) d)
  exact congr (congr (congr (congrArg k0_pay13 (first_B ..)) (second_B ..)) (read_all arg7 harg7 g _ z2 _)) (read_all arg8 harg8 b _ z2 _)

/-- The modulated rows every other point writes. -/
theorem modulated_B (h : ¬cond0_0 i) (y : S256x2048.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr ws y
      = blockMod a f p ws x gate g b sh sc (y 0) (y 1) := by
  have hy := cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr ws y
  unfold out0_B_12
  rw [View.read_writes_junk_apply_eq_canon]
  refine (one_piece _ _ z2 _ y hy).trans ?_
  obtain ⟨r, d, rfl⟩ : ∃ (r : Fin 256) (d : Fin 2048), y = ix2 r d := ⟨_, _, eq_ix2 y⟩
  refine .trans (congrFun ?_ _) (modulated_apply a f p ws x gate g b sh sc r _ _ (low_B arg15 harg15 ws) (high_B arg15 harg15 ws) d)
  exact congr (congrArg k0_pay1 (third_B ..)) (shift_B c arg9 harg9 sh)

/-- The logits every other point writes. -/
theorem logit_B (h : ¬cond0_0 i) (y : S256x128.Idx) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr ws y
      = logit (blockMod a f p ws x gate g b sh sc (y 0)) wr (y 1) := by
  have hy := cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h a f p w x gate g b sh sc wr ws y
  unfold out0_B_13
  rw [View.read_writes_junk_apply_eq_canon]
  refine (one_piece _ _ z2 _ y hy).trans ?_
  obtain ⟨r, e, rfl⟩ : ∃ (r : Fin 256) (e : Fin 128), y = ix2 r e := ⟨_, _, eq_ix2 y⟩
  refine .trans (congrFun ?_ _) (logit_apply a f p ws x gate g b sh sc wr r _ _ (low_B arg15 harg15 ws) (high_B arg15 harg15 ws) e)
  exact congr (congr (congrArg k0_pay2 (third_B ..)) (shift_B c arg9 harg9 sh)) (read_all arg11 harg11 wr _ z2 _)

end

/-! ## The result arrays -/

/-- Where each window's block sits. The folded half's blocks come backwards in the later half of a sequence, the table's second entry with them. -/
theorem index_eq : ∀ t : Fin grid0.N,
    (win0_0.index t 0 = t.val ∧ win0_0.index t 1 = 0)
    ∧ (win0_1.index t 0 = (if t.val % 8 < 4 then t.val else t.val / 8 * 8 + (11 - t.val % 8)) ∧ win0_1.index t 1 = 0)
    ∧ (win0_2.index t 0 = t.val % 8 / 4 ∧ win0_2.index t 1 = 0 ∧ win0_2.index t 2 = 0)
    ∧ (win0_3.index t 0 = 0 ∧ win0_3.index t 1 = 0) ∧ (win0_4.index t 0 = t.val ∧ win0_4.index t 1 = 0)
    ∧ (win0_5.index t 0 = 0 ∧ win0_5.index t 1 = t.val / 8 ∧ win0_5.index t 2 = 2 ∧ win0_5.index t 3 = 0 ∧ win0_5.index t 4 = 0)
    ∧ (win0_6.index t 0 = 0 ∧ win0_6.index t 1 = 0) ∧ (win0_7.index t 0 = 0 ∧ win0_7.index t 1 = 0)
    ∧ (win0_8.index t 0 = 0 ∧ win0_8.index t 1 = t.val / 8 ∧ win0_8.index t 2 = 3 ∧ win0_8.index t 3 = 0 ∧ win0_8.index t 4 = 0)
    ∧ (win0_9.index t 0 = 0 ∧ win0_9.index t 1 = t.val / 8 ∧ win0_9.index t 2 = 4 ∧ win0_9.index t 3 = 0 ∧ win0_9.index t 4 = 0)
    ∧ (win0_10.index t 0 = 0 ∧ win0_10.index t 1 = 0)
    ∧ (win0_11.index t 0 = t.val ∧ win0_11.index t 1 = 0) ∧ (win0_12.index t 0 = t.val ∧ win0_12.index t 1 = 0)
    ∧ (win0_13.index t 0 = t.val ∧ win0_13.index t 1 = 0) := by
  decide +kernel

variable (m : (ℓ : Loc nD τ sig) → Buf (Elt Ideal) ℓ) (c : Dev nD)

/-- The call's joined rows. -/
abbrev argMix : Vec Ideal S16384x2048 .bf16 := joined (m ((c : Thread nD τ).loc main_arg0)) (m ((c : Thread nD τ).loc main_arg1))

/-- Row `R` of the residual of the call's arguments. -/
abbrev argR (R : Fin 16384) : Fin 2048 → EReal :=
  rowR (argMix m c) (m ((c : Thread nD τ).loc main_arg2)) (m ((c : Thread nD τ).loc main_arg3)) (m ((c : Thread nD τ).loc main_arg4))
    (m ((c : Thread nD τ).loc main_arg5)) (m ((c : Thread nD τ).loc main_arg6)) R

/-- Its modulated normalization. -/
abbrev argM (R : Fin 16384) : Fin 2048 → EReal :=
  rowM (argMix m c) (m ((c : Thread nD τ).loc main_arg2)) (m ((c : Thread nD τ).loc main_arg3)) (m ((c : Thread nD τ).loc main_arg4))
    (m ((c : Thread nD τ).loc main_arg5)) (m ((c : Thread nD τ).loc main_arg6)) R

/-- The first result. -/
def resultR : Buf (Elt Ideal) ((c : Thread nD τ).loc main_v12_0) := fun i : S16384x2048.Idx => argR m c (i 0) (i 1)

/-- The second. -/
def resultM : Buf (Elt Ideal) ((c : Thread nD τ).loc main_v12_1) := fun i : S16384x2048.Idx => argM m c (i 0) (i 1)

/-- The third. -/
def resultL : Buf (Elt Ideal) ((c : Thread nD τ).loc main_v12_2) := fun i : S16384x128.Idx =>
  logit (argM m c (i 0)) (m ((c : Thread nD τ).loc main_arg7)) (i 1)

/-! ## The blocks of the arguments -/

/-- The block of the attention rows. -/
theorem attn_eq (t : Fin cfg0.N) (r : Fin 256) (R : Fin 16384) (hR : t.val * 256 + r.val = R.val) (d : Fin 1536) :
    iblk m c 0 t (ix2 r d) = m ((c : Thread nD τ).loc main_arg0) (ix2 R d) := by
  have hi := index_eq t
  refine (congrFun (V_main_arg0 m c) _).trans (congrArg (m ((c : Thread nD τ).loc main_arg0)) (emb_eq win0_0 t (ix2 r d) (ix2 R d) rfl fun a => ?_))
  match a with
  | ⟨0, _⟩ => show win0_0.index t 0 * 256 + r.val = R.val; omega
  | ⟨1, _⟩ => show win0_0.index t 1 * 1536 + d.val = d.val; omega

/-- The block of the stream. -/
theorem stream_eq (t : Fin cfg0.N) (r : Fin 256) (R : Fin 16384) (hR : t.val * 256 + r.val = R.val) (d : Fin 2048) :
    iblk m c 4 t (ix2 r d) = m ((c : Thread nD τ).loc main_arg3) (ix2 R d) := by
  have hi := index_eq t
  refine (congrFun (V_main_arg3 m c) _).trans (congrArg (m ((c : Thread nD τ).loc main_arg3)) (emb_eq win0_4 t (ix2 r d) (ix2 R d) rfl fun a => ?_))
  match a with
  | ⟨0, _⟩ => show win0_4.index t 0 * 256 + r.val = R.val; omega
  | ⟨1, _⟩ => show win0_4.index t 1 * 2048 + d.val = d.val; omega

/-- Every point's block of the weights is all of them. -/
theorem weights_at (t : Fin cfg0.N) (k d : Fin 2048) :
    iblk m c 3 t (ix2 k d) = m ((c : Thread nD τ).loc main_arg2) (ix2 k d) := by
  have hi := index_eq t
  refine (congrFun (V_main_arg2 m c) _).trans (congrArg (m ((c : Thread nD τ).loc main_arg2)) (emb_eq win0_3 t (ix2 k d) (ix2 k d) rfl fun a => ?_))
  match a with
  | ⟨0, _⟩ => show win0_3.index t 0 * 2048 + k.val = k.val; omega
  | ⟨1, _⟩ => show win0_3.index t 1 * 2048 + d.val = d.val; omega

/-- So is its block of the router's weights. -/
theorem router_at (t : Fin cfg0.N) (k : Fin 2048) (e : Fin 128) :
    iblk m c 10 t (ix2 k e) = m ((c : Thread nD τ).loc main_arg7) (ix2 k e) := by
  have hi := index_eq t
  refine (congrFun (V_main_arg7 m c) _).trans (congrArg (m ((c : Thread nD τ).loc main_arg7)) (emb_eq win0_10 t (ix2 k e) (ix2 k e) rfl fun a => ?_))
  match a with
  | ⟨0, _⟩ => show win0_10.index t 0 * 2048 + k.val = k.val; omega
  | ⟨1, _⟩ => show win0_10.index t 1 * 128 + e.val = e.val; omega

/-- The block of the gates. -/
theorem gate_eq (t : Fin cfg0.N) (R : Fin 16384) (hR : R.val / 256 = t.val) (d : Fin 2048) :
    iblk m c 5 t (ix5 0 0 0 0 d) = m ((c : Thread nD τ).loc main_arg4) (ix5 0 ⟨R.val / 2048, by omega⟩ 2 0 d) := by
  have hi := index_eq t
  refine (congrFun (V_main_arg4 m c) _).trans (congrArg (m ((c : Thread nD τ).loc main_arg4)) (emb_eq win0_5 t (ix5 0 0 0 0 d) (ix5 0 ⟨R.val / 2048, by omega⟩ 2 0 d) rfl fun a => ?_))
  match a with
  | ⟨0, _⟩ => show win0_5.index t 0 * 1 + 0 = 0; omega
  | ⟨1, _⟩ => show win0_5.index t 1 * 1 + 0 = R.val / 2048; omega
  | ⟨2, _⟩ => show win0_5.index t 2 * 1 + 0 = 2; omega
  | ⟨3, _⟩ => show win0_5.index t 3 * 1 + 0 = 0; omega
  | ⟨4, _⟩ => show win0_5.index t 4 * 2048 + d.val = d.val; omega

/-- The block of the shifts. -/
theorem shift_eq (t : Fin cfg0.N) (R : Fin 16384) (hR : R.val / 256 = t.val) (d : Fin 2048) :
    iblk m c 8 t (ix5 0 0 0 0 d) = m ((c : Thread nD τ).loc main_arg4) (ix5 0 ⟨R.val / 2048, by omega⟩ 3 0 d) := by
  have hi := index_eq t
  refine (congrFun (V_main_arg4 m c) _).trans (congrArg (m ((c : Thread nD τ).loc main_arg4)) (emb_eq win0_8 t (ix5 0 0 0 0 d) (ix5 0 ⟨R.val / 2048, by omega⟩ 3 0 d) rfl fun a => ?_))
  match a with
  | ⟨0, _⟩ => show win0_8.index t 0 * 1 + 0 = 0; omega
  | ⟨1, _⟩ => show win0_8.index t 1 * 1 + 0 = R.val / 2048; omega
  | ⟨2, _⟩ => show win0_8.index t 2 * 1 + 0 = 3; omega
  | ⟨3, _⟩ => show win0_8.index t 3 * 1 + 0 = 0; omega
  | ⟨4, _⟩ => show win0_8.index t 4 * 2048 + d.val = d.val; omega

/-- The block of the scales. -/
theorem scale_eq (t : Fin cfg0.N) (R : Fin 16384) (hR : R.val / 256 = t.val) (d : Fin 2048) :
    iblk m c 9 t (ix5 0 0 0 0 d) = m ((c : Thread nD τ).loc main_arg4) (ix5 0 ⟨R.val / 2048, by omega⟩ 4 0 d) := by
  have hi := index_eq t
  refine (congrFun (V_main_arg4 m c) _).trans (congrArg (m ((c : Thread nD τ).loc main_arg4)) (emb_eq win0_9 t (ix5 0 0 0 0 d) (ix5 0 ⟨R.val / 2048, by omega⟩ 4 0 d) rfl fun a => ?_))
  match a with
  | ⟨0, _⟩ => show win0_9.index t 0 * 1 + 0 = 0; omega
  | ⟨1, _⟩ => show win0_9.index t 1 * 1 + 0 = R.val / 2048; omega
  | ⟨2, _⟩ => show win0_9.index t 2 * 1 + 0 = 4; omega
  | ⟨3, _⟩ => show win0_9.index t 3 * 1 + 0 = 0; omega
  | ⟨4, _⟩ => show win0_9.index t 4 * 2048 + d.val = d.val; omega

/-- The weights as one array. -/
theorem weights_eq (t : Fin cfg0.N) : iblk m c 3 t = m ((c : Thread nD τ).loc main_arg2) := by
  funext y
  obtain ⟨k, d, rfl⟩ : ∃ (k d : Fin 2048), y = ix2 k d := ⟨_, _, eq_ix2 y⟩
  exact weights_at m c t k d

/-- The router's. -/
theorem router_eq (t : Fin cfg0.N) : iblk m c 10 t = m ((c : Thread nD τ).loc main_arg7) := by
  funext y
  obtain ⟨k, e, rfl⟩ : ∃ (k : Fin 2048) (e : Fin 128), y = ix2 k e := ⟨_, _, eq_ix2 y⟩
  exact router_at m c t k e

/-- The gains laid out in one row. -/
theorem flat_gain : V m c main_v10 = shapeCast S1x2048 (m ((c : Thread nD τ).loc main_arg5)) shapeCasts_S2048_S1x2048 := by
  after_reads_simp
  rfl

/-- The offsets likewise. -/
theorem flat_offset : V m c main_v11 = shapeCast S1x2048 (m ((c : Thread nD τ).loc main_arg6)) shapeCasts_S2048_S1x2048 := by
  after_reads_simp
  rfl

/-- The block of the gains. -/
theorem gain_eq (t : Fin cfg0.N) (d : Fin 2048) : iblk m c 6 t (ix2 0 d) = m ((c : Thread nD τ).loc main_arg5) (ix1 d) := by
  have hi := index_eq t
  refine (congrFun (flat_gain m c) _).trans (.trans ?_ (Cert.OutProjProof.flat_apply _ d))
  refine congrArg (shapeCast S1x2048 (m ((c : Thread nD τ).loc main_arg5)) shapeCasts_S2048_S1x2048) (emb_eq win0_6 t (ix2 0 d) (ix2 0 d) rfl fun a => ?_)
  match a with
  | ⟨0, _⟩ => show win0_6.index t 0 * 1 + 0 = 0; omega
  | ⟨1, _⟩ => show win0_6.index t 1 * 2048 + d.val = d.val; omega

/-- The block of the offsets. -/
theorem offset_eq (t : Fin cfg0.N) (d : Fin 2048) : iblk m c 7 t (ix2 0 d) = m ((c : Thread nD τ).loc main_arg6) (ix1 d) := by
  have hi := index_eq t
  refine (congrFun (flat_offset m c) _).trans (.trans ?_ (Cert.OutProjProof.flat_apply _ d))
  refine congrArg (shapeCast S1x2048 (m ((c : Thread nD τ).loc main_arg6)) shapeCasts_S2048_S1x2048) (emb_eq win0_7 t (ix2 0 d) (ix2 0 d) rfl fun a => ?_)
  match a with
  | ⟨0, _⟩ => show win0_7.index t 0 * 1 + 0 = 0; omega
  | ⟨1, _⟩ => show win0_7.index t 1 * 2048 + d.val = d.val; omega

/-! ## The placed rows -/

/-- Row `q` of a block of the folded half. -/
theorem folded_eq (t : Fin cfg0.N) (q : Fin 256) (Q : Fin 16384)
    (hQ : (if t.val % 8 < 4 then t.val else t.val / 8 * 8 + (11 - t.val % 8)) * 256 + q.val = Q.val) (d : Fin 512) :
    iblk m c 1 t (ix2 q d) = m ((c : Thread nD τ).loc main_arg1) (ix2 Q d) := by
  obtain ⟨-, ⟨h0, h1⟩, -⟩ := index_eq t
  refine (congrFun (V_main_arg1 m c) _).trans (congrArg (m ((c : Thread nD τ).loc main_arg1)) (emb_eq win0_1 t (ix2 q d) (ix2 Q d) rfl fun a => ?_))
  match a with
  | ⟨0, _⟩ => show win0_1.index t 0 * 256 + q.val = Q.val; rw [h0]; exact hQ
  | ⟨1, _⟩ => show win0_1.index t 1 * 512 + d.val = d.val; omega

/-- Its block. -/
theorem place_eq (t : Fin cfg0.N) (r j : Fin 256) :
    iblk m c 2 t (ix3 0 r j) = if j.val = (if t.val % 8 < 4 then r.val else 255 - r.val) then (1 : EReal) else 0 := by
  have hi := index_eq t
  have hs : t.val % 8 / 4 < 2 := by omega
  have e : (win0_2.rect t).emb (ix3 0 r j) = ix3 ⟨t.val % 8 / 4, hs⟩ r j := emb_eq win0_2 t (ix3 0 r j) (ix3 ⟨t.val % 8 / 4, hs⟩ r j) rfl fun a => by
    match a with
    | ⟨0, _⟩ => show win0_2.index t 0 * 1 + 0 = t.val % 8 / 4; omega
    | ⟨1, _⟩ => show win0_2.index t 1 * 256 + r.val = r.val; omega
    | ⟨2, _⟩ => show win0_2.index t 2 * 256 + j.val = j.val; omega
  refine (congrArg (V m c main_v9) e).trans ((table_eq m c ⟨t.val % 8 / 4, hs⟩ r j).trans ?_)
  have h : (t.val % 8 / 4 = 0) = (t.val % 8 < 4) := propext ⟨fun h => by omega, fun h => by omega⟩
  dsimp only
  simp only [h]

/-- A sum against one of the table's rows is one entry. -/
theorem sum_place (p : Fin 256 → EReal) (q : Fin 256) (h : ∀ j : Fin 256, p j = if j.val = q.val then (1 : EReal) else 0) (f : Fin 256 → EReal) :
    ∑ j, p j * f j = f q := by
  rw [Finset.sum_eq_single q]
  · rw [h, if_pos rfl, one_mul]
  · intro j _ hj
    rw [h, if_neg fun e => hj (Fin.ext e), zero_mul]
  · exact fun hq => absurd (Finset.mem_univ q) hq

/-- A block's joined row `r` is row `256 t + r` of the joined arrays. -/
theorem mix_eq (t : Fin cfg0.N) (r : Fin 256) (R : Fin 16384) (hR : t.val * 256 + r.val = R.val) (k : Fin 2048) :
    blockMix (iblk m c 0 t) (iblk m c 1 t) (iblk m c 2 t) r k = argMix m c (ix2 R k) := by
  have ht : t.val < 64 := t.isLt
  by_cases h : k.val < 1536
  · exact (dif_pos h).trans ((attn_eq m c t r R hR ⟨k.val, h⟩).trans (show argMix m c (ix2 R k) = _ from dif_pos h).symm)
  · refine (show blockMix (iblk m c 0 t) (iblk m c 1 t) (iblk m c 2 t) r k = _ from dif_neg h).trans
      (.trans ?_ (show argMix m c (ix2 R k) = _ from dif_neg h).symm)
    obtain ⟨q, hq⟩ : ∃ q : Fin 256, q.val = if t.val % 8 < 4 then r.val else 255 - r.val := ⟨⟨if t.val % 8 < 4 then r.val else 255 - r.val, by split <;> omega⟩, rfl⟩
    rw [sum_place _ q fun j => (place_eq m c t r j).trans (by rw [hq])]
    refine folded_eq m c t q (source R) ?_ _
    show _ = (source R).val
    unfold source
    rw [hq]
    have hd : R.val % 2048 = t.val % 8 * 256 + r.val := by omega
    by_cases h4 : t.val % 8 < 4
    · rw [if_pos h4, if_pos h4, dif_pos (show R.val % 2048 < 1024 by omega)]
      exact hR
    · rw [if_neg h4, if_neg h4, dif_neg (show ¬R.val % 2048 < 1024 by omega)]
      show _ = R.val / 2048 * 2048 + (3071 - R.val % 2048)
      omega

/-! ## The arrays after the run -/

/-- The blocks' residual row `r` is the whole array's row `256 t + r`. -/
theorem rowR_eq (t : Fin cfg0.N) (r : Fin 256) (R : Fin 16384) (hR : t.val * 256 + r.val = R.val) :
    blockRow (iblk m c 0 t) (iblk m c 1 t) (iblk m c 2 t) (stored (iblk m c 3 t)) (iblk m c 4 t) (iblk m c 5 t) (iblk m c 6 t) (iblk m c 7 t) r = argR m c R := by
  have hb : R.val / 256 = t.val := by omega
  rw [weights_eq]
  funext d
  unfold blockRow argR rowR
  rw [funext (mix_eq m c t r R hR), funext (stream_eq m c t r R hR), funext (gate_eq m c t R hb), funext (gain_eq m c t), funext (offset_eq m c t)]
  rfl

/-- So for the modulated rows. -/
theorem rowM_eq (t : Fin cfg0.N) (r : Fin 256) (R : Fin 16384) (hR : t.val * 256 + r.val = R.val) :
    blockMod (iblk m c 0 t) (iblk m c 1 t) (iblk m c 2 t) (stored (iblk m c 3 t)) (iblk m c 4 t) (iblk m c 5 t) (iblk m c 6 t) (iblk m c 7 t)
      (iblk m c 8 t) (iblk m c 9 t) r = argM m c R := by
  have hb : R.val / 256 = t.val := by omega
  funext d
  unfold blockMod argM rowM
  rw [rowR_eq m c t r R hR, funext (scale_eq m c t R hb), funext (shift_eq m c t R hb)]

/-- The scratch buffer holds the weights after every point. -/
theorem scratch (n : ℕ) (hn : n < cfg0.N) : (outsAt0 m c n hn).2.2.2 = stored (m ((c : Thread nD τ).loc main_arg2)) := by
  induction n with
  | zero =>
    rw [outsAt0_A m c ⟨0, hn⟩ (Nat.zero_mod _)]
    dsimp only
    rw [scratch_A, weights_eq]
  | succ n ih =>
    have h : ¬(n + 1) % 64 = 0 := by have : n + 1 < 64 := hn; omega
    rw [outsAt0_B m c ⟨n + 1, hn⟩ h]
    dsimp only
    unfold sout0_B_0
    exact ih (Nat.lt_of_succ_lt hn)

/-- Output 1's block after point `t`. -/
theorem after_R (t : Fin cfg0.N) (y : S256x2048.Idx) : (outsAt0 m c t.val t.isLt).1 y
    = blockRow (iblk m c 0 t) (iblk m c 1 t) (iblk m c 2 t) (stored (iblk m c 3 t)) (iblk m c 4 t) (iblk m c 5 t) (iblk m c 6 t) (iblk m c 7 t) (y 0) (y 1) := by
  by_cases h : t.val % 64 = 0
  · rw [outsAt0_A m c t h]
    dsimp only
    rw [residual_A]
  · rw [outsAt0_B m c t h, weights_eq, ← scratch m c (t.val - 1) (by have := t.isLt; omega)]
    dsimp only
    rw [residual_B]

/-- What a grid point writes back to output 1 is its block of the result. -/
theorem flushed_R (t : Fin cfg0.N) : (dats m 0 c).flushed 11 t = ((cfg0.win 11).blk t).view.read (Elt Ideal) (resultR m c) := by
  show (cfg0.win 11).cut (grid0.coords t) ((dats m 0 c).after 11 t) = _
  rw [after0_11]
  funext y
  refine (after_R m c t y).trans ?_
  obtain ⟨r, f, rfl⟩ : ∃ (r : Fin 256) (f : Fin 2048), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_11.rect t).emb (ix2 r f) = ix2 R f := emb_eq win0_11 t (ix2 r f) (ix2 R f) rfl fun a => by
    match a with
    | ⟨0, _⟩ => show win0_11.index t 0 * 256 + r.val = R.val; omega
    | ⟨1, _⟩ => show win0_11.index t 1 * 2048 + f.val = f.val; omega
  show blockRow (iblk m c 0 t) (iblk m c 1 t) (iblk m c 2 t) (stored (iblk m c 3 t)) (iblk m c 4 t) (iblk m c 5 t) (iblk m c 6 t) (iblk m c 7 t) r f = resultR m c ((win0_11.rect t).emb (ix2 r f))
  rw [e]
  exact congrFun (rowR_eq m c t r R hR) f

/-- The blocks fill output 1. -/
theorem cover_R (i : S16384x2048.Idx) : ∃ t : Fin cfg0.N, (cfg0.win 11).flush t = true ∧ i ∈ ((cfg0.win 11).blk t).view.set := by
  have h0 : (i 0).val < 16384 := (i 0).isLt
  refine ⟨⟨(i 0).val / 256, by show _ < 64; omega⟩, flush0_11 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_11.rect t).emb (ix2 (Fin.ofNat 256 (i 0).val) (i 1)) = i from
    e ▸ ((cfg0.win 11).blk t).view.emb_mem_set (ix2 (Fin.ofNat 256 (i 0).val) (i 1))
  refine emb_eq win0_11 t _ i rfl fun a => ?_
  match a with
  | ⟨0, _⟩ => show win0_11.index t 0 * 256 + (i 0).val % 256 = (i 0).val; omega
  | ⟨1, _⟩ => show win0_11.index t 1 * 2048 + (i 1).val = (i 1).val; omega

/-- Output 1 after the run. -/
theorem final_R : (dats m 0 c).arrAt 11 cfg0.N = resultR m c :=
  (dats m 0 c).arrAt_eq_of_cover 11 (resultR m c) (fun t _ => flushed_R m c t) cover_R

/-- Output 2's block after point `t`. -/
theorem after_M (t : Fin cfg0.N) (y : S256x2048.Idx) : (outsAt0 m c t.val t.isLt).2.1 y
    = blockMod (iblk m c 0 t) (iblk m c 1 t) (iblk m c 2 t) (stored (iblk m c 3 t)) (iblk m c 4 t) (iblk m c 5 t) (iblk m c 6 t) (iblk m c 7 t) (iblk m c 8 t) (iblk m c 9 t) (y 0) (y 1) := by
  by_cases h : t.val % 64 = 0
  · rw [outsAt0_A m c t h]
    dsimp only
    rw [modulated_A]
  · rw [outsAt0_B m c t h, weights_eq, ← scratch m c (t.val - 1) (by have := t.isLt; omega)]
    dsimp only
    rw [modulated_B]

/-- What a grid point writes back to output 2 is its block of the result. -/
theorem flushed_M (t : Fin cfg0.N) : (dats m 0 c).flushed 12 t = ((cfg0.win 12).blk t).view.read (Elt Ideal) (resultM m c) := by
  show (cfg0.win 12).cut (grid0.coords t) ((dats m 0 c).after 12 t) = _
  rw [after0_12]
  funext y
  refine (after_M m c t y).trans ?_
  obtain ⟨r, f, rfl⟩ : ∃ (r : Fin 256) (f : Fin 2048), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_12.rect t).emb (ix2 r f) = ix2 R f := emb_eq win0_12 t (ix2 r f) (ix2 R f) rfl fun a => by
    match a with
    | ⟨0, _⟩ => show win0_12.index t 0 * 256 + r.val = R.val; omega
    | ⟨1, _⟩ => show win0_12.index t 1 * 2048 + f.val = f.val; omega
  show blockMod (iblk m c 0 t) (iblk m c 1 t) (iblk m c 2 t) (stored (iblk m c 3 t)) (iblk m c 4 t) (iblk m c 5 t) (iblk m c 6 t) (iblk m c 7 t) (iblk m c 8 t) (iblk m c 9 t) r f = resultM m c ((win0_12.rect t).emb (ix2 r f))
  rw [e]
  exact congrFun (rowM_eq m c t r R hR) f

/-- The blocks fill output 2. -/
theorem cover_M (i : S16384x2048.Idx) : ∃ t : Fin cfg0.N, (cfg0.win 12).flush t = true ∧ i ∈ ((cfg0.win 12).blk t).view.set := by
  have h0 : (i 0).val < 16384 := (i 0).isLt
  refine ⟨⟨(i 0).val / 256, by show _ < 64; omega⟩, flush0_12 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_12.rect t).emb (ix2 (Fin.ofNat 256 (i 0).val) (i 1)) = i from
    e ▸ ((cfg0.win 12).blk t).view.emb_mem_set (ix2 (Fin.ofNat 256 (i 0).val) (i 1))
  refine emb_eq win0_12 t _ i rfl fun a => ?_
  match a with
  | ⟨0, _⟩ => show win0_12.index t 0 * 256 + (i 0).val % 256 = (i 0).val; omega
  | ⟨1, _⟩ => show win0_12.index t 1 * 2048 + (i 1).val = (i 1).val; omega

/-- Output 2 after the run. -/
theorem final_M : (dats m 0 c).arrAt 12 cfg0.N = resultM m c :=
  (dats m 0 c).arrAt_eq_of_cover 12 (resultM m c) (fun t _ => flushed_M m c t) cover_M

/-- Output 3's block after point `t`. -/
theorem after_L (t : Fin cfg0.N) (y : S256x128.Idx) : (outsAt0 m c t.val t.isLt).2.2.1 y
    = logit (blockMod (iblk m c 0 t) (iblk m c 1 t) (iblk m c 2 t) (stored (iblk m c 3 t)) (iblk m c 4 t) (iblk m c 5 t) (iblk m c 6 t) (iblk m c 7 t) (iblk m c 8 t) (iblk m c 9 t) (y 0)) (iblk m c 10 t) (y 1) := by
  by_cases h : t.val % 64 = 0
  · rw [outsAt0_A m c t h]
    dsimp only
    rw [logit_A]
  · rw [outsAt0_B m c t h, weights_eq, ← scratch m c (t.val - 1) (by have := t.isLt; omega)]
    dsimp only
    rw [logit_B]

/-- What a grid point writes back to output 3 is its block of the result. -/
theorem flushed_L (t : Fin cfg0.N) : (dats m 0 c).flushed 13 t = ((cfg0.win 13).blk t).view.read (Elt Ideal) (resultL m c) := by
  show (cfg0.win 13).cut (grid0.coords t) ((dats m 0 c).after 13 t) = _
  rw [after0_13]
  funext y
  refine (after_L m c t y).trans ?_
  obtain ⟨r, f, rfl⟩ : ∃ (r : Fin 256) (f : Fin 128), y = ix2 r f := ⟨_, _, eq_ix2 y⟩
  have hi := index_eq t
  have ht : t.val < 64 := t.isLt
  obtain ⟨R, hR⟩ : ∃ R : Fin 16384, t.val * 256 + r.val = R.val := ⟨⟨t.val * 256 + r.val, by omega⟩, rfl⟩
  have e : (win0_13.rect t).emb (ix2 r f) = ix2 R f := emb_eq win0_13 t (ix2 r f) (ix2 R f) rfl fun a => by
    match a with
    | ⟨0, _⟩ => show win0_13.index t 0 * 256 + r.val = R.val; omega
    | ⟨1, _⟩ => show win0_13.index t 1 * 128 + f.val = f.val; omega
  show logit (blockMod (iblk m c 0 t) (iblk m c 1 t) (iblk m c 2 t) (stored (iblk m c 3 t)) (iblk m c 4 t) (iblk m c 5 t) (iblk m c 6 t) (iblk m c 7 t) (iblk m c 8 t) (iblk m c 9 t) r) (iblk m c 10 t) f = resultL m c ((win0_13.rect t).emb (ix2 r f))
  rw [e]
  rw [router_eq]
  exact congrArg (fun h => logit h (m ((c : Thread nD τ).loc main_arg7)) f) (rowM_eq m c t r R hR)

/-- The blocks fill output 3. -/
theorem cover_L (i : S16384x128.Idx) : ∃ t : Fin cfg0.N, (cfg0.win 13).flush t = true ∧ i ∈ ((cfg0.win 13).blk t).view.set := by
  have h0 : (i 0).val < 16384 := (i 0).isLt
  refine ⟨⟨(i 0).val / 256, by show _ < 64; omega⟩, flush0_13 _, ?_⟩
  have hi := index_eq ⟨(i 0).val / 256, by show _ < 64; omega⟩
  generalize ht : (⟨(i 0).val / 256, _⟩ : Fin cfg0.N) = t at hi ⊢
  have hv : t.val = (i 0).val / 256 := by rw [← ht]
  suffices e : (win0_13.rect t).emb (ix2 (Fin.ofNat 256 (i 0).val) (i 1)) = i from
    e ▸ ((cfg0.win 13).blk t).view.emb_mem_set (ix2 (Fin.ofNat 256 (i 0).val) (i 1))
  refine emb_eq win0_13 t _ i rfl fun a => ?_
  match a with
  | ⟨0, _⟩ => show win0_13.index t 0 * 256 + (i 0).val % 256 = (i 0).val; omega
  | ⟨1, _⟩ => show win0_13.index t 1 * 128 + (i 1).val = (i 1).val; omega

/-- Output 3 after the run. -/
theorem final_L : (dats m 0 c).arrAt 13 cfg0.N = resultL m c :=
  (dats m 0 c).arrAt_eq_of_cover 13 (resultL m c) (fun t _ => flushed_L m c t) cover_L

/-- Every run ends with the three results in place and the arguments as they were. -/
theorem run (ρ : Dev nD → PrngReg) : θ_run defs (onTc (τ := τ) (main (F := Ideal))) ⟨m, fun _ => 0, ρ⟩ (fun r => ∀ c : Dev nD,
      r.2.mem ((c : Thread nD τ).loc main_v12_0) = resultR m c ∧ r.2.mem ((c : Thread nD τ).loc main_v12_1) = resultM m c
      ∧ r.2.mem ((c : Thread nD τ).loc main_v12_2) = resultL m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨((h.1 c).1 11).trans (final_R m c), ((h.1 c).1 12).trans (final_M m c), ((h.1 c).1 13).trans (final_L m c), h.2 c⟩)
    (θ_run_and (run_main m ρ) (unchanged m ρ))

/-! ## The reference -/

section
open Cert.OutProjEvenReferenceIdeal.Read

variable (a : Vec Ideal S16384x1536 .bf16) (f : Vec Ideal S16384x512 .bf16) (w : Vec Ideal S2048x2048 .f32) (x : Vec Ideal S16384x2048 .f32)
  (md : Vec Ideal S1x16x6x1x2048 .f32) (g b : Vec Ideal S2048 .f32) (wr : Vec Ideal S2048x128 .bf16)

/-- From there on it is the odd layer's. -/
theorem reference_R : val_main_v73 a f w x md g b = fun i : S16384x2048.Idx => rowR (joined a f) w x md g b (i 0) (i 1) := by
  rw [← ref_joined]
  exact funext fun i => Cert.OutProjProof.reference_R (val_main_v7 a f) w x md g b i

/-- Its second result. -/
theorem reference_M : val_main_v75 a f w x md g b = fun i : S16384x2048.Idx => rowM (joined a f) w x md g b (i 0) (i 1) := by
  rw [← ref_joined]
  exact funext fun i => Cert.OutProjProof.reference_M (val_main_v7 a f) w x md g b i

/-- Its third. -/
theorem reference_L : val_main_v76 a f w x md g b wr = fun i : S16384x128.Idx => logit (rowM (joined a f) w x md g b (i 0)) wr (i 1) := by
  rw [← ref_joined]
  exact funext fun i => Cert.OutProjProof.reference_L (val_main_v7 a f) w x md g b wr i

end

end Cert.OutProjEvenProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.CdIn
public import proofs.«01_k».proof.Proof.Gen.CdIn.Skeleton
public import proofs.«01_k».proof.Proof.Gen.CdIn.Launch
public import proofs.«01_k».proof.Proof.Gen.CdIn.Points
public import proofs.«01_k».proof.Proof.Gen.CdIn.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.CdInIdeal
public import proofs.«01_k».proof.Proof.Gen.CdInIdeal.Skeleton
public import proofs.«01_k».proof.Proof.Gen.CdInIdeal.Launch
public import proofs.«01_k».proof.Proof.Gen.CdInIdeal.Points
public import proofs.«01_k».proof.Proof.Gen.CdInIdeal.Frame
public import proofs.«01_k».proof.Proof.Gen.CdInIdeal.Value
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInIdeal.Value
public import proofs.«01_k».proof.Proof.Gen.GateUpReferenceIdeal
public import proofs.«01_k».proof.Proof.Gen.GateUpReferenceIdeal.Run
public import proofs.«01_k».proof.Proof.Gen.GateUpReferenceIdeal.Read
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.CdInReferenceIdeal
public import proofs.«01_k».proof.Proof.Gen.CdInReferenceIdeal.Run
public import proofs.«01_k».proof.Proof.Gen.CdInReferenceIdeal.Read
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.OutProjEven
public import proofs.«01_k».proof.Proof.Gen.OutProjEven.Skeleton
public import proofs.«01_k».proof.Proof.Gen.OutProjEven.Launch
public import proofs.«01_k».proof.Proof.Gen.OutProjEven.Points
public import proofs.«01_k».proof.Proof.Gen.OutProjEven.Frame
public import proofs.«01_k».proof.Proof.Gen.OutProjEvenIdeal
public import proofs.«01_k».proof.Proof.Gen.OutProjEvenIdeal.Skeleton
public import proofs.«01_k».proof.Proof.Gen.OutProjEvenIdeal.Launch
public import proofs.«01_k».proof.Proof.Gen.OutProjEvenIdeal.Points
public import proofs.«01_k».proof.Proof.Gen.OutProjEvenIdeal.Frame
public import proofs.«01_k».proof.Proof.Gen.OutProjEvenReferenceIdeal
public import proofs.«01_k».proof.Proof.Gen.OutProjEvenReferenceIdeal.Run
public import proofs.«01_k».proof.Proof.Gen.OutProjEvenReferenceIdeal.Read
public import proofs.«01_k».proof.Proof.Gen.AbInReferenceIdeal
public import proofs.«01_k».proof.Proof.Gen.AbInReferenceIdeal.Run
public import proofs.«01_k».proof.Proof.Gen.AbInReferenceIdeal.Read
public import proofs.«01_k».proof.Proof.Gen.AbCtx
public import proofs.«01_k».proof.Proof.Gen.AbCtx.Skeleton
public import proofs.«01_k».proof.Proof.Gen.AbCtx.Launch
public import proofs.«01_k».proof.Proof.Gen.AbCtx.Points
public import proofs.«01_k».proof.Proof.Gen.AbCtx.Frame
public import proofs.«01_k».proof.Proof.Gen.AbCtxIdeal
public import proofs.«01_k».proof.Proof.Gen.AbCtxIdeal.Skeleton
public import proofs.«01_k».proof.Proof.Gen.AbCtxIdeal.Launch
public import proofs.«01_k».proof.Proof.Gen.AbCtxIdeal.Points
public import proofs.«01_k».proof.Proof.Gen.AbCtxIdeal.Frame
public import proofs.«01_k».proof.Proof.Gen.AbCtxIdeal.Value
public import proofs.«01_k».proof.Proof.Gen.AbCtxReferenceIdeal
public import proofs.«01_k».proof.Proof.Gen.AbCtxReferenceIdeal.Run
public import proofs.«01_k».proof.Proof.Gen.AbCtxReferenceIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.Gen.GateUpFirst
public import proofs.«01_k».proof.Proof.Gen.GateUpFirst.Skeleton
public import proofs.«01_k».proof.Proof.Gen.GateUpFirst.Launch
public import proofs.«01_k».proof.Proof.Gen.GateUpFirst.Points
public import proofs.«01_k».proof.Proof.Gen.GateUpFirst.Frame
public import proofs.«01_k».proof.Proof.Gen.GateUpFirstIdeal
public import proofs.«01_k».proof.Proof.Gen.GateUpFirstIdeal.Skeleton
public import proofs.«01_k».proof.Proof.Gen.GateUpFirstIdeal.Launch
public import proofs.«01_k».proof.Proof.Gen.GateUpFirstIdeal.Points
public import proofs.«01_k».proof.Proof.Gen.GateUpFirstIdeal.Frame
public import proofs.«01_k».proof.Proof.Gen.GateUpFirstIdeal.Value
public import proofs.«01_k».proof.Proof.Gen.GateUpFirstReferenceIdeal
public import proofs.«01_k».proof.Proof.Gen.GateUpFirstReferenceIdeal.Run
public import proofs.«01_k».proof.Proof.Gen.GateUpFirstReferenceIdeal.Read
public import proofs.«01_k».proof.Proof.Gen.DownSide
public import proofs.«01_k».proof.Proof.Gen.DownSide.Skeleton
public import proofs.«01_k».proof.Proof.Gen.DownSide.Launch
public import proofs.«01_k».proof.Proof.Gen.DownSide.Points
public import proofs.«01_k».proof.Proof.Gen.DownSide.Frame
public import proofs.«01_k».proof.Proof.Gen.DownSideIdeal
public import proofs.«01_k».proof.Proof.Gen.DownSideIdeal.Skeleton
public import proofs.«01_k».proof.Proof.Gen.DownSideIdeal.Launch
public import proofs.«01_k».proof.Proof.Gen.DownSideIdeal.Points
public import proofs.«01_k».proof.Proof.Gen.DownSideIdeal.Frame
public import proofs.«01_k».proof.Proof.Gen.DownSideReferenceIdeal
public import proofs.«01_k».proof.Proof.Gen.DownSideReferenceIdeal.Run
public import proofs.«01_k».proof.Proof.Gen.DownSideReferenceIdeal.Read
public import proofs.«01_k».proof.Proof.Reference
public import proofs.«01_k».proof.Proof.GateUp
public import proofs.«01_k».proof.Proof.Down
public import proofs.«01_k».proof.Proof.DownSide
public import proofs.«01_k».proof.Proof.DownSideRun
public import proofs.«01_k».proof.Proof.CdIn
public import proofs.«01_k».proof.Proof.OutProj
public import proofs.«01_k».proof.Proof.AbInReference
public import proofs.«01_k».proof.Proof.AbCtx
public import proofs.«01_k».proof.Proof.Modulation
public import proofs.«01_k».proof.Proof.GateUpFirst
public import proofs.«01_k».proof.Proof.OutProjEven
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- The attention call runs, whatever the memory, and leaves its arguments and its semaphores as they were. -/
theorem frame_kernel : Cert.quiescent_Kernel (hKernel := Cert.Kernel.Gen.facts) := fun m g _ => Cert.Kernel.Gen.frame m g

/-- So does its idealization. -/
theorem frame_kernelIdeal : Cert.quiescent_KernelIdeal (hKernelIdeal := Cert.KernelIdeal.Gen.facts) := fun m g _ => Cert.KernelIdeal.Gen.frame m g

/-- So does the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The mask constant, named −∞. -/
theorem preserves : Cert.preserves_Kernel_KernelIdeal :=
  IdealRules.named_const.statement Cert.KernelIdeal.κ "mask" .f32 0xF149F2CA#32 ⊥ rfl

/-- Over the extended reals the call's result is the reference's, entry by entry: both are `Cert.Banded.answer`. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.Banded.result m c, ?_, ?_⟩
  · exact (θ_run _ _ _).mono (fun r h c => ⟨(h c).1.trans (Cert.Banded.final m c), (h c).2⟩) (Cert.KernelIdeal.Value.run_blocks m g)
  · refine (θ_run _ _ _).mono (fun r h c => ⟨(h c).1.trans ?_, (h c).2⟩) (Cert.ReferenceIdeal.Value.run m' g')
    obtain ⟨h0, h1, h2⟩ := hm c
    rw [Cert.ReferenceIdeal.Read.val_main_v50_eq, h0, h1, h2]
    funext i
    obtain ⟨R, C, rfl⟩ : ∃ (R : Fin 16384) (C : Fin 1536), i = ix2 R C := ⟨_, _, eq_ix2 i⟩
    exact Cert.Banded.Reference.whole _ _ _ R C

/-- The call of the experts' gate and up projections runs, whatever the memory, and leaves its arguments and its semaphores as they were. -/
theorem frame_GateUp : Cert.quiescent_GateUp (hGateUp := Cert.GateUp.Gen.facts) := fun m g _ => Cert.GateUp.Gen.frame m g

/-- So does its idealization. -/
theorem frame_GateUpIdeal : Cert.quiescent_GateUpIdeal (hGateUpIdeal := Cert.GateUpIdeal.Gen.facts) := fun m g _ => Cert.GateUpIdeal.Gen.frame m g

/-- So does its reference, which has no semaphore. -/
theorem frame_GateUpReference : Cert.quiescent_GateUpReferenceIdeal (hGateUpReferenceIdeal := Cert.GateUpReferenceIdeal.Gen.facts) := fun m g _ =>
  (θ_run _ _ _).mono (fun r h => ⟨fun c => (h c).2, sem_eq_zero_of_no_sems rfl r.2⟩) (Cert.GateUpReferenceIdeal.Value.run m g)

/-- Nothing is rewritten in it. -/
theorem preserves_GateUp : Cert.preserves_GateUp_GateUpIdeal := trivial

/-- Over the extended reals its results are its reference's. -/
theorem algebraic_GateUp : Cert.algebraic_GateUpIdeal_GateUpReferenceIdeal (hGateUpIdeal := Cert.GateUpIdeal.Gen.facts)
    (hGateUpReferenceIdeal := Cert.GateUpReferenceIdeal.Gen.facts) := by
  intro m g m' g' _ hm
  refine ⟨fun c => Cert.GateUpProof.result m c, ?_, ?_⟩
  · exact (θ_run _ _ _).mono (fun r h c => ⟨(h c).1.trans (Cert.GateUpProof.final m c), (h c).2⟩) (Cert.GateUpIdeal.Value.run_blocks m g)
  · refine (θ_run _ _ _).mono (fun r h c => ⟨(h c).1.trans ?_, (h c).2⟩) (Cert.GateUpReferenceIdeal.Value.run m' g')
    obtain ⟨h0, h1, h2⟩ := hm c
    rw [Cert.GateUpReferenceIdeal.Read.val_main_v9_eq, h0, h1, h2]
    exact funext fun i => Cert.GateUpProof.reference_eq _ _ _ i

/-- The call of the experts' down projection runs, whatever the memory, and leaves its arguments and its semaphores as they were. -/
theorem frame_Down : Cert.quiescent_Down (hDown := Cert.Down.Gen.facts) := fun m g _ => Cert.Down.Gen.frame m g

/-- So does its idealization. -/
theorem frame_DownIdeal : Cert.quiescent_DownIdeal (hDownIdeal := Cert.DownIdeal.Gen.facts) := fun m g _ => Cert.DownIdeal.Gen.frame m g

/-- So does its reference, which has no semaphore. -/
theorem frame_DownReference : Cert.quiescent_DownReferenceIdeal (hDownReferenceIdeal := Cert.DownReferenceIdeal.Gen.facts) := fun m g _ =>
  (θ_run _ _ _).mono (fun r h => ⟨fun c => (h c).2, sem_eq_zero_of_no_sems rfl r.2⟩) (Cert.DownReferenceIdeal.Value.run m g)

/-- Nothing is rewritten in it. -/
theorem preserves_Down : Cert.preserves_Down_DownIdeal := trivial

/-- Over the extended reals its results are its reference's. -/
theorem algebraic_Down : Cert.algebraic_DownIdeal_DownReferenceIdeal (hDownIdeal := Cert.DownIdeal.Gen.facts)
    (hDownReferenceIdeal := Cert.DownReferenceIdeal.Gen.facts) := by
  intro m g m' g' _ hm
  refine ⟨fun c => Cert.DownProof.result m c, ?_, ?_⟩
  · exact (θ_run _ _ _).mono (fun r h c => ⟨(h c).1.trans (Cert.DownProof.final m c), (h c).2⟩) (Cert.DownIdeal.Value.run_blocks m g)
  · refine (θ_run _ _ _).mono (fun r h c => ⟨(h c).1.trans ?_, (h c).2⟩) (Cert.DownReferenceIdeal.Value.run m' g')
    obtain ⟨h0, h1⟩ := hm c
    rw [Cert.DownReferenceIdeal.Read.val_main_v7_eq, h0, h1]
    exact funext fun i => Cert.DownProof.reference_eq _ _ i

/-- The call of the odd layer's input projection runs, whatever the memory, and leaves its arguments and its semaphores as they were. -/
theorem frame_CdIn : Cert.quiescent_CdIn (hCdIn := Cert.CdIn.Gen.facts) := fun m g _ => Cert.CdIn.Gen.frame m g

/-- So does its idealization. -/
theorem frame_CdInIdeal : Cert.quiescent_CdInIdeal (hCdInIdeal := Cert.CdInIdeal.Gen.facts) := fun m g _ => Cert.CdInIdeal.Gen.frame m g

/-- So does its reference, which has no semaphore. -/
theorem frame_CdInReference : Cert.quiescent_CdInReferenceIdeal (hCdInReferenceIdeal := Cert.CdInReferenceIdeal.Gen.facts) := fun m g _ =>
  (θ_run _ _ _).mono (fun r h => ⟨fun c => (h c).2.2.2, sem_eq_zero_of_no_sems rfl r.2⟩) (Cert.CdInReferenceIdeal.Value.run m g)

/-- Nothing is rewritten in it. -/
theorem preserves_CdIn : Cert.preserves_CdIn_CdInIdeal := trivial

/-- Over the extended reals its results are its reference's. -/
theorem algebraic_CdIn : Cert.algebraic_CdInIdeal_CdInReferenceIdeal (hCdInIdeal := Cert.CdInIdeal.Gen.facts)
    (hCdInReferenceIdeal := Cert.CdInReferenceIdeal.Gen.facts) := by
  intro m g m' g' _ hm
  refine ⟨fun c => Cert.CdInProof.resultU m c, fun c => Cert.CdInProof.resultV m c, fun c => Cert.CdInProof.resultX m c, ?_, ?_⟩
  · exact (θ_run _ _ _).mono (fun r h c => ⟨(h c).1.trans (Cert.CdInProof.final_u m c), (h c).2.1.trans (Cert.CdInProof.final_v m c),
      (h c).2.2.1.trans (Cert.CdInProof.final_x m c), (h c).2.2.2⟩) (Cert.CdInIdeal.Value.run_blocks m g)
  · refine (θ_run _ _ _).mono (fun r h c => ?_) (Cert.CdInReferenceIdeal.Value.run m' g')
    obtain ⟨h0, h1, h2, h3, h4⟩ := hm c
    refine ⟨(h c).1.trans ?_, (h c).2.1.trans ?_, (h c).2.2.1.trans ?_, (h c).2.2.2⟩
    · rw [Cert.CdInReferenceIdeal.Read.val_main_v82_eq, h0, h1, h2]
      exact funext fun i => Cert.CdInProof.reference_u _ _ _ i
    · rw [Cert.CdInReferenceIdeal.Read.val_main_v84_eq, h0, h1, h2, h3, h4]
      exact funext fun i => Cert.CdInProof.reference_v _ _ _ _ _ i
    · rw [Cert.CdInReferenceIdeal.Read.val_main_v85_eq, h0, h1, h2]
      exact funext fun i => Cert.CdInProof.reference_x _ _ _ i

/-- The call of the odd layer's output projection runs, whatever the memory, and leaves its arguments and its semaphores as they were. -/
theorem frame_OutProj : Cert.quiescent_OutProj (hOutProj := Cert.OutProj.Gen.facts) := fun m g _ => Cert.OutProj.Gen.frame m g

/-- So does its idealization. -/
theorem frame_OutProjIdeal : Cert.quiescent_OutProjIdeal (hOutProjIdeal := Cert.OutProjIdeal.Gen.facts) := fun m g _ => Cert.OutProjIdeal.Gen.frame m g

/-- So does its reference, which has no semaphore. -/
theorem frame_OutProjReference : Cert.quiescent_OutProjReferenceIdeal (hOutProjReferenceIdeal := Cert.OutProjReferenceIdeal.Gen.facts) := fun m g _ =>
  (θ_run _ _ _).mono (fun r h => ⟨fun c => (h c).2.2.2, sem_eq_zero_of_no_sems rfl r.2⟩) (Cert.OutProjReferenceIdeal.Value.run m g)

/-- Nothing is rewritten in it. -/
theorem preserves_OutProj : Cert.preserves_OutProj_OutProjIdeal := trivial

/-- Over the extended reals its results are its reference's. -/
theorem algebraic_OutProj : Cert.algebraic_OutProjIdeal_OutProjReferenceIdeal (hOutProjIdeal := Cert.OutProjIdeal.Gen.facts)
    (hOutProjReferenceIdeal := Cert.OutProjReferenceIdeal.Gen.facts) := by
  intro m g m' g' _ hm
  refine ⟨fun c => Cert.OutProjProof.resultR m c, fun c => Cert.OutProjProof.resultM m c, fun c => Cert.OutProjProof.resultL m c, ?_, ?_⟩
  · exact (θ_run _ _ _).mono (fun r h c => ⟨(h c).1.trans (Cert.OutProjProof.final_R m c), (h c).2.1.trans (Cert.OutProjProof.final_M m c),
      (h c).2.2.1.trans (Cert.OutProjProof.final_L m c), (h c).2.2.2⟩) (Cert.OutProjIdeal.Value.run_blocks m g)
  · refine (θ_run _ _ _).mono (fun r h c => ?_) (Cert.OutProjReferenceIdeal.Value.run m' g')
    obtain ⟨h0, h1, h2, h3, h4, h5, h6⟩ := hm c
    refine ⟨(h c).1.trans ?_, (h c).2.1.trans ?_, (h c).2.2.1.trans ?_, (h c).2.2.2⟩
    · rw [Cert.OutProjReferenceIdeal.Read.val_main_v65_eq, h0, h1, h2, h3, h4, h5]
      exact funext fun i => Cert.OutProjProof.reference_R _ _ _ _ _ _ i
    · rw [Cert.OutProjReferenceIdeal.Read.val_main_v67_eq, h0, h1, h2, h3, h4, h5]
      exact funext fun i => Cert.OutProjProof.reference_M _ _ _ _ _ _ i
    · rw [Cert.OutProjReferenceIdeal.Read.val_main_v68_eq, h0, h1, h2, h3, h4, h5, h6]
      exact funext fun i => Cert.OutProjProof.reference_L _ _ _ _ _ _ _ i

/-- The call of the even layer's input projection runs, whatever the memory, and leaves its arguments and its semaphores as they were. -/
theorem frame_AbIn : Cert.quiescent_AbIn (hAbIn := Cert.AbIn.Gen.facts) := fun m g _ => Cert.AbIn.Gen.frame m g

/-- So does its idealization. -/
theorem frame_AbInIdeal : Cert.quiescent_AbInIdeal (hAbInIdeal := Cert.AbInIdeal.Gen.facts) := fun m g _ => Cert.AbInIdeal.Gen.frame m g

/-- So does its reference, which has no semaphore. -/
theorem frame_AbInReference : Cert.quiescent_AbInReferenceIdeal (hAbInReferenceIdeal := Cert.AbInReferenceIdeal.Gen.facts) := fun m g _ =>
  (θ_run _ _ _).mono (fun r h => ⟨fun c => (h c).2, sem_eq_zero_of_no_sems rfl r.2⟩) (Cert.AbInReferenceIdeal.Value.run m g)

/-- Nothing is rewritten in it. -/
theorem preserves_AbIn : Cert.preserves_AbIn_AbInIdeal := trivial

/-- Over the extended reals its results are its reference's. -/
theorem algebraic_AbIn : Cert.algebraic_AbInIdeal_AbInReferenceIdeal (hAbInIdeal := Cert.AbInIdeal.Gen.facts)
    (hAbInReferenceIdeal := Cert.AbInReferenceIdeal.Gen.facts) := by
  intro m g m' g' _ hm
  refine ⟨fun c => Cert.AbInProof.result m c, ?_, ?_⟩
  · exact (θ_run _ _ _).mono (fun r h c => ⟨(h c).1.trans (Cert.AbInProof.final m c), (h c).2⟩) (Cert.AbInIdeal.Value.run_blocks m g)
  · refine (θ_run _ _ _).mono (fun r h c => ⟨(h c).1.trans ?_, (h c).2⟩) (Cert.AbInReferenceIdeal.Value.run m' g')
    obtain ⟨h0, h1, h2⟩ := hm c
    rw [Cert.AbInReferenceIdeal.Read.val_main_v136_eq]
    refine (congr (congr (congrArg (Cert.AbInReferenceIdeal.Read.val_main_v136 (F := Ideal)) h0) h1) h2).trans ?_
    exact funext fun i => Cert.AbInProof.reference_eq _ _ _ i

/-- The call of the even layer's output projection runs, whatever the memory, and leaves its arguments and its semaphores as they were. -/
theorem frame_OutProjEven : Cert.quiescent_OutProjEven (hOutProjEven := Cert.OutProjEven.Gen.facts) := fun m g _ => Cert.OutProjEven.Gen.frame m g

/-- So does its idealization. -/
theorem frame_OutProjEvenIdeal : Cert.quiescent_OutProjEvenIdeal (hOutProjEvenIdeal := Cert.OutProjEvenIdeal.Gen.facts) := fun m g _ => Cert.OutProjEvenIdeal.Gen.frame m g

/-- So does its reference, which has no semaphore. -/
theorem frame_OutProjEvenReference : Cert.quiescent_OutProjEvenReferenceIdeal (hOutProjEvenReferenceIdeal := Cert.OutProjEvenReferenceIdeal.Gen.facts) := fun m g _ =>
  (θ_run _ _ _).mono (fun r h => ⟨fun c => (h c).2.2.2, sem_eq_zero_of_no_sems rfl r.2⟩) (Cert.OutProjEvenReferenceIdeal.Value.run m g)

/-- Nothing is rewritten in it. -/
theorem preserves_OutProjEven : Cert.preserves_OutProjEven_OutProjEvenIdeal := trivial

/-- Over the extended reals its results are its reference's. -/
theorem algebraic_OutProjEven : Cert.algebraic_OutProjEvenIdeal_OutProjEvenReferenceIdeal (hOutProjEvenIdeal := Cert.OutProjEvenIdeal.Gen.facts)
    (hOutProjEvenReferenceIdeal := Cert.OutProjEvenReferenceIdeal.Gen.facts) := by
  intro m g m' g' _ hm
  refine ⟨fun c => Cert.OutProjEvenProof.resultR m c, fun c => Cert.OutProjEvenProof.resultM m c, fun c => Cert.OutProjEvenProof.resultL m c, ?_, ?_⟩
  · exact Cert.OutProjEvenProof.run m g
  · refine (θ_run _ _ _).mono (fun r h c => ?_) (Cert.OutProjEvenReferenceIdeal.Value.run m' g')
    obtain ⟨h0, h1, h2, h3, h4, h5, h6, h7⟩ := hm c
    refine ⟨(h c).1.trans ?_, (h c).2.1.trans ?_, (h c).2.2.1.trans ?_, (h c).2.2.2⟩
    · rw [Cert.OutProjEvenReferenceIdeal.Read.val_main_v73_eq, h0, h1, h2, h3, h4, h5, h6]
      exact Cert.OutProjEvenProof.reference_R _ _ _ _ _ _ _
    · rw [Cert.OutProjEvenReferenceIdeal.Read.val_main_v75_eq, h0, h1, h2, h3, h4, h5, h6]
      exact Cert.OutProjEvenProof.reference_M _ _ _ _ _ _ _
    · rw [Cert.OutProjEvenReferenceIdeal.Read.val_main_v76_eq, h0, h1, h2, h3, h4, h5, h6, h7]
      exact Cert.OutProjEvenProof.reference_L _ _ _ _ _ _ _ _

/-- The call of the even layer's keys and values of the context runs, whatever the memory, and leaves its arguments and its semaphores as they were. -/
theorem frame_AbCtx : Cert.quiescent_AbCtx (hAbCtx := Cert.AbCtx.Gen.facts) := fun m g _ => Cert.AbCtx.Gen.frame m g

/-- So does its idealization. -/
theorem frame_AbCtxIdeal : Cert.quiescent_AbCtxIdeal (hAbCtxIdeal := Cert.AbCtxIdeal.Gen.facts) := fun m g _ => Cert.AbCtxIdeal.Gen.frame m g

/-- So does its reference, which has no semaphore. -/
theorem frame_AbCtxReference : Cert.quiescent_AbCtxReferenceIdeal (hAbCtxReferenceIdeal := Cert.AbCtxReferenceIdeal.Gen.facts) := fun m g _ =>
  (θ_run _ _ _).mono (fun r h => ⟨fun c => (h c).2, sem_eq_zero_of_no_sems rfl r.2⟩) (Cert.AbCtxReferenceIdeal.Value.run m g)

/-- Nothing is rewritten in it. -/
theorem preserves_AbCtx : Cert.preserves_AbCtx_AbCtxIdeal := trivial

/-- Over the extended reals its results are its reference's. -/
theorem algebraic_AbCtx : Cert.algebraic_AbCtxIdeal_AbCtxReferenceIdeal (hAbCtxIdeal := Cert.AbCtxIdeal.Gen.facts)
    (hAbCtxReferenceIdeal := Cert.AbCtxReferenceIdeal.Gen.facts) := by
  intro m g m' g' _ hm
  refine ⟨fun c => Cert.AbCtxProof.result m c, ?_, ?_⟩
  · exact (θ_run _ _ _).mono (fun r h c => ⟨(h c).1.trans (Cert.AbCtxProof.final m c), (h c).2⟩) (Cert.AbCtxIdeal.Value.run_blocks m g)
  · refine (θ_run _ _ _).mono (fun r h c => ⟨(h c).1.trans ?_, (h c).2⟩) (Cert.AbCtxReferenceIdeal.Value.run m' g')
    obtain ⟨h0, h1, h2⟩ := hm c
    rw [Cert.AbCtxReferenceIdeal.Read.val_main_v34_eq, h0, h1, h2]
    exact funext fun i => Cert.AbCtxProof.reference_eq _ _ _ i

/-- The call of layer 0's modulation runs, whatever the memory, and leaves its arguments and its semaphores as they were. -/
theorem frame_Modulation : Cert.quiescent_Modulation (hModulation := Cert.Modulation.Gen.facts) := fun m g _ => Cert.Modulation.Gen.frame m g

/-- So does its idealization. -/
theorem frame_ModulationIdeal : Cert.quiescent_ModulationIdeal (hModulationIdeal := Cert.ModulationIdeal.Gen.facts) := fun m g _ => Cert.ModulationIdeal.Gen.frame m g

/-- So does its reference, which has no semaphore. -/
theorem frame_ModulationReference : Cert.quiescent_ModulationReferenceIdeal (hModulationReferenceIdeal := Cert.ModulationReferenceIdeal.Gen.facts) := fun m g _ =>
  (θ_run _ _ _).mono (fun r h => ⟨fun c => (h c).2, sem_eq_zero_of_no_sems rfl r.2⟩) (Cert.ModulationReferenceIdeal.Value.run m g)

/-- Nothing is rewritten in it. -/
theorem preserves_Modulation : Cert.preserves_Modulation_ModulationIdeal := trivial

/-- Over the extended reals its results are its reference's. -/
theorem algebraic_Modulation : Cert.algebraic_ModulationIdeal_ModulationReferenceIdeal (hModulationIdeal := Cert.ModulationIdeal.Gen.facts)
    (hModulationReferenceIdeal := Cert.ModulationReferenceIdeal.Gen.facts) := by
  intro m g m' g' _ hm
  refine ⟨fun c => Cert.ModulationProof.result m c, ?_, ?_⟩
  · exact (θ_run _ _ _).mono (fun r h c => ⟨(h c).1.trans (Cert.ModulationProof.final m c), (h c).2⟩) (Cert.ModulationIdeal.Value.run_blocks m g)
  · refine (θ_run _ _ _).mono (fun r h c => ⟨(h c).1.trans ?_, (h c).2⟩) (Cert.ModulationReferenceIdeal.Value.run m' g')
    obtain ⟨h0, h1, h2⟩ := hm c
    rw [Cert.ModulationReferenceIdeal.Read.val_main_v8_eq, h0, h1, h2]
    exact funext fun i => Cert.ModulationProof.reference_eq _ _ _ i

/-- The call of layer 0's gate and up projections runs, whatever the memory, and leaves its arguments and its semaphores as they were. -/
theorem frame_GateUpFirst : Cert.quiescent_GateUpFirst (hGateUpFirst := Cert.GateUpFirst.Gen.facts) := fun m g _ => Cert.GateUpFirst.Gen.frame m g

/-- So does its idealization. -/
theorem frame_GateUpFirstIdeal : Cert.quiescent_GateUpFirstIdeal (hGateUpFirstIdeal := Cert.GateUpFirstIdeal.Gen.facts) := fun m g _ => Cert.GateUpFirstIdeal.Gen.frame m g

/-- So does its reference, which has no semaphore. -/
theorem frame_GateUpFirstReference : Cert.quiescent_GateUpFirstReferenceIdeal (hGateUpFirstReferenceIdeal := Cert.GateUpFirstReferenceIdeal.Gen.facts) := fun m g _ =>
  (θ_run _ _ _).mono (fun r h => ⟨fun c => (h c).2, sem_eq_zero_of_no_sems rfl r.2⟩) (Cert.GateUpFirstReferenceIdeal.Value.run m g)

/-- Nothing is rewritten in it. -/
theorem preserves_GateUpFirst : Cert.preserves_GateUpFirst_GateUpFirstIdeal := trivial

/-- Over the extended reals its results are its reference's. -/
theorem algebraic_GateUpFirst : Cert.algebraic_GateUpFirstIdeal_GateUpFirstReferenceIdeal (hGateUpFirstIdeal := Cert.GateUpFirstIdeal.Gen.facts)
    (hGateUpFirstReferenceIdeal := Cert.GateUpFirstReferenceIdeal.Gen.facts) := by
  intro m g m' g' _ hm
  refine ⟨fun c => Cert.GateUpFirstProof.result m c, ?_, ?_⟩
  · exact (θ_run _ _ _).mono (fun r h c => ⟨(h c).1.trans (Cert.GateUpFirstProof.final m c), (h c).2⟩) (Cert.GateUpFirstIdeal.Value.run_blocks m g)
  · refine (θ_run _ _ _).mono (fun r h c => ⟨(h c).1.trans ?_, (h c).2⟩) (Cert.GateUpFirstReferenceIdeal.Value.run m' g')
    obtain ⟨h0, h1, h2⟩ := hm c
    rw [Cert.GateUpFirstReferenceIdeal.Read.val_main_v9_eq, h0, h1, h2]
    exact funext fun i => Cert.GateUpFirstProof.reference_eq _ _ _ i

/-- The call of layer 0's down projection of the experts, with the next layer's modulation and a cast at its side, runs, whatever the memory,
    and leaves its arguments and its semaphores as they were. -/
theorem frame_DownSide : Cert.quiescent_DownSide (hDownSide := Cert.DownSide.Gen.facts) := fun m g _ => Cert.DownSide.Run.frame m g

/-- So does its idealization. -/
theorem frame_DownSideIdeal : Cert.quiescent_DownSideIdeal (hDownSideIdeal := Cert.DownSideIdeal.Gen.facts) := fun m g _ => Cert.DownSideIdeal.Run.frame m g

/-- So does its reference, which has no semaphore. -/
theorem frame_DownSideReference : Cert.quiescent_DownSideReferenceIdeal (hDownSideReferenceIdeal := Cert.DownSideReferenceIdeal.Gen.facts) := fun m g _ =>
  (θ_run _ _ _).mono (fun r h => ⟨fun c => (h c).2.2.2, sem_eq_zero_of_no_sems rfl r.2⟩) (Cert.DownSideReferenceIdeal.Value.run m g)

/-- Nothing is rewritten in it. -/
theorem preserves_DownSide : Cert.preserves_DownSide_DownSideIdeal := trivial

/-- Over the extended reals its three results are its reference's. -/
theorem algebraic_DownSide : Cert.algebraic_DownSideIdeal_DownSideReferenceIdeal (hDownSideIdeal := Cert.DownSideIdeal.Gen.facts)
    (hDownSideReferenceIdeal := Cert.DownSideReferenceIdeal.Gen.facts) := by
  intro m g m' g' _ hm
  refine ⟨fun c => Cert.DownSideProof.resultD m c, fun c => Cert.DownSideProof.resultM m c, fun c => Cert.DownSideProof.resultK m c, ?_, ?_⟩
  · exact (θ_run _ _ _).mono (fun r h c => ⟨(h c).1.trans (Cert.DownSideProof.finalD m c), (h c).2.1.trans (Cert.DownSideProof.finalM m c),
      (h c).2.2.1.trans (Cert.DownSideProof.finalK m c), (h c).2.2.2⟩) (Cert.DownSideIdeal.Run.run_blocks m g)
  · refine (θ_run _ _ _).mono (fun r h c => ?_) (Cert.DownSideReferenceIdeal.Value.run m' g')
    obtain ⟨h0, h1, h2, h3, h4, h5⟩ := hm c
    refine ⟨(h c).1.trans ?_, (h c).2.1.trans ?_, (h c).2.2.1.trans ?_, (h c).2.2.2⟩
    · rw [Cert.DownSideReferenceIdeal.Read.val_main_v7_eq, h0, h1]
      exact funext fun i => Cert.DownSideProof.referenceD _ _ i
    · rw [Cert.DownSideReferenceIdeal.Read.val_main_v16_eq, h2, h3, h4]
      exact funext fun i => Cert.DownSideProof.referenceM _ _ _ i
    · rw [Cert.DownSideReferenceIdeal.Read.val_main_v17_eq, h5]
      exact funext fun i => Cert.DownSideProof.referenceK _ i

/-- Everything claimed of these calls. -/
theorem claim : Cert.Claim :=
  ⟨Cert.Kernel.Gen.facts, Cert.KernelIdeal.Gen.facts, Cert.ReferenceIdeal.Gen.facts,
    Cert.GateUp.Gen.facts, Cert.GateUpIdeal.Gen.facts, Cert.GateUpReferenceIdeal.Gen.facts,
    Cert.Down.Gen.facts, Cert.DownIdeal.Gen.facts, Cert.DownReferenceIdeal.Gen.facts,
    Cert.CdIn.Gen.facts, Cert.CdInIdeal.Gen.facts, Cert.CdInReferenceIdeal.Gen.facts,
    Cert.OutProj.Gen.facts, Cert.OutProjIdeal.Gen.facts, Cert.OutProjReferenceIdeal.Gen.facts,
    Cert.AbIn.Gen.facts, Cert.AbInIdeal.Gen.facts, Cert.AbInReferenceIdeal.Gen.facts,
    Cert.OutProjEven.Gen.facts, Cert.OutProjEvenIdeal.Gen.facts, Cert.OutProjEvenReferenceIdeal.Gen.facts,
    Cert.AbCtx.Gen.facts, Cert.AbCtxIdeal.Gen.facts, Cert.AbCtxReferenceIdeal.Gen.facts,
    Cert.Modulation.Gen.facts, Cert.ModulationIdeal.Gen.facts, Cert.ModulationReferenceIdeal.Gen.facts,
    Cert.GateUpFirst.Gen.facts, Cert.GateUpFirstIdeal.Gen.facts, Cert.GateUpFirstReferenceIdeal.Gen.facts,
    Cert.DownSide.Gen.facts, Cert.DownSideIdeal.Gen.facts, Cert.DownSideReferenceIdeal.Gen.facts,
    frame_kernel, frame_kernelIdeal, frame_reference,
    frame_GateUp, frame_GateUpIdeal, frame_GateUpReference,
    frame_Down, frame_DownIdeal, frame_DownReference,
    frame_CdIn, frame_CdInIdeal, frame_CdInReference,
    frame_OutProj, frame_OutProjIdeal, frame_OutProjReference,
    frame_AbIn, frame_AbInIdeal, frame_AbInReference,
    frame_OutProjEven, frame_OutProjEvenIdeal, frame_OutProjEvenReference,
    frame_AbCtx, frame_AbCtxIdeal, frame_AbCtxReference,
    frame_Modulation, frame_ModulationIdeal, frame_ModulationReference,
    frame_GateUpFirst, frame_GateUpFirstIdeal, frame_GateUpFirstReference,
    frame_DownSide, frame_DownSideIdeal, frame_DownSideReference,
    preserves, algebraic,
    preserves_GateUp, algebraic_GateUp,
    preserves_Down, algebraic_Down,
    preserves_CdIn, algebraic_CdIn,
    preserves_OutProj, algebraic_OutProj,
    preserves_AbIn, algebraic_AbIn,
    preserves_OutProjEven, algebraic_OutProjEven,
    preserves_AbCtx, algebraic_AbCtx,
    preserves_Modulation, algebraic_Modulation,
    preserves_GateUpFirst, algebraic_GateUpFirst,
    preserves_DownSide, algebraic_DownSide⟩

end Cert.Proof

end
